-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "qscale" .f32 0x3B67B46A#32 ((63690514211647 / 18014398509481984 : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![1, 8192, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 8192, 8, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 8192, 8, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = Layout.block ⟨3, ![1, 1024, 1024]⟩ ⟨3, ![1, 8192, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v61) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)

variable [Facts]

def fn {F : FTy → Type} [FloatOps F] (main_arg0 : FVec F S1x1024x1024 .bf16) (main_arg1 : FVec F S1024x1024 .bf16) (main_arg2 : FVec F S1x1024x8x128 .bf16) (main_arg3 : FVec F S1x1024x8x128 .bf16) (main_arg4 : FVec F S1024x1024 .bf16) : IVec S1x1024x1024 1 :=
  let main_cst : FVec F S_ .bf16 := constant S_ .bf16 0xFF80#16
  let main_v0 : FVec F S1x1024x1024 .bf16 := broadcastInDim S1x1024x1024 ![] bcast_S_S1x1024x1024 main_cst
  let main_v1 : IVec S1x1024x1024 1 := cmpf .ogt main_arg0 main_v0
  let main_cst_0 : FVec F S_ .bf16 := constant S_ .bf16 0x7F80#16
  let main_v2 : FVec F S1x1024x1024 .bf16 := broadcastInDim S1x1024x1024 ![] bcast_S_S1x1024x1024 main_cst_0
  let main_v3 : IVec S1x1024x1024 1 := cmpf .olt main_arg0 main_v2
  let main_v4 : IVec S1x1024x1024 1 := andi main_v1 main_v3
  let main_cst_1 : FVec F S_ .bf16 := constant S_ .bf16 0xFF80#16
  let main_v5 : FVec F S1024x1024 .bf16 := broadcastInDim S1024x1024 ![] bcast_S_S1024x1024 main_cst_1
  let main_v6 : IVec S1024x1024 1 := cmpf .ogt main_arg1 main_v5
  let main_cst_2 : FVec F S_ .bf16 := constant S_ .bf16 0x7F80#16
  let main_v7 : FVec F S1024x1024 .bf16 := broadcastInDim S1024x1024 ![] bcast_S_S1024x1024 main_cst_2
  let main_v8 : IVec S1024x1024 1 := cmpf .olt main_arg1 main_v7
  let main_v9 : IVec S1024x1024 1 := andi main_v6 main_v8
  let main_v10 : IVec S1x1024x1024 1 := broadcastInDim S1x1024x1024 ![1, 2] bcast_S1024x1024_S1x1024x1024_1_2 main_v9
  let main_v11 : IVec S1x1024x1024 1 := andi main_v4 main_v10
  main_v11
-- ==== Pre_finite_ReferenceIdeal.lean ====
abbrev S1x8192x1024 : Shape := ⟨3, ![1, 8192, 1024]⟩
abbrev S1024x1024 : Shape := ⟨2, ![1024, 1024]⟩
abbrev S1x8192x8x128 : Shape := ⟨4, ![1, 8192, 8, 128]⟩
abbrev S8x1024x1024 : Shape := ⟨3, ![8, 1024, 1024]⟩
abbrev S_ : Shape := ⟨0, ![]⟩
abbrev S1x1024x1024 : Shape := ⟨3, ![1, 1024, 1024]⟩

class Facts : Prop where
  shapeCasts_S1x8192x1024_S8x1024x1024 : S1x8192x1024.ShapeCasts S8x1024x1024
  bcast_S_S8x1024x1024 : S_.BroadcastsInDim S8x1024x1024 (![] : Fin 0 → Fin S8x1024x1024.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S8x1024x1024_0_1_2 : S1x1024x1024.BroadcastsInDim S8x1024x1024 (![0, 1, 2] : Fin 3 → Fin S8x1024x1024.rank)

variable [Facts]

def fn {F : FTy → Type} [FloatOps F] (main_arg0 : FVec F S1x8192x1024 .bf16) (main_arg1 : FVec F S1024x1024 .bf16) (main_arg2 : FVec F S1x8192x8x128 .bf16) (main_arg3 : FVec F S1x8192x8x128 .bf16) (main_arg4 : FVec F S1024x1024 .bf16) : IVec S8x1024x1024 1 :=
  let main_v0 : FVec F S8x1024x1024 .bf16 := shapeCast S8x1024x1024 main_arg0 shapeCasts_S1x8192x1024_S8x1024x1024
  let main_cst : FVec F S_ .bf16 := constant S_ .bf16 0xFF80#16
  let main_v1 : FVec F S8x1024x1024 .bf16 := broadcastInDim S8x1024x1024 ![] bcast_S_S8x1024x1024 main_cst
  let main_v2 : IVec S8x1024x1024 1 := cmpf .ogt main_v0 main_v1
  let main_cst_0 : FVec F S_ .bf16 := constant S_ .bf16 0x7F80#16
  let main_v3 : FVec F S8x1024x1024 .bf16 := broadcastInDim S8x1024x1024 ![] bcast_S_S8x1024x1024 main_cst_0
  let main_v4 : IVec S8x1024x1024 1 := cmpf .olt main_v0 main_v3
  let main_v5 : IVec S8x1024x1024 1 := andi main_v2 main_v4
  let main_cst_1 : FVec F S_ .bf16 := constant S_ .bf16 0xFF80#16
  let main_v6 : FVec F S1024x1024 .bf16 := broadcastInDim S1024x1024 ![] bcast_S_S1024x1024 main_cst_1
  let main_v7 : IVec S1024x1024 1 := cmpf .ogt main_arg1 main_v6
  let main_cst_2 : FVec F S_ .bf16 := constant S_ .bf16 0x7F80#16
  let main_v8 : FVec F S1024x1024 .bf16 := broadcastInDim S1024x1024 ![] bcast_S_S1024x1024 main_cst_2
  let main_v9 : IVec S1024x1024 1 := cmpf .olt main_arg1 main_v8
  let main_v10 : IVec S1024x1024 1 := andi main_v7 main_v9
  let main_v11 : IVec S1x1024x1024 1 := broadcastInDim S1x1024x1024 ![1, 2] bcast_S1024x1024_S1x1024x1024_1_2 main_v10
  let main_v12 : IVec S8x1024x1024 1 := broadcastInDim S8x1024x1024 ![0, 1, 2] bcast_S1x1024x1024_S8x1024x1024_0_1_2 main_v11
  let main_v13 : IVec S8x1024x1024 1 := andi main_v5 main_v12
  main_v13
-- ==== Kernel.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S1024x8x128 : Shape := ⟨3, ![1024, 8, 128]⟩
abbrev S8x1024x128 : Shape := ⟨3, ![8, 1024, 128]⟩
abbrev S_ : Shape := ⟨0, ![]⟩
abbrev S4x2x8x512x128 : Shape := ⟨5, ![4, 2, 8, 512, 128]⟩
abbrev S2x2x8x512x128 : Shape := ⟨5, ![2, 2, 8, 512, 128]⟩
abbrev S8 : Shape := ⟨1, ![8]⟩
abbrev S8x512x128 : Shape := ⟨3, ![8, 512, 128]⟩
abbrev S1x1x8x512x128 : Shape := ⟨5, ![1, 1, 8, 512, 128]⟩
abbrev S1 : Shape := ⟨1, ![1]⟩
abbrev S1024x128 : Shape := ⟨2, ![1024, 128]⟩
abbrev S1x1024x128 : Shape := ⟨3, ![1, 1024, 128]⟩
abbrev S1024x1 : Shape := ⟨2, ![1024, 1]⟩
abbrev S1x512 : Shape := ⟨2, ![1, 512]⟩
abbrev S512x128 : Shape := ⟨2, ![512, 128]⟩
abbrev S1024x512 : Shape := ⟨2, ![1024, 512]⟩
abbrev S1x1x1x512x128 : Shape := ⟨5, ![1, 1, 1, 512, 128]⟩

abbrev nBuf : Space → Nat
  | .hbm => 42
  | .vmem => 13
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1x1024x8x128, .bf16⟩
  | .hbm, ⟨3, _⟩ => ⟨S1x1024x8x128, .bf16⟩
  | .hbm, ⟨4, _⟩ => ⟨S1024x1024, .bf16⟩
  | .hbm, ⟨5, _⟩ => ⟨S1024x1024, .bf16⟩
  | .hbm, ⟨6, _⟩ => ⟨S1024x8x128, .bf16⟩
  | .hbm, ⟨7, _⟩ => ⟨S8x1024x128, .bf16⟩
  | .hbm, ⟨8, _⟩ => ⟨S1024x8x128, .bf16⟩
  | .hbm, ⟨9, _⟩ => ⟨S8x1024x128, .bf16⟩
  | .hbm, ⟨10, _⟩ => ⟨S_, .bf16⟩
  | .hbm, ⟨11, _⟩ => ⟨S8x1024x128, .bf16⟩
  | .hbm, ⟨12, _⟩ => ⟨S8x1024x128, .bf16⟩
  | .hbm, ⟨13, _⟩ => ⟨S8x1024x128, .bf16⟩
  | .hbm, ⟨14, _⟩ => ⟨S_, .i32⟩
  | .hbm, ⟨15, _⟩ => ⟨S_, .i32⟩
  | .hbm, ⟨16, _⟩ => ⟨S_, .bf16⟩
  | .hbm, ⟨17, _⟩ => ⟨S8x1024x128, .bf16⟩
  | .hbm, ⟨18, _⟩ => ⟨S8x1024x128, .bf16⟩
  | .hbm, ⟨19, _⟩ => ⟨S_, .bf16⟩
  | .hbm, ⟨20, _⟩ => ⟨S8x1024x128, .bf16⟩
  | .hbm, ⟨21, _⟩ => ⟨S8x1024x128, .bf16⟩
  | .hbm, ⟨22, _⟩ => ⟨S8x1024x128, .f32⟩
  | .hbm, ⟨23, _⟩ => ⟨S8x1024x128, .i32⟩
  | .hbm, ⟨24, _⟩ => ⟨S8x1024x128, .i8⟩
  | .hbm, ⟨25, _⟩ => ⟨S_, .bf16⟩
  | .hbm, ⟨26, _⟩ => ⟨S8x1024x128, .bf16⟩
  | .hbm, ⟨27, _⟩ => ⟨S8x1024x128, .bf16⟩
  | .hbm, ⟨28, _⟩ => ⟨S8x1024x128, .bf16⟩
  | .hbm, ⟨29, _⟩ => ⟨S_, .i32⟩
  | .hbm, ⟨30, _⟩ => ⟨S_, .i32⟩
  | .hbm, ⟨31, _⟩ => ⟨S_, .bf16⟩
  | .hbm, ⟨32, _⟩ => ⟨S8x1024x128, .bf16⟩
  | .hbm, ⟨33, _⟩ => ⟨S8x1024x128, .bf16⟩
  | .hbm, ⟨34, _⟩ => ⟨S_, .bf16⟩
  | .hbm, ⟨35, _⟩ => ⟨S8x1024x128, .bf16⟩
  | .hbm, ⟨36, _⟩ => ⟨S8x1024x128, .bf16⟩
  | .hbm, ⟨37, _⟩ => ⟨S8x1024x128, .f32⟩
  | .hbm, ⟨38, _⟩ => ⟨S8x1024x128, .i32⟩
  | .hbm, ⟨39, _⟩ => ⟨S8x1024x128, .i8⟩
  | .hbm, ⟨40, _⟩ => ⟨S1024x1024, .f32⟩
  | .hbm, ⟨41, _⟩ => ⟨S1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S8x1024x128, .i8⟩
  | .local _ .vmem, ⟨3, _⟩ => ⟨S8x1024x128, .i8⟩
  | .local _ .vmem, ⟨4, _⟩ => ⟨S1024x1024, .bf16⟩
  | .local _ .vmem, ⟨5, _⟩ => ⟨S1024x1024, .f32⟩
  | .local _ .vmem, ⟨6, _⟩ => ⟨S4x2x8x512x128, .i8⟩
  | .local _ .vmem, ⟨7, _⟩ => ⟨S4x2x8x512x128, .i8⟩
  | .local _ .vmem, ⟨8, _⟩ => ⟨S2x2x8x512x128, .bf16⟩
  | .local _ .vmem, ⟨9, _⟩ => ⟨S8x1024x128, .bf16⟩
  | .local _ .vmem, ⟨10, _⟩ => ⟨S8x1024x128, .f32⟩
  | .local _ .vmem, ⟨11, _⟩ => ⟨S8x1024x128, .f32⟩
  | .local _ .vmem, ⟨12, _⟩ => ⟨S1024x1024, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 3 → Bool
  | ⟨0, _⟩ => true
  | ⟨1, _⟩ => true
  | ⟨2, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 3 70 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_c_0 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_c_3 : Ref sig .tc := ⟨.hbm, 30, rfl⟩
abbrev main_call3_v0 : Ref sig .tc := ⟨.hbm, 31, rfl⟩
abbrev main_call3_v1 : Ref sig .tc := ⟨.hbm, 32, rfl⟩
abbrev main_call3_v2 : Ref sig .tc := ⟨.hbm, 33, rfl⟩
abbrev main_call3_v3 : Ref sig .tc := ⟨.hbm, 34, rfl⟩
abbrev main_call3_v4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_45 : BitVec 32 := 1#32
  let v33 : BitVec 32 := Scalar.muli v7 c1_i32_45
  let v34 : BitVec 32 := Scalar.addi c0_i32_46 v33
  v34.toNat
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_59 : BitVec 32 := 1#32
  let v43 : BitVec 32 := Scalar.muli v7 c1_i32_59
  let v44 : BitVec 32 := Scalar.addi c0_i32_60 v43
  v44.toNat
def k0_dev5 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_73 : BitVec 32 := 1#32
  let v53 : BitVec 32 := Scalar.muli v5 c1_i32_73
  let v54 : BitVec 32 := Scalar.addi c0_i32_74 v53
  v54.toNat
def k0_dev6 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_87 : BitVec 32 := 1#32
  let v63 : BitVec 32 := Scalar.muli v5 c1_i32_87
  let v64 : BitVec 32 := Scalar.addi c0_i32_88 v63
  v64.toNat
def k0_dev7 (d0 : Dev nD) : Nat :=
  let c0_i32_706 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_705 : BitVec 32 := 1#32
  let v699 : BitVec 32 := Scalar.muli v5 c1_i32_705
  let v700 : BitVec 32 := Scalar.addi c0_i32_706 v699
  v700.toNat
def k0_dev8 (d0 : Dev nD) : Nat :=
  let c0_i32_709 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_708 : BitVec 32 := 1#32
  let v701 : BitVec 32 := Scalar.muli v7 c1_i32_708
  let v702 : BitVec 32 := Scalar.addi c0_i32_709 v701
  v702.toNat
def k0_dev9 (d0 : Dev nD) : Nat :=
  let c0_i32_731 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_730 : BitVec 32 := 1#32
  let v711 : BitVec 32 := Scalar.muli v7 c1_i32_730
  let v712 : BitVec 32 := Scalar.addi c0_i32_731 v711
  v712.toNat
def k0_dev10 (d0 : Dev nD) : Nat :=
  let c0_i32_759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_758 : BitVec 32 := 1#32
  let v729 : BitVec 32 := Scalar.muli v5 c1_i32_758
  let v730 : BitVec 32 := Scalar.addi c0_i32_759 v729
  v730.toNat
def k0_dev11 (d0 : Dev nD) : Nat :=
  let c0_i32_787 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_786 : BitVec 32 := 1#32
  let v747 : BitVec 32 := Scalar.muli v7 c1_i32_786
  let v748 : BitVec 32 := Scalar.addi c0_i32_787 v747
  v748.toNat
def k0_dev12 (d0 : Dev nD) : Nat :=
  let c0_i32_815 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_814 : BitVec 32 := 1#32
  let v765 : BitVec 32 := Scalar.muli v5 c1_i32_814
  let v766 : BitVec 32 := Scalar.addi c0_i32_815 v765
  v766.toNat
@[reducible] def k0_t1_loop : Scf.Loop 32 :=
  let c0_i32_892 : BitVec 32 := 0#32
  let c8_i32_893 : BitVec 32 := 8#32
  let v881 : BitVec 32 := Scalar.addi c0_i32_892 c8_i32_893
  let c1_i32_894 : BitVec 32 := 1#32
  ⟨c0_i32_892, v881, c1_i32_894⟩
def k0_off1 (k0_t1 : Fin k0_t1_loop.trips) : Fin 5 → Nat :=
  let c0_2377 : Index := 0#32
  let c0_2378 : Index := 0#32
  let c0_i32_892 : BitVec 32 := 0#32
  let c1_i32_894 : BitVec 32 := 1#32
  let arg23 : BitVec 32 := Scf.iv c0_i32_892 c1_i32_894 k0_t1
  let v2165 : Index := Scalar.indexCast arg23
  let c0_2379 : Index := 0#32
  let c0_2380 : Index := 0#32
  ![0, 0, v2165.toNat, 0, 0]
def k0_off2 (k0_t1 : Fin k0_t1_loop.trips) : Fin 5 → Nat :=
  let c0_2381 : Index := 0#32
  let c1_2382 : Index := 1#32
  let c0_i32_892 : BitVec 32 := 0#32
  let c1_i32_894 : BitVec 32 := 1#32
  let arg23 : BitVec 32 := Scf.iv c0_i32_892 c1_i32_894 k0_t1
  let v2168 : Index := Scalar.indexCast arg23
  let c0_2383 : Index := 0#32
  let c0_2384 : Index := 0#32
  ![0, 1, v2168.toNat, 0, 0]
def k0_off3 (k0_t1 : Fin k0_t1_loop.trips) : Fin 3 → Nat :=
  let c0_i32_892 : BitVec 32 := 0#32
  let c1_i32_894 : BitVec 32 := 1#32
  let arg23 : BitVec 32 := Scf.iv c0_i32_892 c1_i32_894 k0_t1
  let v2171 : Index := Scalar.indexCast arg23
  let c0_2385 : Index := 0#32
  let c0_2386 : Index := 0#32
  ![v2171.toNat, 0, 0]
def k0_off4 (k0_t1 : Fin k0_t1_loop.trips) : Fin 5 → Nat :=
  let c1_2399 : Index := 1#32
  let c0_2400 : Index := 0#32
  let c0_i32_892 : BitVec 32 := 0#32
  let c1_i32_894 : BitVec 32 := 1#32
  let arg23 : BitVec 32 := Scf.iv c0_i32_892 c1_i32_894 k0_t1
  let v2197 : Index := Scalar.indexCast arg23
  let c0_2401 : Index := 0#32
  let c0_2402 : Index := 0#32
  ![1, 0, v2197.toNat, 0, 0]
def k0_off5 (k0_t1 : Fin k0_t1_loop.trips) : Fin 5 → Nat :=
  let c1_2403 : Index := 1#32
  let c1_2404 : Index := 1#32
  let c0_i32_892 : BitVec 32 := 0#32
  let c1_i32_894 : BitVec 32 := 1#32
  let arg23 : BitVec 32 := Scf.iv c0_i32_892 c1_i32_894 k0_t1
  let v2200 : Index := Scalar.indexCast arg23
  let c0_2405 : Index := 0#32
  let c0_2406 : Index := 0#32
  ![1, 1, v2200.toNat, 0, 0]
def k0_dev13 (d0 : Dev nD) : Nat :=
  let c0_i32_950 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_949 : BitVec 32 := 1#32
  let v906 : BitVec 32 := Scalar.muli v5 c1_i32_949
  let v907 : BitVec 32 := Scalar.addi c0_i32_950 v906
  v907.toNat
def k0_dev14 (d0 : Dev nD) : Nat :=
  let c0_i32_953 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_952 : BitVec 32 := 1#32
  let v908 : BitVec 32 := Scalar.muli v7 c1_i32_952
  let v909 : BitVec 32 := Scalar.addi c0_i32_953 v908
  v909.toNat
def k0_dev15 (d0 : Dev nD) : Nat :=
  let c0_i32_975 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_974 : BitVec 32 := 1#32
  let v918 : BitVec 32 := Scalar.muli v7 c1_i32_974
  let v919 : BitVec 32 := Scalar.addi c0_i32_975 v918
  v919.toNat
def k0_dev16 (d0 : Dev nD) : Nat :=
  let c0_i32_1003 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1002 : BitVec 32 := 1#32
  let v936 : BitVec 32 := Scalar.muli v5 c1_i32_1002
  let v937 : BitVec 32 := Scalar.addi c0_i32_1003 v936
  v937.toNat
def k0_dev17 (d0 : Dev nD) : Nat :=
  let c0_i32_1031 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1030 : BitVec 32 := 1#32
  let v954 : BitVec 32 := Scalar.muli v7 c1_i32_1030
  let v955 : BitVec 32 := Scalar.addi c0_i32_1031 v954
  v955.toNat
def k0_dev18 (d0 : Dev nD) : Nat :=
  let c0_i32_1059 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1058 : BitVec 32 := 1#32
  let v972 : BitVec 32 := Scalar.muli v5 c1_i32_1058
  let v973 : BitVec 32 := Scalar.addi c0_i32_1059 v972
  v973.toNat
@[reducible] def k0_t2_loop : Scf.Loop 32 :=
  let c0_i32_1136 : BitVec 32 := 0#32
  let c8_i32_1137 : BitVec 32 := 8#32
  let v1088 : BitVec 32 := Scalar.addi c0_i32_1136 c8_i32_1137
  let c1_i32_1138 : BitVec 32 := 1#32
  ⟨c0_i32_1136, v1088, c1_i32_1138⟩
def k0_off6 (k0_t2 : Fin k0_t2_loop.trips) : Fin 5 → Nat :=
  let c0_2377 : Index := 0#32
  let c0_2378 : Index := 0#32
  let c0_i32_1136 : BitVec 32 := 0#32
  let c1_i32_1138 : BitVec 32 := 1#32
  let arg23 : BitVec 32 := Scf.iv c0_i32_1136 c1_i32_1138 k0_t2
  let v2165 : Index := Scalar.indexCast arg23
  let c0_2379 : Index := 0#32
  let c0_2380 : Index := 0#32
  ![0, 0, v2165.toNat, 0, 0]
def k0_off7 (k0_t2 : Fin k0_t2_loop.trips) : Fin 5 → Nat :=
  let c0_2381 : Index := 0#32
  let c1_2382 : Index := 1#32
  let c0_i32_1136 : BitVec 32 := 0#32
  let c1_i32_1138 : BitVec 32 := 1#32
  let arg23 : BitVec 32 := Scf.iv c0_i32_1136 c1_i32_1138 k0_t2
  let v2168 : Index := Scalar.indexCast arg23
  let c0_2383 : Index := 0#32
  let c0_2384 : Index := 0#32
  ![0, 1, v2168.toNat, 0, 0]
def k0_off8 (k0_t2 : Fin k0_t2_loop.trips) : Fin 3 → Nat :=
  let c0_i32_1136 : BitVec 32 := 0#32
  let c1_i32_1138 : BitVec 32 := 1#32
  let arg23 : BitVec 32 := Scf.iv c0_i32_1136 c1_i32_1138 k0_t2
  let v2171 : Index := Scalar.indexCast arg23
  let c0_2385 : Index := 0#32
  let c0_2386 : Index := 0#32
  ![v2171.toNat, 0, 0]
def k0_off9 (k0_t2 : Fin k0_t2_loop.trips) : Fin 5 → Nat :=
  let c1_2399 : Index := 1#32
  let c0_2400 : Index := 0#32
  let c0_i32_1136 : BitVec 32 := 0#32
  let c1_i32_1138 : BitVec 32 := 1#32
  let arg23 : BitVec 32 := Scf.iv c0_i32_1136 c1_i32_1138 k0_t2
  let v2197 : Index := Scalar.indexCast arg23
  let c0_2401 : Index := 0#32
  let c0_2402 : Index := 0#32
  ![1, 0, v2197.toNat, 0, 0]
def k0_off10 (k0_t2 : Fin k0_t2_loop.trips) : Fin 5 → Nat :=
  let c1_2403 : Index := 1#32
  let c1_2404 : Index := 1#32
  let c0_i32_1136 : BitVec 32 := 0#32
  let c1_i32_1138 : BitVec 32 := 1#32
  let arg23 : BitVec 32 := Scf.iv c0_i32_1136 c1_i32_1138 k0_t2
  let v2200 : Index := Scalar.indexCast arg23
  let c0_2405 : Index := 0#32
  let c0_2406 : Index := 0#32
  ![1, 1, v2200.toNat, 0, 0]
def k0_dev19 (d0 : Dev nD) : Nat :=
  let c0_i32_1194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1193 : BitVec 32 := 1#32
  let v1113 : BitVec 32 := Scalar.muli v5 c1_i32_1193
  let v1114 : BitVec 32 := Scalar.addi c0_i32_1194 v1113
  v1114.toNat
def k0_dev20 (d0 : Dev nD) : Nat :=
  let c0_i32_1197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1196 : BitVec 32 := 1#32
  let v1115 : BitVec 32 := Scalar.muli v7 c1_i32_1196
  let v1116 : BitVec 32 := Scalar.addi c0_i32_1197 v1115
  v1116.toNat
def k0_dev21 (d0 : Dev nD) : Nat :=
  let c0_i32_1220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1219 : BitVec 32 := 1#32
  let v1125 : BitVec 32 := Scalar.muli v7 c1_i32_1219
  let v1126 : BitVec 32 := Scalar.addi c0_i32_1220 v1125
  v1126.toNat
def k0_dev22 (d0 : Dev nD) : Nat :=
  let c0_i32_1250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1249 : BitVec 32 := 1#32
  let v1143 : BitVec 32 := Scalar.muli v5 c1_i32_1249
  let v1144 : BitVec 32 := Scalar.addi c0_i32_1250 v1143
  v1144.toNat
def k0_dev23 (d0 : Dev nD) : Nat :=
  let c0_i32_1278 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1277 : BitVec 32 := 1#32
  let v1161 : BitVec 32 := Scalar.muli v7 c1_i32_1277
  let v1162 : BitVec 32 := Scalar.addi c0_i32_1278 v1161
  v1162.toNat
def k0_dev24 (d0 : Dev nD) : Nat :=
  let c0_i32_1306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1305 : BitVec 32 := 1#32
  let v1179 : BitVec 32 := Scalar.muli v5 c1_i32_1305
  let v1180 : BitVec 32 := Scalar.addi c0_i32_1306 v1179
  v1180.toNat
@[reducible] def k0_t3_loop : Scf.Loop 32 :=
  let c0_i32_1383 : BitVec 32 := 0#32
  let c8_i32_1384 : BitVec 32 := 8#32
  let v1295 : BitVec 32 := Scalar.addi c0_i32_1383 c8_i32_1384
  let c1_i32_1385 : BitVec 32 := 1#32
  ⟨c0_i32_1383, v1295, c1_i32_1385⟩
def k0_off11 (k0_t3 : Fin k0_t3_loop.trips) : Fin 5 → Nat :=
  let c0_2377 : Index := 0#32
  let c0_2378 : Index := 0#32
  let c0_i32_1383 : BitVec 32 := 0#32
  let c1_i32_1385 : BitVec 32 := 1#32
  let arg23 : BitVec 32 := Scf.iv c0_i32_1383 c1_i32_1385 k0_t3
  let v2165 : Index := Scalar.indexCast arg23
  let c0_2379 : Index := 0#32
  let c0_2380 : Index := 0#32
  ![0, 0, v2165.toNat, 0, 0]
def k0_off12 (k0_t3 : Fin k0_t3_loop.trips) : Fin 5 → Nat :=
  let c0_2381 : Index := 0#32
  let c1_2382 : Index := 1#32
  let c0_i32_1383 : BitVec 32 := 0#32
  let c1_i32_1385 : BitVec 32 := 1#32
  let arg23 : BitVec 32 := Scf.iv c0_i32_1383 c1_i32_1385 k0_t3
  let v2168 : Index := Scalar.indexCast arg23
  let c0_2383 : Index := 0#32
  let c0_2384 : Index := 0#32
  ![0, 1, v2168.toNat, 0, 0]
def k0_off13 (k0_t3 : Fin k0_t3_loop.trips) : Fin 3 → Nat :=
  let c0_i32_1383 : BitVec 32 := 0#32
  let c1_i32_1385 : BitVec 32 := 1#32
  let arg23 : BitVec 32 := Scf.iv c0_i32_1383 c1_i32_1385 k0_t3
  let v2171 : Index := Scalar.indexCast arg23
  let c0_2385 : Index := 0#32
  let c0_2386 : Index := 0#32
  ![v2171.toNat, 0, 0]
def k0_off14 (k0_t3 : Fin k0_t3_loop.trips) : Fin 5 → Nat :=
  let c1_2399 : Index := 1#32
  let c0_2400 : Index := 0#32
  let c0_i32_1383 : BitVec 32 := 0#32
  let c1_i32_1385 : BitVec 32 := 1#32
  let arg23 : BitVec 32 := Scf.iv c0_i32_1383 c1_i32_1385 k0_t3
  let v2197 : Index := Scalar.indexCast arg23
  let c0_2401 : Index := 0#32
  let c0_2402 : Index := 0#32
  ![1, 0, v2197.toNat, 0, 0]
def k0_off15 (k0_t3 : Fin k0_t3_loop.trips) : Fin 5 → Nat :=
  let c1_2403 : Index := 1#32
  let c1_2404 : Index := 1#32
  let c0_i32_1383 : BitVec 32 := 0#32
  let c1_i32_1385 : BitVec 32 := 1#32
  let arg23 : BitVec 32 := Scf.iv c0_i32_1383 c1_i32_1385 k0_t3
  let v2200 : Index := Scalar.indexCast arg23
  let c0_2405 : Index := 0#32
  let c0_2406 : Index := 0#32
  ![1, 1, v2200.toNat, 0, 0]
def k0_dev25 (d0 : Dev nD) : Nat :=
  let c0_i32_1441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1440 : BitVec 32 := 1#32
  let v1320 : BitVec 32 := Scalar.muli v5 c1_i32_1440
  let v1321 : BitVec 32 := Scalar.addi c0_i32_1441 v1320
  v1321.toNat
def k0_dev26 (d0 : Dev nD) : Nat :=
  let c0_i32_1444 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1443 : BitVec 32 := 1#32
  let v1322 : BitVec 32 := Scalar.muli v7 c1_i32_1443
  let v1323 : BitVec 32 := Scalar.addi c0_i32_1444 v1322
  v1323.toNat
def k0_dev27 (d0 : Dev nD) : Nat :=
  let c0_i32_1467 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1466 : BitVec 32 := 1#32
  let v1332 : BitVec 32 := Scalar.muli v7 c1_i32_1466
  let v1333 : BitVec 32 := Scalar.addi c0_i32_1467 v1332
  v1333.toNat
def k0_dev28 (d0 : Dev nD) : Nat :=
  let c0_i32_1497 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1496 : BitVec 32 := 1#32
  let v1350 : BitVec 32 := Scalar.muli v5 c1_i32_1496
  let v1351 : BitVec 32 := Scalar.addi c0_i32_1497 v1350
  v1351.toNat
def k0_dev29 (d0 : Dev nD) : Nat :=
  let c0_i32_1525 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1524 : BitVec 32 := 1#32
  let v1368 : BitVec 32 := Scalar.muli v7 c1_i32_1524
  let v1369 : BitVec 32 := Scalar.addi c0_i32_1525 v1368
  v1369.toNat
def k0_dev30 (d0 : Dev nD) : Nat :=
  let c0_i32_1553 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1552 : BitVec 32 := 1#32
  let v1386 : BitVec 32 := Scalar.muli v5 c1_i32_1552
  let v1387 : BitVec 32 := Scalar.addi c0_i32_1553 v1386
  v1387.toNat
@[reducible] def k0_t4_loop : Scf.Loop 32 :=
  let c0_i32_1630 : BitVec 32 := 0#32
  let c8_i32_1631 : BitVec 32 := 8#32
  let v1502 : BitVec 32 := Scalar.addi c0_i32_1630 c8_i32_1631
  let c1_i32_1632 : BitVec 32 := 1#32
  ⟨c0_i32_1630, v1502, c1_i32_1632⟩
def k0_off16 (k0_t4 : Fin k0_t4_loop.trips) : Fin 5 → Nat :=
  let c0_2377 : Index := 0#32
  let c0_2378 : Index := 0#32
  let c0_i32_1630 : BitVec 32 := 0#32
  let c1_i32_1632 : BitVec 32 := 1#32
  let arg23 : BitVec 32 := Scf.iv c0_i32_1630 c1_i32_1632 k0_t4
  let v2165 : Index := Scalar.indexCast arg23
  let c0_2379 : Index := 0#32
  let c0_2380 : Index := 0#32
  ![0, 0, v2165.toNat, 0, 0]
def k0_off17 (k0_t4 : Fin k0_t4_loop.trips) : Fin 5 → Nat :=
  let c0_2381 : Index := 0#32
  let c1_2382 : Index := 1#32
  let c0_i32_1630 : BitVec 32 := 0#32
  let c1_i32_1632 : BitVec 32 := 1#32
  let arg23 : BitVec 32 := Scf.iv c0_i32_1630 c1_i32_1632 k0_t4
  let v2168 : Index := Scalar.indexCast arg23
  let c0_2383 : Index := 0#32
  let c0_2384 : Index := 0#32
  ![0, 1, v2168.toNat, 0, 0]
def k0_off18 (k0_t4 : Fin k0_t4_loop.trips) : Fin 3 → Nat :=
  let c0_i32_1630 : BitVec 32 := 0#32
  let c1_i32_1632 : BitVec 32 := 1#32
  let arg23 : BitVec 32 := Scf.iv c0_i32_1630 c1_i32_1632 k0_t4
  let v2171 : Index := Scalar.indexCast arg23
  let c0_2385 : Index := 0#32
  let c0_2386 : Index := 0#32
  ![v2171.toNat, 0, 0]
def k0_off19 (k0_t4 : Fin k0_t4_loop.trips) : Fin 5 → Nat :=
  let c1_2399 : Index := 1#32
  let c0_2400 : Index := 0#32
  let c0_i32_1630 : BitVec 32 := 0#32
  let c1_i32_1632 : BitVec 32 := 1#32
  let arg23 : BitVec 32 := Scf.iv c0_i32_1630 c1_i32_1632 k0_t4
  let v2197 : Index := Scalar.indexCast arg23
  let c0_2401 : Index := 0#32
  let c0_2402 : Index := 0#32
  ![1, 0, v2197.toNat, 0, 0]
def k0_off20 (k0_t4 : Fin k0_t4_loop.trips) : Fin 5 → Nat :=
  let c1_2403 : Index := 1#32
  let c1_2404 : Index := 1#32
  let c0_i32_1630 : BitVec 32 := 0#32
  let c1_i32_1632 : BitVec 32 := 1#32
  let arg23 : BitVec 32 := Scf.iv c0_i32_1630 c1_i32_1632 k0_t4
  let v2200 : Index := Scalar.indexCast arg23
  let c0_2405 : Index := 0#32
  let c0_2406 : Index := 0#32
  ![1, 1, v2200.toNat, 0, 0]
def k0_dev31 (d0 : Dev nD) : Nat :=
  let c0_i32_1708 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1707 : BitVec 32 := 1#32
  let v1535 : BitVec 32 := Scalar.muli v7 c1_i32_1707
  let v1536 : BitVec 32 := Scalar.addi c0_i32_1708 v1535
  v1536.toNat
def k0_dev32 (d0 : Dev nD) : Nat :=
  let c0_i32_1738 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1737 : BitVec 32 := 1#32
  let v1553 : BitVec 32 := Scalar.muli v5 c1_i32_1737
  let v1554 : BitVec 32 := Scalar.addi c0_i32_1738 v1553
  v1554.toNat
def k0_dev33 (d0 : Dev nD) : Nat :=
  let c0_i32_1766 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1765 : BitVec 32 := 1#32
  let v1571 : BitVec 32 := Scalar.muli v7 c1_i32_1765
  let v1572 : BitVec 32 := Scalar.addi c0_i32_1766 v1571
  v1572.toNat
def k0_dev34 (d0 : Dev nD) : Nat :=
  let c0_i32_1794 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1793 : BitVec 32 := 1#32
  let v1589 : BitVec 32 := Scalar.muli v5 c1_i32_1793
  let v1590 : BitVec 32 := Scalar.addi c0_i32_1794 v1589
  v1590.toNat
@[reducible] def k0_t5_loop : Scf.Loop 32 :=
  let c0_i32_1871 : BitVec 32 := 0#32
  let c8_i32_1872 : BitVec 32 := 8#32
  let v1705 : BitVec 32 := Scalar.addi c0_i32_1871 c8_i32_1872
  let c1_i32_1873 : BitVec 32 := 1#32
  ⟨c0_i32_1871, v1705, c1_i32_1873⟩
def k0_off21 (k0_t5 : Fin k0_t5_loop.trips) : Fin 5 → Nat :=
  let c0_2377 : Index := 0#32
  let c0_2378 : Index := 0#32
  let c0_i32_1871 : BitVec 32 := 0#32
  let c1_i32_1873 : BitVec 32 := 1#32
  let arg23 : BitVec 32 := Scf.iv c0_i32_1871 c1_i32_1873 k0_t5
  let v2165 : Index := Scalar.indexCast arg23
  let c0_2379 : Index := 0#32
  let c0_2380 : Index := 0#32
  ![0, 0, v2165.toNat, 0, 0]
def k0_off22 (k0_t5 : Fin k0_t5_loop.trips) : Fin 5 → Nat :=
  let c0_2381 : Index := 0#32
  let c1_2382 : Index := 1#32
  let c0_i32_1871 : BitVec 32 := 0#32
  let c1_i32_1873 : BitVec 32 := 1#32
  let arg23 : BitVec 32 := Scf.iv c0_i32_1871 c1_i32_1873 k0_t5
  let v2168 : Index := Scalar.indexCast arg23
  let c0_2383 : Index := 0#32
  let c0_2384 : Index := 0#32
  ![0, 1, v2168.toNat, 0, 0]
def k0_off23 (k0_t5 : Fin k0_t5_loop.trips) : Fin 3 → Nat :=
  let c0_i32_1871 : BitVec 32 := 0#32
  let c1_i32_1873 : BitVec 32 := 1#32
  let arg23 : BitVec 32 := Scf.iv c0_i32_1871 c1_i32_1873 k0_t5
  let v2171 : Index := Scalar.indexCast arg23
  let c0_2385 : Index := 0#32
  let c0_2386 : Index := 0#32
  ![v2171.toNat, 0, 0]
def k0_off24 (k0_t5 : Fin k0_t5_loop.trips) : Fin 5 → Nat :=
  let c1_2399 : Index := 1#32
  let c0_2400 : Index := 0#32
  let c0_i32_1871 : BitVec 32 := 0#32
  let c1_i32_1873 : BitVec 32 := 1#32
  let arg23 : BitVec 32 := Scf.iv c0_i32_1871 c1_i32_1873 k0_t5
  let v2197 : Index := Scalar.indexCast arg23
  let c0_2401 : Index := 0#32
  let c0_2402 : Index := 0#32
  ![1, 0, v2197.toNat, 0, 0]
def k0_off25 (k0_t5 : Fin k0_t5_loop.trips) : Fin 5 → Nat :=
  let c1_2403 : Index := 1#32
  let c1_2404 : Index := 1#32
  let c0_i32_1871 : BitVec 32 := 0#32
  let c1_i32_1873 : BitVec 32 := 1#32
  let arg23 : BitVec 32 := Scf.iv c0_i32_1871 c1_i32_1873 k0_t5
  let v2200 : Index := Scalar.indexCast arg23
  let c0_2405 : Index := 0#32
  let c0_2406 : Index := 0#32
  ![1, 1, v2200.toNat, 0, 0]
def k0_dev35 (d0 : Dev nD) : Nat :=
  let c0_i32_1949 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1948 : BitVec 32 := 1#32
  let v1738 : BitVec 32 := Scalar.muli v7 c1_i32_1948
  let v1739 : BitVec 32 := Scalar.addi c0_i32_1949 v1738
  v1739.toNat
def k0_dev36 (d0 : Dev nD) : Nat :=
  let c0_i32_1979 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1978 : BitVec 32 := 1#32
  let v1756 : BitVec 32 := Scalar.muli v5 c1_i32_1978
  let v1757 : BitVec 32 := Scalar.addi c0_i32_1979 v1756
  v1757.toNat
def k0_dev37 (d0 : Dev nD) : Nat :=
  let c0_i32_2007 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2006 : BitVec 32 := 1#32
  let v1774 : BitVec 32 := Scalar.muli v7 c1_i32_2006
  let v1775 : BitVec 32 := Scalar.addi c0_i32_2007 v1774
  v1775.toNat
def k0_dev38 (d0 : Dev nD) : Nat :=
  let c0_i32_2035 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2034 : BitVec 32 := 1#32
  let v1792 : BitVec 32 := Scalar.muli v5 c1_i32_2034
  let v1793 : BitVec 32 := Scalar.addi c0_i32_2035 v1792
  v1793.toNat
@[reducible] def k0_t6_loop : Scf.Loop 32 :=
  let c0_i32_2112 : BitVec 32 := 0#32
  let c8_i32_2113 : BitVec 32 := 8#32
  let v1908 : BitVec 32 := Scalar.addi c0_i32_2112 c8_i32_2113
  let c1_i32_2114 : BitVec 32 := 1#32
  ⟨c0_i32_2112, v1908, c1_i32_2114⟩
def k0_off26 (k0_t6 : Fin k0_t6_loop.trips) : Fin 5 → Nat :=
  let c0_2377 : Index := 0#32
  let c0_2378 : Index := 0#32
  let c0_i32_2112 : BitVec 32 := 0#32
  let c1_i32_2114 : BitVec 32 := 1#32
  let arg23 : BitVec 32 := Scf.iv c0_i32_2112 c1_i32_2114 k0_t6
  let v2165 : Index := Scalar.indexCast arg23
  let c0_2379 : Index := 0#32
  let c0_2380 : Index := 0#32
  ![0, 0, v2165.toNat, 0, 0]
def k0_off27 (k0_t6 : Fin k0_t6_loop.trips) : Fin 5 → Nat :=
  let c0_2381 : Index := 0#32
  let c1_2382 : Index := 1#32
  let c0_i32_2112 : BitVec 32 := 0#32
  let c1_i32_2114 : BitVec 32 := 1#32
  let arg23 : BitVec 32 := Scf.iv c0_i32_2112 c1_i32_2114 k0_t6
  let v2168 : Index := Scalar.indexCast arg23
  let c0_2383 : Index := 0#32
  let c0_2384 : Index := 0#32
  ![0, 1, v2168.toNat, 0, 0]
def k0_off28 (k0_t6 : Fin k0_t6_loop.trips) : Fin 3 → Nat :=
  let c0_i32_2112 : BitVec 32 := 0#32
  let c1_i32_2114 : BitVec 32 := 1#32
  let arg23 : BitVec 32 := Scf.iv c0_i32_2112 c1_i32_2114 k0_t6
  let v2171 : Index := Scalar.indexCast arg23
  let c0_2385 : Index := 0#32
  let c0_2386 : Index := 0#32
  ![v2171.toNat, 0, 0]
def k0_off29 (k0_t6 : Fin k0_t6_loop.trips) : Fin 5 → Nat :=
  let c1_2399 : Index := 1#32
  let c0_2400 : Index := 0#32
  let c0_i32_2112 : BitVec 32 := 0#32
  let c1_i32_2114 : BitVec 32 := 1#32
  let arg23 : BitVec 32 := Scf.iv c0_i32_2112 c1_i32_2114 k0_t6
  let v2197 : Index := Scalar.indexCast arg23
  let c0_2401 : Index := 0#32
  let c0_2402 : Index := 0#32
  ![1, 0, v2197.toNat, 0, 0]
def k0_off30 (k0_t6 : Fin k0_t6_loop.trips) : Fin 5 → Nat :=
  let c1_2403 : Index := 1#32
  let c1_2404 : Index := 1#32
  let c0_i32_2112 : BitVec 32 := 0#32
  let c1_i32_2114 : BitVec 32 := 1#32
  let arg23 : BitVec 32 := Scf.iv c0_i32_2112 c1_i32_2114 k0_t6
  let v2200 : Index := Scalar.indexCast arg23
  let c0_2405 : Index := 0#32
  let c0_2406 : Index := 0#32
  ![1, 1, v2200.toNat, 0, 0]
@[reducible] def k0_t7_loop : Scf.Loop 32 :=
  let c0_i32_2294 : BitVec 32 := 0#32
  let c8_i32_2295 : BitVec 32 := 8#32
  let v2071 : BitVec 32 := Scalar.addi c0_i32_2294 c8_i32_2295
  let c1_i32_2296 : BitVec 32 := 1#32
  ⟨c0_i32_2294, v2071, c1_i32_2296⟩
def k0_off31 (k0_t7 : Fin k0_t7_loop.trips) : Fin 5 → Nat :=
  let c0_2377 : Index := 0#32
  let c0_2378 : Index := 0#32
  let c0_i32_2294 : BitVec 32 := 0#32
  let c1_i32_2296 : BitVec 32 := 1#32
  let arg23 : BitVec 32 := Scf.iv c0_i32_2294 c1_i32_2296 k0_t7
  let v2165 : Index := Scalar.indexCast arg23
  let c0_2379 : Index := 0#32
  let c0_2380 : Index := 0#32
  ![0, 0, v2165.toNat, 0, 0]
def k0_off32 (k0_t7 : Fin k0_t7_loop.trips) : Fin 5 → Nat :=
  let c0_2381 : Index := 0#32
  let c1_2382 : Index := 1#32
  let c0_i32_2294 : BitVec 32 := 0#32
  let c1_i32_2296 : BitVec 32 := 1#32
  let arg23 : BitVec 32 := Scf.iv c0_i32_2294 c1_i32_2296 k0_t7
  let v2168 : Index := Scalar.indexCast arg23
  let c0_2383 : Index := 0#32
  let c0_2384 : Index := 0#32
  ![0, 1, v2168.toNat, 0, 0]
def k0_off33 (k0_t7 : Fin k0_t7_loop.trips) : Fin 3 → Nat :=
  let c0_i32_2294 : BitVec 32 := 0#32
  let c1_i32_2296 : BitVec 32 := 1#32
  let arg23 : BitVec 32 := Scf.iv c0_i32_2294 c1_i32_2296 k0_t7
  let v2171 : Index := Scalar.indexCast arg23
  let c0_2385 : Index := 0#32
  let c0_2386 : Index := 0#32
  ![v2171.toNat, 0, 0]
def k0_off34 (k0_t7 : Fin k0_t7_loop.trips) : Fin 5 → Nat :=
  let c1_2399 : Index := 1#32
  let c0_2400 : Index := 0#32
  let c0_i32_2294 : BitVec 32 := 0#32
  let c1_i32_2296 : BitVec 32 := 1#32
  let arg23 : BitVec 32 := Scf.iv c0_i32_2294 c1_i32_2296 k0_t7
  let v2197 : Index := Scalar.indexCast arg23
  let c0_2401 : Index := 0#32
  let c0_2402 : Index := 0#32
  ![1, 0, v2197.toNat, 0, 0]
def k0_off35 (k0_t7 : Fin k0_t7_loop.trips) : Fin 5 → Nat :=
  let c1_2403 : Index := 1#32
  let c1_2404 : Index := 1#32
  let c0_i32_2294 : BitVec 32 := 0#32
  let c1_i32_2296 : BitVec 32 := 1#32
  let arg23 : BitVec 32 := Scf.iv c0_i32_2294 c1_i32_2296 k0_t7
  let v2200 : Index := Scalar.indexCast arg23
  let c0_2405 : Index := 0#32
  let c0_2406 : Index := 0#32
  ![1, 1, v2200.toNat, 0, 0]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024x128 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "qscale" => some ((63690514211647 / 18014398509481984 : ℝ) : EReal)
  | _ => none
-- ==== ReferenceIdeal.lean ====
abbrev S1x8192x1024 : Shape := ⟨3, ![1, 8192, 1024]⟩
abbrev S1024x1024 : Shape := ⟨2, ![1024, 1024]⟩
abbrev S1x8192x8x128 : Shape := ⟨4, ![1, 8192, 8, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x8x8192x8192 : Shape := ⟨4, ![1, 8, 8192, 8192]⟩
abbrev S1x1x8192x8192 : Shape := ⟨4, ![1, 1, 8192, 8192]⟩
abbrev S1x8x8192 : Shape := ⟨3, ![1, 8, 8192]⟩
abbrev S1x8x8192x1 : Shape := ⟨4, ![1, 8, 8192, 1]⟩
abbrev S1x1x8192x1 : Shape := ⟨4, ![1, 1, 8192, 1]⟩
abbrev S1x8x128x8192 : Shape := ⟨4, ![1, 8, 128, 8192]⟩

abbrev nBuf : Space → Nat
  | .hbm => 158
  | .vmem => 0
  | .smem => 0
  | _ => 0

abbrev hbmTy0_0 (i : Nat) : BufTy := match i % 128 with
  | 0 => ⟨S1x8192x1024, .bf16⟩
  | 1 => ⟨S1024x1024, .bf16⟩
  | 2 => ⟨S1x8192x8x128, .bf16⟩
  | 3 => ⟨S1x8192x8x128, .bf16⟩
  | 4 => ⟨S1024x1024, .bf16⟩
  | 5 => ⟨S1x8192x1024, .f32⟩
  | 6 => ⟨S1024x1024, .f32⟩
  | 7 => ⟨S1024x1024, .f32⟩
  | 8 => ⟨S_, .bf16⟩
  | 9 => ⟨S1x8192x8x128, .bf16⟩
  | 10 => ⟨S1x8192x8x128, .bf16⟩
  | 11 => ⟨S1x8192x8x128, .bf16⟩
  | 12 => ⟨S_, .i32⟩
  | 13 => ⟨S_, .i32⟩
  | 14 => ⟨S_, .bf16⟩
  | 15 => ⟨S1x8192x8x128, .bf16⟩
  | 16 => ⟨S1x8192x8x128, .bf16⟩
  | 17 => ⟨S_, .bf16⟩
  | 18 => ⟨S1x8192x8x128, .bf16⟩
  | 19 => ⟨S1x8192x8x128, .bf16⟩
  | 20 => ⟨S1x8192x8x128, .f32⟩
  | 21 => ⟨S_, .f32⟩
  | 22 => ⟨S1x8192x8x128, .f32⟩
  | 23 => ⟨S1x8192x8x128, .f32⟩
  | 24 => ⟨S_, .bf16⟩
  | 25 => ⟨S1x8192x8x128, .bf16⟩
  | 26 => ⟨S1x8192x8x128, .bf16⟩
  | 27 => ⟨S1x8192x8x128, .bf16⟩
  | 28 => ⟨S_, .i32⟩
  | 29 => ⟨S_, .i32⟩
  | 30 => ⟨S_, .bf16⟩
  | 31 => ⟨S1x8192x8x128, .bf16⟩
  | 32 => ⟨S1x8192x8x128, .bf16⟩
  | 33 => ⟨S_, .bf16⟩
  | 34 => ⟨S1x8192x8x128, .bf16⟩
  | 35 => ⟨S1x8192x8x128, .bf16⟩
  | 36 => ⟨S1x8192x8x128, .f32⟩
  | 37 => ⟨S_, .f32⟩
  | 38 => ⟨S1x8192x8x128, .f32⟩
  | 39 => ⟨S1x8192x8x128, .f32⟩
  | 40 => ⟨S1x8192x1024, .f32⟩
  | 41 => ⟨S1x8192x8x128, .f32⟩
  | 42 => ⟨S8192, .i32⟩
  | 43 => ⟨S_, .i32⟩
  | 44 => ⟨S_, .i32⟩
  | 45 => ⟨S8192, .i32⟩
  | 46 => ⟨S8192, .i32⟩
  | 47 => ⟨S8192, .i32⟩
  | 48 => ⟨S_, .i32⟩
  | 49 => ⟨S8192, .i32⟩
  | 50 => ⟨S8192, .i1⟩
  | 51 => ⟨S8192, .i32⟩
  | 52 => ⟨S8192, .i32⟩
  | 53 => ⟨S_, .i32⟩
  | 54 => ⟨S8192, .i32⟩
  | 55 => ⟨S8192, .i1⟩
  | 56 => ⟨S8192, .i1⟩
  | 57 => ⟨S_, .i32⟩
  | 58 => ⟨S8192, .i32⟩
  | 59 => ⟨S8192, .i32⟩
  | 60 => ⟨S8192, .i32⟩
  | 61 => ⟨S8192x1, .i32⟩
  | 62 => ⟨S8192, .i32⟩
  | 63 => ⟨S_, .i32⟩
  | 64 => ⟨S_, .i32⟩
  | 65 => ⟨S8192, .i32⟩
  | 66 => ⟨S8192, .i32⟩
  | 67 => ⟨S8192, .i32⟩
  | 68 => ⟨S_, .i32⟩
  | 69 => ⟨S8192, .i32⟩
  | 70 => ⟨S8192, .i1⟩
  | 71 => ⟨S8192, .i32⟩
  | 72 => ⟨S8192, .i32⟩
  | 73 => ⟨S_, .i32⟩
  | 74 => ⟨S8192, .i32⟩
  | 75 => ⟨S8192, .i1⟩
  | 76 => ⟨S8192, .i1⟩
  | 77 => ⟨S_, .i32⟩
  | 78 => ⟨S8192, .i32⟩
  | 79 => ⟨S8192, .i32⟩
  | 80 => ⟨S8192, .i32⟩
  | 81 => ⟨S1x8192, .i32⟩
  | 82 => ⟨S8192x8192, .i32⟩
  | 83 => ⟨S8192x8192, .i32⟩
  | 84 => ⟨S8192x8192, .i1⟩
  | 85 => ⟨S_, .i32⟩
  | 86 => ⟨S1x8192, .i32⟩
  | 87 => ⟨S1x8192, .i1⟩
  | 88 => ⟨S8192x8192, .i1⟩
  | 89 => ⟨S8192x8192, .i1⟩
  | 90 => ⟨S8192x8192, .i32⟩
  | 91 => ⟨S8192x8192, .i32⟩
  | 92 => ⟨S8192x8192, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S8192x8192, .i32⟩
  | 100 => ⟨S8192x8192, .i32⟩
  | 101 => ⟨S_, .i32⟩
  | 102 => ⟨S8192x8192, .i32⟩
  | 103 => ⟨S8192x8192, .i1⟩
  | 104 => ⟨S_, .i32⟩
  | 105 => ⟨S8192x8192, .i32⟩
  | 106 => ⟨S8192x8192, .i1⟩
  | 107 => ⟨S_, .i32⟩
  | 108 => ⟨S_, .i1⟩
  | 109 => ⟨S8192x8192, .i1⟩
  | 110 => ⟨S8192x8192, .i1⟩
  | 111 => ⟨S8192x8192, .i1⟩
  | 112 => ⟨S8192x8192, .i32⟩
  | 113 => ⟨S8192x8192, .i32⟩
  | 114 => ⟨S8192x8192, .i32⟩
  | 115 => ⟨S_, .i32⟩
  | 116 => ⟨S8192x8192, .i32⟩
  | 117 => ⟨S8192x8192, .i1⟩
  | 118 => ⟨S8192x8192, .i1⟩
  | 119 => ⟨S1x8x8192x8192, .f32⟩
  | 120 => ⟨S_, .f32⟩
  | 121 => ⟨S1x8x8192x8192, .f32⟩
  | 122 => ⟨S1x8x8192x8192, .f32⟩
  | 123 => ⟨S1x1x8192x8192, .i1⟩
  | 124 => ⟨S_, .f32⟩
  | 125 => ⟨S_, .f32⟩
  | 126 => ⟨S1x8x8192x8192, .i1⟩
  | 127 => ⟨S1x8x8192x8192, .f32⟩
  | _ => ⟨S1x8192x1024, .bf16⟩

abbrev hbmTy0_1 (i : Nat) : BufTy := match i % 128 with
  | 0 => ⟨S1x8x8192x8192, .f32⟩
  | 1 => ⟨S_, .f32⟩
  | 2 => ⟨S1x8x8192, .f32⟩
  | 3 => ⟨S1x8x8192x1, .f32⟩
  | 4 => ⟨S1x8x8192x8192, .f32⟩
  | 5 => ⟨S1x8x8192x8192, .f32⟩
  | 6 => ⟨S1x8x8192x8192, .f32⟩
  | 7 => ⟨S_, .i1⟩
  | 8 => ⟨S8192, .i1⟩
  | 9 => ⟨S1x1x8192x1, .i1⟩
  | 10 => ⟨S_, .f32⟩
  | 11 => ⟨S1x8x8192, .f32⟩
  | 12 => ⟨S1x8x8192x1, .f32⟩
  | 13 => ⟨S_, .f32⟩
  | 14 => ⟨S_, .f32⟩
  | 15 => ⟨S1x8x8192x1, .i1⟩
  | 16 => ⟨S1x8x8192x1, .f32⟩
  | 17 => ⟨S1x8x8192x1, .f32⟩
  | 18 => ⟨S1x8x8192x8192, .f32⟩
  | 19 => ⟨S1x8x8192x8192, .f32⟩
  | 20 => ⟨S1x1x8192x1, .i1⟩
  | 21 => ⟨S_, .f32⟩
  | 22 => ⟨S_, .f32⟩
  | 23 => ⟨S1x8x8192x8192, .i1⟩
  | 24 => ⟨S1x8x8192x8192, .f32⟩
  | 25 => ⟨S1x8x8192x8192, .f32⟩
  | 26 => ⟨S1x8x128x8192, .f32⟩
  | 27 => ⟨S1x8192x8x128, .f32⟩
  | 28 => ⟨S1x8192x1024, .f32⟩
  | 29 => ⟨S1x8192x1024, .f32⟩
  | _ => ⟨S1x8192x1024, .bf16⟩

abbrev hbmTy (i : Nat) : BufTy := match i / 128 with
  | 0 => hbmTy0_0 i
  | 1 => hbmTy0_1 i
  | _ => ⟨S1x8192x1024, .bf16⟩

abbrev bufTy : (tb : Table) → Fin (tcTables nBuf tb) → BufTy
  | .hbm, ⟨i, _⟩ => hbmTy i
  | _, _ => ⟨S1x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_c_0 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_c_4 : Ref sig .tc := ⟨.hbm, 29, rfl⟩
abbrev main_call3_v0 : Ref sig .tc := ⟨.hbm, 30, rfl⟩
abbrev main_call3_v1 : Ref sig .tc := ⟨.hbm, 31, rfl⟩
abbrev main_call3_v2 : Ref sig .tc := ⟨.hbm, 32, rfl⟩
abbrev main_call3_v3 : Ref sig .tc := ⟨.hbm, 33, rfl⟩
abbrev main_call3_v4 : Ref sig .tc := ⟨.hbm, 34, rfl⟩
abbrev main_v13 : Ref sig .tc := ⟨.hbm, 35, rfl⟩
abbrev main_v14 : Ref sig .tc := ⟨.hbm, 36, rfl⟩
abbrev main_cst_5 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_6 : Ref sig .tc := ⟨.hbm, 43, rfl⟩
abbrev main_call4_v0 : Ref sig .tc := ⟨.hbm, 44, rfl⟩
abbrev main_call4_v1 : Ref sig .tc := ⟨.hbm, 45, rfl⟩
abbrev main_call4_v2 : Ref sig .tc := ⟨.hbm, 46, rfl⟩
abbrev main_call4_v3 : Ref sig .tc := ⟨.hbm, 47, rfl⟩
abbrev main_call4_v4 : Ref sig .tc := ⟨.hbm, 48, rfl⟩
abbrev main_call4_v5 : Ref sig .tc := ⟨.hbm, 49, rfl⟩
abbrev main_call4_v6 : Ref sig .tc := ⟨.hbm, 50, rfl⟩
abbrev main_call4_v7 : Ref sig .tc := ⟨.hbm, 51, rfl⟩
abbrev main_call4_v8 : Ref sig .tc := ⟨.hbm, 52, rfl⟩
abbrev main_call4_c : Ref sig .tc := ⟨.hbm, 53, rfl⟩
abbrev main_call4_v9 : Ref sig .tc := ⟨.hbm, 54, rfl⟩
abbrev main_call4_v10 : Ref sig .tc := ⟨.hbm, 55, rfl⟩
abbrev main_call4_v11 : Ref sig .tc := ⟨.hbm, 56, rfl⟩
abbrev main_call4_c_0 : Ref sig .tc := ⟨.hbm, 57, rfl⟩
abbrev main_call4_v12 : Ref sig .tc := ⟨.hbm, 58, rfl⟩
abbrev main_call4_v13 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_7 : Ref sig .tc := ⟨.hbm, 63, rfl⟩
abbrev main_call5_v0 : Ref sig .tc := ⟨.hbm, 64, rfl⟩
abbrev main_call5_v1 : Ref sig .tc := ⟨.hbm, 65, rfl⟩
abbrev main_call5_v2 : Ref sig .tc := ⟨.hbm, 66, rfl⟩
abbrev main_call5_v3 : Ref sig .tc := ⟨.hbm, 67, rfl⟩
abbrev main_call5_v4 : Ref sig .tc := ⟨.hbm, 68, rfl⟩
abbrev main_call5_v5 : Ref sig .tc := ⟨.hbm, 69, rfl⟩
abbrev main_call5_v6 : Ref sig .tc := ⟨.hbm, 70, rfl⟩
abbrev main_call5_v7 : Ref sig .tc := ⟨.hbm, 71, rfl⟩
abbrev main_call5_v8 : Ref sig .tc := ⟨.hbm, 72, rfl⟩
abbrev main_call5_c : Ref sig .tc := ⟨.hbm, 73, rfl⟩
abbrev main_call5_v9 : Ref sig .tc := ⟨.hbm, 74, rfl⟩
abbrev main_call5_v10 : Ref sig .tc := ⟨.hbm, 75, rfl⟩
abbrev main_call5_v11 : Ref sig .tc := ⟨.hbm, 76, rfl⟩
abbrev main_call5_c_0 : Ref sig .tc := ⟨.hbm, 77, rfl⟩
abbrev main_call5_v12 : Ref sig .tc := ⟨.hbm, 78, rfl⟩
abbrev main_call5_v13 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_c_8 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_c_9 : Ref sig .tc := ⟨.hbm, 93, rfl⟩
abbrev main_call6_v0 : Ref sig .tc := ⟨.hbm, 94, rfl⟩
abbrev main_call6_c : Ref sig .tc := ⟨.hbm, 95, rfl⟩
abbrev main_call6_v1 : Ref sig .tc := ⟨.hbm, 96, rfl⟩
abbrev main_call6_c_0 : Ref sig .tc := ⟨.hbm, 97, rfl⟩
abbrev main_call6_v2 : Ref sig .tc := ⟨.hbm, 98, rfl⟩
abbrev main_call6_v3 : Ref sig .tc := ⟨.hbm, 99, rfl⟩
abbrev main_call6_v4 : Ref sig .tc := ⟨.hbm, 100, rfl⟩
abbrev main_call6_c_1 : Ref sig .tc := ⟨.hbm, 101, rfl⟩
abbrev main_call6_v5 : Ref sig .tc := ⟨.hbm, 102, rfl⟩
abbrev main_call6_v6 : Ref sig .tc := ⟨.hbm, 103, rfl⟩
abbrev main_call6_c_2 : Ref sig .tc := ⟨.hbm, 104, rfl⟩
abbrev main_call6_v7 : Ref sig .tc := ⟨.hbm, 105, rfl⟩
abbrev main_call6_v8 : Ref sig .tc := ⟨.hbm, 106, rfl⟩
abbrev main_call6_c_3 : Ref sig .tc := ⟨.hbm, 107, rfl⟩
abbrev main_call6_v9 : Ref sig .tc := ⟨.hbm, 108, rfl⟩
abbrev main_call6_v10 : Ref sig .tc := ⟨.hbm, 109, rfl⟩
abbrev main_call6_v11 : Ref sig .tc := ⟨.hbm, 110, rfl⟩
abbrev main_call6_v12 : Ref sig .tc := ⟨.hbm, 111, rfl⟩
abbrev main_call6_v13 : Ref sig .tc := ⟨.hbm, 112, rfl⟩
abbrev main_call6_v14 : Ref sig .tc := ⟨.hbm, 113, rfl⟩
abbrev main_v35 : Ref sig .tc := ⟨.hbm, 114, rfl⟩
abbrev main_c_10 : Ref sig .tc := ⟨.hbm, 115, rfl⟩
abbrev main_v36 : Ref sig .tc := ⟨.hbm, 116, rfl⟩
abbrev main_v37 : Ref sig .tc := ⟨.hbm, 117, rfl⟩
abbrev main_v38 : Ref sig .tc := ⟨.hbm, 118, rfl⟩
abbrev main_v39 : Ref sig .tc := ⟨.hbm, 119, rfl⟩
abbrev main_cst_11 : Ref sig .tc := ⟨.hbm, 120, rfl⟩
abbrev main_v40 : Ref sig .tc := ⟨.hbm, 121, rfl⟩
abbrev main_v41 : Ref sig .tc := ⟨.hbm, 122, rfl⟩
abbrev main_v42 : Ref sig .tc := ⟨.hbm, 123, rfl⟩
abbrev main_cst_12 : Ref sig .tc := ⟨.hbm, 124, rfl⟩
abbrev main_call7_v0 : Ref sig .tc := ⟨.hbm, 125, rfl⟩
abbrev main_call7_v1 : Ref sig .tc := ⟨.hbm, 126, rfl⟩
abbrev main_call7_v2 : Ref sig .tc := ⟨.hbm, 127, rfl⟩
abbrev main_v43 : Ref sig .tc := ⟨.hbm, 128, rfl⟩
abbrev main_cst_13 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩
abbrev main_v48 : Ref sig .tc := ⟨.hbm, 134, rfl⟩
abbrev main_c_14 : Ref sig .tc := ⟨.hbm, 135, rfl⟩
abbrev main_v49 : Ref sig .tc := ⟨.hbm, 136, rfl⟩
abbrev main_v50 : Ref sig .tc := ⟨.hbm, 137, rfl⟩
abbrev main_cst_15 : Ref sig .tc := ⟨.hbm, 138, rfl⟩
abbrev main_v51 : Ref sig .tc := ⟨.hbm, 139, rfl⟩
abbrev main_v52 : Ref sig .tc := ⟨.hbm, 140, rfl⟩
abbrev main_cst_16 : Ref sig .tc := ⟨.hbm, 141, rfl⟩
abbrev main_call8_v0 : Ref sig .tc := ⟨.hbm, 142, rfl⟩
abbrev main_call8_v1 : Ref sig .tc := ⟨.hbm, 143, rfl⟩
abbrev main_call8_v2 : Ref sig .tc := ⟨.hbm, 144, rfl⟩
abbrev main_v53 : Ref sig .tc := ⟨.hbm, 145, rfl⟩
abbrev main_v54 : Ref sig .tc := ⟨.hbm, 146, rfl⟩
abbrev main_v55 : Ref sig .tc := ⟨.hbm, 147, rfl⟩
abbrev main_v56 : Ref sig .tc := ⟨.hbm, 148, rfl⟩
abbrev main_cst_17 : Ref sig .tc := ⟨.hbm, 149, rfl⟩
abbrev main_call9_v0 : Ref sig .tc := ⟨.hbm, 150, rfl⟩
abbrev main_call9_v1 : Ref sig .tc := ⟨.hbm, 151, rfl⟩
abbrev main_call9_v2 : Ref sig .tc := ⟨.hbm, 152, rfl⟩
abbrev main_v57 : Ref sig .tc := ⟨.hbm, 153, rfl⟩
abbrev main_v58 : Ref sig .tc := ⟨.hbm, 154, rfl⟩
abbrev main_v59 : Ref sig .tc := ⟨.hbm, 155, rfl⟩
abbrev main_v60 : Ref sig .tc := ⟨.hbm, 156, rfl⟩
abbrev main_v61 : Ref sig .tc := ⟨.hbm, 157, rfl⟩

abbrev nD : Nat := 1
abbrev τ : Topo := Topo.v7x

variable {F : FTy → Type} [FloatOps F]
-- ==== Proof.KernelIdeal.Cells.lean ====
module

public import proofs.«01_k».proof.Proof.Gen.KernelIdeal.Skeleton
public import proofs.«01_k».proof.Proof.Gen.KernelIdeal.Frame
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.Pipeline.RegionTalk

/-!
# The ring: neighbours, cells, contents of a slot, and the schedule of landings

Four streams travel round the ring of eight devices: `0` (first halves of the keys) and `1` (first halves of the
values) to the right, through the slots of the right-going buffer; `2` and `3` (second halves) to the left, through
the slots of the left-going buffer. VERSION `v` of a stream at device `c` is the half that started `v` places
upstream. Slot `v % 4` holds version `v`.

Cells of a device:
* `snd s a` — the device's copy number `a` of stream `s` has left (its own counter);
* `rcv s a` — version `a + 1` of stream `s` has landed here;
* `crd d` — the credits of direction `d`;
* `bar` — the barrier.

What each landing hands over is `payload` below.
-/

@[expose] public noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

/-! ## Resources -/

abbrev UU : Type := UR sig nD τ × URounds (GSem nD τ sig) ℕ

local notation "𝕄" => MT nD τ sig ℕ (Elt F) ℕ UU ℕ

abbrev EP : Emb (UR sig nD τ) (MT nD τ sig ℕ (Elt F) ℕ UU ℕ) := embL
abbrev ER : Emb (URounds (GSem nD τ sig) ℕ) (MT nD τ sig ℕ (Elt F) ℕ UU ℕ) := embR

/-! ## Neighbours -/

/-- The device to the right. -/
def rt (c : Dev nD) : Dev nD := c + 1
/-- The device to the left. -/
def lt (c : Dev nD) : Dev nD := c - 1

/-- Whether stream `s` travels to the right. -/
abbrev goesRight (s : Fin 4) : Bool := s.val < 2

/-- The device stream `s` is sent to. -/
def nb (s : Fin 4) (c : Dev nD) : Dev nD := if goesRight s then rt c else lt c
/-- The device stream `s` is received from. -/
def pv (s : Fin 4) (c : Dev nD) : Dev nD := if goesRight s then lt c else rt c
/-- The stream that carries the same operand the other way. -/
def opp (s : Fin 4) : Fin 4 := s + 2
/-- The device a barrier signal or a credit of direction `d` goes to: direction 0 to the left, 1 to the right. -/
def cdst (d : Fin 2) (c : Dev nD) : Dev nD := if d = 0 then lt c else rt c
/-- The device whose unit of direction `d` arrives here. -/
def csrc (d : Fin 2) (c : Dev nD) : Dev nD := if d = 0 then rt c else lt c

theorem nb_pv (s : Fin 4) (c : Dev nD) : nb s (pv s c) = c := by revert s c; decide
theorem pv_nb (s : Fin 4) (c : Dev nD) : pv s (nb s c) = c := by revert s c; decide
theorem nb_opp (s : Fin 4) (c : Dev nD) : nb (opp s) (nb s c) = c := by revert s c; decide
theorem nb_opp' (s : Fin 4) (c : Dev nD) : nb (opp s) c = pv s c := by revert s c; decide
theorem opp_opp (s : Fin 4) : opp (opp s) = s := by revert s; decide
theorem csrc_cdst (d : Fin 2) (c : Dev nD) : csrc d (cdst d c) = c := by revert d c; decide
theorem cdst_csrc (d : Fin 2) (c : Dev nD) : cdst d (csrc d c) = c := by revert d c; decide

/-- The device version `v` of stream `s` at device `c` started from. -/
def org (s : Fin 4) (c : Dev nD) (v : ℕ) : Dev nD :=
  if goesRight s then c - Fin.ofNat 8 v else c + Fin.ofNat 8 v

theorem org_zero (s : Fin 4) (c : Dev nD) : org s c 0 = c := by revert s c; decide
theorem org_pv (s : Fin 4) (c : Dev nD) (a : Fin 7) : org s (pv s c) a.val = org s c (a.val + 1) := by revert s c a; decide
theorem org_nb (s : Fin 4) (c : Dev nD) (a : Fin 7) : org s (nb s c) (a.val + 1) = org s c a.val := by revert s c a; decide

/-! ## Cells -/

/-- The cells of a device that take part in the exchange. -/
inductive Kd
  | snd (s : Fin 4) (a : Fin 7)
  | rcv (s : Fin 4) (a : Fin 7)
  | crd (d : Fin 2)
  | bar
  deriving DecidableEq, Fintype

/-- The semaphore of a cell. -/
def semOf : Kd → SemLoc sig
  | .snd s a => .dma (⟨6 + 8 * s.val + a.val, by show _ < 70; omega⟩ : Fin 70)
  | .rcv s a => .dma (⟨38 + 8 * s.val + (a.val + 1), by show _ < 70; omega⟩ : Fin 70)
  | .crd d => .reg (⟨d.val, by show _ < 3; omega⟩ : Fin 3)
  | .bar => .reg (2 : Fin 3)

/-- The cell a semaphore is, if it takes part. -/
def kdOf : SemLoc sig → Option Kd
  | .dma k =>
    let n : ℕ := k.val
    if h : 6 ≤ n ∧ n < 38 ∧ (n - 6) % 8 < 7 then
      some (.snd ⟨(n - 6) / 8, by omega⟩ ⟨(n - 6) % 8, by omega⟩)
    else if h : 38 ≤ n ∧ n < 70 ∧ 1 ≤ (n - 38) % 8 then
      some (.rcv ⟨(n - 38) / 8, by omega⟩ ⟨(n - 38) % 8 - 1, by omega⟩)
    else none
  | .reg k => if h : k.val < 2 then some (.crd ⟨k.val, h⟩) else some .bar

theorem kdOf_semOf (k : Kd) : kdOf (semOf k) = some k := by revert k; decide +kernel

theorem semOf_inj {k k' : Kd} (h : semOf k = semOf k') : k = k' := by
  have := congrArg kdOf h
  rwa [kdOf_semOf, kdOf_semOf, Option.some.injEq] at this

abbrev cell (c : Dev nD) (k : Kd) : GSem nD τ sig := ((c : Thread nD τ), semOf k)

/-! ## Arguments of the call and slots -/

abbrev A0 : Memref sig .tc .vmem S1024x1024 .bf16 := Memref.whole cc0_stg0_0
abbrev A1 : Memref sig .tc .vmem S1024x1024 .bf16 := Memref.whole cc0_stg1_0
abbrev A2 : Memref sig .tc .vmem S8x1024x128 .i8 := Memref.whole cc0_stg2_0
abbrev A3 : Memref sig .tc .vmem S8x1024x128 .i8 := Memref.whole cc0_stg3_0
abbrev A4 : Memref sig .tc .vmem S1024x1024 .bf16 := Memref.whole cc0_stg4_0
abbrev A5 : Memref sig .tc .vmem S1024x1024 .f32 := Memref.whole cc0_stg5_0
abbrev A6 : Memref sig .tc .vmem S4x2x8x512x128 .i8 := Memref.whole cc0_scratch0
abbrev A7 : Memref sig .tc .vmem S4x2x8x512x128 .i8 := Memref.whole cc0_scratch1
abbrev A8 : Memref sig .tc .vmem S2x2x8x512x128 .bf16 := Memref.whole cc0_scratch2
abbrev A9 : Memref sig .tc .vmem S8x1024x128 .bf16 := Memref.whole cc0_scratch3
abbrev A10 : Memref sig .tc .vmem S8x1024x128 .f32 := Memref.whole cc0_scratch4
abbrev A11 : Memref sig .tc .vmem S8x1024x128 .f32 := Memref.whole cc0_scratch5
abbrev A12 : Memref sig .tc .vmem S1024x1024 .bf16 := Memref.whole cc0_scratch6

theorem slot_inb (i : Fin 4) (p : Fin 2) : ∀ a, (![i.val, p.val, 0, 0, 0] : Fin 5 → ℕ) a + S1x1x8x512x128.size a ≤ S4x2x8x512x128.size a := by
  revert i p; decide

/-- The part of its buffer a stream uses: 0 for the keys, 1 for the values. -/
def part (s : Fin 4) : Fin 2 := if s.val % 2 = 0 then 0 else 1

/-- The rectangle of slot `i` of stream `s`. -/
abbrev slotR (s : Fin 4) (i : Fin 4) : Rect S4x2x8x512x128 :=
  Rect.unit (s := S4x2x8x512x128) ![i.val, (part s).val, 0, 0, 0] S1x1x8x512x128.size (slot_inb i (part s))

/-- The buffer of a stream. -/
abbrev slotM (s : Fin 4) : Memref sig .tc .vmem S4x2x8x512x128 .i8 := if goesRight s then A6 else A7

/-- Slot `i` of stream `s` as the loads and stores see it. -/
abbrev slotV (s : Fin 4) (i : Fin 4) : View sig .tc .vmem S1x1x8x512x128 .i8 := (slotM s).access (slotR s i)
/-- Slot `i` of stream `s` as the copies see it. -/
abbrev slotD (s : Fin 4) (i : Fin 4) : Memref sig .tc .vmem S8x512x128 .i8 :=
  ((slotM s).slice (slotR s i) (fun _ => rfl)).squeeze S8x512x128 squeezes_S1x1x8x512x128_S8x512x128

/-! ## Holding a view -/

/-- Device `c` holds the elements of the view `w` with share `q`, and the view reads `v`. -/
def own {sp : Space} {sh : Shape} {e : EltTy} (c : Dev nD) (w : View sig .tc sp sh e) (q : PosShare TreeShare) (v : sh.Idx → Elt F e) : sProp 𝕄 :=
  iprop(∃ f : Buf (Elt F) (w.loc (c : Thread nD τ)), ⌜w.read (Elt F) f = v⌝ ∗ (w.loc (c : Thread nD τ) ↦[w.set]{q} f))

/-- Device `c` holds the elements of the view `w` outright, at contents not named. -/
def ownAny {sp : Space} {sh : Shape} {e : EltTy} (c : Dev nD) (w : View sig .tc sp sh e) : sProp 𝕄 :=
  iprop(∃ v : sh.Idx → Elt F e, own c w fullShare v)

instance own_storable {sp : Space} {sh : Shape} {e : EltTy} (c : Dev nD) (w : View sig .tc sp sh e) (q : PosShare TreeShare) (v : sh.Idx → Elt F e) :
    BI.Storable (upEmb : UEmb _ 𝕄) (own c w q v) := by unfold own; infer_instance
instance ownAny_storable {sp : Space} {sh : Shape} {e : EltTy} (c : Dev nD) (w : View sig .tc sp sh e) :
    BI.Storable (upEmb : UEmb _ 𝕄) (ownAny (F := F) c w) := by unfold ownAny; infer_instance

/-! ## Contents of the slots -/

/-- The five inputs of the call, device by device. -/
structure Ins (F : FTy → Type) where
  x : Dev nD → Vec F S1024x1024 .bf16
  wq : Dev nD → Vec F S1024x1024 .bf16
  k8 : Dev nD → Vec F S8x1024x128 .i8
  v8 : Dev nD → Vec F S8x1024x128 .i8
  wo : Dev nD → Vec F S1024x1024 .bf16

/-- The first 512 rows of an operand. -/
abbrev loRows (w : Vec F S8x1024x128 .i8) : Vec F S8x512x128 .i8 :=
  (A2.access (Rect.unit (s := S8x1024x128) ![0, 0, 0] S8x512x128.size inb_S8x1024x128_S8x512x128_0_0_0)).read (Elt F) w
/-- The last 512 rows of an operand. -/
abbrev hiRows (w : Vec F S8x1024x128 .i8) : Vec F S8x512x128 .i8 :=
  (A2.access (Rect.unit (s := S8x1024x128) ![0, 512, 0] S8x512x128.size inb_S8x1024x128_S8x512x128_0_512_0)).read (Elt F) w

/-- What stream `s` starts with at device `d`. -/
def start (X : Ins F) (s : Fin 4) (d : Dev nD) : Vec F S1x1x8x512x128 .i8 :=
  match s with
  | 0 => k0_pay24 (F := F) (loRows (X.k8 d))
  | 1 => k0_pay25 (F := F) (loRows (X.v8 d))
  | 2 => k0_pay26 (F := F) (hiRows (X.k8 d))
  | 3 => k0_pay27 (F := F) (hiRows (X.v8 d))

/-- Version `v` of stream `s` at device `c`. -/
def ver (X : Ins F) (s : Fin 4) (c : Dev nD) (v : ℕ) : Vec F S1x1x8x512x128 .i8 := start X s (org s c v)

theorem ver_pv (X : Ins F) (s : Fin 4) (c : Dev nD) (a : Fin 7) : ver X s (pv s c) a.val = ver X s c (a.val + 1) := by
  unfold ver; rw [org_pv]
theorem ver_nb (X : Ins F) (s : Fin 4) (c : Dev nD) (a : Fin 7) : ver X s (nb s c) (a.val + 1) = ver X s c a.val := by
  unfold ver; rw [org_nb]

/-! ## The schedule -/

/-- The slot version `v` goes to. -/
abbrev sl (v : ℕ) : Fin 4 := ⟨v % 4, Nat.mod_lt _ (by decide)⟩

/-- The units one landing is worth. -/
abbrev NN : ℕ := (slotD 0 0).view.dmaCredit
theorem NN_pos : 0 < NN := View.dmaCredit_pos _ (by decide)

/-- What a barrier unit of direction `d` brings: the sender's slots 1, 2, 3 of the two streams that travel to it, and that
    the sender's landing cells of these streams and its credit cell of the other direction are in use. -/
def barPay (n : Dev nD) (d : Fin 2) : sProp 𝕄 :=
  iprop((bigSep (Finset.univ : Finset (Fin 2 × Fin 3)) fun p =>
        ownAny (F := F) n (slotV ⟨2 * d.val + p.1.val, by omega⟩ ⟨p.2.val + 1, by omega⟩))
    ∗ (bigSep (Finset.univ : Finset (Fin 2 × Fin 7)) fun p =>
        reached (ER (F := F)) (cell n (.rcv ⟨2 * d.val + p.1.val, by omega⟩ p.2)) 0)
    ∗ reached (ER (F := F)) (cell n (.crd (1 - d))) 0)

/-- What the landing of version `a + 1` of stream `s` at `c` hands over: the slot at that version; and for `1 ≤ a ≤ 4` the
    sender's slot of the opposite stream that it has done with. -/
def rcvPay (X : Ins F) (c : Dev nD) (s : Fin 4) (a : Fin 7) : sProp 𝕄 :=
  iprop(own c (slotV s (sl (a.val + 1))) fullShare (ver X s c (a.val + 1))
    ∗ if 1 ≤ a.val ∧ a.val ≤ 4 then ownAny (F := F) (pv s c) (slotV (opp s) (sl (a.val - 1))) else iprop(emp))

/-- What the departure of copy `a` of stream `s` gives back: the half of the slot lent to it. -/
def sndPay (X : Ins F) (c : Dev nD) (s : Fin 4) (a : Fin 7) : sProp 𝕄 :=
  own c (slotV s (sl a.val)) fullShare.right (ver X s c a.val)

/-- The duties of a cell in its only round. -/
def dutiesOf : Option Kd → Finset ℕ
  | some .bar => {0, 1}
  | some (.crd _) => {0, 1, 2, 3}
  | some (.snd _ _) => {0}
  | some (.rcv _ _) => {0}
  | none => ∅

def amountOf : Option Kd → ℕ
  | some (.snd _ _) => NN
  | some (.rcv _ _) => NN
  | _ => 1

def payOf (X : Ins F) (c : Dev nD) : Option Kd → ℕ → sProp 𝕄
  | some .bar, d => if d = 0 then barPay (csrc 0 c) 0 else barPay (csrc 1 c) 1
  | some (.snd s a), _ => sndPay X c s a
  | some (.rcv s a), _ => rcvPay X c s a
  | _, _ => iprop(emp)

/-- One round; the barrier two units, a credit cell four, every landing one duty. -/
def Rd (X : Ins F) : Rounds.Schedule (GSem nD τ sig) ℕ 𝕄 where
  duties g r := if r = 0 ∧ g.1.2 = .tc then dutiesOf (kdOf g.2) else ∅
  unitless _ := False
  amount g _ _ := amountOf (kdOf g.2)
  payload g _ d := payOf X g.1.1 (kdOf g.2) d
  amount_pos g _ _ _ := by
    unfold amountOf
    split <;> first | exact NN_pos | exact Nat.one_pos

instance Rd_storable (X : Ins F) (g : GSem nD τ sig) (r : ℕ) (d : ℕ) :
    BI.Storable (upEmb : UEmb _ 𝕄) ((Rd X).payload g r d) := by
  show BI.Storable upEmb (payOf X g.1.1 (kdOf g.2) d)
  unfold payOf barPay sndPay rcvPay
  (repeat' split) <;> infer_instance

variable (X : Ins F) (c : Dev nD)

theorem Rd_duties (k : Kd) : (Rd X).duties (cell c k) 0 = dutiesOf (some k) := by
  dsimp only [Rd]
  rw [if_pos ⟨rfl, rfl⟩, kdOf_semOf]
theorem Rd_later (g : GSem nD τ sig) (r : ℕ) (h : 1 ≤ r) : (Rd X).duties g r = ∅ := if_neg fun h' => by omega
theorem Rd_amount (k : Kd) (r d : ℕ) : (Rd X).amount (cell c k) r d = amountOf (some k) := by
  show amountOf _ = _; rw [kdOf_semOf]
theorem Rd_payload (k : Kd) (r d : ℕ) : (Rd X).payload (cell c k) r d = payOf X c (some k) d := by
  show payOf X _ _ _ = _; rw [kdOf_semOf]

/-- All the units of a cell's round. -/
def expectOf : Kd → ℕ
  | .bar => 2
  | .crd _ => 4
  | _ => NN

theorem Rd_expect (k : Kd) : (Rd X).expect (cell c k) 0 = expectOf k := by
  unfold Schedule.expect Schedule.amountOf
  rw [Rd_duties]
  simp only [Rd_amount]
  cases k <;> simp [dutiesOf, amountOf, expectOf]

/-! ## Levels -/

/-- Credit indices: the `k`-th unit of a credit cell is at index `k`, everything else at 0. -/
def Lx (g : GSem nD τ sig) : Finset ℕ := if g.1.2 = .tc then Finset.range 4 else ∅

def lvOf : Option Kd → ℕ → ℕ
  | some .bar, _ => 1
  | some (.rcv _ a), _ => 2 * (a.val + 1) + 2
  | some (.crd _), k => 2 * k + 3
  | _, _ => 0

def lv (g : GSem nD τ sig) (k : ℕ) : ℕ := lvOf (kdOf g.2) k

theorem Lx_tc (c : Dev nD) (sm : SemLoc sig) : Lx ((c : Thread nD τ), sm) = Finset.range 4 := if_pos rfl
theorem lv_cell (k : Kd) (i : ℕ) : lv (cell c k) i = lvOf (some k) i := by unfold lv; rw [kdOf_semOf]

end Cert.KernelIdeal.Talk
-- ==== Proof.KernelIdeal.Contents.lean ====
module

public import proofs.«01_k».proof.Proof.KernelIdeal.Cells

/-!
# Contents

What every buffer of the call holds along the run, as functions of the five inputs of all devices: the values the parts of
the body hand on (under the numbers they have in the program), the two masks of each age, the staged blocks, the queries,
the two running sums of a head, the context and the result; and the views they are read through.
-/

@[expose] public noncomputable section

namespace Cert.KernelIdeal.Talk

open Idealize.ShloMosaic Idealize.ShloMosaic.TcCoe Idealize.ShloMosaic.Tactic
open Cert.KernelIdeal.Gen

variable {F : FTy → Type} [FloatOps F] [Named F]

/-! ## Index values and masks -/

section Masks

def v2 (c : Dev nD) : BitVec 32 := Scalar.remsi (Scalar.divsi (Dev.word c) 1#32) 8#32
def v5 (c : Dev nD) : BitVec 32 := Scalar.remsi (Scalar.subi (Scalar.addi (Scalar.remsi (Scalar.divsi (Dev.word c) 1#32) 8#32) 8#32) 1#32) 8#32
def v7 (c : Dev nD) : BitVec 32 := Scalar.remsi (Scalar.addi (Scalar.remsi (Scalar.divsi (Dev.word c) 1#32) 8#32) 1#32) 8#32
def v161 (c : Dev nD) : BitVec 32 := Scalar.muli (v2 c) 16#32
def v162 (c : Dev nD) : IVec S1024x1 32 := iota .tc S1024x1 32 [0] iota_S1024x1_d0_w32
def v188 (c : Dev nD) : IVec S1024x1 32 := k0_pay38 (v161 c) (v162 c) 64#32
def v190 (c : Dev nD) : IVec S1024x1 32 := k0_pay39 (v161 c) (v162 c) 64#32
def v193 (c : Dev nD) : IVec S1x512 32 := k0_pay40
def v207 (c : Dev nD) : IVec S1x512 1 := k0_pay41
def v209 (c : Dev nD) : IVec S1x512 32 := k0_pay42
def v215 (c : Dev nD) : IVec S1x512 32 := k0_pay43 (v193 c) (v207 c) (v209 c) 0#32
/-- The block of ones. -/
def v216 (c : Dev nD) : FVec F S512x128 .bf16 := k0_pay44 (F := F)
def v221 (c : Dev nD) : BitVec 32 := Scalar.remsi (Scalar.addi (v2 c) 0#32) 8#32
def v246 (c : Dev nD) : IVec S1024x512 32 := k0_pay46 (v2 c) (v190 c) (v193 c) (v207 c) (v209 c) 0#32
def v249 (c : Dev nD) : IVec S1024x512 1 := k0_pay47 (v2 c) (v188 c) (v193 c) (v207 c) (v209 c) 0#32
def v252 (c : Dev nD) : IVec S1024x512 1 := k0_pay48 (v2 c) (v193 c) (v207 c) (v209 c) 0#32
def v259 (c : Dev nD) : IVec S1024x512 1 := k0_pay49 (v246 c) (v249 c) (v252 c)
def v295 (c : Dev nD) : IVec S1024x512 1 := k0_pay52 (v188 c) (v190 c) (v215 c) (v221 c)
def v297 (c : Dev nD) : IVec S1024x512 1 := k0_pay53 (v190 c) (v215 c) (v221 c)
def v298 (c : Dev nD) : IVec S1024x512 1 := k0_pay54 (v295 c) (v297 c)
def v779 (c : Dev nD) : BitVec 32 := Scalar.remsi (Scalar.addi (v2 c) 1#32) 8#32
def v799 (c : Dev nD) : IVec S1x512 32 := k0_pay123 (v2 c) (v215 c)
def v804 (c : Dev nD) : IVec S1024x512 32 := k0_pay124 (v2 c) (v190 c) (v215 c)
def v807 (c : Dev nD) : IVec S1024x512 1 := k0_pay125 (v2 c) (v188 c) (v215 c)
def v817 (c : Dev nD) : IVec S1024x512 1 := k0_pay126 (v799 c) (v804 c) (v807 c)
def v843 (c : Dev nD) : IVec S1024x512 32 := k0_pay128 (v190 c) (v215 c) (v779 c)
def v850 (c : Dev nD) : IVec S1024x512 1 := k0_pay129 (v188 c) (v215 c) (v779 c)
def v852 (c : Dev nD) : IVec S1024x512 1 := k0_pay130 (v190 c) (v215 c) (v779 c)
def v856 (c : Dev nD) : IVec S1024x512 1 := k0_pay131 (v843 c) (v850 c) (v852 c)
def v910 (c : Dev nD) : BitVec 32 := Scalar.muli (v7 c) 1#32
def v986 (c : Dev nD) : BitVec 32 := Scalar.remsi (Scalar.addi (v2 c) 2#32) 8#32
def v1011 (c : Dev nD) : IVec S1024x512 32 := k0_pay140 (v2 c) (v190 c) (v215 c)
def v1021 (c : Dev nD) : IVec S1024x512 1 := k0_pay141 (v2 c) (v188 c) (v190 c) (v215 c)
def v1024 (c : Dev nD) : IVec S1024x512 1 := k0_pay142 (v1011 c) (v1021 c) 3#32
def v1063 (c : Dev nD) : IVec S1024x512 1 := k0_pay143 (v188 c) (v190 c) (v215 c) (v986 c)
def v1193 (c : Dev nD) : BitVec 32 := Scalar.remsi (Scalar.addi (v2 c) 3#32) 8#32
def v1231 (c : Dev nD) : IVec S1024x512 1 := k0_pay152 (v2 c) (v188 c) (v190 c) (v215 c) 3#32
def v1270 (c : Dev nD) : IVec S1024x512 1 := k0_pay153 (v188 c) (v190 c) (v215 c) (v1193 c) 1024#32
def v1397 (c : Dev nD) : BitVec 32 := Scalar.addi (Scalar.subi (v2 c) 4#32) 8#32
def v1438 (c : Dev nD) : IVec S1024x512 1 := k0_pay162 (v188 c) (v190 c) (v215 c) (v1397 c) 8#32
def v1440 (c : Dev nD) : BitVec 32 := Scalar.addi (Scalar.muli (Scalar.remsi (Scalar.addi (v2 c) 4#32) 8#32) 1024#32) 512#32
def v1477 (c : Dev nD) : IVec S1024x512 1 := k0_pay163 (v188 c) (v190 c) (v215 c) (v1440 c) 64#32
def v1581 (c : Dev nD) : BitVec 32 := Scalar.muli (v5 c) 1#32
def v1603 (c : Dev nD) : BitVec 32 := Scalar.remsi (Scalar.addi (v2 c) 5#32) 8#32
def v1604 (c : Dev nD) : BitVec 32 := Scalar.muli (Scalar.remsi (Scalar.addi (Scalar.subi (v2 c) 5#32) 8#32) 8#32) 1024#32
def v1605 (c : Dev nD) : BitVec 32 := Scalar.divsi (Scalar.muli (Scalar.remsi (Scalar.addi (Scalar.subi (v2 c) 5#32) 8#32) 8#32) 1024#32) 64#32
def v1610 (c : Dev nD) : BitVec 32 := Scalar.subi (Scalar.extui (Scalar.cmpi .sgt (Scalar.muli (Scalar.remsi (Scalar.addi (Scalar.subi (v2 c) 5#32) 8#32) 8#32) 1024#32) 0#32)) (Scalar.extui (Scalar.cmpi .slt (Scalar.muli (Scalar.remsi (Scalar.addi (Scalar.subi (v2 c) 5#32) 8#32) 8#32) 1024#32) 0#32))
def v1641 (c : Dev nD) : IVec S1024x512 1 := k0_pay172 (v188 c) (v190 c) (v215 c) (v1604 c) 64#32 (v1605 c) (v1610 c)
def v1643 (c : Dev nD) : BitVec 32 := Scalar.addi (Scalar.muli (v1603 c) 1024#32) 512#32
def v1644 (c : Dev nD) : BitVec 32 := Scalar.divsi (Scalar.addi (Scalar.muli (v1603 c) 1024#32) 512#32) 64#32
def v1655 (c : Dev nD) : BitVec 1 := Scalar.cmpi .ne (Scalar.subi (Scalar.extui (Scalar.cmpi .sgt (Scalar.addi (Scalar.muli (v1603 c) 1024#32) 512#32) 0#32)) (Scalar.extui (Scalar.cmpi .slt (Scalar.addi (Scalar.muli (v1603 c) 1024#32) 512#32) 0#32))) (Scalar.subi (Scalar.extui (Scalar.cmpi .sgt 64#32 0#32)) (Scalar.extui (Scalar.cmpi .slt 64#32 0#32)))
def v1680 (c : Dev nD) : IVec S1024x512 1 := k0_pay173 (v188 c) (v190 c) (v215 c) (v1643 c) 64#32 (v1644 c) (v1655 c)
def v1806 (c : Dev nD) : BitVec 32 := Scalar.remsi (Scalar.addi (v2 c) 6#32) 8#32
def v1825 (c : Dev nD) : IVec S1x512 32 := k0_pay182 (v2 c)
def v1844 (c : Dev nD) : IVec S1024x512 1 := k0_pay183 (v188 c) (v190 c) (v215 c) (v1825 c)
def v1865 (c : Dev nD) : IVec S1x512 32 := k0_pay184 (v215 c) (v1806 c)
def v1870 (c : Dev nD) : IVec S1024x512 32 := k0_pay185 (v190 c) (v215 c) (v1806 c)
def v1871 (c : Dev nD) : IVec S1024x512 32 := k0_pay186 (v188 c)
def v1883 (c : Dev nD) : IVec S1024x512 1 := k0_pay187 (v1865 c) (v1870 c) (v1871 c)
def v1969 (c : Dev nD) : BitVec 32 := Scalar.remsi (Scalar.addi (v2 c) 7#32) 8#32
def v1989 (c : Dev nD) : IVec S1x512 32 := k0_pay196 (v2 c) (v215 c)
def v2007 (c : Dev nD) : IVec S1024x512 1 := k0_pay197 (v188 c) (v190 c) (v1989 c) 3#32
def v2028 (c : Dev nD) : IVec S1x512 32 := k0_pay198 (v215 c) (v1969 c)
def v2033 (c : Dev nD) : IVec S1024x512 32 := k0_pay199 (v190 c) (v215 c) (v1969 c)
def v2036 (c : Dev nD) : IVec S1024x512 1 := k0_pay200 (v188 c) (v215 c) (v1969 c)
def v2046 (c : Dev nD) : IVec S1024x512 1 := k0_pay201 (v2028 c) (v2033 c) (v2036 c)

/-- The mask of age `a` for the first half of the block that travels right. -/
def maskR (c : Dev nD) : ℕ → IVec S1024x512 1
  | 0 => v259 c
  | 1 => v817 c
  | 2 => v1024 c
  | 3 => v1231 c
  | 4 => v1438 c
  | 5 => v1641 c
  | 6 => v1844 c
  | _ => v2007 c

/-- The mask of age `a` for the second half of the block that travels left. -/
def maskL (c : Dev nD) : ℕ → IVec S1024x512 1
  | 0 => v298 c
  | 1 => v856 c
  | 2 => v1063 c
  | 3 => v1270 c
  | 4 => v1477 c
  | 5 => v1680 c
  | 6 => v1883 c
  | _ => v2046 c

/-- The mask of half block `n`: age `n / 2`, first or second half. -/
def maskAt (c : Dev nD) (n : ℕ) : IVec S1024x512 1 := if n % 2 = 0 then maskR c (n / 2) else maskL c (n / 2)

end Masks

/-! ## Views -/

theorem head_inb (h : Fin 8) : ∀ a, (![h.val, 0, 0] : Fin 3 → ℕ) a + S1x1024x128.size a ≤ S8x1024x128.size a := by
  revert h; decide
theorem col_inb (h : Fin 8) : ∀ a, (![0, 128 * h.val] : Fin 2 → ℕ) a + S1024x128.size a ≤ S1024x1024.size a := by
  revert h; decide
theorem quarter_inb (half part : Fin 2) : ∀ a, (![half.val, part.val, 0, 0, 0] : Fin 5 → ℕ) a + S1x1x8x512x128.size a ≤ S2x2x8x512x128.size a := by
  revert half part; decide
theorem inner_inb (h : Fin 8) : ∀ a, (![0, 0, h.val, 0, 0] : Fin 5 → ℕ) a + S1x1x1x512x128.size a ≤ S1x1x8x512x128.size a := by
  revert h; decide
theorem stghead_inb (half part : Fin 2) (h : Fin 8) :
    ∀ a, (![half.val, part.val, h.val, 0, 0] : Fin 5 → ℕ) a + S1x1x1x512x128.size a ≤ S2x2x8x512x128.size a := by
  revert half part h; decide

abbrev headR (h : Fin 8) : Rect S8x1024x128 := Rect.unit (s := S8x1024x128) ![h.val, 0, 0] S1x1024x128.size (head_inb h)
abbrev colR (h : Fin 8) : Rect S1024x1024 := Rect.unit (s := S1024x1024) ![0, 128 * h.val] S1024x128.size (col_inb h)
abbrev allR : Rect S1024x1024 := Rect.unit (s := S1024x1024) ![0, 0] S1024x1024.size inb_S1024x1024_S1024x1024_0_0
abbrev quarterR (half part : Fin 2) : Rect S2x2x8x512x128 :=
  Rect.unit (s := S2x2x8x512x128) ![half.val, part.val, 0, 0, 0] S1x1x8x512x128.size (quarter_inb half part)
abbrev innerR (h : Fin 8) : Rect S1x1x8x512x128 :=
  Rect.unit (s := S1x1x8x512x128) ![0, 0, h.val, 0, 0] S1x1x1x512x128.size (inner_inb h)

abbrev qView (h : Fin 8) : View sig .tc .vmem S1x1024x128 .bf16 := A9.access (headR h)
abbrev accView (h : Fin 8) : View sig .tc .vmem S1x1024x128 .f32 := A10.access (headR h)
abbrev denView (h : Fin 8) : View sig .tc .vmem S1x1024x128 .f32 := A11.access (headR h)
abbrev ctxV (h : Fin 8) : View sig .tc .vmem S1024x128 .bf16 := A12.access (colR h)
abbrev stgView (half part : Fin 2) : View sig .tc .vmem S1x1x8x512x128 .bf16 := A8.access (quarterR half part)
abbrev outView : View sig .tc .vmem S1024x1024 .f32 := A5.access allR

/-! ## Contents -/

section Contents
variable (X : Ins F) (c : Dev nD)

/-- The queries' operand as loaded. -/
abbrev xV : Vec F S1024x1024 .bf16 := (A0.access allR).read (Elt F) (X.x c)
/-- The weight columns of a head as loaded. -/
abbrev wqV (h : Fin 8) : Vec F S1024x128 .bf16 := (A1.access (colR h)).read (Elt F) (X.wq c)
/-- The output weights as loaded. -/
abbrev woV : Vec F S1024x1024 .bf16 := (A4.access allR).read (Elt F) (X.wo c)

/-- The queries of a head. -/
def qH (h : Fin 8) : Vec F S1x1024x128 .bf16 := k0_pay28 (xV X c) (wqV X c h)

/-- The stream that fills a quarter of the stage. -/
abbrev streamOf (half part : Fin 2) : Fin 4 := ⟨2 * half.val + part.val, by omega⟩

/-- A quarter of the stage at age `a`. -/
def stgV (half part : Fin 2) (a : ℕ) : Vec F S1x1x8x512x128 .bf16 := k0_pay55 (ver X (streamOf half part) c a)

/-- One head of a quarter of the stage at age `a`. -/
def kvH (half part : Fin 2) (a : ℕ) (h : Fin 8) : Vec F S1x1x1x512x128 .bf16 := fun j => stgV X c half part a ((innerR h).emb j)

abbrev halfOf (n : ℕ) : Fin 2 := ⟨n % 2, Nat.mod_lt _ (by decide)⟩

/-- The weighted sum of a head after `n + 1` half blocks. -/
def accH (h : Fin 8) : ℕ → Vec F S1x1024x128 .f32
  | 0 => k0_pay61 (maskAt c 0) (kvH X c 0 0 0 h) (kvH X c 0 1 0 h) (qH X c h)
  | n + 1 => k0_pay4 (maskAt c (n + 1)) (kvH X c (halfOf (n + 1)) 0 ((n + 1) / 2) h) (kvH X c (halfOf (n + 1)) 1 ((n + 1) / 2) h) (qH X c h) (accH h n)

/-- The sum of the weights of a head after `n + 1` half blocks. -/
def denH (h : Fin 8) : ℕ → Vec F S1x1024x128 .f32
  | 0 => k0_pay62 (v216 c) (maskAt c 0) (kvH X c 0 0 0 h) (qH X c h)
  | n + 1 => k0_pay5 (v216 c) (maskAt c (n + 1)) (kvH X c (halfOf (n + 1)) 0 ((n + 1) / 2) h) (qH X c h) (denH h n)

/-- The context of a head. -/
def ctxH (h : Fin 8) : Vec F S1024x128 .bf16 := k0_pay210 (accH X c h 15) (denH X c h 15)

/-- The whole context. -/
def ctxFull : Vec F S1024x1024 .bf16 := fun j =>
  ctxH X c ⟨(j 1).val / 128, Nat.div_lt_of_lt_mul (j 1).isLt⟩
    (fun a => match a with
      | ⟨0, _⟩ => j 0
      | ⟨1, _⟩ => ⟨(j 1).val % 128, Nat.mod_lt _ (by decide)⟩)

/-- The result of the call. -/
def outC : Vec F S1024x1024 .f32 := k0_pay2 (ctxFull X c) (woV X c)

end Contents

end Cert.KernelIdeal.Talk
-- ==== Proof.KernelIdeal.State.lean ====
module

public import proofs.«01_k».proof.Proof.KernelIdeal.Contents

/-!
# The state of one device, as a table of small numbers

Every resource a device holds during the call is one COMPONENT; the state is a number for each component, and `res` says
what a number means. What the device still owes is read off the same table. One operation of the body changes one to four
numbers (`Rules`).
-/

@[expose] public noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig ℕ (Elt F) ℕ UU ℕ

/-- The components. -/
inductive Cp
  /-- the own counter of a copy: 0 not started, 1 under way, 2 waited for -/
  | snd (s : Fin 4) (a : Fin 7)
  /-- the landing of version `a + 1`: 0 not yet, 1 waited for -/
  | rcv (s : Fin 4) (a : Fin 7)
  /-- the right to land copy `a` at the neighbour, which is also owed: 0 still there, 1 used -/
  | tok (s : Fin 4) (a : Fin 7)
  /-- a slot: 0 not here, 1 here, `2 + v` here at version `v`, `10 + v` half of it here at version `v` -/
  | slot (s i : Fin 4)
  /-- a slot of the neighbour: 0 not here, 1 here -/
  | nslot (s i : Fin 4)
  /-- the own credit cell: how many units have been waited for -/
  | crW (d : Fin 2)
  /-- the `k`-th credit given: 0 still owed, 1 given -/
  | crT (d : Fin 2) (k : Fin 4)
  /-- the barrier units given: 0 still owed, 1 given -/
  | bt (d : Fin 2)
  /-- the own barrier cell: 0 not yet, 1 waited for -/
  | bar
  /-- the queries of a head: 0 any, 1 computed -/
  | q (h : Fin 8)
  /-- the weighted sum of a head: 0 any, `n + 1` after `n + 1` half blocks -/
  | acc (h : Fin 8)
  /-- the sum of the weights of a head -/
  | den (h : Fin 8)
  /-- the heads written into the context -/
  | ctx
  /-- a quarter of the stage: 0 any, `a + 1` at age `a` -/
  | stg (half part : Fin 2)
  /-- the output: 0 any, 1 computed -/
  | out
  /-- the inputs -/
  | inp
  deriving DecidableEq, Fintype

/-- The place of a component in the table. -/
def enc : Cp → ℕ
  | .snd s a => 7 * s.val + a.val
  | .rcv s a => 28 + 7 * s.val + a.val
  | .tok s a => 56 + 7 * s.val + a.val
  | .slot s i => 84 + 4 * s.val + i.val
  | .nslot s i => 100 + 4 * s.val + i.val
  | .crW d => 116 + d.val
  | .crT d k => 118 + 4 * d.val + k.val
  | .bt d => 126 + d.val
  | .bar => 128
  | .q h => 129 + h.val
  | .acc h => 137 + h.val
  | .den h => 145 + h.val
  | .ctx => 153
  | .stg half part => 154 + 2 * half.val + part.val
  | .out => 158
  | .inp => 159

theorem enc_lt (i : Cp) : enc i < 160 := by cases i <;> simp only [enc] <;> omega
theorem enc_inj {i j : Cp} (h : enc i = enc j) : i = j := by
  cases i <;> cases j <;> simp only [enc] at h <;> first
    | (exfalso; omega)
    | (congr 1 <;> apply Fin.ext <;> omega)
    | rfl

/-- A table given by its list. -/
def ofList (l : List ℕ) : ℕ → ℕ := fun n => l.getD n 0
/-- A table with one entry changed. -/
def upd (f : ℕ → ℕ) (e v : ℕ) : ℕ → ℕ := fun n => if n = e then v else f n

theorem upd_self (f : ℕ → ℕ) (e v : ℕ) : upd f e v e = v := if_pos rfl
theorem upd_of_ne (f : ℕ → ℕ) {e e' : ℕ} (h : e' ≠ e) (v : ℕ) : upd f e v e' = f e' := if_neg h

/-! ## What a device owes -/

/-- What a component owes while its number is 0. -/
def oweAmt (c : Dev nD) : Cp → CellTallies nD τ sig ℕ
  | .tok s a => tallyAt (cell (nb s c) (.rcv s a)) 0 NN
  | .bt d => tallyAt (cell (cdst d c) .bar) 0 1
  | .crT d k => tallyAt (cell (cdst d c) (.crd d)) k.val 1
  | _ => 0

/-- The level of what a component owes. -/
def oweLev : Cp → Option ℕ
  | .tok _ a => some (2 * (a.val + 1) + 2)
  | .bt _ => some 1
  | .crT _ k => some (2 * k.val + 3)
  | _ => none

def owed (c : Dev nD) (L : ℕ → ℕ) : CellTallies nD τ sig ℕ := ∑ i : Cp, if L (enc i) = 0 then oweAmt c i else 0

theorem owed_upd_same (c : Dev nD) (L : ℕ → ℕ) (i : Cp) (v : ℕ) (h : oweAmt c i = 0) : owed c (upd L (enc i) v) = owed c L := by
  unfold owed
  refine Finset.sum_congr rfl fun j _ => ?_
  by_cases hj : j = i
  · subst hj; simp [h]
  · rw [upd_of_ne _ fun e => hj (enc_inj e)]

theorem owed_upd_pay (c : Dev nD) (L : ℕ → ℕ) (i : Cp) (v : ℕ) (hv : v ≠ 0) (h0 : L (enc i) = 0) :
    owed c L = owed c (upd L (enc i) v) + oweAmt c i := by
  unfold owed
  rw [← Finset.add_sum_erase _ _ (Finset.mem_univ i), ← Finset.add_sum_erase (a := i) _ (fun j => if upd L (enc i) v (enc j) = 0 then oweAmt c j else 0) (Finset.mem_univ i)]
  rw [if_pos h0, if_neg (by rw [upd_self]; exact hv), zero_add, add_comm]
  congr 1
  refine Finset.sum_congr rfl fun j hj => ?_
  rw [upd_of_ne _ fun e => (Finset.mem_erase.mp hj).1 (enc_inj e)]

/-- Everything still owed is above the level. -/
def waitOk (L : ℕ → ℕ) (b : ℕ) : Prop := ∀ i : Cp, L (enc i) = 0 → ∀ l ∈ oweLev i, b < l

instance (L : ℕ → ℕ) (b : ℕ) : Decidable (waitOk L b) := by unfold waitOk; infer_instance

theorem pos_of_sum {ι : Type} (s : Finset ι) (f : ι → CellTallies nD τ sig ℕ) (g : GSem nD τ sig) (k : ℕ)
    (h : 0 < (∑ i ∈ s, f i) g k) : ∃ i ∈ s, 0 < f i g k := by
  classical
  induction s using Finset.induction_on with
  | empty => exact absurd h (by simp)
  | insert a s ha ih =>
    rw [Finset.sum_insert ha] at h
    by_cases h' : 0 < f a g k
    · exact ⟨a, Finset.mem_insert_self .., h'⟩
    · obtain ⟨i, hi, hp⟩ := ih (by have : (f a + ∑ i ∈ s, f i) g k = f a g k + (∑ i ∈ s, f i) g k := rfl; omega)
      exact ⟨i, Finset.mem_insert_of_mem hi, hp⟩

theorem owed_pos (c : Dev nD) (L : ℕ → ℕ) (b : ℕ) (hok : waitOk L b) (g : GSem nD τ sig) (k : ℕ) (h : 0 < owed c L g k) :
    k ∈ Lx g ∧ b < lv g k := by
  obtain ⟨i, -, hi⟩ := pos_of_sum _ _ _ _ h
  by_cases h0 : L (enc i) = 0
  · rw [if_pos h0] at hi
    have hb := hok i h0
    cases i
    case tok s a =>
      simp only [oweAmt] at hi
      rw [tallyAt_apply] at hi
      split at hi
      · rename_i hg
        obtain ⟨rfl, rfl⟩ := hg
        rw [Lx_tc, lv_cell]
        exact ⟨Finset.mem_range.mpr (by omega), hb _ rfl⟩
      · omega
    case crT d n =>
      simp only [oweAmt] at hi
      rw [tallyAt_apply] at hi
      split at hi
      · rename_i hg
        obtain ⟨rfl, rfl⟩ := hg
        rw [Lx_tc, lv_cell]
        exact ⟨Finset.mem_range.mpr n.isLt, hb _ rfl⟩
      · omega
    case bt d =>
      simp only [oweAmt] at hi
      rw [tallyAt_apply] at hi
      split at hi
      · rename_i hg
        obtain ⟨rfl, rfl⟩ := hg
        rw [Lx_tc, lv_cell]
        exact ⟨Finset.mem_range.mpr (by omega), hb _ rfl⟩
      · omega
    all_goals exact absurd hi (by simp [oweAmt])
  · rw [if_neg h0] at hi; exact absurd hi (by simp)

theorem mayWait (c : Dev nD) (L : ℕ → ℕ) (k : Kd) (n : ℕ) (hn : n < 4) (hok : waitOk L (lvOf (some k) n)) :
    (levAts Lx lv : sProp 𝕄) ⊢ MayWait (c : Thread nD τ) (semOf k) n (owed c L) :=
  MayOwe.of_cut (L := Lx) (lev := lv) (lvOf (some k) n)
    (fun p hp => by rw [Finset.mem_singleton.mp hp, Lx_tc]; exact Finset.mem_range.mpr hn)
    (fun g u hg => (owed_pos c L _ hok g u hg).1)
    (fun p hp => by rw [Finset.mem_singleton.mp hp]; exact le_of_eq (lv_cell c k n))
    (fun g u hg => (owed_pos c L _ hok g u hg).2)

/-! ## What a number means -/

variable (X : Ins F) (c : Dev nD)

def sndRes (s : Fin 4) (a : Fin 7) : ℕ → sProp 𝕄
  | 0 => iprop(atPos ER (cell c (.snd s a)) 0 ∅ 0 ∗ dutyTok ER (cell c (.snd s a)) 0 0)
  | 1 => iprop(atPos ER (cell c (.snd s a)) 0 ∅ 0 ∗ cred (tallyAt (cell c (.snd s a)) 0 NN))
  | 2 => atPos ER (cell c (.snd s a)) 1 ∅ 0
  | _ => iprop(emp)

def rcvRes (s : Fin 4) (a : Fin 7) : ℕ → sProp 𝕄
  | 0 => iprop(atPos ER (cell c (.rcv s a)) 0 ∅ 0 ∗ cred (tallyAt (cell c (.rcv s a)) 0 NN))
  | 1 => atPos ER (cell c (.rcv s a)) 1 ∅ 0
  | _ => iprop(emp)

def tokRes (s : Fin 4) (a : Fin 7) : ℕ → sProp 𝕄
  | 0 => dutyTok ER (cell (nb s c) (.rcv s a)) 0 0
  | _ => iprop(emp)

def slotRes (s i : Fin 4) (n : ℕ) : sProp 𝕄 :=
  if n = 0 ∨ 18 ≤ n then iprop(emp)
  else if n = 1 then ownAny (F := F) c (slotV s i)
  else if n < 10 then own c (slotV s i) fullShare (ver X s c (n - 2))
  else own c (slotV s i) fullShare.left (ver X s c (n - 10))

def nslotRes (s i : Fin 4) : ℕ → sProp 𝕄
  | 1 => ownAny (F := F) (nb s c) (slotV s i)
  | _ => iprop(emp)

def crWRes (d : Fin 2) (n : ℕ) : sProp 𝕄 :=
  if n < 4 then iprop((∃ T : Finset ℕ, atPos ER (cell c (.crd d)) 0 T n)
      ∗ bigSep ((Finset.range 4).filter (n ≤ ·)) fun k => cred (tallyAt (cell c (.crd d)) k 1))
  else if n = 4 then atPos ER (cell c (.crd d)) 1 ∅ 0
  else iprop(emp)

def crTRes (d : Fin 2) (k : Fin 4) : ℕ → sProp 𝕄
  | 0 => dutyTok ER (cell (cdst d c) (.crd d)) 0 k.val
  | _ => iprop(emp)

def btRes (d : Fin 2) : ℕ → sProp 𝕄
  | 0 => dutyTok ER (cell (cdst d c) .bar) 0 d.val
  | _ => iprop(emp)

/-- What the barrier tells: the neighbours' landing cells and credit cells are in use. -/
def heard : sProp 𝕄 :=
  iprop((bigSep (Finset.univ : Finset (Fin 4 × Fin 7)) fun p => reached (ER (F := F)) (cell (nb p.1 c) (.rcv p.1 p.2)) 0)
    ∗ (bigSep (Finset.univ : Finset (Fin 2)) fun d => reached (ER (F := F)) (cell (cdst d c) (.crd d)) 0))

instance heard_persistent : BI.Persistent (heard (F := F) c) := by unfold heard; infer_instance

def barRes : ℕ → sProp 𝕄
  | 0 => iprop(atPos ER (cell c .bar) 0 ∅ 0 ∗ cred (tallyAt (cell c .bar) 0 2))
  | 1 => iprop(atPos ER (cell c .bar) 1 ∅ 0 ∗ heard c)
  | _ => iprop(emp)

/-- A view at contents not named (0), or at the `n`-th of a row of contents (`n + 1`). -/
def valRes {sp : Space} {sh : Shape} {e : EltTy} (w : View sig .tc sp sh e) (v : ℕ → sh.Idx → Elt F e) : ℕ → sProp 𝕄
  | 0 => ownAny (F := F) c w
  | n + 1 => if n + 1 = 99 then iprop(emp) else own c w fullShare (v n)

/-- The context with its first `n` heads written. -/
def ctxRes (n : ℕ) : sProp 𝕄 :=
  if n = 99 then iprop(emp)
  else iprop(∃ f : Buf (Elt F) (A12.view.loc (c : Thread nD τ)), ⌜∀ h : Fin 8, h.val < n → (ctxV h).read (Elt F) f = ctxH X c h⌝
    ∗ (A12.view.loc (c : Thread nD τ) ↦{fullShare} f))

abbrev heldAt (b : Ref sig .tc) (f : b.ty.Contents (Elt F)) : sProp 𝕄 := (Memref.whole b).view.loc (c : Thread nD τ) ↦{fullShare} f

def inpRes : ℕ → sProp 𝕄
  | 0 => iprop(heldAt c cc0_stg0_0 (X.x c) ∗ heldAt c cc0_stg1_0 (X.wq c) ∗ heldAt c cc0_stg2_0 (X.k8 c)
      ∗ heldAt c cc0_stg3_0 (X.v8 c) ∗ heldAt c cc0_stg4_0 (X.wo c))
  | _ => iprop(emp)

def res : Cp → ℕ → sProp 𝕄
  | .snd s a => sndRes c s a
  | .rcv s a => rcvRes c s a
  | .tok s a => tokRes c s a
  | .slot s i => slotRes X c s i
  | .nslot s i => nslotRes c s i
  | .crW d => crWRes c d
  | .crT d k => crTRes c d k
  | .bt d => btRes c d
  | .bar => barRes c
  | .q h => valRes c (qView h) fun _ => qH X c h
  | .acc h => valRes c (accView h) (accH X c h)
  | .den h => valRes c (denView h) (denH X c h)
  | .ctx => ctxRes X c
  | .stg half part => valRes c (stgView half part) (stgV X c half part)
  | .out => valRes c outView fun _ => outC X c
  | .inp => inpRes X c

theorem res_hole (i : Cp) : res X c i 99 = iprop(emp) := by
  cases i <;> first
    | rfl
    | (simp [res, slotRes, crWRes, ctxRes])

/-! ## The state -/

/-- What never changes: the invariants of all cells, the levels, that the own cells are in use and that the neighbours'
    barrier cells are. -/
def known (K : GSem nD τ sig → ℕ) : sProp 𝕄 :=
  iprop((bigSep (Finset.univ : Finset (Dev nD × Kd)) fun p => cellInv ER (Rd X) (K (cell p.1 p.2)) (cell p.1 p.2))
    ∗ levAts Lx lv
    ∗ (bigSep (Finset.univ : Finset Kd) fun k => reached (ER (F := F)) (cell c k) 0)
    ∗ (bigSep (Finset.univ : Finset (Fin 2)) fun d => reached (ER (F := F)) (cell (cdst d c) .bar) 0))

instance known_persistent (K : GSem nD τ sig → ℕ) : BI.Persistent (known X c K) := by unfold known; infer_instance

def comps (L : ℕ → ℕ) : sProp 𝕄 := bigSep (Finset.univ : Finset Cp) fun i => res X c i (L (enc i))

def St (K : GSem nD τ sig → ℕ) (L : ℕ → ℕ) : sProp 𝕄 :=
  iprop(known X c K ∗ comps X c L ∗ ∃ W, owes (c : Thread nD τ) (owed c L) W)

theorem comps_take (L : ℕ → ℕ) (i : Cp) (n : ℕ) (h : L (enc i) = n) :
    comps X c L ⊢ iprop(res X c i n ∗ comps X c (upd L (enc i) 99)) := by
  unfold comps
  rw [bigSep_erase (Finset.mem_univ i), bigSep_erase (Φ := fun j => res X c j (upd L (enc i) 99 (enc j))) (Finset.mem_univ i), h, upd_self, res_hole,
    bigSep_congr (s := Finset.univ.erase i) (Φ := fun j => res X c j (upd L (enc i) 99 (enc j))) (Ψ := fun j => res X c j (L (enc j)))
      (fun j hj => by rw [upd_of_ne _ fun e => (Finset.mem_erase.mp hj).1 (enc_inj e)])]
  exact sep_mono_right emp_sep_rev.1

theorem comps_put (L : ℕ → ℕ) (i : Cp) (n : ℕ) (h : L (enc i) = 99) :
    iprop(res X c i n ∗ comps X c L) ⊢ comps X c (upd L (enc i) n) := by
  unfold comps
  rw [bigSep_erase (Finset.mem_univ i), bigSep_erase (Φ := fun j => res X c j (upd L (enc i) n (enc j))) (Finset.mem_univ i), h, upd_self, res_hole,
    bigSep_congr (s := Finset.univ.erase i) (Φ := fun j => res X c j (upd L (enc i) n (enc j))) (Ψ := fun j => res X c j (L (enc j)))
      (fun j hj => by rw [upd_of_ne _ fun e => (Finset.mem_erase.mp hj).1 (enc_inj e)])]
  exact sep_mono_right emp_sep_rev.2

/-- Tables that agree are the same state. -/
theorem St_congr (K : GSem nD τ sig → ℕ) {L L' : ℕ → ℕ} (h : ∀ n < 160, L n = L' n) : St X c K L = St X c K L' := by
  have e : ∀ i, L (enc i) = L' (enc i) := fun i => h _ (enc_lt i)
  unfold St comps owed
  simp only [e]

end Cert.KernelIdeal.Talk
-- ==== Proof.KernelIdeal.Bufs.lean ====
module

public import proofs.«01_k».proof.Proof.KernelIdeal.State
public import Idealize.ShloMosaic.Lib.Ring

/-!
# Whole buffers and the pieces the state names

The call is handed its scratch buffers whole. The state holds them slot by slot and head by head. Each buffer is cut at
the start and put together at the end; the pieces are the rectangles of a family that covers the buffer without overlap.
-/

@[expose] public noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig ℕ (Elt F) ℕ UU ℕ

section General

variable {T : Type} [Fintype T] [DecidableEq T] (c : Dev nD) (b : Ref sig .tc) (R : T → Rect b.ty.shape)
  (hd : ∀ t t', t ≠ t' → Disjoint (R t).set (R t').set) (hc : ∀ j, ∃ t, j ∈ (R t).set)

include hd hc in
/-- A whole buffer, cut. -/
theorem cut_whole :
    (iprop(∃ f : Buf (Elt F) ((c : Thread nD τ).loc b), ((c : Thread nD τ).loc b) ↦{fullShare} f) : sProp 𝕄)
      ⊢ bigSep Finset.univ fun t => ownAny (F := F) c ((View.whole b).slice (R t)) := by
  have hu : Finset.univ.biUnion (fun t => (R t).set) = (Finset.univ : Finset (Idx ((c : Thread nD τ).loc b))) := by
    ext j
    simp only [Finset.mem_biUnion, Finset.mem_univ, true_and, iff_true]
    exact hc j
  refine exists_elim fun f => ?_
  refine (Entails.of_eq (Ring.pointsTo_blocks (ℓ := (c : Thread nD τ).loc b) (fun t => (R t).set) hd hu (q := fullShare) f)).trans ?_
  refine bigSep_mono fun t _ => ?_
  show (((c : Thread nD τ).loc b) ↦[(R t).set]{fullShare} f) ⊢ ownAny (F := F) c ((View.whole b).slice (R t))
  unfold ownAny own
  iintro H
  iexists ((View.whole b).slice (R t)).read (Elt F) f
  iexists f
  isplitr; · ipureintro; rfl
  iapply (Entails.of_eq (by rw [View.set_slice_whole])) $$ H

include hd hc in
/-- The pieces, put together. -/
theorem glue_whole (f₀ : Buf (Elt F) ((c : Thread nD τ).loc b)) :
    bigSep Finset.univ (fun t => ownAny (F := F) c ((View.whole b).slice (R t)))
      ⊢ (iprop(∃ f : Buf (Elt F) ((c : Thread nD τ).loc b), ((c : Thread nD τ).loc b) ↦{fullShare} f) : sProp 𝕄) := by
  have hu : Finset.univ.biUnion (fun t => (R t).set) = (Finset.univ : Finset (Idx ((c : Thread nD τ).loc b))) := by
    ext j
    simp only [Finset.mem_biUnion, Finset.mem_univ, true_and, iff_true]
    exact hc j
  refine (bigSep_mono (Ψ := fun t => iprop(∃ f, ((c : Thread nD τ).loc b) ↦[(R t).set]{fullShare} f)) fun t _ => ?_).trans
    (Ring.pointsTo_blocks_join_exists (ℓ := (c : Thread nD τ).loc b) (fun t => (R t).set) hd hu f₀)
  show ownAny (F := F) c ((View.whole b).slice (R t)) ⊢ iprop(∃ f, ((c : Thread nD τ).loc b) ↦[(R t).set]{fullShare} f)
  unfold ownAny own
  iintro ⟨%v, %f, -, H⟩
  iexists f
  iapply (Entails.of_eq (by rw [View.set_slice_whole])) $$ H

end General

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The slots -/

/-- The rectangles of a ring buffer: slot and part. -/
abbrev ringR (p : Fin 2 × Fin 4) : Rect S4x2x8x512x128 :=
  Rect.unit (s := S4x2x8x512x128) ![p.2.val, p.1.val, 0, 0, 0] S1x1x8x512x128.size (slot_inb p.2 p.1)

theorem ring_disjoint (p p' : Fin 2 × Fin 4) (h : p ≠ p') : Disjoint (ringR p).set (ringR p').set := by
  rw [Finset.disjoint_left]
  intro i hi hi'
  rw [Rect.mem_set_unit] at hi hi'
  have a0 := hi 0; have b0 := hi' 0; have a1 := hi 1; have b1 := hi' 1
  simp at a0 b0 a1 b1
  exact h (Prod.ext (Fin.ext (by omega)) (Fin.ext (by omega)))

theorem ring_cover (j : S4x2x8x512x128.Idx) : ∃ p, j ∈ (ringR p).set := by
  refine ⟨(⟨(j 1).val, (j 1).isLt⟩, ⟨(j 0).val, (j 0).isLt⟩), Rect.mem_set_unit.mpr fun a => ?_⟩
  have h := (j a).isLt
  fin_cases a <;> simp at h ⊢ <;> omega

theorem ring_slot0 (c : Dev nD) : (fun i : Fin 4 => (ownAny (F := F) c ((View.whole cc0_scratch0).slice (ringR (0, i))) : sProp 𝕄))
    = fun i => ownAny (F := F) c (slotV 0 i) := funext fun i =>
  congrArg (ownAny (F := F) c) (show ((View.whole cc0_scratch0).slice (ringR (0, i)) : View sig .tc .vmem S1x1x8x512x128 .i8) = slotV 0 i from rfl)
theorem ring_slot1 (c : Dev nD) : (fun i : Fin 4 => (ownAny (F := F) c ((View.whole cc0_scratch0).slice (ringR (1, i))) : sProp 𝕄))
    = fun i => ownAny (F := F) c (slotV 1 i) := funext fun i =>
  congrArg (ownAny (F := F) c) (show ((View.whole cc0_scratch0).slice (ringR (1, i)) : View sig .tc .vmem S1x1x8x512x128 .i8) = slotV 1 i from rfl)
theorem ring_slot2 (c : Dev nD) : (fun i : Fin 4 => (ownAny (F := F) c ((View.whole cc0_scratch1).slice (ringR (0, i))) : sProp 𝕄))
    = fun i => ownAny (F := F) c (slotV 2 i) := funext fun i =>
  congrArg (ownAny (F := F) c) (show ((View.whole cc0_scratch1).slice (ringR (0, i)) : View sig .tc .vmem S1x1x8x512x128 .i8) = slotV 2 i from rfl)
theorem ring_slot3 (c : Dev nD) : (fun i : Fin 4 => (ownAny (F := F) c ((View.whole cc0_scratch1).slice (ringR (1, i))) : sProp 𝕄))
    = fun i => ownAny (F := F) c (slotV 3 i) := funext fun i =>
  congrArg (ownAny (F := F) c) (show ((View.whole cc0_scratch1).slice (ringR (1, i)) : View sig .tc .vmem S1x1x8x512x128 .i8) = slotV 3 i from rfl)

theorem slots_eq (c : Dev nD) :
    (iprop((bigSep Finset.univ fun p => ownAny (F := F) c ((View.whole cc0_scratch0).slice (ringR p)))
        ∗ bigSep Finset.univ fun p => ownAny (F := F) c ((View.whole cc0_scratch1).slice (ringR p))) : sProp 𝕄)
      = iprop(((bigSep Finset.univ fun i => ownAny (F := F) c (slotV 0 i)) ∗ bigSep Finset.univ fun i => ownAny (F := F) c (slotV 1 i))
        ∗ (bigSep Finset.univ fun i => ownAny (F := F) c (slotV 2 i)) ∗ bigSep Finset.univ fun i => ownAny (F := F) c (slotV 3 i)) := by
  rw [bigSep_univ_prod, bigSep_univ_prod, bigSep_univ_two, bigSep_univ_two, ring_slot0, ring_slot1, ring_slot2, ring_slot3]

theorem slots_list (c : Dev nD) :
    (bigSep Finset.univ fun p : Fin 4 × Fin 4 => ownAny (F := F) c (slotV p.1 p.2) : sProp 𝕄)
      = iprop((bigSep Finset.univ fun i => ownAny (F := F) c (slotV 0 i)) ∗ (bigSep Finset.univ fun i => ownAny (F := F) c (slotV 1 i))
        ∗ (bigSep Finset.univ fun i => ownAny (F := F) c (slotV 2 i)) ∗ bigSep Finset.univ fun i => ownAny (F := F) c (slotV 3 i)) := by
  rw [bigSep_univ_prod, bigSep_four]

theorem cut_slots (c : Dev nD) :
    (iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)) : sProp 𝕄)
      ⊢ bigSep Finset.univ fun p : Fin 4 × Fin 4 => ownAny (F := F) c (slotV p.1 p.2) := by
  refine (BIClass.sep_mono (cut_whole (F := F) c cc0_scratch0 ringR ring_disjoint ring_cover)
    (cut_whole (F := F) c cc0_scratch1 ringR ring_disjoint ring_cover)).trans ?_
  rw [slots_eq, slots_list]
  iintro ⟨⟨H0, H1⟩, H2, H3⟩
  isplitl [H0]; · iexact H0
  isplitl [H1]; · iexact H1
  isplitl [H2]; · iexact H2
  iexact H3

theorem glue_slots (c : Dev nD) (f₀ : Buf (Elt F) ((c : Thread nD τ).loc cc0_scratch0)) (f₁ : Buf (Elt F) ((c : Thread nD τ).loc cc0_scratch1)) :
    (bigSep Finset.univ fun p : Fin 4 × Fin 4 => ownAny (F := F) c (slotV p.1 p.2))
      ⊢ (iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)) : sProp 𝕄) := by
  refine BIBase.Entails.trans ?_ (BIClass.sep_mono (glue_whole (F := F) c cc0_scratch0 ringR ring_disjoint ring_cover f₀)
    (glue_whole (F := F) c cc0_scratch1 ringR ring_disjoint ring_cover f₁))
  rw [slots_eq, slots_list]
  iintro ⟨H0, H1, H2, H3⟩
  isplitl [H0 H1]
  · isplitl [H0]; · iexact H0
    iexact H1
  isplitl [H2]; · iexact H2
  iexact H3

/-! ## The heads -/

theorem head_disjoint (h h' : Fin 8) (hne : h ≠ h') : Disjoint (headR h).set (headR h').set := by
  rw [Finset.disjoint_left]
  intro i hi hi'
  rw [Rect.mem_set_unit] at hi hi'
  have a0 := hi 0; have b0 := hi' 0
  simp at a0 b0
  exact hne (Fin.ext (by omega))

theorem head_cover (j : S8x1024x128.Idx) : ∃ h, j ∈ (headR h).set := by
  refine ⟨⟨(j 0).val, (j 0).isLt⟩, Rect.mem_set_unit.mpr fun a => ?_⟩
  have h := (j a).isLt
  fin_cases a <;> simp at h ⊢ <;> omega

/-! ## The stage -/

abbrev stageR (p : Fin 2 × Fin 2) : Rect S2x2x8x512x128 := quarterR p.1 p.2

theorem stage_disjoint (p p' : Fin 2 × Fin 2) (h : p ≠ p') : Disjoint (stageR p).set (stageR p').set := by
  rw [Finset.disjoint_left]
  intro i hi hi'
  rw [Rect.mem_set_unit] at hi hi'
  have a0 := hi 0; have b0 := hi' 0; have a1 := hi 1; have b1 := hi' 1
  simp at a0 b0 a1 b1
  exact h (Prod.ext (Fin.ext (by omega)) (Fin.ext (by omega)))

theorem stage_cover (j : S2x2x8x512x128.Idx) : ∃ p, j ∈ (stageR p).set := by
  refine ⟨(⟨(j 0).val, (j 0).isLt⟩, ⟨(j 1).val, (j 1).isLt⟩), Rect.mem_set_unit.mpr fun a => ?_⟩
  have h := (j a).isLt
  fin_cases a <;> simp at h ⊢ <;> omega

/-! ## The output and the context -/

theorem all_set : allR.set = Finset.univ := by
  ext j
  simp only [Finset.mem_univ, iff_true]
  refine Rect.mem_set_unit.mpr fun a => ?_
  have h := (j a).isLt
  fin_cases a <;> simp at h ⊢ <;> omega

theorem cut_out (c : Dev nD) (f : Buf (Elt F) ((c : Thread nD τ).loc cc0_stg5_0)) :
    ((((c : Thread nD τ).loc cc0_stg5_0) ↦{fullShare} f) : sProp 𝕄) ⊢ ownAny (F := F) c outView := by
  unfold ownAny own
  iintro H
  iexists outView.read (Elt F) f
  iexists f
  isplitr; · ipureintro; rfl
  iapply (Entails.of_eq (by rw [show outView.set = Finset.univ from (View.set_slice_whole cc0_stg5_0 allR).trans all_set])) $$ H

theorem out_read (f : Buf (Elt F) (outView.loc ((0 : Dev nD) : Thread nD τ))) : outView.read (Elt F) f = f := by
  funext j
  show f (allR.emb j) = f j
  congr 1
  funext a
  apply Fin.ext
  fin_cases a <;> simp [Rect.emb, Rect.unit]

theorem glue_out (c : Dev nD) (v : Vec F S1024x1024 .f32) :
    own c outView fullShare v ⊢ ((((c : Thread nD τ).loc cc0_stg5_0) ↦{fullShare} v) : sProp 𝕄) := by
  unfold own
  iintro ⟨%f, %hf, H⟩
  have e : (f : Buf (Elt F) ((c : Thread nD τ).loc cc0_stg5_0)) = v := (out_read f).symm.trans hf
  subst e
  iapply (Entails.of_eq (by rw [show outView.set = Finset.univ from (View.set_slice_whole cc0_stg5_0 allR).trans all_set])) $$ H

end Cert.KernelIdeal.Talk
-- ==== Proof.KernelIdeal.Funds.lean ====
module

public import proofs.«01_k».proof.Proof.KernelIdeal.Bufs

/-!
# Where the resources of the table come from

The component table as a list of families; the cells, tokens and credits of the launch, dealt to the devices that use
them; and the cells closed at the end.
-/

@[expose] public noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig ℕ (Elt F) ℕ UU ℕ

/-! ## Families -/

abbrev CpSum : Type := (Fin 4 × Fin 7) ⊕ (Fin 4 × Fin 7) ⊕ (Fin 4 × Fin 7) ⊕ (Fin 4 × Fin 4) ⊕ (Fin 4 × Fin 4) ⊕ Fin 2 ⊕ (Fin 2 × Fin 4)
  ⊕ Fin 2 ⊕ Unit ⊕ Fin 8 ⊕ Fin 8 ⊕ Fin 8 ⊕ Unit ⊕ (Fin 2 × Fin 2) ⊕ Unit ⊕ Unit

/-- The components, family by family. -/
def cpOf : CpSum → Cp
  | .inl p => .snd p.1 p.2
  | .inr (.inl p) => .rcv p.1 p.2
  | .inr (.inr (.inl p)) => .tok p.1 p.2
  | .inr (.inr (.inr (.inl p))) => .slot p.1 p.2
  | .inr (.inr (.inr (.inr (.inl p)))) => .nslot p.1 p.2
  | .inr (.inr (.inr (.inr (.inr (.inl d))))) => .crW d
  | .inr (.inr (.inr (.inr (.inr (.inr (.inl p)))))) => .crT p.1 p.2
  | .inr (.inr (.inr (.inr (.inr (.inr (.inr (.inl d))))))) => .bt d
  | .inr (.inr (.inr (.inr (.inr (.inr (.inr (.inr (.inl _)))))))) => .bar
  | .inr (.inr (.inr (.inr (.inr (.inr (.inr (.inr (.inr (.inl h))))))))) => .q h
  | .inr (.inr (.inr (.inr (.inr (.inr (.inr (.inr (.inr (.inr (.inl h)))))))))) => .acc h
  | .inr (.inr (.inr (.inr (.inr (.inr (.inr (.inr (.inr (.inr (.inr (.inl h))))))))))) => .den h
  | .inr (.inr (.inr (.inr (.inr (.inr (.inr (.inr (.inr (.inr (.inr (.inr (.inl _)))))))))))) => .ctx
  | .inr (.inr (.inr (.inr (.inr (.inr (.inr (.inr (.inr (.inr (.inr (.inr (.inr (.inl p))))))))))))) => .stg p.1 p.2
  | .inr (.inr (.inr (.inr (.inr (.inr (.inr (.inr (.inr (.inr (.inr (.inr (.inr (.inr (.inl _)))))))))))))) => .out
  | .inr (.inr (.inr (.inr (.inr (.inr (.inr (.inr (.inr (.inr (.inr (.inr (.inr (.inr (.inr _)))))))))))))) => .inp

def cpTo : Cp → CpSum
  | .snd s a => .inl (s, a)
  | .rcv s a => .inr (.inl (s, a))
  | .tok s a => .inr (.inr (.inl (s, a)))
  | .slot s i => .inr (.inr (.inr (.inl (s, i))))
  | .nslot s i => .inr (.inr (.inr (.inr (.inl (s, i)))))
  | .crW d => .inr (.inr (.inr (.inr (.inr (.inl d)))))
  | .crT d k => .inr (.inr (.inr (.inr (.inr (.inr (.inl (d, k)))))))
  | .bt d => .inr (.inr (.inr (.inr (.inr (.inr (.inr (.inl d)))))))
  | .bar => .inr (.inr (.inr (.inr (.inr (.inr (.inr (.inr (.inl ()))))))))
  | .q h => .inr (.inr (.inr (.inr (.inr (.inr (.inr (.inr (.inr (.inl h)))))))))
  | .acc h => .inr (.inr (.inr (.inr (.inr (.inr (.inr (.inr (.inr (.inr (.inl h))))))))))
  | .den h => .inr (.inr (.inr (.inr (.inr (.inr (.inr (.inr (.inr (.inr (.inr (.inl h)))))))))))
  | .ctx => .inr (.inr (.inr (.inr (.inr (.inr (.inr (.inr (.inr (.inr (.inr (.inr (.inl ()))))))))))))
  | .stg a p => .inr (.inr (.inr (.inr (.inr (.inr (.inr (.inr (.inr (.inr (.inr (.inr (.inr (.inl (a, p))))))))))))))
  | .out => .inr (.inr (.inr (.inr (.inr (.inr (.inr (.inr (.inr (.inr (.inr (.inr (.inr (.inr (.inl ()))))))))))))))
  | .inp => .inr (.inr (.inr (.inr (.inr (.inr (.inr (.inr (.inr (.inr (.inr (.inr (.inr (.inr (.inr ()))))))))))))))

def cpEquiv : CpSum ≃ Cp where
  toFun := cpOf
  invFun := cpTo
  left_inv := by
    rintro (_ | _ | _ | _ | _ | _ | _ | _ | _ | _ | _ | _ | _ | _ | _ | _) <;> rfl
  right_inv := by rintro (_ | _ | _ | _ | _ | _ | _ | _ | _ | _ | _ | _ | _ | _ | _ | _) <;> rfl

/-- A row over the components is sixteen rows. -/
theorem bigSep_cp (Φ : Cp → sProp 𝕄) :
    bigSep Finset.univ Φ = iprop((bigSep Finset.univ fun p : Fin 4 × Fin 7 => Φ (.snd p.1 p.2))
      ∗ (bigSep Finset.univ fun p : Fin 4 × Fin 7 => Φ (.rcv p.1 p.2))
      ∗ (bigSep Finset.univ fun p : Fin 4 × Fin 7 => Φ (.tok p.1 p.2))
      ∗ (bigSep Finset.univ fun p : Fin 4 × Fin 4 => Φ (.slot p.1 p.2))
      ∗ (bigSep Finset.univ fun p : Fin 4 × Fin 4 => Φ (.nslot p.1 p.2))
      ∗ (bigSep Finset.univ fun d : Fin 2 => Φ (.crW d))
      ∗ (bigSep Finset.univ fun p : Fin 2 × Fin 4 => Φ (.crT p.1 p.2))
      ∗ (bigSep Finset.univ fun d : Fin 2 => Φ (.bt d))
      ∗ Φ .bar
      ∗ (bigSep Finset.univ fun h : Fin 8 => Φ (.q h))
      ∗ (bigSep Finset.univ fun h : Fin 8 => Φ (.acc h))
      ∗ (bigSep Finset.univ fun h : Fin 8 => Φ (.den h))
      ∗ Φ .ctx
      ∗ (bigSep Finset.univ fun p : Fin 2 × Fin 2 => Φ (.stg p.1 p.2))
      ∗ Φ .out ∗ Φ .inp) := by
  rw [bigSep_univ_equiv cpEquiv, bigSep_univ_sum, bigSep_univ_sum, bigSep_univ_sum, bigSep_univ_sum, bigSep_univ_sum, bigSep_univ_sum,
    bigSep_univ_sum, bigSep_univ_sum, bigSep_univ_sum, bigSep_univ_sum, bigSep_univ_sum, bigSep_univ_sum, bigSep_univ_sum, bigSep_univ_sum, bigSep_univ_sum]
  simp only [bigSep_univ_of_subsingleton ()]
  rfl

abbrev KdSum : Type := (Fin 4 × Fin 7) ⊕ (Fin 4 × Fin 7) ⊕ Fin 2 ⊕ Unit

def kdEquiv : KdSum ≃ Kd where
  toFun
    | .inl p => .snd p.1 p.2
    | .inr (.inl p) => .rcv p.1 p.2
    | .inr (.inr (.inl d)) => .crd d
    | .inr (.inr (.inr _)) => .bar
  invFun
    | .snd s a => .inl (s, a)
    | .rcv s a => .inr (.inl (s, a))
    | .crd d => .inr (.inr (.inl d))
    | .bar => .inr (.inr (.inr ()))
  left_inv := by rintro (_ | _ | _ | _) <;> rfl
  right_inv := by rintro (_ | _ | _ | _) <;> rfl

theorem bigSep_kd (Φ : Kd → sProp 𝕄) :
    bigSep Finset.univ Φ = iprop((bigSep Finset.univ fun p : Fin 4 × Fin 7 => Φ (.snd p.1 p.2))
      ∗ (bigSep Finset.univ fun p : Fin 4 × Fin 7 => Φ (.rcv p.1 p.2))
      ∗ (bigSep Finset.univ fun d : Fin 2 => Φ (.crd d)) ∗ Φ .bar) := by
  rw [bigSep_univ_equiv kdEquiv, bigSep_univ_sum, bigSep_univ_sum, bigSep_univ_sum]
  simp only [bigSep_univ_of_subsingleton ()]
  rfl

/-! ## The duties a device performs -/

abbrev TxSum : Type := (Fin 4 × Fin 7) ⊕ (Fin 4 × Fin 7) ⊕ (Fin 2 × Fin 4) ⊕ Fin 2

/-- The cell of a duty of device `c`, -/
def txCell (c : Dev nD) : TxSum → GSem nD τ sig
  | .inl p => cell c (.snd p.1 p.2)
  | .inr (.inl p) => cell (nb p.1 c) (.rcv p.1 p.2)
  | .inr (.inr (.inl p)) => cell (cdst p.1 c) (.crd p.1)
  | .inr (.inr (.inr d)) => cell (cdst d c) .bar
/-- and its name there. -/
def txDuty : TxSum → ℕ
  | .inr (.inr (.inl p)) => p.2.val
  | .inr (.inr (.inr d)) => d.val
  | _ => 0

theorem cell_inj {c c' : Dev nD} {k k' : Kd} (h : cell c k = cell c' k') : c = c' ∧ k = k' :=
  ⟨congrArg (fun g : GSem nD τ sig => g.1.1) h, semOf_inj (congrArg Prod.snd h)⟩

theorem nb_inj {s : Fin 4} {c c' : Dev nD} (h : nb s c = nb s c') : c = c' := by
  rw [← pv_nb s c, h, pv_nb]
theorem cdst_inj {d : Fin 2} {c c' : Dev nD} (h : cdst d c = cdst d c') : c = c' := by
  rw [← csrc_cdst d c, h, csrc_cdst]

theorem tx_inj {c c' : Dev nD} {t t' : TxSum} (hc : txCell c t = txCell c' t') (hd : txDuty t = txDuty t') : c = c' ∧ t = t' := by
  rcases t with ⟨s, a⟩ | ⟨s, a⟩ | ⟨d, k⟩ | d <;> rcases t' with ⟨s', a'⟩ | ⟨s', a'⟩ | ⟨d', k'⟩ | d' <;>
    simp only [txCell] at hc <;> obtain ⟨h1, h2⟩ := cell_inj hc
  all_goals try (exfalso; revert h2; simp; done)
  · obtain ⟨rfl, rfl⟩ := Kd.snd.inj h2; exact ⟨h1, rfl⟩
  · obtain ⟨rfl, rfl⟩ := Kd.rcv.inj h2; exact ⟨nb_inj h1, rfl⟩
  · obtain rfl := Kd.crd.inj h2
    obtain rfl : k = k' := Fin.ext hd
    exact ⟨cdst_inj h1, rfl⟩
  · obtain rfl : d = d' := Fin.ext hd
    exact ⟨cdst_inj h1, rfl⟩

/-- Every duty of the exchange. -/
def allToks : Finset (GSem nD τ sig × ℕ × ℕ) :=
  Finset.univ.map ⟨fun p : Dev nD × TxSum => (txCell p.1 p.2, 0, txDuty p.2), fun p p' h => by
    obtain ⟨h1, h2⟩ := tx_inj (congrArg Prod.fst h) (congrArg (fun t : GSem nD τ sig × ℕ × ℕ => t.2.2) h)
    exact Prod.ext h1 h2⟩

/-- The tokens of the duties device `c` performs. -/
def toks (c : Dev nD) : sProp 𝕄 :=
  iprop((bigSep Finset.univ fun p : Fin 4 × Fin 7 => dutyTok ER (cell c (.snd p.1 p.2)) 0 0)
    ∗ (bigSep Finset.univ fun p : Fin 4 × Fin 7 => dutyTok ER (cell (nb p.1 c) (.rcv p.1 p.2)) 0 0)
    ∗ (bigSep Finset.univ fun p : Fin 2 × Fin 4 => dutyTok ER (cell (cdst p.1 c) (.crd p.1)) 0 p.2.val)
    ∗ (bigSep Finset.univ fun d : Fin 2 => dutyTok ER (cell (cdst d c) .bar) 0 d.val))

theorem allToks_eq : bigSep allToks (fun x => (dutyTok ER x.1 x.2.1 x.2.2 : sProp 𝕄)) = bigSep Finset.univ fun c : Dev nD => toks c := by
  unfold allToks
  rw [bigSep_map, bigSep_univ_prod]
  refine bigSep_congr fun c _ => ?_
  rw [bigSep_univ_sum, bigSep_univ_sum, bigSep_univ_sum]
  rfl

/-! ## The cells -/

/-- The cells of a device that belong to the call. -/
abbrev Ow : Type := {k : Kd // k ≠ .bar}
abbrev osem (k : Ow) : SemLoc sig := semOf k.1

def barEmb : Dev nD ↪ GSem nD τ sig := ⟨fun c => cell c .bar, fun _ _ h => (cell_inj h).1⟩
def owEmb : Dev nD × Ow ↪ GSem nD τ sig := ⟨fun p => cell p.1 p.2.1, fun _ _ h => Prod.ext (cell_inj h).1 (Subtype.ext (cell_inj h).2)⟩

abbrev barCells : Finset (GSem nD τ sig) := Finset.univ.map barEmb
abbrev owCells : Finset (GSem nD τ sig) := Finset.univ.map owEmb

theorem disjoint_cells : Disjoint barCells owCells := by
  rw [Finset.disjoint_left]
  rintro g h₁ h₂
  obtain ⟨c, -, rfl⟩ := Finset.mem_map.mp h₁
  obtain ⟨p, -, h⟩ := Finset.mem_map.mp h₂
  exact p.2.2 (cell_inj h).2

theorem cell_mem (c : Dev nD) (k : Kd) : cell c k ∈ barCells ∪ owCells := by
  by_cases h : k = .bar
  · subst h; exact Finset.mem_union_left _ (Finset.mem_map_of_mem barEmb (Finset.mem_univ c))
  · exact Finset.mem_union_right _ (Finset.mem_map.mpr ⟨(c, ⟨k, h⟩), Finset.mem_univ _, rfl⟩)

theorem bigSep_kd_bar (Φ : Kd → sProp 𝕄) : bigSep Finset.univ Φ = iprop(Φ .bar ∗ bigSep Finset.univ fun k : Ow => Φ k.1) := by
  rw [bigSep_univ_at _ Kd.bar, ← bigSep_subtype_ne]

/-! ## What is owed at the start, and the credits -/

/-- The numbers of the components before the call. -/
abbrev TStart : List ℕ := [0, 0, 0, 0, 0, 0, 0, 0, 0, 0, 0, 0, 0, 0, 0, 0, 0, 0, 0, 0, 0, 0, 0, 0, 0, 0, 0, 0,
  0, 0, 0, 0, 0, 0, 0, 0, 0, 0, 0, 0, 0, 0, 0, 0, 0, 0, 0, 0, 0, 0, 0, 0, 0, 0, 0, 0,
  0, 0, 0, 0, 0, 0, 0, 0, 0, 0, 0, 0, 0, 0, 0, 0, 0, 0, 0, 0, 0, 0, 0, 0, 0, 0, 0, 0,
  1, 1, 1, 1, 1, 1, 1, 1, 1, 1, 1, 1, 1, 1, 1, 1]

def O₀ (c : Dev nD) : CellTallies nD τ sig ℕ := owed c (ofList TStart)

theorem sum_cp (f : Cp → ℕ) : ∑ i, f i = (∑ p : Fin 4 × Fin 7, f (.snd p.1 p.2)) + ((∑ p : Fin 4 × Fin 7, f (.rcv p.1 p.2))
    + ((∑ p : Fin 4 × Fin 7, f (.tok p.1 p.2)) + ((∑ p : Fin 4 × Fin 4, f (.slot p.1 p.2)) + ((∑ p : Fin 4 × Fin 4, f (.nslot p.1 p.2))
    + ((∑ d : Fin 2, f (.crW d)) + ((∑ p : Fin 2 × Fin 4, f (.crT p.1 p.2)) + ((∑ d : Fin 2, f (.bt d)) + (f .bar
    + ((∑ h : Fin 8, f (.q h)) + ((∑ h : Fin 8, f (.acc h)) + ((∑ h : Fin 8, f (.den h)) + (f .ctx
    + ((∑ p : Fin 2 × Fin 2, f (.stg p.1 p.2)) + (f .out + f .inp)))))))))))))) := by
  rw [← Equiv.sum_comp cpEquiv]
  simp only [Fintype.sum_sum_type, Finset.univ_unique, Finset.sum_singleton]
  rfl

theorem tok_start (s : Fin 4) (a : Fin 7) : ofList TStart (enc (.tok s a)) = 0 := by revert s a; decide +kernel
theorem crT_start (d : Fin 2) (k : Fin 4) : ofList TStart (enc (.crT d k)) = 0 := by revert d k; decide +kernel
theorem bt_start (d : Fin 2) : ofList TStart (enc (.bt d)) = 0 := by revert d; decide +kernel

/-- What device `d` owes a cell of device `c` at an index. -/
theorem owed_at (d c : Dev nD) (k : Kd) (n : ℕ) : O₀ d (cell c k) n
    = (∑ p : Fin 4 × Fin 7, if nb p.1 d = c ∧ k = .rcv p.1 p.2 ∧ n = 0 then NN else 0)
      + ((∑ p : Fin 2 × Fin 4, if cdst p.1 d = c ∧ k = .crd p.1 ∧ n = p.2.val then 1 else 0)
      + (∑ e : Fin 2, if cdst e d = c ∧ k = .bar ∧ n = 0 then 1 else 0)) := by
  have ap : ∀ (c' : Dev nD) (k' : Kd) (n' v : ℕ), (tallyAt (cell c' k') n' v : CellTallies nD τ sig ℕ) (cell c k) n
      = if c' = c ∧ k = k' ∧ n = n' then v else 0 := fun c' k' n' v => by
    rw [tallyAt_apply]
    refine if_congr ⟨fun ⟨h, h'⟩ => ⟨(cell_inj h).1.symm, (cell_inj h).2, h'⟩, fun ⟨h, h', h''⟩ => ⟨by rw [h, h'], h''⟩⟩ rfl rfl
  have z : (0 : CellTallies nD τ sig ℕ) (cell c k) n = 0 := rfl
  unfold O₀ owed
  rw [Finset.sum_apply, Finsupp.finsetSum_apply, sum_cp]
  simp only [oweAmt, ite_self, z, Finset.sum_const_zero, zero_add, add_zero, tok_start, crT_start, bt_start, if_true, ap]

theorem credit_rcv (c : Dev nD) (s : Fin 4) (a : Fin 7) :
    tallyOn (cell c (.rcv s a)) (launchCredit (Pipeline.owing O₀) 0 (cell c (.rcv s a))) = (tallyAt (cell c (.rcv s a)) 0 NN : CellTallies nD τ sig ℕ) := by
  unfold tallyAt
  refine congrArg _ (Finsupp.ext fun n => ?_)
  rw [Pipeline.launchCredit_owing, Finset.sum_congr rfl fun d _ => owed_at d c (.rcv s a) n]
  by_cases hn : n = 0
  · subst hn
    rw [Finsupp.single_eq_same, Finset.sum_eq_single (pv s c) _ fun h => absurd (Finset.mem_univ _) h,
      Finset.sum_eq_single (s, a) _ fun h => absurd (Finset.mem_univ _) h, if_pos ⟨nb_pv s c, rfl, rfl⟩]
    · simp
    · rintro ⟨s', a'⟩ - hne
      refine if_neg fun h => hne ?_
      obtain ⟨rfl, rfl⟩ := Kd.rcv.inj h.2.1
      rfl
    · intro d _ hd
      have h1 : (∑ p : Fin 4 × Fin 7, if nb p.1 d = c ∧ Kd.rcv s a = .rcv p.1 p.2 ∧ (0 : ℕ) = 0 then NN else 0) = 0 :=
        Finset.sum_eq_zero fun p _ => if_neg fun h => hd (by
          obtain ⟨rfl, rfl⟩ := Kd.rcv.inj h.2.1
          rw [← h.1, pv_nb])
      rw [h1]; simp
  · rw [Finsupp.single_eq_of_ne (by omega)]
    refine Finset.sum_eq_zero fun d _ => ?_
    simp [hn]

theorem credit_bar (c : Dev nD) :
    tallyOn (cell c .bar) (launchCredit (Pipeline.owing O₀) 0 (cell c .bar)) = (tallyAt (cell c .bar) 0 2 : CellTallies nD τ sig ℕ) := by
  unfold tallyAt
  refine congrArg _ (Finsupp.ext fun n => ?_)
  rw [Pipeline.launchCredit_owing, Finset.sum_congr rfl fun d _ => owed_at d c .bar n]
  by_cases hn : n = 0
  · subst hn
    rw [Finsupp.single_eq_same]
    simp only [reduceCtorEq, false_and, and_false, if_false, Finset.sum_const_zero, zero_add, and_true]
    revert c; decide +kernel
  · rw [Finsupp.single_eq_of_ne (by omega)]
    refine Finset.sum_eq_zero fun d _ => ?_
    simp [hn]

theorem credit_crd (c : Dev nD) (e : Fin 2) :
    tallyOn (cell c (.crd e)) (launchCredit (Pipeline.owing O₀) 0 (cell c (.crd e)))
      = (∑ k ∈ Finset.range 4, tallyAt (cell c (.crd e)) k 1 : CellTallies nD τ sig ℕ) := by
  have h : launchCredit (Pipeline.owing O₀) 0 (cell c (.crd e)) = ∑ k ∈ Finset.range 4, Finsupp.single k 1 := by
    refine Finsupp.ext fun n => ?_
    rw [Pipeline.launchCredit_owing, Finset.sum_congr rfl fun d _ => owed_at d c (.crd e) n, Finsupp.finsetSum_apply]
    simp only [reduceCtorEq, false_and, and_false, if_false, Finset.sum_const_zero, zero_add, add_zero, Kd.crd.injEq]
    by_cases hn : n < 4
    · obtain ⟨n, rfl⟩ : ∃ m : Fin 4, n = m.val := ⟨⟨n, hn⟩, rfl⟩
      revert c e n
      simp only [Finsupp.single_apply]
      decide +kernel
    · rw [Finset.sum_eq_zero fun d _ => Finset.sum_eq_zero fun p _ => if_neg fun h => hn (by rw [h.2.2]; exact p.2.isLt),
        Finset.sum_eq_zero fun k hk => Finsupp.single_eq_of_ne (by have := Finset.mem_range.mp hk; omega)]
  rw [h]
  unfold tallyAt
  funext g
  rw [Finset.sum_apply]
  by_cases hg : g = cell c (.crd e)
  · subst hg; simp [tallyOn]
  · simp [tallyOn, hg]

end Cert.KernelIdeal.Talk
-- ==== Proof.KernelIdeal.Rules.lean ====
module

public import proofs.«01_k».proof.Proof.KernelIdeal.State

/-!
# One operation of the body, on the table

For each kind of operation of the body: what it needs of the table, and what it changes.
-/

@[expose] public noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig ℕ (Elt F) ℕ UU ℕ

/-- The call has no variants. -/
abbrev 𝒱₀ : Variants := Variants.none

/-- From the state at table `L`, device `c` runs `p` to `Q`. -/
def Run (X : Ins F) (c : Dev nD) (K : GSem nD τ sig → ℕ) (L : ℕ → ℕ) {α : Type} (p : Prog (TpuEff nD τ sig (Elt F) Λ₀ .tc) α) (Q : α → sProp 𝕄) : Prop :=
  St X c K L ⊢ wp frame (wpE (defs₀ (F := F)) 𝒱₀ c none) Set.univ p Q

variable {X : Ins F} {c : Dev nD} {K : GSem nD τ sig → ℕ} {L : ℕ → ℕ} {α : Type}
variable {Q : α → sProp (MT nD τ sig ℕ (Elt F) ℕ UU ℕ)}

theorem Run.table {L' : ℕ → ℕ} {p : Prog (TpuEff nD τ sig (Elt F) Λ₀ .tc) α} (h : ∀ n < 160, L n = L' n) (hr : Run X c K L' p Q) :
    Run X c K L p Q := by
  unfold Run; rw [St_congr X c K h]; exact hr

/-- One component taken out, to be put back at any number: for components that owe nothing. -/
theorem St_open (i : Cp) (n : ℕ) (hn : L (enc i) = n) (h0 : oweAmt c i = 0) :
    St X c K L ⊢ iprop(res X c i n ∗ ∀ n' : ℕ, res X c i n' -∗ St X c K (upd L (enc i) n')) := by
  unfold St
  iintro ⟨#HK, HC, HO⟩
  ihave HC := (comps_take X c L i n hn) $$ HC
  icases HC with ⟨Hr, HC⟩
  isplitl [Hr]; · iexact Hr
  iintro %n' Hr'
  isplitr; · iexact HK
  isplitl [Hr' HC]
  · have e : upd (upd L (enc i) 99) (enc i) n' = upd L (enc i) n' := by
      funext m; unfold upd; split <;> rfl
    rw [← e]
    iapply (comps_put X c (upd L (enc i) 99) i n' (upd_self _ _ _))
    isplitl [Hr']; · iexact Hr'
    iexact HC
  · rw [owed_upd_same c L i n' h0]; iexact HO

theorem upd_id (f : ℕ → ℕ) (e v : ℕ) (h : f e = v) : upd f e v = f := by
  funext m; unfold upd; split
  · rename_i hm; rw [hm, h]
  · rfl

/-! ## Loads and stores -/

theorem load_of {s : Shape} {e : EltTy} {m : Memref sig .tc .vmem s e} {r : Rect s} {hl : m.view.LoadsAt r}
    {kk : (r.shape.Idx → Elt F e) → Prog (TpuEff nD τ sig (Elt F) Λ₀ .tc) α} {q : PosShare TreeShare} {v : r.shape.Idx → Elt F e}
    (hs : St X c K L ⊢ iprop(own c (m.access r) q v ∗ (own c (m.access r) q v -∗ St X c K L)))
    (h : Run X c K L (kk v) Q) : Run X c K L (.op (.load m r.toLoadRect hl) kk) Q := by
  unfold Run at h ⊢
  iintro HS
  ihave HS := hs $$ HS
  unfold own
  icases HS with ⟨⟨%f, %hf, Hf⟩, Hk⟩
  iapply (wp_load_rect 𝒱₀ (c : Thread nD τ) none Set.univ (m := m) (r := r) subset_rfl) $$ [Hf]
  · iexact Hf
  iintro Hf
  rw [hf]
  iapply h
  iapply Hk
  iexists f
  isplitr; · ipureintro; exact hf
  iexact Hf

theorem store_of {s : Shape} {e : EltTy} {m : Memref sig .tc .vmem s e} {r : Rect s} {w : r.shape.Idx → Elt F e}
    {hx : (m.access r).Stores Finset.univ} {hm : (Finset.univ : Finset r.shape.Idx) = Finset.univ ∨ ∀ a, r.stride a = 1}
    {kk : PUnit → Prog (TpuEff nD τ sig (Elt F) Λ₀ .tc) α} {L' : ℕ → ℕ}
    (hs : St X c K L ⊢ iprop(ownAny (F := F) c (m.access r) ∗ (own c (m.access r) fullShare w -∗ St X c K L')))
    (h : Run X c K L' (kk ⟨⟩) Q) : Run X c K L (.op (.store m r w Finset.univ hx hm) kk) Q := by
  unfold Run at h ⊢
  iintro HS
  ihave HS := hs $$ HS
  unfold ownAny own
  icases HS with ⟨⟨%v, %f, %hf, Hf⟩, Hk⟩
  iapply (wp_store 𝒱₀ (c : Thread nD τ) none Set.univ (m := m) (r := r) (Mk := Finset.univ) subset_rfl) $$ [Hf]
  · iexact Hf
  iintro Hf
  iapply h
  iapply Hk
  iexists ((m.access r).write (Elt F) f w Finset.univ)
  isplitr; · ipureintro; exact View.read_write_univ _ _
  iexact Hf

theorem own_any {sp : Space} {sh : Shape} {e : EltTy} (w : View sig .tc sp sh e) (v : sh.Idx → Elt F e) :
    own c w fullShare v ⊢ ownAny (F := F) c w := by
  unfold ownAny; iintro H; iexists v; iexact H

theorem valRes_any {sp : Space} {sh : Shape} {e : EltTy} (w : View sig .tc sp sh e) (v : ℕ → sh.Idx → Elt F e) (n : ℕ) (h : n ≠ 99) :
    valRes c w v n ⊢ ownAny (F := F) c w := by
  cases n with
  | zero => exact .rfl
  | succ n => exact (Entails.of_eq (if_neg h)).trans (own_any w _)

theorem valRes_succ {sp : Space} {sh : Shape} {e : EltTy} (w : View sig .tc sp sh e) (v : ℕ → sh.Idx → Elt F e) (n : ℕ) (h : n + 1 ≠ 99) :
    valRes c w v (n + 1) = own c w fullShare (v n) := if_neg h

/-- A load of a component at contents of its row. -/
theorem val_load (i : Cp) {s : Shape} {e : EltTy} {m : Memref sig .tc .vmem s e} {r : Rect s} {hl : m.view.LoadsAt r}
    {kk : (r.shape.Idx → Elt F e) → Prog (TpuEff nD τ sig (Elt F) Λ₀ .tc) α} {v : ℕ → r.shape.Idx → Elt F e}
    (hi : ∀ n, res X c i n = valRes c (m.access r) v n) (h0 : oweAmt c i = 0) (n : ℕ) (hn : L (enc i) = n + 1) (h99 : n + 1 ≠ 99)
    (h : Run X c K L (kk (v n)) Q) : Run X c K L (.op (.load m r.toLoadRect hl) kk) Q := by
  refine load_of (q := fullShare) ?_ h
  iintro HS
  ihave HS := (St_open i (n + 1) hn h0) $$ HS
  icases HS with ⟨Hr, Hk⟩
  have e1 : res X c i (n + 1) = own c (m.access r) fullShare (v n) := (hi _).trans (valRes_succ (m.access r) v n h99)
  isplitl [Hr]
  · iapply (Entails.of_eq e1); iexact Hr
  iintro Hr
  iapply (Entails.of_eq (congrArg (St X c K) (upd_id L (enc i) (n + 1) hn)))
  iapply Hk
  iapply (Entails.of_eq e1.symm); iexact Hr

/-- A load of a component whose value is not looked at. -/
theorem val_dead (i : Cp) {s : Shape} {e : EltTy} {m : Memref sig .tc .vmem s e} {r : Rect s} {hl : m.view.LoadsAt r}
    {kk : (r.shape.Idx → Elt F e) → Prog (TpuEff nD τ sig (Elt F) Λ₀ .tc) α} {v : ℕ → r.shape.Idx → Elt F e}
    (hi : ∀ n, res X c i n = valRes c (m.access r) v n) (h0 : oweAmt c i = 0) (hn : L (enc i) = 0)
    (h : ∀ x, Run X c K L (kk x) Q) : Run X c K L (.op (.load m r.toLoadRect hl) kk) Q := by
  unfold Run
  iintro HS
  ihave HS := (St_open i 0 hn h0) $$ HS
  icases HS with ⟨Hr, Hk⟩
  ihave Hr := (Entails.of_eq (hi 0)) $$ Hr
  unfold valRes ownAny own
  icases Hr with ⟨%w, %f, %hf, Hf⟩
  iapply (wp_load_rect 𝒱₀ (c : Thread nD τ) none Set.univ (m := m) (r := r) subset_rfl) $$ [Hf]
  · iexact Hf
  iintro Hf
  have h' := h ((m.access r).read (Elt F) f)
  unfold Run at h'
  iapply h'
  iapply (Entails.of_eq (congrArg (St X c K) (upd_id L (enc i) 0 hn)))
  iapply Hk
  iapply (Entails.of_eq (hi 0).symm)
  unfold valRes ownAny own
  iexists w; iexists f
  isplitr; · ipureintro; exact hf
  iexact Hf

/-- A store of the next contents of a component. -/
theorem val_store (i : Cp) {s : Shape} {e : EltTy} {m : Memref sig .tc .vmem s e} {r : Rect s} {w : r.shape.Idx → Elt F e}
    {hx : (m.access r).Stores Finset.univ} {hm : (Finset.univ : Finset r.shape.Idx) = Finset.univ ∨ ∀ a, r.stride a = 1}
    {kk : PUnit → Prog (TpuEff nD τ sig (Elt F) Λ₀ .tc) α} {v : ℕ → r.shape.Idx → Elt F e}
    (hi : ∀ n, res X c i n = valRes c (m.access r) v n) (h0 : oweAmt c i = 0) (n : ℕ) (hn : L (enc i) < 99) (h99 : n + 1 ≠ 99)
    (hw : w = v n) (h : Run X c K (upd L (enc i) (n + 1)) (kk ⟨⟩) Q) : Run X c K L (.op (.store m r w Finset.univ hx hm) kk) Q := by
  refine store_of ?_ h
  iintro HS
  ihave HS := (St_open i _ rfl h0) $$ HS
  icases HS with ⟨Hr, Hk⟩
  isplitl [Hr]
  · iapply (valRes_any (m.access r) v (L (enc i)) (by omega))
    iapply (Entails.of_eq (hi _)); iexact Hr
  iintro Hr
  iapply Hk
  iapply (Entails.of_eq ((hi _).trans (valRes_succ (m.access r) v n h99)).symm)
  rw [← hw]; iexact Hr

/-! ## Queries, sums, stage and result -/

theorem run_q_dead (h : Fin 8) (off : Fin 3 → ℕ) {inb : ∀ a, off a + S1x1024x128.size a ≤ S8x1024x128.size a} (hoff : off = ![h.val, 0, 0]) {hl : A9.view.LoadsAt (Rect.unit (s := S8x1024x128) off S1x1024x128.size inb).toLoadRect}
    {kk : (S1x1024x128.Idx → Elt F .bf16) → Prog (TpuEff nD τ sig (Elt F) Λ₀ .tc) α} (hn : L (enc (.q h)) = 0) (hr : ∀ x, Run X c K L (kk x) Q) :
    Run X c K L (.op (.load A9 (Rect.unit (s := S8x1024x128) off S1x1024x128.size inb).toLoadRect hl) kk) Q := by
  subst hoff; exact val_dead (.q h) (fun _ => rfl) rfl hn hr

theorem run_q_load (h : Fin 8) (n : ℕ) (off : Fin 3 → ℕ) {inb : ∀ a, off a + S1x1024x128.size a ≤ S8x1024x128.size a} (hoff : off = ![h.val, 0, 0]) {hl : A9.view.LoadsAt (Rect.unit (s := S8x1024x128) off S1x1024x128.size inb).toLoadRect}
    {kk : (S1x1024x128.Idx → Elt F .bf16) → Prog (TpuEff nD τ sig (Elt F) Λ₀ .tc) α} (hn : L (enc (.q h)) = n + 1) (h99 : n + 1 ≠ 99) (hr : Run X c K L (kk (qH X c h)) Q) :
    Run X c K L (.op (.load A9 (Rect.unit (s := S8x1024x128) off S1x1024x128.size inb).toLoadRect hl) kk) Q := by
  subst hoff; exact val_load (.q h) (fun _ => rfl) rfl n hn h99 hr

theorem run_q_store (h : Fin 8) (off : Fin 3 → ℕ) {inb : ∀ a, off a + S1x1024x128.size a ≤ S8x1024x128.size a} (hoff : off = ![h.val, 0, 0]) {w : S1x1024x128.Idx → Elt F .bf16} {hx : (A9.access (Rect.unit (s := S8x1024x128) off S1x1024x128.size inb)).Stores Finset.univ} {hm : (Finset.univ : Finset (Rect.unit (s := S8x1024x128) off S1x1024x128.size inb).shape.Idx) = Finset.univ ∨ ∀ a, (Rect.unit (s := S8x1024x128) off S1x1024x128.size inb).stride a = 1}
    {kk : PUnit → Prog (TpuEff nD τ sig (Elt F) Λ₀ .tc) α} (hn : L (enc (.q h)) < 99) (hw : w = qH X c h)
    (hr : Run X c K (upd L (enc (.q h)) 1) (kk ⟨⟩) Q) :
    Run X c K L (.op (.store A9 (Rect.unit (s := S8x1024x128) off S1x1024x128.size inb) w Finset.univ hx hm) kk) Q := by
  subst hoff; exact val_store (.q h) (fun _ => rfl) rfl 0 hn (by decide) hw hr

theorem run_acc_dead (h : Fin 8) (off : Fin 3 → ℕ) {inb : ∀ a, off a + S1x1024x128.size a ≤ S8x1024x128.size a} (hoff : off = ![h.val, 0, 0]) {hl : A10.view.LoadsAt (Rect.unit (s := S8x1024x128) off S1x1024x128.size inb).toLoadRect}
    {kk : (S1x1024x128.Idx → Elt F .f32) → Prog (TpuEff nD τ sig (Elt F) Λ₀ .tc) α} (hn : L (enc (.acc h)) = 0) (hr : ∀ x, Run X c K L (kk x) Q) :
    Run X c K L (.op (.load A10 (Rect.unit (s := S8x1024x128) off S1x1024x128.size inb).toLoadRect hl) kk) Q := by
  subst hoff; exact val_dead (.acc h) (fun _ => rfl) rfl hn hr

theorem run_acc_load (h : Fin 8) (n : ℕ) (off : Fin 3 → ℕ) {inb : ∀ a, off a + S1x1024x128.size a ≤ S8x1024x128.size a} (hoff : off = ![h.val, 0, 0]) {hl : A10.view.LoadsAt (Rect.unit (s := S8x1024x128) off S1x1024x128.size inb).toLoadRect}
    {kk : (S1x1024x128.Idx → Elt F .f32) → Prog (TpuEff nD τ sig (Elt F) Λ₀ .tc) α} (hn : L (enc (.acc h)) = n + 1) (h99 : n + 1 ≠ 99) (hr : Run X c K L (kk (accH X c h n)) Q) :
    Run X c K L (.op (.load A10 (Rect.unit (s := S8x1024x128) off S1x1024x128.size inb).toLoadRect hl) kk) Q := by
  subst hoff; exact val_load (.acc h) (fun _ => rfl) rfl n hn h99 hr

theorem run_acc_store (h : Fin 8) (n : ℕ) (off : Fin 3 → ℕ) {inb : ∀ a, off a + S1x1024x128.size a ≤ S8x1024x128.size a} (hoff : off = ![h.val, 0, 0]) {w : S1x1024x128.Idx → Elt F .f32} {hx : (A10.access (Rect.unit (s := S8x1024x128) off S1x1024x128.size inb)).Stores Finset.univ} {hm : (Finset.univ : Finset (Rect.unit (s := S8x1024x128) off S1x1024x128.size inb).shape.Idx) = Finset.univ ∨ ∀ a, (Rect.unit (s := S8x1024x128) off S1x1024x128.size inb).stride a = 1}
    {kk : PUnit → Prog (TpuEff nD τ sig (Elt F) Λ₀ .tc) α} (hn : L (enc (.acc h)) = n ∧ n < 90) (hw : w = accH X c h n)
    (hr : Run X c K (upd L (enc (.acc h)) (n + 1)) (kk ⟨⟩) Q) :
    Run X c K L (.op (.store A10 (Rect.unit (s := S8x1024x128) off S1x1024x128.size inb) w Finset.univ hx hm) kk) Q := by
  subst hoff; exact val_store (.acc h) (fun _ => rfl) rfl n (by omega) (by omega) hw hr

theorem run_den_dead (h : Fin 8) (off : Fin 3 → ℕ) {inb : ∀ a, off a + S1x1024x128.size a ≤ S8x1024x128.size a} (hoff : off = ![h.val, 0, 0]) {hl : A11.view.LoadsAt (Rect.unit (s := S8x1024x128) off S1x1024x128.size inb).toLoadRect}
    {kk : (S1x1024x128.Idx → Elt F .f32) → Prog (TpuEff nD τ sig (Elt F) Λ₀ .tc) α} (hn : L (enc (.den h)) = 0) (hr : ∀ x, Run X c K L (kk x) Q) :
    Run X c K L (.op (.load A11 (Rect.unit (s := S8x1024x128) off S1x1024x128.size inb).toLoadRect hl) kk) Q := by
  subst hoff; exact val_dead (.den h) (fun _ => rfl) rfl hn hr

theorem run_den_load (h : Fin 8) (n : ℕ) (off : Fin 3 → ℕ) {inb : ∀ a, off a + S1x1024x128.size a ≤ S8x1024x128.size a} (hoff : off = ![h.val, 0, 0]) {hl : A11.view.LoadsAt (Rect.unit (s := S8x1024x128) off S1x1024x128.size inb).toLoadRect}
    {kk : (S1x1024x128.Idx → Elt F .f32) → Prog (TpuEff nD τ sig (Elt F) Λ₀ .tc) α} (hn : L (enc (.den h)) = n + 1) (h99 : n + 1 ≠ 99) (hr : Run X c K L (kk (denH X c h n)) Q) :
    Run X c K L (.op (.load A11 (Rect.unit (s := S8x1024x128) off S1x1024x128.size inb).toLoadRect hl) kk) Q := by
  subst hoff; exact val_load (.den h) (fun _ => rfl) rfl n hn h99 hr

theorem run_den_store (h : Fin 8) (n : ℕ) (off : Fin 3 → ℕ) {inb : ∀ a, off a + S1x1024x128.size a ≤ S8x1024x128.size a} (hoff : off = ![h.val, 0, 0]) {w : S1x1024x128.Idx → Elt F .f32} {hx : (A11.access (Rect.unit (s := S8x1024x128) off S1x1024x128.size inb)).Stores Finset.univ} {hm : (Finset.univ : Finset (Rect.unit (s := S8x1024x128) off S1x1024x128.size inb).shape.Idx) = Finset.univ ∨ ∀ a, (Rect.unit (s := S8x1024x128) off S1x1024x128.size inb).stride a = 1}
    {kk : PUnit → Prog (TpuEff nD τ sig (Elt F) Λ₀ .tc) α} (hn : L (enc (.den h)) = n ∧ n < 90) (hw : w = denH X c h n)
    (hr : Run X c K (upd L (enc (.den h)) (n + 1)) (kk ⟨⟩) Q) :
    Run X c K L (.op (.store A11 (Rect.unit (s := S8x1024x128) off S1x1024x128.size inb) w Finset.univ hx hm) kk) Q := by
  subst hoff; exact val_store (.den h) (fun _ => rfl) rfl n (by omega) (by omega) hw hr

theorem run_stg_dead (half part : Fin 2) (off : Fin 5 → ℕ) {inb : ∀ a, off a + S1x1x8x512x128.size a ≤ S2x2x8x512x128.size a} (hoff : off = ![half.val, part.val, 0, 0, 0]) {hl : A8.view.LoadsAt (Rect.unit (s := S2x2x8x512x128) off S1x1x8x512x128.size inb).toLoadRect}
    {kk : (S1x1x8x512x128.Idx → Elt F .bf16) → Prog (TpuEff nD τ sig (Elt F) Λ₀ .tc) α} (hn : L (enc (.stg half part)) = 0) (hr : ∀ x, Run X c K L (kk x) Q) :
    Run X c K L (.op (.load A8 (Rect.unit (s := S2x2x8x512x128) off S1x1x8x512x128.size inb).toLoadRect hl) kk) Q := by
  subst hoff; exact val_dead (.stg half part) (fun _ => rfl) rfl hn hr

theorem run_stg_whole (half part : Fin 2) (n : ℕ) (off : Fin 5 → ℕ) {inb : ∀ a, off a + S1x1x8x512x128.size a ≤ S2x2x8x512x128.size a} (hoff : off = ![half.val, part.val, 0, 0, 0]) {hl : A8.view.LoadsAt (Rect.unit (s := S2x2x8x512x128) off S1x1x8x512x128.size inb).toLoadRect}
    {kk : (S1x1x8x512x128.Idx → Elt F .bf16) → Prog (TpuEff nD τ sig (Elt F) Λ₀ .tc) α} (hn : L (enc (.stg half part)) = n + 1) (h99 : n + 1 ≠ 99) (hr : Run X c K L (kk (stgV X c half part n)) Q) :
    Run X c K L (.op (.load A8 (Rect.unit (s := S2x2x8x512x128) off S1x1x8x512x128.size inb).toLoadRect hl) kk) Q := by
  subst hoff; exact val_load (.stg half part) (fun _ => rfl) rfl n hn h99 hr

theorem run_stg_store (half part : Fin 2) (n : ℕ) (off : Fin 5 → ℕ) {inb : ∀ a, off a + S1x1x8x512x128.size a ≤ S2x2x8x512x128.size a} (hoff : off = ![half.val, part.val, 0, 0, 0]) {w : S1x1x8x512x128.Idx → Elt F .bf16} {hx : (A8.access (Rect.unit (s := S2x2x8x512x128) off S1x1x8x512x128.size inb)).Stores Finset.univ} {hm : (Finset.univ : Finset (Rect.unit (s := S2x2x8x512x128) off S1x1x8x512x128.size inb).shape.Idx) = Finset.univ ∨ ∀ a, (Rect.unit (s := S2x2x8x512x128) off S1x1x8x512x128.size inb).stride a = 1}
    {kk : PUnit → Prog (TpuEff nD τ sig (Elt F) Λ₀ .tc) α} (hn : L (enc (.stg half part)) < 99 ∧ n < 90) (hw : w = stgV X c half part n)
    (hr : Run X c K (upd L (enc (.stg half part)) (n + 1)) (kk ⟨⟩) Q) :
    Run X c K L (.op (.store A8 (Rect.unit (s := S2x2x8x512x128) off S1x1x8x512x128.size inb) w Finset.univ hx hm) kk) Q := by
  subst hoff; exact val_store (.stg half part) (fun _ => rfl) rfl n (by omega) (by omega) hw hr

theorem run_out_dead(off : Fin 2 → ℕ) {inb : ∀ a, off a + S1024x1024.size a ≤ S1024x1024.size a} (hoff : off = ![0, 0]) {hl : A5.view.LoadsAt (Rect.unit (s := S1024x1024) off S1024x1024.size inb).toLoadRect}
    {kk : (S1024x1024.Idx → Elt F .f32) → Prog (TpuEff nD τ sig (Elt F) Λ₀ .tc) α} (hn : L (enc (.out)) = 0) (hr : ∀ x, Run X c K L (kk x) Q) :
    Run X c K L (.op (.load A5 (Rect.unit (s := S1024x1024) off S1024x1024.size inb).toLoadRect hl) kk) Q := by
  subst hoff; exact val_dead (.out) (fun _ => rfl) rfl hn hr

theorem run_out_store(off : Fin 2 → ℕ) {inb : ∀ a, off a + S1024x1024.size a ≤ S1024x1024.size a} (hoff : off = ![0, 0]) {w : S1024x1024.Idx → Elt F .f32} {hx : (A5.access (Rect.unit (s := S1024x1024) off S1024x1024.size inb)).Stores Finset.univ} {hm : (Finset.univ : Finset (Rect.unit (s := S1024x1024) off S1024x1024.size inb).shape.Idx) = Finset.univ ∨ ∀ a, (Rect.unit (s := S1024x1024) off S1024x1024.size inb).stride a = 1}
    {kk : PUnit → Prog (TpuEff nD τ sig (Elt F) Λ₀ .tc) α} (hn : L (enc (.out)) < 99) (hw : w = outC X c)
    (hr : Run X c K (upd L (enc (.out)) 1) (kk ⟨⟩) Q) :
    Run X c K L (.op (.store A5 (Rect.unit (s := S1024x1024) off S1024x1024.size inb) w Finset.univ hx hm) kk) Q := by
  subst hoff; exact val_store (.out) (fun _ => rfl) rfl 0 hn (by decide) hw hr

theorem stg_inner (half part : Fin 2) (h : Fin 8) (inb : ∀ a, (![half.val, part.val, h.val, 0, 0] : Fin 5 → ℕ) a + S1x1x1x512x128.size a ≤ S2x2x8x512x128.size a)
    (j : S1x1x1x512x128.Idx) :
    (Rect.unit (s := S2x2x8x512x128) ![half.val, part.val, h.val, 0, 0] S1x1x1x512x128.size inb).emb j = (quarterR half part).emb ((innerR h).emb j) := by
  funext a
  apply Fin.ext
  rw [Rect.emb_apply, Rect.emb_apply, Rect.emb_apply]
  revert a
  intro (a : Fin 5)
  fin_cases a <;> simp [Rect.unit]

theorem stgRes_succ (half part : Fin 2) (n : ℕ) (h : n + 1 ≠ 99) :
    res X c (.stg half part) (n + 1) = own c (stgView half part) fullShare (stgV X c half part n) := valRes_succ _ _ n h

theorem run_stg_load (half part : Fin 2) (n : ℕ) (h : Fin 8) (off : Fin 5 → ℕ) {inb : ∀ a, off a + S1x1x1x512x128.size a ≤ S2x2x8x512x128.size a}
    (hoff : off = ![half.val, part.val, h.val, 0, 0])
    {hl : A8.view.LoadsAt (Rect.unit (s := S2x2x8x512x128) off S1x1x1x512x128.size inb).toLoadRect}
    {kk : (S1x1x1x512x128.Idx → Elt F .bf16) → Prog (TpuEff nD τ sig (Elt F) Λ₀ .tc) α}
    (hn : L (enc (.stg half part)) = n + 1) (h99 : n + 1 ≠ 99) (hr : Run X c K L (kk (kvH X c half part n h)) Q) :
    Run X c K L (.op (.load A8 (Rect.unit (s := S2x2x8x512x128) off S1x1x1x512x128.size inb).toLoadRect hl) kk) Q := by
  subst hoff
  unfold Run at hr ⊢
  iintro HS
  ihave HS := (St_open (.stg half part) (n + 1) hn rfl) $$ HS
  icases HS with ⟨Hr, Hk⟩
  ihave Hr := (Entails.of_eq (stgRes_succ (X := X) (c := c) half part n h99)) $$ Hr
  unfold own
  icases Hr with ⟨%f, %hf, Hf⟩
  have hv : (A8.access (Rect.unit (s := S2x2x8x512x128) ![half.val, part.val, h.val, 0, 0] S1x1x1x512x128.size inb)).read (Elt F) f = kvH X c half part n h := by
    funext j
    unfold kvH
    rw [← hf]
    show f ((Rect.unit (s := S2x2x8x512x128) ![half.val, part.val, h.val, 0, 0] S1x1x1x512x128.size inb).emb j) = f ((quarterR half part).emb ((innerR h).emb j))
    rw [stg_inner]
  iapply (wp_load_rect 𝒱₀ (c : Thread nD τ) none Set.univ (m := A8) (r := Rect.unit (s := S2x2x8x512x128) ![half.val, part.val, h.val, 0, 0] S1x1x1x512x128.size inb)
      (S := (stgView half part).set) (by
        intro i hi
        obtain ⟨j, -, rfl⟩ := Finset.mem_map.mp hi
        exact Finset.mem_map.mpr ⟨(innerR h).emb j, Finset.mem_univ _, (stg_inner half part h inb j).symm⟩)) $$ [Hf]
  · iexact Hf
  iintro Hf
  rw [hv]
  iapply hr
  iapply (Entails.of_eq (congrArg (St X c K) (upd_id L (enc (.stg half part)) (n + 1) hn)))
  iapply Hk
  iapply (Entails.of_eq (stgRes_succ (X := X) (c := c) half part n h99).symm)
  unfold own
  iexists f
  isplitr; · ipureintro; exact hf
  iexact Hf

/-! ## Inputs -/

theorem inp_eq : res X c .inp 0 = iprop(heldAt c cc0_stg0_0 (X.x c) ∗ heldAt c cc0_stg1_0 (X.wq c) ∗ heldAt c cc0_stg2_0 (X.k8 c)
    ∗ heldAt c cc0_stg3_0 (X.v8 c) ∗ heldAt c cc0_stg4_0 (X.wo c)) := rfl

theorem run_inp0 {r : Rect S1024x1024} {hl : A0.view.LoadsAt r.toLoadRect}
    {kk : (r.shape.Idx → Elt F .bf16) → Prog (TpuEff nD τ sig (Elt F) Λ₀ .tc) α} (hn : L (enc .inp) = 0)
    (hr : Run X c K L (kk ((A0.access r).read (Elt F) (X.x c))) Q) : Run X c K L (.op (.load A0 r.toLoadRect hl) kk) Q := by
  unfold Run at hr ⊢
  iintro HS
  ihave HS := (St_open .inp 0 hn rfl) $$ HS
  icases HS with ⟨Hr, Hk⟩
  ihave Hr := (Entails.of_eq (inp_eq (X := X) (c := c))) $$ Hr
  icases Hr with ⟨H0, H1, H2, H3, H4⟩
  iapply (wp_load_rect 𝒱₀ (c : Thread nD τ) none Set.univ (m := A0) (r := r) (S := Finset.univ) (Finset.subset_univ _)) $$ [H0]
  · iexact H0
  iintro H0
  iapply hr
  iapply (Entails.of_eq (congrArg (St X c K) (upd_id L (enc .inp) 0 hn)))
  iapply Hk
  iapply (Entails.of_eq (inp_eq (X := X) (c := c)).symm)
  isplitl [H0]; · iexact H0
  isplitl [H1]; · iexact H1
  isplitl [H2]; · iexact H2
  isplitl [H3]; · iexact H3
  iexact H4

theorem run_inp1 {r : Rect S1024x1024} {hl : A1.view.LoadsAt r.toLoadRect}
    {kk : (r.shape.Idx → Elt F .bf16) → Prog (TpuEff nD τ sig (Elt F) Λ₀ .tc) α} (hn : L (enc .inp) = 0)
    (hr : Run X c K L (kk ((A1.access r).read (Elt F) (X.wq c))) Q) : Run X c K L (.op (.load A1 r.toLoadRect hl) kk) Q := by
  unfold Run at hr ⊢
  iintro HS
  ihave HS := (St_open .inp 0 hn rfl) $$ HS
  icases HS with ⟨Hr, Hk⟩
  ihave Hr := (Entails.of_eq (inp_eq (X := X) (c := c))) $$ Hr
  icases Hr with ⟨H0, H1, H2, H3, H4⟩
  iapply (wp_load_rect 𝒱₀ (c : Thread nD τ) none Set.univ (m := A1) (r := r) (S := Finset.univ) (Finset.subset_univ _)) $$ [H1]
  · iexact H1
  iintro H1
  iapply hr
  iapply (Entails.of_eq (congrArg (St X c K) (upd_id L (enc .inp) 0 hn)))
  iapply Hk
  iapply (Entails.of_eq (inp_eq (X := X) (c := c)).symm)
  isplitl [H0]; · iexact H0
  isplitl [H1]; · iexact H1
  isplitl [H2]; · iexact H2
  isplitl [H3]; · iexact H3
  iexact H4

theorem run_inp2 {r : Rect S8x1024x128} {hl : A2.view.LoadsAt r.toLoadRect}
    {kk : (r.shape.Idx → Elt F .i8) → Prog (TpuEff nD τ sig (Elt F) Λ₀ .tc) α} (hn : L (enc .inp) = 0)
    (hr : Run X c K L (kk ((A2.access r).read (Elt F) (X.k8 c))) Q) : Run X c K L (.op (.load A2 r.toLoadRect hl) kk) Q := by
  unfold Run at hr ⊢
  iintro HS
  ihave HS := (St_open .inp 0 hn rfl) $$ HS
  icases HS with ⟨Hr, Hk⟩
  ihave Hr := (Entails.of_eq (inp_eq (X := X) (c := c))) $$ Hr
  icases Hr with ⟨H0, H1, H2, H3, H4⟩
  iapply (wp_load_rect 𝒱₀ (c : Thread nD τ) none Set.univ (m := A2) (r := r) (S := Finset.univ) (Finset.subset_univ _)) $$ [H2]
  · iexact H2
  iintro H2
  iapply hr
  iapply (Entails.of_eq (congrArg (St X c K) (upd_id L (enc .inp) 0 hn)))
  iapply Hk
  iapply (Entails.of_eq (inp_eq (X := X) (c := c)).symm)
  isplitl [H0]; · iexact H0
  isplitl [H1]; · iexact H1
  isplitl [H2]; · iexact H2
  isplitl [H3]; · iexact H3
  iexact H4

theorem run_inp3 {r : Rect S8x1024x128} {hl : A3.view.LoadsAt r.toLoadRect}
    {kk : (r.shape.Idx → Elt F .i8) → Prog (TpuEff nD τ sig (Elt F) Λ₀ .tc) α} (hn : L (enc .inp) = 0)
    (hr : Run X c K L (kk ((A3.access r).read (Elt F) (X.v8 c))) Q) : Run X c K L (.op (.load A3 r.toLoadRect hl) kk) Q := by
  unfold Run at hr ⊢
  iintro HS
  ihave HS := (St_open .inp 0 hn rfl) $$ HS
  icases HS with ⟨Hr, Hk⟩
  ihave Hr := (Entails.of_eq (inp_eq (X := X) (c := c))) $$ Hr
  icases Hr with ⟨H0, H1, H2, H3, H4⟩
  iapply (wp_load_rect 𝒱₀ (c : Thread nD τ) none Set.univ (m := A3) (r := r) (S := Finset.univ) (Finset.subset_univ _)) $$ [H3]
  · iexact H3
  iintro H3
  iapply hr
  iapply (Entails.of_eq (congrArg (St X c K) (upd_id L (enc .inp) 0 hn)))
  iapply Hk
  iapply (Entails.of_eq (inp_eq (X := X) (c := c)).symm)
  isplitl [H0]; · iexact H0
  isplitl [H1]; · iexact H1
  isplitl [H2]; · iexact H2
  isplitl [H3]; · iexact H3
  iexact H4

theorem run_inp4 {r : Rect S1024x1024} {hl : A4.view.LoadsAt r.toLoadRect}
    {kk : (r.shape.Idx → Elt F .bf16) → Prog (TpuEff nD τ sig (Elt F) Λ₀ .tc) α} (hn : L (enc .inp) = 0)
    (hr : Run X c K L (kk ((A4.access r).read (Elt F) (X.wo c))) Q) : Run X c K L (.op (.load A4 r.toLoadRect hl) kk) Q := by
  unfold Run at hr ⊢
  iintro HS
  ihave HS := (St_open .inp 0 hn rfl) $$ HS
  icases HS with ⟨Hr, Hk⟩
  ihave Hr := (Entails.of_eq (inp_eq (X := X) (c := c))) $$ Hr
  icases Hr with ⟨H0, H1, H2, H3, H4⟩
  iapply (wp_load_rect 𝒱₀ (c : Thread nD τ) none Set.univ (m := A4) (r := r) (S := Finset.univ) (Finset.subset_univ _)) $$ [H4]
  · iexact H4
  iintro H4
  iapply hr
  iapply (Entails.of_eq (congrArg (St X c K) (upd_id L (enc .inp) 0 hn)))
  iapply Hk
  iapply (Entails.of_eq (inp_eq (X := X) (c := c)).symm)
  isplitl [H0]; · iexact H0
  isplitl [H1]; · iexact H1
  isplitl [H2]; · iexact H2
  isplitl [H3]; · iexact H3
  iexact H4

/-! ## Context -/

theorem ctx_disjoint {h h' : Fin 8} (hne : h ≠ h') : Disjoint (ctxV h).set ((ctxV h').setOn Finset.univ) := by
  rw [Finset.disjoint_left]
  intro i hi hi'
  obtain ⟨j, -, rfl⟩ := Finset.mem_map.mp hi
  obtain ⟨j', -, e⟩ := Finset.mem_map.mp hi'
  have e1 : ((colR h').emb j' 1).val = ((colR h).emb j 1).val := congrArg (fun i : S1024x1024.Idx => (i 1).val) e
  rw [Rect.emb_apply, Rect.emb_apply] at e1
  have b : (j 1).val < 128 := (j 1).isLt
  have b' : (j' 1).val < 128 := (j' 1).isLt
  have e2 : 128 * h'.val + 1 * (j' 1).val = 128 * h.val + 1 * (j 1).val := e1
  exact hne (Fin.ext (by omega))

theorem ctxRes_eq (n : ℕ) (h : n ≠ 99) : res X c .ctx n
    = iprop(∃ f : Buf (Elt F) (A12.view.loc (c : Thread nD τ)), ⌜∀ h : Fin 8, h.val < n → (ctxV h).read (Elt F) f = ctxH X c h⌝
      ∗ (A12.view.loc (c : Thread nD τ) ↦{fullShare} f)) := if_neg h

theorem run_ctx_dead (h : Fin 8) (off : Fin 2 → ℕ) {inb : ∀ a, off a + S1024x128.size a ≤ S1024x1024.size a} (hoff : off = ![0, 128 * h.val])
    {hl : A12.view.LoadsAt (Rect.unit (s := S1024x1024) off S1024x128.size inb).toLoadRect}
    {kk : (S1024x128.Idx → Elt F .bf16) → Prog (TpuEff nD τ sig (Elt F) Λ₀ .tc) α} (hn : L (enc .ctx) < 99)
    (hr : ∀ x, Run X c K L (kk x) Q) :
    Run X c K L (.op (.load A12 (Rect.unit (s := S1024x1024) off S1024x128.size inb).toLoadRect hl) kk) Q := by
  subst hoff
  unfold Run
  iintro HS
  ihave HS := (St_open .ctx _ rfl rfl) $$ HS
  icases HS with ⟨Hr, Hk⟩
  ihave Hr := (Entails.of_eq (ctxRes_eq _ (by omega))) $$ Hr
  icases Hr with ⟨%f, %hf, Hf⟩
  iapply (wp_load_rect 𝒱₀ (c : Thread nD τ) none Set.univ (m := A12) (r := colR h) (S := Finset.univ) (Finset.subset_univ _)) $$ [Hf]
  · iexact Hf
  iintro Hf
  have h' := hr ((ctxV h).read (Elt F) f)
  unfold Run at h'
  iapply h'
  iapply (Entails.of_eq (congrArg (St X c K) (upd_id L (enc .ctx) _ rfl)))
  iapply Hk
  iapply (Entails.of_eq (ctxRes_eq _ (by omega)).symm)
  iexists f
  isplitr; · ipureintro; exact hf
  iexact Hf

theorem run_ctx_store (h : Fin 8) (off : Fin 2 → ℕ) {inb : ∀ a, off a + S1024x128.size a ≤ S1024x1024.size a} (hoff : off = ![0, 128 * h.val])
    {w : S1024x128.Idx → Elt F .bf16} {hx : (A12.access (Rect.unit (s := S1024x1024) off S1024x128.size inb)).Stores Finset.univ}
    {hm : (Finset.univ : Finset (Rect.unit (s := S1024x1024) off S1024x128.size inb).shape.Idx) = Finset.univ ∨ ∀ a, (Rect.unit (s := S1024x1024) off S1024x128.size inb).stride a = 1}
    {kk : PUnit → Prog (TpuEff nD τ sig (Elt F) Λ₀ .tc) α} (hn : L (enc .ctx) = h.val) (hw : w = ctxH X c h)
    (hr : Run X c K (upd L (enc .ctx) (h.val + 1)) (kk ⟨⟩) Q) :
    Run X c K L (.op (.store A12 (Rect.unit (s := S1024x1024) off S1024x128.size inb) w Finset.univ hx hm) kk) Q := by
  subst hoff
  unfold Run at hr ⊢
  iintro HS
  ihave HS := (St_open .ctx _ hn rfl) $$ HS
  icases HS with ⟨Hr, Hk⟩
  ihave Hr := (Entails.of_eq (ctxRes_eq _ (by omega))) $$ Hr
  icases Hr with ⟨%f, %hf, Hf⟩
  iapply (wp_store 𝒱₀ (c : Thread nD τ) none Set.univ (m := A12) (r := colR h) (Mk := Finset.univ) (S := Finset.univ) (Finset.subset_univ _)) $$ [Hf]
  · iexact Hf
  iintro Hf
  iapply hr
  iapply Hk
  iapply (Entails.of_eq (ctxRes_eq _ (by omega)).symm)
  iexists ((ctxV h).write (Elt F) f w Finset.univ)
  isplitr
  · ipureintro
    intro h' hh'
    by_cases e : h' = h
    · subst e; rw [View.read_write_univ, hw]
    · have hlt : h'.val < h.val := by
        have : h'.val ≠ h.val := fun x => e (Fin.ext x)
        omega
      rw [← hf h' hlt]
      exact View.read_slice_write_slice_of_disjoint (v := A12.view) (colR h') (colR h) f w Finset.univ (ctx_disjoint e)
  iexact Hf

theorem ctx_index (j : S1024x1024.Idx) :
    (colR ⟨(j 1).val / 128, Nat.div_lt_of_lt_mul (j 1).isLt⟩).emb (fun a => match a with
      | ⟨0, _⟩ => j 0
      | ⟨1, _⟩ => ⟨(j 1).val % 128, Nat.mod_lt _ (by decide)⟩) = allR.emb j := by
  funext (a : Fin 2)
  apply Fin.ext
  rw [Rect.emb_apply, Rect.emb_apply]
  fin_cases a
  · rfl
  · show 128 * ((j 1).val / 128) + 1 * ((j 1).val % 128) = 0 + 1 * (j 1).val
    omega

theorem run_ctx_load (off : Fin 2 → ℕ) {inb : ∀ a, off a + S1024x1024.size a ≤ S1024x1024.size a} (hoff : off = ![0, 0])
    {hl : A12.view.LoadsAt (Rect.unit (s := S1024x1024) off S1024x1024.size inb).toLoadRect}
    {kk : (S1024x1024.Idx → Elt F .bf16) → Prog (TpuEff nD τ sig (Elt F) Λ₀ .tc) α} (hn : L (enc .ctx) = 8)
    (hr : Run X c K L (kk (ctxFull X c)) Q) :
    Run X c K L (.op (.load A12 (Rect.unit (s := S1024x1024) off S1024x1024.size inb).toLoadRect hl) kk) Q := by
  subst hoff
  unfold Run at hr ⊢
  iintro HS
  ihave HS := (St_open .ctx _ hn rfl) $$ HS
  icases HS with ⟨Hr, Hk⟩
  ihave Hr := (Entails.of_eq (ctxRes_eq _ (by omega))) $$ Hr
  icases Hr with ⟨%f, %hf, Hf⟩
  have hv : (A12.access allR).read (Elt F) f = ctxFull X c := by
    funext j
    unfold ctxFull
    rw [← hf _ (Nat.div_lt_of_lt_mul (j 1).isLt)]
    show f (allR.emb j) = f ((colR _).emb _)
    rw [← ctx_index]
    refine congrArg f (congrArg _ ?_)
    funext (a : Fin 2)
    fin_cases a <;> rfl
  iapply (wp_load_rect 𝒱₀ (c : Thread nD τ) none Set.univ (m := A12) (r := allR) (S := Finset.univ) (Finset.subset_univ _)) $$ [Hf]
  · iexact Hf
  iintro Hf
  rw [hv]
  iapply hr
  iapply (Entails.of_eq (congrArg (St X c K) (upd_id L (enc .ctx) _ hn)))
  iapply Hk
  iapply (Entails.of_eq (ctxRes_eq _ (by omega)).symm)
  iexists f
  isplitr; · ipureintro; exact hf
  iexact Hf

/-! ## Slots -/

theorem slot_any (s i : Fin 4) : res X c (.slot s i) 1 = ownAny (F := F) c (slotV s i) := by
  simp [res, slotRes]
theorem slot_at (s i : Fin 4) (v : ℕ) (h : v < 8) : res X c (.slot s i) (2 + v) = own c (slotV s i) fullShare (ver X s c v) := by
  show slotRes X c s i (2 + v) = _
  unfold slotRes
  rw [if_neg (by omega), if_neg (by omega), if_pos (by omega), Nat.add_sub_cancel_left]
theorem slot_lent (s i : Fin 4) (v : ℕ) (h : v < 8) : res X c (.slot s i) (10 + v) = own c (slotV s i) fullShare.left (ver X s c v) := by
  show slotRes X c s i (10 + v) = _
  unfold slotRes
  rw [if_neg (by omega), if_neg (by omega), if_neg (by omega), Nat.add_sub_cancel_left]

theorem run_slot_load (s i : Fin 4) (v : ℕ) {m : Memref sig .tc .vmem S4x2x8x512x128 .i8} (hm : slotM s = m) (off : Fin 5 → ℕ)
    {inb : ∀ a, off a + S1x1x8x512x128.size a ≤ S4x2x8x512x128.size a} (hoff : off = ![i.val, (part s).val, 0, 0, 0]) {hl : m.view.LoadsAt (Rect.unit (s := S4x2x8x512x128) off S1x1x8x512x128.size inb).toLoadRect}
    {kk : (S1x1x8x512x128.Idx → Elt F .i8) → Prog (TpuEff nD τ sig (Elt F) Λ₀ .tc) α}
    (hn : L (enc (.slot s i)) = 2 + v) (hv : v < 8) (hr : Run X c K L (kk (ver X s c v)) Q) :
    Run X c K L (.op (.load m (Rect.unit (s := S4x2x8x512x128) off S1x1x8x512x128.size inb).toLoadRect hl) kk) Q := by
  subst hm hoff
  refine load_of (q := fullShare) ?_ hr
  iintro HS
  ihave HS := (St_open (.slot s i) _ hn rfl) $$ HS
  icases HS with ⟨Hr, Hk⟩
  isplitl [Hr]
  · iapply (Entails.of_eq (slot_at s i v hv)); iexact Hr
  iintro Hr
  iapply (Entails.of_eq (congrArg (St X c K) (upd_id L (enc (.slot s i)) _ hn)))
  iapply Hk
  iapply (Entails.of_eq (slot_at s i v hv).symm); iexact Hr

theorem run_slot_load_lent (s i : Fin 4) (v : ℕ) {m : Memref sig .tc .vmem S4x2x8x512x128 .i8} (hm : slotM s = m) (off : Fin 5 → ℕ)
    {inb : ∀ a, off a + S1x1x8x512x128.size a ≤ S4x2x8x512x128.size a} (hoff : off = ![i.val, (part s).val, 0, 0, 0]) {hl : m.view.LoadsAt (Rect.unit (s := S4x2x8x512x128) off S1x1x8x512x128.size inb).toLoadRect}
    {kk : (S1x1x8x512x128.Idx → Elt F .i8) → Prog (TpuEff nD τ sig (Elt F) Λ₀ .tc) α}
    (hn : L (enc (.slot s i)) = 10 + v) (hv : v < 8) (hr : Run X c K L (kk (ver X s c v)) Q) :
    Run X c K L (.op (.load m (Rect.unit (s := S4x2x8x512x128) off S1x1x8x512x128.size inb).toLoadRect hl) kk) Q := by
  subst hm hoff
  refine load_of (q := fullShare.left) ?_ hr
  iintro HS
  ihave HS := (St_open (.slot s i) _ hn rfl) $$ HS
  icases HS with ⟨Hr, Hk⟩
  isplitl [Hr]
  · iapply (Entails.of_eq (slot_lent s i v hv)); iexact Hr
  iintro Hr
  iapply (Entails.of_eq (congrArg (St X c K) (upd_id L (enc (.slot s i)) _ hn)))
  iapply Hk
  iapply (Entails.of_eq (slot_lent s i v hv).symm); iexact Hr

theorem run_slot_dead (s i : Fin 4) {m : Memref sig .tc .vmem S4x2x8x512x128 .i8} (hm : slotM s = m) (off : Fin 5 → ℕ)
    {inb : ∀ a, off a + S1x1x8x512x128.size a ≤ S4x2x8x512x128.size a} (hoff : off = ![i.val, (part s).val, 0, 0, 0]) {hl : m.view.LoadsAt (Rect.unit (s := S4x2x8x512x128) off S1x1x8x512x128.size inb).toLoadRect}
    {kk : (S1x1x8x512x128.Idx → Elt F .i8) → Prog (TpuEff nD τ sig (Elt F) Λ₀ .tc) α}
    (hn : L (enc (.slot s i)) = 1) (hr : ∀ x, Run X c K L (kk x) Q) :
    Run X c K L (.op (.load m (Rect.unit (s := S4x2x8x512x128) off S1x1x8x512x128.size inb).toLoadRect hl) kk) Q := by
  subst hm hoff
  unfold Run
  iintro HS
  ihave HS := (St_open (.slot s i) _ hn rfl) $$ HS
  icases HS with ⟨Hr, Hk⟩
  ihave Hr := (Entails.of_eq (slot_any s i)) $$ Hr
  unfold ownAny own
  icases Hr with ⟨%w, %f, %hf, Hf⟩
  iapply (wp_load_rect 𝒱₀ (c : Thread nD τ) none Set.univ (m := slotM s) (r := slotR s i) subset_rfl) $$ [Hf]
  · iexact Hf
  iintro Hf
  have h' := hr ((slotV s i).read (Elt F) f)
  unfold Run at h'
  iapply h'
  iapply (Entails.of_eq (congrArg (St X c K) (upd_id L (enc (.slot s i)) _ hn)))
  iapply Hk
  iapply (Entails.of_eq (slot_any s i).symm)
  unfold ownAny own
  iexists w; iexists f
  isplitr; · ipureintro; exact hf
  iexact Hf

theorem run_slot_store (s : Fin 4) {m : Memref sig .tc .vmem S4x2x8x512x128 .i8} (hm : slotM s = m) (off : Fin 5 → ℕ)
    {inb : ∀ a, off a + S1x1x8x512x128.size a ≤ S4x2x8x512x128.size a} (hoff : off = ![(0 : Fin 4).val, (part s).val, 0, 0, 0])
    {w : S1x1x8x512x128.Idx → Elt F .i8} {hx : (m.access (Rect.unit (s := S4x2x8x512x128) off S1x1x8x512x128.size inb)).Stores Finset.univ}
    {hm' : (Finset.univ : Finset (Rect.unit (s := S4x2x8x512x128) off S1x1x8x512x128.size inb).shape.Idx) = Finset.univ ∨ ∀ a, (Rect.unit (s := S4x2x8x512x128) off S1x1x8x512x128.size inb).stride a = 1}
    {kk : PUnit → Prog (TpuEff nD τ sig (Elt F) Λ₀ .tc) α} (hn : L (enc (.slot s 0)) = 1) (hw : w = start X s c)
    (hr : Run X c K (upd L (enc (.slot s 0)) 2) (kk ⟨⟩) Q) :
    Run X c K L (.op (.store m (Rect.unit (s := S4x2x8x512x128) off S1x1x8x512x128.size inb) w Finset.univ hx hm') kk) Q := by
  subst hm hoff
  refine store_of ?_ hr
  iintro HS
  ihave HS := (St_open (.slot s 0) _ hn rfl) $$ HS
  icases HS with ⟨Hr, Hk⟩
  isplitl [Hr]
  · iapply (Entails.of_eq (slot_any s 0)); iexact Hr
  iintro Hr
  iapply Hk
  iapply (Entails.of_eq (slot_at s 0 0 (by decide)).symm)
  have e : ver X s c 0 = w := by unfold ver; rw [org_zero, hw]
  rw [e]; iexact Hr

theorem run_device {kk : Dev nD → Prog (TpuEff nD τ sig (Elt F) Λ₀ .tc) α} (hr : Run X c K L (kk c) Q) : Run X c K L (.op .deviceId kk) Q := by
  unfold Run at hr ⊢
  rw [wp_deviceId]; exact hr

end Cert.KernelIdeal.Talk
-- ==== Proof.KernelIdeal.Exchange.lean ====
module

public import proofs.«01_k».proof.Proof.KernelIdeal.Rules

/-!
# The exchange, on the table

Copies, waits, barrier and credits: what each needs of the table, and what it changes.
-/

@[expose] public noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig ℕ (Elt F) ℕ UU ℕ

variable {X : Ins F} {c : Dev nD} {K : GSem nD τ sig → ℕ} {L : ℕ → ℕ} {α : Type}
variable {Q : α → sProp (MT nD τ sig ℕ (Elt F) ℕ UU ℕ)}

/-! ## Several components at once -/

def sepL (X : Ins F) (c : Dev nD) : List (Cp × ℕ) → sProp 𝕄
  | [] => iprop(emp)
  | p :: l => iprop(res X c p.1 p.2 ∗ sepL X c l)

def updL (L : ℕ → ℕ) : List (Cp × ℕ) → ℕ → ℕ
  | [] => L
  | p :: l => updL (upd L (enc p.1) p.2) l

theorem upd_ne (f : ℕ → ℕ) {i j : Cp} (h : i ≠ j) (v : ℕ) : upd f (enc j) v (enc i) = f (enc i) := upd_of_ne _ (fun e => h (enc_inj e)) _

theorem updL_ne (L : ℕ → ℕ) (l : List (Cp × ℕ)) (i : Cp) (h : i ∉ l.map Prod.fst) : updL L l (enc i) = L (enc i) := by
  induction l generalizing L with
  | nil => rfl
  | cons p l ih =>
    rw [List.map_cons, List.mem_cons, not_or] at h
    show updL (upd L (enc p.1) p.2) l (enc i) = _
    rw [ih _ h.2, upd_ne _ h.1]

theorem updL_upd (L : ℕ → ℕ) (l : List (Cp × ℕ)) (i : Cp) (v w : ℕ) (h : i ∉ l.map Prod.fst) :
    upd (updL (upd L (enc i) v) l) (enc i) w = updL (upd L (enc i) w) l := by
  induction l generalizing L with
  | nil => funext m; show upd (upd L (enc i) v) (enc i) w m = upd L (enc i) w m; unfold upd; split <;> rfl
  | cons p l ih =>
    rw [List.map_cons, List.mem_cons, not_or] at h
    have e : ∀ u, upd (upd L (enc i) u) (enc p.1) p.2 = upd (upd L (enc p.1) p.2) (enc i) u := by
      intro u; funext m; unfold upd
      by_cases h1 : m = enc p.1
      · rw [if_pos h1, if_neg (fun e => h.1 (enc_inj (e.symm.trans h1))), if_pos h1]
      · rw [if_neg h1]; by_cases h2 : m = enc i
        · rw [if_pos h2, if_pos h2]
        · rw [if_neg h2, if_neg h2, if_neg h1]
    show upd (updL (upd (upd L (enc i) v) (enc p.1) p.2) l) (enc i) w = updL (upd (upd L (enc i) w) (enc p.1) p.2) l
    rw [e, e, ih _ h.2]

/-- Some components taken out, to be put back at other numbers. -/
theorem comps_swap (L : ℕ → ℕ) (l : List (Cp × ℕ × ℕ)) (hl : ∀ p ∈ l, L (enc p.1) = p.2.1) (hd : (l.map Prod.fst).Nodup) :
    comps X c L ⊢ iprop(sepL X c (l.map fun p => (p.1, p.2.1))
      ∗ (sepL X c (l.map fun p => (p.1, p.2.2)) -∗ comps X c (updL L (l.map fun p => (p.1, p.2.2))))) := by
  induction l generalizing L with
  | nil =>
    iintro H
    isplitr; · iempintro
    iintro -; iexact H
  | cons p l ih =>
    rw [List.map_cons, List.nodup_cons] at hd
    have hm : p.1 ∉ (l.map fun p => (p.1, p.2.2)).map Prod.fst := by rw [List.map_map]; exact hd.1
    iintro H
    ihave H := (comps_take X c L p.1 p.2.1 (hl p (List.mem_cons_self ..))) $$ H
    icases H with ⟨Hp, H⟩
    ihave H := (ih (upd L (enc p.1) 99) (fun q hq => by
      have hne : q.1 ≠ p.1 := fun e => hd.1 (by rw [← e]; exact List.mem_map_of_mem hq)
      rw [upd_ne _ hne]
      exact hl q (List.mem_cons_of_mem _ hq)) hd.2) $$ H
    icases H with ⟨Hl, Hk⟩
    isplitl [Hp Hl]
    · iapply (Entails.of_eq (show iprop(res X c p.1 p.2.1 ∗ sepL X c (l.map fun p => (p.1, p.2.1))) = sepL X c ((p :: l).map fun p => (p.1, p.2.1)) from rfl))
      isplitl [Hp]; · iexact Hp
      iexact Hl
    iintro Hn
    ihave Hn := (Entails.of_eq (show sepL X c ((p :: l).map fun p => (p.1, p.2.2)) = iprop(res X c p.1 p.2.2 ∗ sepL X c (l.map fun p => (p.1, p.2.2))) from rfl)) $$ Hn
    icases Hn with ⟨Hp, Hl⟩
    ihave Hk := Hk $$ Hl
    iapply (Entails.of_eq (congrArg (comps X c) (updL_upd L _ p.1 99 p.2.2 hm)))
    iapply (comps_put X c _ p.1 p.2.2 (by rw [updL_ne _ _ _ hm, upd_self]))
    isplitl [Hp]; · iexact Hp
    iexact Hk

theorem owed_updL (c : Dev nD) (L : ℕ → ℕ) (l : List (Cp × ℕ)) (h : ∀ p ∈ l, oweAmt c p.1 = 0) : owed c (updL L l) = owed c L := by
  induction l generalizing L with
  | nil => rfl
  | cons p l ih =>
    show owed c (updL (upd L (enc p.1) p.2) l) = _
    rw [ih _ (fun q hq => h q (List.mem_cons_of_mem _ hq)), owed_upd_same _ _ _ _ (h p (List.mem_cons_self ..))]

theorem known_inv (c' : Dev nD) (k : Kd) : known X c K ⊢ cellInv ER (Rd X) (K (cell c' k)) (cell c' k) := by
  unfold known
  refine BIBase.Entails.trans (Q := bigSep Finset.univ (fun p : Dev nD × Kd => cellInv ER (Rd X) (K (cell p.1 p.2)) (cell p.1 p.2))) (by iintro ⟨H, -⟩; iexact H) (bigSep_elim (Finset.mem_univ (c', k)))

theorem known_lev : known X c K ⊢ levAts Lx lv := by
  unfold known
  iintro ⟨-, H, -⟩
  iexact H

theorem known_reached (k : Kd) : known X c K ⊢ reached (ER (F := F)) (cell c k) 0 := by
  unfold known
  refine BIBase.Entails.trans (Q := bigSep Finset.univ (fun k : Kd => reached (ER (F := F)) (cell c k) 0)) (by iintro ⟨-, -, H, -⟩; iexact H) (bigSep_elim (Finset.mem_univ k))

theorem known_bar (d : Fin 2) : known X c K ⊢ reached (ER (F := F)) (cell (cdst d c) .bar) 0 := by
  unfold known
  refine BIBase.Entails.trans (Q := bigSep Finset.univ (fun d : Fin 2 => reached (ER (F := F)) (cell (cdst d c) .bar) 0)) (by iintro ⟨-, -, -, H⟩; iexact H) (bigSep_elim (Finset.mem_univ d))

theorem heard_rcv (s : Fin 4) (a : Fin 7) : heard (F := F) c ⊢ reached (ER (F := F)) (cell (nb s c) (.rcv s a)) 0 := by
  unfold heard
  refine BIBase.Entails.trans (Q := bigSep Finset.univ (fun p : Fin 4 × Fin 7 => reached (ER (F := F)) (cell (nb p.1 c) (.rcv p.1 p.2)) 0)) (by iintro ⟨H, -⟩; iexact H) (bigSep_elim (Finset.mem_univ (s, a)))

theorem heard_crd (d : Fin 2) : heard (F := F) c ⊢ reached (ER (F := F)) (cell (cdst d c) (.crd d)) 0 := by
  unfold heard
  refine BIBase.Entails.trans (Q := bigSep Finset.univ (fun d : Fin 2 => reached (ER (F := F)) (cell (cdst d c) (.crd d)) 0)) (by iintro ⟨-, H⟩; iexact H) (bigSep_elim (Finset.mem_univ d))

/-- What the barrier told, while the table says it was passed. -/
theorem comps_heard (h : L (enc .bar) = 1) : comps X c L ⊢ iprop(heard c ∗ comps X c L) := by
  iintro H
  ihave H := (comps_take X c L .bar 1 h) $$ H
  icases H with ⟨Hb, H⟩
  ihave Hb := (Entails.of_eq (show res X c .bar 1 = iprop(atPos ER (cell c .bar) 1 ∅ 0 ∗ heard c) from rfl)) $$ Hb
  icases Hb with ⟨Hb, #Hh⟩
  isplitr; · iexact Hh
  have e0 : upd (upd L (enc .bar) 99) (enc .bar) 1 = L := by
    funext m; unfold upd; split
    · rename_i hm; rw [hm, h]
    · rfl
  iapply (Entails.of_eq (congrArg (comps X c) e0))
  iapply (comps_put X c (upd L (enc .bar) 99) .bar 1 (upd_self _ _ _))
  isplitl [Hb]
  · iapply (Entails.of_eq (show iprop(atPos ER (cell c .bar) 1 ∅ 0 ∗ heard c) = res X c .bar 1 from rfl))
    isplitl [Hb]; · iexact Hb
    iexact Hh
  · iexact H

/-! ## A slot as the copies see it -/

theorem slotD_pts (s i : Fin 4) (q : PosShare TreeShare) (f : Buf (Elt F) ((slotV s i).loc (c : Thread nD τ))) :
    ((slotV s i).loc (c : Thread nD τ) ↦[(slotV s i).set]{q} f : sProp 𝕄)
      = ((slotD s i).view.loc (c : Thread nD τ) ↦[(slotD s i).view.set]{q} f) := by
  have e : (slotD s i).view.set = (slotV s i).set := View.set_reshape _ _
  rw [e]

theorem slotD_read (s i : Fin 4) (f : Buf (Elt F) ((slotV s i).loc (c : Thread nD τ))) (y : S8x512x128.Idx) :
    (slotD s i).view.read (Elt F) f y = (slotV s i).read (Elt F) f (Shape.reshapeEquiv squeezes_S1x1x8x512x128_S8x512x128.numel_eq y) := rfl

/-- A copy between two slots carries what the first one reads. -/
theorem slotD_write (s i j : Fin 4) (c' : Dev nD) (fs : Buf (Elt F) ((slotV s i).loc (c : Thread nD τ)))
    (fd : Buf (Elt F) ((slotV s j).loc (c' : Thread nD τ))) :
    (slotV s j).read (Elt F) ((slotD s j).view.write (Elt F) fd ((slotD s i).view.read (Elt F) fs) Finset.univ) = (slotV s i).read (Elt F) fs := by
  funext x
  obtain ⟨y, rfl⟩ := (Shape.reshapeEquiv squeezes_S1x1x8x512x128_S8x512x128.numel_eq).surjective x
  have e := slotD_read (c := c') s j ((slotD s j).view.write (Elt F) fd ((slotD s i).view.read (Elt F) fs) Finset.univ) y
  rw [← e, View.read_write_univ, slotD_read (c := c)]

theorem slotD_credit (s i : Fin 4) : (slotD s i).view.dmaCredit = NN := by
  revert s i; decide +kernel

/-! ## Copies -/

theorem nb_routes (s : Fin 4) (c : Dev nD) : τ.routes (c : Thread nD τ) ((nb s c : Dev nD) : Thread nD τ) = true := by routes

theorem oweAmt_tok (s : Fin 4) (a : Fin 7) : oweAmt c (.tok s a) = tallyAt (cell (nb s c) (.rcv s a)) 0 NN := rfl

theorem nslot_one (s i : Fin 4) : res X c (.nslot s i) 1 = ownAny (F := F) (nb s c) (slotV s i) := rfl

theorem own_slotD (s i : Fin 4) (q : PosShare TreeShare) (v : S1x1x8x512x128.Idx → Elt F .i8) :
    (own c (slotV s i) q v : sProp 𝕄) ⊢ own c (slotD s i).view q (fun y => v (Shape.reshapeEquiv squeezes_S1x1x8x512x128_S8x512x128.numel_eq y)) := by
  unfold own
  iintro ⟨%f, %hf, H⟩
  ihave H := (Entails.of_eq (slotD_pts (c := c) s i q f)) $$ H
  iexists f
  isplitr
  · ipureintro; funext y; rw [← hf]; exact slotD_read (c := c) s i f y
  iexact H

theorem own_slotV (s i : Fin 4) (q : PosShare TreeShare) (v : S1x1x8x512x128.Idx → Elt F .i8) :
    (own c (slotD s i).view q (fun y => v (Shape.reshapeEquiv squeezes_S1x1x8x512x128_S8x512x128.numel_eq y)) : sProp 𝕄) ⊢ own c (slotV s i) q v := by
  unfold own
  iintro ⟨%f, %hf, H⟩
  iexists f
  isplitr
  · ipureintro; funext x
    obtain ⟨y, rfl⟩ := (Shape.reshapeEquiv squeezes_S1x1x8x512x128_S8x512x128.numel_eq).surjective x
    exact (slotD_read (c := c) s i f y).symm.trans (congrFun hf y)
  iapply (Entails.of_eq (slotD_pts (c := c) s i q f).symm) $$ H

theorem snd_zero (s : Fin 4) (a : Fin 7) : res X c (.snd s a) 0 = iprop(atPos ER (cell c (.snd s a)) 0 ∅ 0 ∗ dutyTok ER (cell c (.snd s a)) 0 0) := rfl
theorem snd_one (s : Fin 4) (a : Fin 7) : res X c (.snd s a) 1 = iprop(atPos ER (cell c (.snd s a)) 0 ∅ 0 ∗ cred (tallyAt (cell c (.snd s a)) 0 NN)) := rfl
theorem tok_zero (s : Fin 4) (a : Fin 7) : res X c (.tok s a) 0 = dutyTok ER (cell (nb s c) (.rcv s a)) 0 0 := rfl

/-- A remote copy between two views: half of the source is lent to it, the destination is handed over written. -/
theorem send_core (c' : Dev nD) (k k' : Kd) (src dst : Memref sig .tc .vmem S8x512x128 .i8) (v : S8x512x128.Idx → Elt F .i8) (R : sProp 𝕄)
    {W : Waits sig ℕ} {O : CellTallies nD τ sig ℕ}
    {hsc : dst.view.ref.isScScratch = false} {w1 : src.view.WordExact} {w2 : dst.view.WordExact}
    {w3 : DmaTarget.Typed .vmem (semOf k') (.remote (c' : Thread nD τ) dst (semOf k) hsc)}
    {kk : PUnit → Prog (TpuEff nD τ sig (Elt F) Λ₀ .tc) α}
    (hN : dst.view.amount (semOf k') = NN) (hk : 0 ∈ dutiesOf (some k)) (hk' : 0 ∈ dutiesOf (some k')) (ha : amountOf (some k) = NN) (ha' : amountOf (some k') = NN)
    (hp : own c src.view fullShare.right v ⊢ payOf X c (some k) 0) (hp' : iprop(own c' dst.view fullShare v ∗ R) ⊢ payOf X c' (some k') 0)
    (hroute : τ.routes (c : Thread nD τ) (c' : Thread nD τ) = true) :
    iprop(known X c K ∗ reached (ER (F := F)) (cell c' k') 0 ∗ own c src.view fullShare v ∗ (∃ vd, own c' dst.view fullShare vd) ∗ R
        ∗ dutyTok ER (cell c k) 0 0 ∗ dutyTok ER (cell c' k') 0 0
        ∗ owes (c : Thread nD τ) (O + tallyAt (cell c' k') 0 NN) W)
      ⊢ iprop((own c src.view fullShare.left v ∗ cred (tallyAt (cell c k) 0 NN) ∗ owes (c : Thread nD τ) O W
            -∗ wp frame (wpE (defs₀ (F := F)) 𝒱₀ c none) Set.univ (kk ⟨⟩) Q)
          -∗ wp frame (wpE (defs₀ (F := F)) 𝒱₀ c none) Set.univ
            (.op (.enqueueDma src (.remote (c' : Thread nD τ) dst (semOf k) hsc) (semOf k') w1 w2 w3) kk) Q) := by
  unfold own at hp hp' ⊢
  iintro ⟨#HK, #Hh, ⟨%fs, %hfs, Hs⟩, ⟨%vd, %fd, %hfd, Hd⟩, HR, Ht1, Ht2, HO⟩ Hk
  ihave Hs := (pointsTo_share (I := src.view.set) (f := fs) (PosShare.mem_left_op_right fullShare)).1 $$ Hs
  icases Hs with ⟨Hl, Hr⟩
  iapply (Rounds.wp_send_pointsTo_with 𝒱₀ ER (Rd X) (c : Thread nD τ) none (c' := (c' : Thread nD τ))
    (src := src) (dst := dst) (sS := semOf k) (sem := semOf k')
    (F := R) (r₁ := 0) (r₂ := 0) (d₁ := 0) (d₂ := 0) (q := fullShare.right) (fs := fs) (fd := fd)
    (κ₁ := K (cell c k)) (κ₂ := K (cell c' k'))
    (by rw [Rd_duties]; exact hk) (by rw [Rd_duties]; exact hk')
    0 0 NN hN ((Rd_amount X c _ 0 0).trans ha) ((Rd_amount X c' _ 0 0).trans ha') O rfl
    (by
      rw [Rd_payload]
      refine BIBase.Entails.trans ?_ hp
      iintro H
      iexists fs
      isplitr; · ipureintro; exact hfs
      iexact H)
    (by
      rw [Rd_payload]
      refine BIBase.Entails.trans ?_ hp'
      iintro ⟨H, HR⟩
      isplitl [H]
      · iexists (dst.view.write (Elt F) fd (src.view.read (Elt F) fs) Finset.univ)
        isplitr; · ipureintro; rw [View.read_write_univ, hfs]
        iexact H
      · iexact HR)
    (hr := hroute)) $$ [Hr Hd HR Ht1 Ht2 HO]
  · isplitr; · iapply (known_inv (X := X) (c := c) (K := K) c k); iexact HK
    isplitr; · iapply (known_inv (X := X) (c := c) (K := K) c' k'); iexact HK
    isplitl [Hr]; · iexact Hr
    isplitl [Hd HR]
    · isplitl [Hd]; · iexact Hd
      iexact HR
    isplitl [HO]; · iexact HO
    isplitl [Ht1]; · iexact Ht1
    isplitr; · iapply (known_reached (X := X) (c := c) (K := K) k); iexact HK
    isplitl [Ht2]; · iexact Ht2
    iexact Hh
  iintro ⟨Hc, HO⟩
  iapply Hk
  isplitl [Hl]
  · iexists fs
    isplitr; · ipureintro; exact hfs
    iexact Hl
  isplitl [Hc]; · iexact Hc
  iexact HO

theorem opp_ne (s : Fin 4) : opp s ≠ s := by revert s; decide

theorem snd_pay (s : Fin 4) (a : Fin 7) :
    own c (slotD s (sl a.val)).view fullShare.right (fun y => ver X s c a.val (Shape.reshapeEquiv squeezes_S1x1x8x512x128_S8x512x128.numel_eq y)) ⊢ payOf X c (some (.snd s a)) 0 := by
  show _ ⊢ sndPay X c s a
  unfold sndPay
  exact own_slotV s _ _ _

theorem rcv_pay (s : Fin 4) (a : Fin 7) (R : sProp 𝕄)
    (hR : R = if 1 ≤ a.val ∧ a.val ≤ 4 then ownAny (F := F) c (slotV (opp s) (sl (a.val - 1))) else iprop(emp)) :
    iprop(own (nb s c) (slotD s (sl (a.val + 1))).view fullShare (fun y => ver X s c a.val (Shape.reshapeEquiv squeezes_S1x1x8x512x128_S8x512x128.numel_eq y)) ∗ R)
      ⊢ payOf X (nb s c) (some (.rcv s a)) 0 := by
  show _ ⊢ rcvPay X (nb s c) s a
  unfold rcvPay
  rw [pv_nb, ver_nb, hR]
  exact Laws.sep_mono_left (own_slotV s _ _ _)

theorem run_send (s : Fin 4) (a : Fin 7) {dv : Dev nD} (hdv : dv = nb s c) {src dst : Memref sig .tc .vmem S8x512x128 .i8} {sS sem : SemLoc sig}
    (hsrc : src = slotD s (sl a.val)) (hdst : dst = slotD s (sl (a.val + 1))) (hsS : sS = semOf (.snd s a)) (hsem : sem = semOf (.rcv s a))
    {hsc : dst.view.ref.isScScratch = false} {w1 : src.view.WordExact} {w2 : dst.view.WordExact}
    {w3 : DmaTarget.Typed .vmem sem (.remote ((dv : Dev nD) : Thread nD τ) dst sS hsc)}
    {kk : PUnit → Prog (TpuEff nD τ sig (Elt F) Λ₀ .tc) α} (h14 : ¬(1 ≤ a.val ∧ a.val ≤ 4))
    (h1 : L (enc (.snd s a)) = 0) (h2 : L (enc (.tok s a)) = 0) (h3 : L (enc (.slot s (sl a.val))) = 2 + a.val)
    (h4 : L (enc (.nslot s (sl (a.val + 1)))) = 1) (h5 : L (enc .bar) = 1)
    (hr : Run X c K (upd (updL L [(.snd s a, 1), (.slot s (sl a.val), 10 + a.val), (.nslot s (sl (a.val + 1)), 0)]) (enc (.tok s a)) 1) (kk ⟨⟩) Q) :
    Run X c K L (.op (.enqueueDma src (.remote ((dv : Dev nD) : Thread nD τ) dst sS hsc) sem w1 w2 w3) kk) Q := by
  subst hdv hsrc hdst hsS hsem
  unfold Run at hr ⊢
  have hO : owed c L = owed c (upd (updL L [(.snd s a, 1), (.slot s (sl a.val), 10 + a.val), (.nslot s (sl (a.val + 1)), 0)]) (enc (.tok s a)) 1) + tallyAt (cell (nb s c) (.rcv s a)) 0 NN := by
    rw [← oweAmt_tok, ← owed_upd_pay c (updL L [(.snd s a, 1), (.slot s (sl a.val), 10 + a.val), (.nslot s (sl (a.val + 1)), 0)]) (.tok s a) 1 (by decide) (by rw [updL_ne _ _ _ (by simp)]; exact h2),
      owed_updL c L _ (by intro p hp; simp at hp; rcases hp with rfl | rfl | rfl <;> rfl)]
  unfold St at hr ⊢
  iintro ⟨#HK, HC, %W, HO⟩
  ihave HC := (comps_heard (X := X) (c := c) h5) $$ HC
  icases HC with ⟨#Hh, HC⟩
  ihave HC := (comps_swap (X := X) (c := c) L [(.snd s a, 0, 1), (.slot s (sl a.val), 2 + a.val, 10 + a.val), (.nslot s (sl (a.val + 1)), 1, 0), (.tok s a, 0, 1)]
    (by intro p hp; simp at hp; rcases hp with rfl | rfl | rfl | rfl <;> assumption) (by simp)) $$ HC
  icases HC with ⟨HS, HC⟩
  simp only [List.map_cons, List.map_nil, sepL]
  icases HS with ⟨Hsnd, Hs, Hn, Ht2, -⟩
  ihave Hsnd := (Entails.of_eq (snd_zero (X := X) (c := c) s a)) $$ Hsnd
  icases Hsnd with ⟨Hat, Ht1⟩
  ihave Ht2 := (Entails.of_eq (tok_zero (X := X) (c := c) s a)) $$ Ht2
  ihave Hn := (Entails.of_eq (nslot_one (X := X) (c := c) s (sl (a.val + 1)))) $$ Hn
  ihave Hs := (Entails.of_eq (slot_at s (sl a.val) a.val (by omega))) $$ Hs
  rw [hO]
  ihave Hs := (own_slotD (c := c) s (sl a.val) fullShare (ver X s c a.val)) $$ Hs
  iapply (send_core (X := X) (c := c) (K := K) (nb s c) (.snd s a) (.rcv s a) (slotD s (sl a.val)) (slotD s (sl (a.val + 1)))
    (fun y => ver X s c a.val (Shape.reshapeEquiv squeezes_S1x1x8x512x128_S8x512x128.numel_eq y)) iprop(emp)
    (slotD_credit s (sl (a.val + 1))) (Finset.mem_singleton_self _) (Finset.mem_singleton_self _) rfl rfl (snd_pay s a)
    (rcv_pay s a iprop(emp) (if_neg h14).symm) (nb_routes s c)) $$ [Hs Hn Ht1 Ht2 HO]
  · isplitr; · iexact HK
    isplitr; · iapply (heard_rcv (c := c) s a); iexact Hh
    isplitl [Hs]; · iexact Hs
    isplitl [Hn]
    · unfold ownAny
      icases Hn with ⟨%vd, Hn⟩
      iexists (fun y => vd (Shape.reshapeEquiv squeezes_S1x1x8x512x128_S8x512x128.numel_eq y))
      iapply (own_slotD (c := nb s c) s (sl (a.val + 1)) fullShare vd); iexact Hn
    isplitr; · iempintro
    isplitl [Ht1]; · iexact Ht1
    isplitl [Ht2]; · iexact Ht2
    iexact HO
  iintro ⟨Hs, Hcr, HO⟩
  ihave Hs := (own_slotV (c := c) s (sl a.val) fullShare.left (ver X s c a.val)) $$ Hs
  iapply hr
  isplitr; · iexact HK
  isplitl [HC Hat Hcr Hs]
  · iapply HC
    isplitl [Hat Hcr]
    · iapply (Entails.of_eq (snd_one (X := X) (c := c) s a).symm)
      isplitl [Hat]; · iexact Hat
      iexact Hcr
    isplitl [Hs]; · iapply (Entails.of_eq (slot_lent s (sl a.val) a.val (by omega)).symm); iexact Hs
    isplitr; · iapply (Entails.of_eq (show iprop(emp) = res X c (.nslot s (sl (a.val + 1))) 0 from rfl)); iempintro
    isplitr; · iapply (Entails.of_eq (show iprop(emp) = res X c (.tok s a) 1 from rfl)); iempintro
    iempintro
  iexists W
  iexact HO

theorem run_send_give (s : Fin 4) (a : Fin 7) {dv : Dev nD} (hdv : dv = nb s c) {src dst : Memref sig .tc .vmem S8x512x128 .i8} {sS sem : SemLoc sig}
    (hsrc : src = slotD s (sl a.val)) (hdst : dst = slotD s (sl (a.val + 1))) (hsS : sS = semOf (.snd s a)) (hsem : sem = semOf (.rcv s a))
    {hsc : dst.view.ref.isScScratch = false} {w1 : src.view.WordExact} {w2 : dst.view.WordExact}
    {w3 : DmaTarget.Typed .vmem sem (.remote ((dv : Dev nD) : Thread nD τ) dst sS hsc)}
    {kk : PUnit → Prog (TpuEff nD τ sig (Elt F) Λ₀ .tc) α} (h14 : 1 ≤ a.val ∧ a.val ≤ 4)
    (h1 : L (enc (.snd s a)) = 0) (h2 : L (enc (.tok s a)) = 0) (h3 : L (enc (.slot s (sl a.val))) = 2 + a.val)
    (h4 : L (enc (.nslot s (sl (a.val + 1)))) = 1) (h5 : L (enc .bar) = 1)
    (h6 : L (enc (.slot (opp s) (sl (a.val - 1)))) = 2 + (a.val - 1))
    (hr : Run X c K (upd (updL L [(.snd s a, 1), (.slot s (sl a.val), 10 + a.val), (.nslot s (sl (a.val + 1)), 0), (.slot (opp s) (sl (a.val - 1)), 0)]) (enc (.tok s a)) 1) (kk ⟨⟩) Q) :
    Run X c K L (.op (.enqueueDma src (.remote ((dv : Dev nD) : Thread nD τ) dst sS hsc) sem w1 w2 w3) kk) Q := by
  subst hdv hsrc hdst hsS hsem
  unfold Run at hr ⊢
  have hO : owed c L = owed c (upd (updL L [(.snd s a, 1), (.slot s (sl a.val), 10 + a.val), (.nslot s (sl (a.val + 1)), 0), (.slot (opp s) (sl (a.val - 1)), 0)]) (enc (.tok s a)) 1) + tallyAt (cell (nb s c) (.rcv s a)) 0 NN := by
    rw [← oweAmt_tok, ← owed_upd_pay c (updL L [(.snd s a, 1), (.slot s (sl a.val), 10 + a.val), (.nslot s (sl (a.val + 1)), 0), (.slot (opp s) (sl (a.val - 1)), 0)]) (.tok s a) 1 (by decide) (by rw [updL_ne _ _ _ (by simp)]; exact h2),
      owed_updL c L _ (by intro p hp; simp at hp; rcases hp with rfl | rfl | rfl | rfl <;> rfl)]
  unfold St at hr ⊢
  iintro ⟨#HK, HC, %W, HO⟩
  ihave HC := (comps_heard (X := X) (c := c) h5) $$ HC
  icases HC with ⟨#Hh, HC⟩
  ihave HC := (comps_swap (X := X) (c := c) L [(.snd s a, 0, 1), (.slot s (sl a.val), 2 + a.val, 10 + a.val), (.nslot s (sl (a.val + 1)), 1, 0), (.slot (opp s) (sl (a.val - 1)), 2 + (a.val - 1), 0), (.tok s a, 0, 1)]
    (by intro p hp; simp at hp; rcases hp with rfl | rfl | rfl | rfl | rfl <;> assumption) (by simp; exact fun e => absurd e.symm (opp_ne s))) $$ HC
  icases HC with ⟨HS, HC⟩
  simp only [List.map_cons, List.map_nil, sepL]
  icases HS with ⟨Hsnd, Hs, Hn, Ho, Ht2, -⟩
  ihave Hsnd := (Entails.of_eq (snd_zero (X := X) (c := c) s a)) $$ Hsnd
  icases Hsnd with ⟨Hat, Ht1⟩
  ihave Ht2 := (Entails.of_eq (tok_zero (X := X) (c := c) s a)) $$ Ht2
  ihave Hn := (Entails.of_eq (nslot_one (X := X) (c := c) s (sl (a.val + 1)))) $$ Hn
  ihave Hs := (Entails.of_eq (slot_at s (sl a.val) a.val (by omega))) $$ Hs
  ihave Ho := (Entails.of_eq (slot_at (opp s) (sl (a.val - 1)) (a.val - 1) (by omega))) $$ Ho
  rw [hO]
  ihave Hs := (own_slotD (c := c) s (sl a.val) fullShare (ver X s c a.val)) $$ Hs
  iapply (send_core (X := X) (c := c) (K := K) (nb s c) (.snd s a) (.rcv s a) (slotD s (sl a.val)) (slotD s (sl (a.val + 1)))
    (fun y => ver X s c a.val (Shape.reshapeEquiv squeezes_S1x1x8x512x128_S8x512x128.numel_eq y)) (ownAny (F := F) c (slotV (opp s) (sl (a.val - 1))))
    (slotD_credit s (sl (a.val + 1))) (Finset.mem_singleton_self _) (Finset.mem_singleton_self _) rfl rfl (snd_pay s a)
    (rcv_pay s a (ownAny (F := F) c (slotV (opp s) (sl (a.val - 1)))) (if_pos h14).symm) (nb_routes s c)) $$ [Hs Hn Ho Ht1 Ht2 HO]
  · isplitr; · iexact HK
    isplitr; · iapply (heard_rcv (c := c) s a); iexact Hh
    isplitl [Hs]; · iexact Hs
    isplitl [Hn]
    · unfold ownAny
      icases Hn with ⟨%vd, Hn⟩
      iexists (fun y => vd (Shape.reshapeEquiv squeezes_S1x1x8x512x128_S8x512x128.numel_eq y))
      iapply (own_slotD (c := nb s c) s (sl (a.val + 1)) fullShare vd); iexact Hn
    isplitl [Ho]
    · unfold ownAny
      iexists (ver X (opp s) c (a.val - 1))
      iexact Ho
    isplitl [Ht1]; · iexact Ht1
    isplitl [Ht2]; · iexact Ht2
    iexact HO
  iintro ⟨Hs, Hcr, HO⟩
  ihave Hs := (own_slotV (c := c) s (sl a.val) fullShare.left (ver X s c a.val)) $$ Hs
  iapply hr
  isplitr; · iexact HK
  isplitl [HC Hat Hcr Hs]
  · iapply HC
    isplitl [Hat Hcr]
    · iapply (Entails.of_eq (snd_one (X := X) (c := c) s a).symm)
      isplitl [Hat]; · iexact Hat
      iexact Hcr
    isplitl [Hs]; · iapply (Entails.of_eq (slot_lent s (sl a.val) a.val (by omega)).symm); iexact Hs
    isplitr; · iapply (Entails.of_eq (show iprop(emp) = res X c (.nslot s (sl (a.val + 1))) 0 from rfl)); iempintro
    isplitr; · iapply (Entails.of_eq (show iprop(emp) = res X c (.slot (opp s) (sl (a.val - 1))) 0 from rfl)); iempintro
    isplitr; · iapply (Entails.of_eq (show iprop(emp) = res X c (.tok s a) 1 from rfl)); iempintro
    iempintro
  iexists W
  iexact HO

/-! ## Waits -/

/-- A wait for a whole round. -/
theorem wait_core (k : Kd) {w : TpuEff nD τ sig (Elt F) Λ₀ .tc PUnit} {W : Waits sig ℕ}
    (hw : ∀ J : PUnit → sProp 𝕄, wpE (defs₀ (F := F)) 𝒱₀ (c : Thread nD τ) none Set.univ w J = waitSpec (c : Thread nD τ) Set.univ (semOf k) (expectOf k) J)
    (hok : waitOk L (lvOf (some k) 0)) {kk : PUnit → Prog (TpuEff nD τ sig (Elt F) Λ₀ .tc) α} :
    iprop(known X c K ∗ cred (tallyAt (cell c k) 0 (expectOf k)) ∗ owes (c : Thread nD τ) (owed c L) W ∗ atPos ER (cell c k) 0 ∅ 0)
      ⊢ iprop((owes (c : Thread nD τ) (owed c L) (insert (semOf k, 0) W) ∗ atPos ER (cell c k) 1 ∅ 0 ∗ bigSep (dutiesOf (some k)) (payOf X c (some k))
            -∗ wp frame (wpE (defs₀ (F := F)) 𝒱₀ c none) Set.univ (kk ⟨⟩) Q)
          -∗ wp frame (wpE (defs₀ (F := F)) 𝒱₀ c none) Set.univ (.op w kk) Q) := by
  iintro ⟨#HK, Hc, HO, Hat⟩ Hk
  iapply (Rounds.wp_wait_rest_token 𝒱₀ ER (Rd X) (c : Thread nD τ) none hw (Set.mem_univ (K (cell c k))) 0 (R := 0) (T := ∅) (m := 0)
    (by rw [Nat.zero_add]; exact (Rd_expect X c k).symm)) $$ [Hc HO Hat]
  · isplitr; · iapply (known_inv (X := X) (c := c) (K := K) c k); iexact HK
    isplitl [Hc]; · iexact Hc
    isplitl [HO]; · iexact HO
    isplitr; · iapply (mayWait c L k 0 (by decide) hok); iapply (known_lev (X := X) (c := c) (K := K)); iexact HK
    iexact Hat
  iintro ⟨HO, Hat, -, Hp⟩
  iapply Hk
  isplitl [HO]; · iexact HO
  isplitl [Hat]; · iexact Hat
  have e : bigSep ((Rd X).duties (cell c k) 0 \ ∅) (fun d => (Rd X).payload (cell c k) 0 d) = bigSep (dutiesOf (some k)) (payOf X c (some k)) := by
    rw [Finset.sdiff_empty, Rd_duties]
    exact bigSep_congr fun d _ => Rd_payload X c k 0 d
  iapply (Entails.of_eq e)
  iexact Hp

theorem rcv_zero (s : Fin 4) (a : Fin 7) : res X c (.rcv s a) 0 = iprop(atPos ER (cell c (.rcv s a)) 0 ∅ 0 ∗ cred (tallyAt (cell c (.rcv s a)) 0 NN)) := rfl
theorem rcv_one (s : Fin 4) (a : Fin 7) : res X c (.rcv s a) 1 = atPos ER (cell c (.rcv s a)) 1 ∅ 0 := rfl
theorem snd_two (s : Fin 4) (a : Fin 7) : res X c (.snd s a) 2 = atPos ER (cell c (.snd s a)) 1 ∅ 0 := rfl

theorem pay_single (k : Kd) (h : dutiesOf (some k) = {0}) : bigSep (dutiesOf (some k)) (payOf X c (some k)) = payOf X c (some k) 0 := by
  rw [h, BI.bigSep_singleton]

theorem own_halves {sp : Space} {sh : Shape} {e : EltTy} (w : View sig .tc sp sh e) (v : sh.Idx → Elt F e) :
    (iprop(own c w fullShare.left v ∗ own c w fullShare.right v) : sProp 𝕄) ⊢ own c w fullShare v := by
  unfold own
  iintro ⟨⟨%f, %hf, H⟩, ⟨%g, %hg, H'⟩⟩
  have e : ∀ x ∈ w.set, g x = f x := by
    intro x hx
    obtain ⟨y, -, rfl⟩ := Finset.mem_map.mp hx
    have h := congrFun (hg.trans hf.symm) y
    rw [View.read_apply, View.read_apply] at h
    exact (cast_inj _).1 h
  ihave H' := (Entails.of_eq (pointsTo_congr (I := w.set) (q := fullShare.right) (f := g) (g := f) e)) $$ H'
  iexists f
  isplitr; · ipureintro; exact hf
  iapply (pointsTo_share (I := w.set) (f := f) (PosShare.mem_left_op_right fullShare)).2
  isplitl [H]; · iexact H
  iexact H'

theorem run_wait_send (s : Fin 4) (a : Fin 7) {sem : DmaSem sig} {src dst : Memref sig .tc .vmem S8x512x128 .i8} {w1 : src.view.WordExact} {w2 : dst.view.WordExact}
    (hs : SemLoc.dma sem = semOf (.snd s a)) (hd : dst.view.dmaCredit = NN)
    {kk : PUnit → Prog (TpuEff nD τ sig (Elt F) Λ₀ .tc) α}
    (h1 : L (enc (.snd s a)) = 1) (h2 : L (enc (.slot s (sl a.val))) = 10 + a.val) (hok : waitOk L (lvOf (some (.snd s a)) 0))
    (hr : Run X c K (updL L [(.snd s a, 2), (.slot s (sl a.val), 2 + a.val)]) (kk ⟨⟩) Q) :
    Run X c K L (.op (.waitDma2 sem src dst w1 w2) kk) Q := by
  unfold Run St at hr ⊢
  rw [owed_updL c L _ (by intro p hp; simp at hp; rcases hp with rfl | rfl <;> rfl)] at hr
  iintro ⟨#HK, HC, %W, HO⟩
  ihave HC := (comps_swap (X := X) (c := c) L [(.snd s a, 1, 2), (.slot s (sl a.val), 10 + a.val, 2 + a.val)]
    (by intro p hp; simp at hp; rcases hp with rfl | rfl <;> assumption) (by simp)) $$ HC
  icases HC with ⟨HS, HC⟩
  simp only [List.map_cons, List.map_nil, sepL]
  icases HS with ⟨Hsnd, Hs, -⟩
  ihave Hsnd := (Entails.of_eq (snd_one (X := X) (c := c) s a)) $$ Hsnd
  icases Hsnd with ⟨Hat, Hcr⟩
  ihave Hs := (Entails.of_eq (slot_lent s (sl a.val) a.val (by omega))) $$ Hs
  iapply (wait_core (X := X) (c := c) (K := K) (L := L) (.snd s a) (fun J => by
    rw [← hs]; refine (wpE_waitDma2_eq 𝒱₀ (c : Thread nD τ) none Set.univ J).trans ?_
    rw [hd]; rfl) hok) $$ [Hat Hcr HO]
  · isplitr; · iexact HK
    isplitl [Hcr]; · iexact Hcr
    isplitl [HO]; · iexact HO
    iexact Hat
  iintro ⟨HO, Hat, Hp⟩
  ihave Hp := (Entails.of_eq (pay_single (X := X) (c := c) (.snd s a) rfl)) $$ Hp
  ihave Hp := (Entails.of_eq (show payOf X c (some (.snd s a)) 0 = own c (slotV s (sl a.val)) fullShare.right (ver X s c a.val) from rfl)) $$ Hp
  iapply hr
  isplitr; · iexact HK
  isplitl [HC Hat Hs Hp]
  · iapply HC
    isplitl [Hat]; · iapply (Entails.of_eq (snd_two (X := X) (c := c) s a).symm); iexact Hat
    isplitl [Hs Hp]
    · iapply (Entails.of_eq (slot_at s (sl a.val) a.val (by omega)).symm)
      iapply (own_halves (c := c) (slotV s (sl a.val)))
      isplitl [Hs]; · iexact Hs
      iexact Hp
    iempintro
  iexists (insert (semOf (.snd s a), 0) W)
  iexact HO

theorem run_wait_recv (s : Fin 4) (a : Fin 7) {sem : DmaSem sig} {src dst : Memref sig .tc .vmem S8x512x128 .i8} {w1 : src.view.WordExact} {w2 : dst.view.WordExact}
    (hs : SemLoc.dma sem = semOf (.rcv s a)) (hd : dst.view.dmaCredit = NN)
    {kk : PUnit → Prog (TpuEff nD τ sig (Elt F) Λ₀ .tc) α} (h14 : ¬(1 ≤ a.val ∧ a.val ≤ 4))
    (h1 : L (enc (.rcv s a)) = 0) (h2 : L (enc (.slot s (sl (a.val + 1)))) = 0) (hok : waitOk L (lvOf (some (.rcv s a)) 0))
    (hr : Run X c K (updL L [(.rcv s a, 1), (.slot s (sl (a.val + 1)), 2 + (a.val + 1))]) (kk ⟨⟩) Q) :
    Run X c K L (.op (.waitDma2 sem src dst w1 w2) kk) Q := by
  unfold Run St at hr ⊢
  rw [owed_updL c L _ (by intro p hp; simp at hp; rcases hp with rfl | rfl <;> rfl)] at hr
  iintro ⟨#HK, HC, %W, HO⟩
  ihave HC := (comps_swap (X := X) (c := c) L [(.rcv s a, 0, 1), (.slot s (sl (a.val + 1)), 0, 2 + (a.val + 1))]
    (by intro p hp; simp at hp; rcases hp with rfl | rfl <;> assumption) (by simp)) $$ HC
  icases HC with ⟨HS, HC⟩
  simp only [List.map_cons, List.map_nil, sepL]
  icases HS with ⟨Hrcv, -, -⟩
  ihave Hrcv := (Entails.of_eq (rcv_zero (X := X) (c := c) s a)) $$ Hrcv
  icases Hrcv with ⟨Hat, Hcr⟩
  iapply (wait_core (X := X) (c := c) (K := K) (L := L) (.rcv s a) (fun J => by
    rw [← hs]; refine (wpE_waitDma2_eq 𝒱₀ (c : Thread nD τ) none Set.univ J).trans ?_
    rw [hd]; rfl) hok) $$ [Hat Hcr HO]
  · isplitr; · iexact HK
    isplitl [Hcr]; · iexact Hcr
    isplitl [HO]; · iexact HO
    iexact Hat
  iintro ⟨HO, Hat, Hp⟩
  ihave Hp := (Entails.of_eq (pay_single (X := X) (c := c) (.rcv s a) rfl)) $$ Hp
  ihave Hp := (Entails.of_eq (show payOf X c (some (.rcv s a)) 0 = iprop(own c (slotV s (sl (a.val + 1))) fullShare (ver X s c (a.val + 1))
    ∗ if 1 ≤ a.val ∧ a.val ≤ 4 then ownAny (F := F) (pv s c) (slotV (opp s) (sl (a.val - 1))) else iprop(emp)) from rfl)) $$ Hp
  icases Hp with ⟨Hs, -⟩
  iapply hr
  isplitr; · iexact HK
  isplitl [HC Hat Hs]
  · iapply HC
    isplitl [Hat]; · iapply (Entails.of_eq (rcv_one (X := X) (c := c) s a).symm); iexact Hat
    isplitl [Hs]
    · iapply (Entails.of_eq (slot_at s (sl (a.val + 1)) (a.val + 1) (by omega)).symm)
      iexact Hs
    iempintro
  iexists (insert (semOf (.rcv s a), 0) W)
  iexact HO

theorem run_wait_recv_take (s : Fin 4) (a : Fin 7) {sem : DmaSem sig} {src dst : Memref sig .tc .vmem S8x512x128 .i8} {w1 : src.view.WordExact} {w2 : dst.view.WordExact}
    (hs : SemLoc.dma sem = semOf (.rcv s a)) (hd : dst.view.dmaCredit = NN)
    {kk : PUnit → Prog (TpuEff nD τ sig (Elt F) Λ₀ .tc) α} (h14 : 1 ≤ a.val ∧ a.val ≤ 4)
    (h1 : L (enc (.rcv s a)) = 0) (h2 : L (enc (.slot s (sl (a.val + 1)))) = 0) (h3 : L (enc (.nslot (opp s) (sl (a.val - 1)))) = 0) (hok : waitOk L (lvOf (some (.rcv s a)) 0))
    (hr : Run X c K (updL L [(.rcv s a, 1), (.slot s (sl (a.val + 1)), 2 + (a.val + 1)), (.nslot (opp s) (sl (a.val - 1)), 1)]) (kk ⟨⟩) Q) :
    Run X c K L (.op (.waitDma2 sem src dst w1 w2) kk) Q := by
  unfold Run St at hr ⊢
  rw [owed_updL c L _ (by intro p hp; simp at hp; rcases hp with rfl | rfl | rfl <;> rfl)] at hr
  iintro ⟨#HK, HC, %W, HO⟩
  ihave HC := (comps_swap (X := X) (c := c) L [(.rcv s a, 0, 1), (.slot s (sl (a.val + 1)), 0, 2 + (a.val + 1)), (.nslot (opp s) (sl (a.val - 1)), 0, 1)]
    (by intro p hp; simp at hp; rcases hp with rfl | rfl | rfl <;> assumption) (by simp)) $$ HC
  icases HC with ⟨HS, HC⟩
  simp only [List.map_cons, List.map_nil, sepL]
  icases HS with ⟨Hrcv, -, -, -⟩
  ihave Hrcv := (Entails.of_eq (rcv_zero (X := X) (c := c) s a)) $$ Hrcv
  icases Hrcv with ⟨Hat, Hcr⟩
  iapply (wait_core (X := X) (c := c) (K := K) (L := L) (.rcv s a) (fun J => by
    rw [← hs]; refine (wpE_waitDma2_eq 𝒱₀ (c : Thread nD τ) none Set.univ J).trans ?_
    rw [hd]; rfl) hok) $$ [Hat Hcr HO]
  · isplitr; · iexact HK
    isplitl [Hcr]; · iexact Hcr
    isplitl [HO]; · iexact HO
    iexact Hat
  iintro ⟨HO, Hat, Hp⟩
  ihave Hp := (Entails.of_eq (pay_single (X := X) (c := c) (.rcv s a) rfl)) $$ Hp
  ihave Hp := (Entails.of_eq (show payOf X c (some (.rcv s a)) 0 = iprop(own c (slotV s (sl (a.val + 1))) fullShare (ver X s c (a.val + 1))
    ∗ if 1 ≤ a.val ∧ a.val ≤ 4 then ownAny (F := F) (pv s c) (slotV (opp s) (sl (a.val - 1))) else iprop(emp)) from rfl)) $$ Hp
  icases Hp with ⟨Hs, Hn⟩
  ihave Hn := (Entails.of_eq ((if_pos h14).trans (show ownAny (F := F) (pv s c) (slotV (opp s) (sl (a.val - 1))) = res X c (.nslot (opp s) (sl (a.val - 1))) 1 by
    rw [nslot_one, nb_opp']))) $$ Hn
  iapply hr
  isplitr; · iexact HK
  isplitl [HC Hat Hs Hn]
  · iapply HC
    isplitl [Hat]; · iapply (Entails.of_eq (rcv_one (X := X) (c := c) s a).symm); iexact Hat
    isplitl [Hs]
    · iapply (Entails.of_eq (slot_at s (sl (a.val + 1)) (a.val + 1) (by omega)).symm)
      iexact Hs
    isplitl [Hn]; · iexact Hn
    iempintro
  iexists (insert (semOf (.rcv s a), 0) W)
  iexact HO

/-! ## Barrier -/

theorem bar_pay_slots0 (n : Dev nD) :
    (bigSep (Finset.univ : Finset (Fin 2 × Fin 3)) fun p => ownAny (F := F) n (slotV ⟨2 * (0 : Fin 2).val + p.1.val, by omega⟩ ⟨p.2.val + 1, by omega⟩))
      = iprop((ownAny (F := F) n (slotV 0 1) ∗ ownAny (F := F) n (slotV 0 2) ∗ ownAny (F := F) n (slotV 0 3)) ∗ (ownAny (F := F) n (slotV 1 1) ∗ ownAny (F := F) n (slotV 1 2) ∗ ownAny (F := F) n (slotV 1 3))) := by
  rw [bigSep_univ_prod, bigSep_fin_two, Ring.bigSep_fin3, Ring.bigSep_fin3]
  rfl

theorem bar_pay_slots1 (n : Dev nD) :
    (bigSep (Finset.univ : Finset (Fin 2 × Fin 3)) fun p => ownAny (F := F) n (slotV ⟨2 * (1 : Fin 2).val + p.1.val, by omega⟩ ⟨p.2.val + 1, by omega⟩))
      = iprop((ownAny (F := F) n (slotV 2 1) ∗ ownAny (F := F) n (slotV 2 2) ∗ ownAny (F := F) n (slotV 2 3)) ∗ (ownAny (F := F) n (slotV 3 1) ∗ ownAny (F := F) n (slotV 3 2) ∗ ownAny (F := F) n (slotV 3 3))) := by
  rw [bigSep_univ_prod, bigSep_fin_two, Ring.bigSep_fin3, Ring.bigSep_fin3]
  rfl

theorem run_bar_signal0 {dv : Dev nD} (hdv : dv = cdst 0 c) {sem : Sem sig} {k : ℕ} (hs : SemLoc.reg sem = semOf .bar) (hk : k = 1)
    {kk : PUnit → Prog (TpuEff nD τ sig (Elt F) Λ₀ .tc) α}
    (hl : ∀ p ∈ ([(.slot 0 1, 1, 0), (.slot 0 2, 1, 0), (.slot 0 3, 1, 0), (.slot 1 1, 1, 0), (.slot 1 2, 1, 0), (.slot 1 3, 1, 0), (.bt 0, 0, 1)] : List (Cp × ℕ × ℕ)), L (enc p.1) = p.2.1)
    (hr : Run X c K (upd (updL L [(.slot 0 1, 0), (.slot 0 2, 0), (.slot 0 3, 0), (.slot 1 1, 0), (.slot 1 2, 0), (.slot 1 3, 0)]) (enc (.bt 0)) 1) (kk ⟨⟩) Q) :
    Run X c K L (.op (.semSignal ((dv : Dev nD) : Thread nD τ) sem k) kk) Q := by
  subst hdv hk
  unfold Run at hr ⊢
  have hO : owed c L = owed c (upd (updL L [(.slot 0 1, 0), (.slot 0 2, 0), (.slot 0 3, 0), (.slot 1 1, 0), (.slot 1 2, 0), (.slot 1 3, 0)]) (enc (.bt 0)) 1) + tallyAt (((cdst 0 c : Dev nD) : Thread nD τ), SemLoc.reg sem) 0 1 := by
    rw [hs, show tallyAt (cell (cdst 0 c) .bar) 0 1 = oweAmt c (.bt 0) from rfl,
      ← owed_upd_pay c (updL L [(.slot 0 1, 0), (.slot 0 2, 0), (.slot 0 3, 0), (.slot 1 1, 0), (.slot 1 2, 0), (.slot 1 3, 0)]) (.bt 0) 1 (by decide) (by rw [updL_ne _ _ _ (by simp)]; exact hl (.bt 0, 0, 1) (by simp)),
      owed_updL c L _ (by intro p hp; simp at hp; rcases hp with rfl | rfl | rfl | rfl | rfl | rfl <;> rfl)]
  unfold St at hr ⊢
  iintro ⟨#HK, HC, %W, HO⟩
  ihave HC := (comps_swap (X := X) (c := c) L [(.slot 0 1, 1, 0), (.slot 0 2, 1, 0), (.slot 0 3, 1, 0), (.slot 1 1, 1, 0), (.slot 1 2, 1, 0), (.slot 1 3, 1, 0), (.bt 0, 0, 1)] hl (by decide)) $$ HC
  icases HC with ⟨HS, HC⟩
  simp only [List.map_cons, List.map_nil, sepL]
  icases HS with ⟨H01, H02, H03, H11, H12, H13, Ht, -⟩
  ihave H01 := (Entails.of_eq (slot_any (X := X) (c := c) 0 1)) $$ H01
  ihave H02 := (Entails.of_eq (slot_any (X := X) (c := c) 0 2)) $$ H02
  ihave H03 := (Entails.of_eq (slot_any (X := X) (c := c) 0 3)) $$ H03
  ihave H11 := (Entails.of_eq (slot_any (X := X) (c := c) 1 1)) $$ H11
  ihave H12 := (Entails.of_eq (slot_any (X := X) (c := c) 1 2)) $$ H12
  ihave H13 := (Entails.of_eq (slot_any (X := X) (c := c) 1 3)) $$ H13
  ihave Ht := (Entails.of_eq (show res X c (.bt 0) 0 = dutyTok ER (((cdst 0 c : Dev nD) : Thread nD τ), SemLoc.reg sem) 0 0 by rw [hs]; rfl)) $$ Ht
  rw [hO]
  iapply (Rounds.wp_signal 𝒱₀ ER (Rd X) (c : Thread nD τ) none (dst := ((cdst 0 c : Dev nD) : Thread nD τ)) (sem := sem) (r := 0) (d := 0) (κ := K (cell (cdst 0 c) .bar))
    (by rw [hs, Rd_duties]; decide) (by rw [hs]; exact Rd_amount X (cdst 0 c) .bar 0 0) 0 _ rfl (hr := by routes)) $$ [Ht HO H01 H02 H03 H11 H12 H13]
  · isplitr; · rw [hs]; iapply (known_inv (X := X) (c := c) (K := K) (cdst 0 c) .bar); iexact HK
    isplitl [HO]; · iexact HO
    isplitl [Ht]; · iexact Ht
    isplitl [H01 H02 H03 H11 H12 H13]
    · have e : (Rd X).payload (((cdst 0 c : Dev nD) : Thread nD τ), SemLoc.reg sem) 0 0 = barPay (F := F) c 0 := by
        rw [hs, Rd_payload]
        show barPay (csrc 0 (cdst 0 c)) 0 = _
        rw [csrc_cdst]
      iapply (Entails.of_eq e.symm)
      unfold barPay
      isplitl [H01 H02 H03 H11 H12 H13]
      · iapply (Entails.of_eq (bar_pay_slots0 (F := F) c).symm)
        isplitl [H01 H02 H03]
        · isplitl [H01]; · iexact H01
          isplitl [H02]; · iexact H02
          iexact H03
        · isplitl [H11]; · iexact H11
          isplitl [H12]; · iexact H12
          iexact H13
      isplitr
      · iapply (bigSep_intro_persistent (R := known X c K) (fun (p : Fin 2 × Fin 7) _ => known_reached (X := X) (c := c) (K := K) (.rcv ⟨2 * (0 : Fin 2).val + p.1.val, by omega⟩ p.2)))
        iexact HK
      · iapply (known_reached (X := X) (c := c) (K := K) (.crd (1 - 0))); iexact HK
    rw [hs]; iapply (known_bar (X := X) (c := c) (K := K) 0); iexact HK
  iintro HO
  iapply hr
  isplitr; · iexact HK
  isplitl [HC]
  · iapply HC
    isplitr; · iapply (Entails.of_eq (show iprop(emp) = res X c (.slot 0 1) 0 from rfl)); iempintro
    isplitr; · iapply (Entails.of_eq (show iprop(emp) = res X c (.slot 0 2) 0 from rfl)); iempintro
    isplitr; · iapply (Entails.of_eq (show iprop(emp) = res X c (.slot 0 3) 0 from rfl)); iempintro
    isplitr; · iapply (Entails.of_eq (show iprop(emp) = res X c (.slot 1 1) 0 from rfl)); iempintro
    isplitr; · iapply (Entails.of_eq (show iprop(emp) = res X c (.slot 1 2) 0 from rfl)); iempintro
    isplitr; · iapply (Entails.of_eq (show iprop(emp) = res X c (.slot 1 3) 0 from rfl)); iempintro
    isplitr; · iapply (Entails.of_eq (show iprop(emp) = res X c (.bt 0) 1 from rfl)); iempintro
    iempintro
  iexists W
  iexact HO

theorem run_bar_signal1 {dv : Dev nD} (hdv : dv = cdst 1 c) {sem : Sem sig} {k : ℕ} (hs : SemLoc.reg sem = semOf .bar) (hk : k = 1)
    {kk : PUnit → Prog (TpuEff nD τ sig (Elt F) Λ₀ .tc) α}
    (hl : ∀ p ∈ ([(.slot 2 1, 1, 0), (.slot 2 2, 1, 0), (.slot 2 3, 1, 0), (.slot 3 1, 1, 0), (.slot 3 2, 1, 0), (.slot 3 3, 1, 0), (.bt 1, 0, 1)] : List (Cp × ℕ × ℕ)), L (enc p.1) = p.2.1)
    (hr : Run X c K (upd (updL L [(.slot 2 1, 0), (.slot 2 2, 0), (.slot 2 3, 0), (.slot 3 1, 0), (.slot 3 2, 0), (.slot 3 3, 0)]) (enc (.bt 1)) 1) (kk ⟨⟩) Q) :
    Run X c K L (.op (.semSignal ((dv : Dev nD) : Thread nD τ) sem k) kk) Q := by
  subst hdv hk
  unfold Run at hr ⊢
  have hO : owed c L = owed c (upd (updL L [(.slot 2 1, 0), (.slot 2 2, 0), (.slot 2 3, 0), (.slot 3 1, 0), (.slot 3 2, 0), (.slot 3 3, 0)]) (enc (.bt 1)) 1) + tallyAt (((cdst 1 c : Dev nD) : Thread nD τ), SemLoc.reg sem) 0 1 := by
    rw [hs, show tallyAt (cell (cdst 1 c) .bar) 0 1 = oweAmt c (.bt 1) from rfl,
      ← owed_upd_pay c (updL L [(.slot 2 1, 0), (.slot 2 2, 0), (.slot 2 3, 0), (.slot 3 1, 0), (.slot 3 2, 0), (.slot 3 3, 0)]) (.bt 1) 1 (by decide) (by rw [updL_ne _ _ _ (by simp)]; exact hl (.bt 1, 0, 1) (by simp)),
      owed_updL c L _ (by intro p hp; simp at hp; rcases hp with rfl | rfl | rfl | rfl | rfl | rfl <;> rfl)]
  unfold St at hr ⊢
  iintro ⟨#HK, HC, %W, HO⟩
  ihave HC := (comps_swap (X := X) (c := c) L [(.slot 2 1, 1, 0), (.slot 2 2, 1, 0), (.slot 2 3, 1, 0), (.slot 3 1, 1, 0), (.slot 3 2, 1, 0), (.slot 3 3, 1, 0), (.bt 1, 0, 1)] hl (by decide)) $$ HC
  icases HC with ⟨HS, HC⟩
  simp only [List.map_cons, List.map_nil, sepL]
  icases HS with ⟨H21, H22, H23, H31, H32, H33, Ht, -⟩
  ihave H21 := (Entails.of_eq (slot_any (X := X) (c := c) 2 1)) $$ H21
  ihave H22 := (Entails.of_eq (slot_any (X := X) (c := c) 2 2)) $$ H22
  ihave H23 := (Entails.of_eq (slot_any (X := X) (c := c) 2 3)) $$ H23
  ihave H31 := (Entails.of_eq (slot_any (X := X) (c := c) 3 1)) $$ H31
  ihave H32 := (Entails.of_eq (slot_any (X := X) (c := c) 3 2)) $$ H32
  ihave H33 := (Entails.of_eq (slot_any (X := X) (c := c) 3 3)) $$ H33
  ihave Ht := (Entails.of_eq (show res X c (.bt 1) 0 = dutyTok ER (((cdst 1 c : Dev nD) : Thread nD τ), SemLoc.reg sem) 0 1 by rw [hs]; rfl)) $$ Ht
  rw [hO]
  iapply (Rounds.wp_signal 𝒱₀ ER (Rd X) (c : Thread nD τ) none (dst := ((cdst 1 c : Dev nD) : Thread nD τ)) (sem := sem) (r := 0) (d := 1) (κ := K (cell (cdst 1 c) .bar))
    (by rw [hs, Rd_duties]; decide) (by rw [hs]; exact Rd_amount X (cdst 1 c) .bar 0 1) 0 _ rfl (hr := by routes)) $$ [Ht HO H21 H22 H23 H31 H32 H33]
  · isplitr; · rw [hs]; iapply (known_inv (X := X) (c := c) (K := K) (cdst 1 c) .bar); iexact HK
    isplitl [HO]; · iexact HO
    isplitl [Ht]; · iexact Ht
    isplitl [H21 H22 H23 H31 H32 H33]
    · have e : (Rd X).payload (((cdst 1 c : Dev nD) : Thread nD τ), SemLoc.reg sem) 0 1 = barPay (F := F) c 1 := by
        rw [hs, Rd_payload]
        show barPay (csrc 1 (cdst 1 c)) 1 = _
        rw [csrc_cdst]
      iapply (Entails.of_eq e.symm)
      unfold barPay
      isplitl [H21 H22 H23 H31 H32 H33]
      · iapply (Entails.of_eq (bar_pay_slots1 (F := F) c).symm)
        isplitl [H21 H22 H23]
        · isplitl [H21]; · iexact H21
          isplitl [H22]; · iexact H22
          iexact H23
        · isplitl [H31]; · iexact H31
          isplitl [H32]; · iexact H32
          iexact H33
      isplitr
      · iapply (bigSep_intro_persistent (R := known X c K) (fun (p : Fin 2 × Fin 7) _ => known_reached (X := X) (c := c) (K := K) (.rcv ⟨2 * (1 : Fin 2).val + p.1.val, by omega⟩ p.2)))
        iexact HK
      · iapply (known_reached (X := X) (c := c) (K := K) (.crd (1 - 1))); iexact HK
    rw [hs]; iapply (known_bar (X := X) (c := c) (K := K) 1); iexact HK
  iintro HO
  iapply hr
  isplitr; · iexact HK
  isplitl [HC]
  · iapply HC
    isplitr; · iapply (Entails.of_eq (show iprop(emp) = res X c (.slot 2 1) 0 from rfl)); iempintro
    isplitr; · iapply (Entails.of_eq (show iprop(emp) = res X c (.slot 2 2) 0 from rfl)); iempintro
    isplitr; · iapply (Entails.of_eq (show iprop(emp) = res X c (.slot 2 3) 0 from rfl)); iempintro
    isplitr; · iapply (Entails.of_eq (show iprop(emp) = res X c (.slot 3 1) 0 from rfl)); iempintro
    isplitr; · iapply (Entails.of_eq (show iprop(emp) = res X c (.slot 3 2) 0 from rfl)); iempintro
    isplitr; · iapply (Entails.of_eq (show iprop(emp) = res X c (.slot 3 3) 0 from rfl)); iempintro
    isplitr; · iapply (Entails.of_eq (show iprop(emp) = res X c (.bt 1) 1 from rfl)); iempintro
    iempintro
  iexists W
  iexact HO

theorem bar_zero : res X c .bar 0 = iprop(atPos ER (cell c .bar) 0 ∅ 0 ∗ cred (tallyAt (cell c .bar) 0 2)) := rfl
theorem bar_one : res X c .bar 1 = iprop(atPos ER (cell c .bar) 1 ∅ 0 ∗ heard c) := rfl

theorem bar_payload : bigSep (dutiesOf (some .bar)) (payOf X c (some .bar)) = iprop(barPay (F := F) (csrc 0 c) 0 ∗ barPay (F := F) (csrc 1 c) 1) := by
  show bigSep ({0, 1} : Finset ℕ) _ = _
  rw [bigSep_insert (by decide), BI.bigSep_singleton]
  rfl

theorem heard_intro (R : sProp 𝕄) [BI.Persistent R]
    (h1 : ∀ (s : Fin 4) (a : Fin 7), R ⊢ reached (ER (F := F)) (cell (nb s c) (.rcv s a)) 0)
    (h2 : ∀ d : Fin 2, R ⊢ reached (ER (F := F)) (cell (cdst d c) (.crd d)) 0) : R ⊢ heard (F := F) c := by
  unfold heard
  iintro #H
  isplitr
  · iapply (bigSep_intro_persistent (R := R) (fun (p : Fin 4 × Fin 7) _ => h1 p.1 p.2)); iexact H
  · iapply (bigSep_intro_persistent (R := R) (fun (d : Fin 2) _ => h2 d)); iexact H

theorem heard_of_bar :
    (iprop((bigSep (Finset.univ : Finset (Fin 2 × Fin 7)) fun p => reached (ER (F := F)) (cell (csrc 0 c) (.rcv ⟨2 * (0 : Fin 2).val + p.1.val, by omega⟩ p.2)) 0)
      ∗ reached (ER (F := F)) (cell (csrc 0 c) (.crd (1 - 0))) 0 ∗ (bigSep (Finset.univ : Finset (Fin 2 × Fin 7)) fun p => reached (ER (F := F)) (cell (csrc 1 c) (.rcv ⟨2 * (1 : Fin 2).val + p.1.val, by omega⟩ p.2)) 0)
      ∗ reached (ER (F := F)) (cell (csrc 1 c) (.crd (1 - 1))) 0) : sProp 𝕄) ⊢ heard (F := F) c := by
  refine heard_intro _ (fun s a => ?_) (fun d => ?_)
  · fin_cases s
    · refine BIBase.Entails.trans (Q := bigSep Finset.univ (fun p : Fin 2 × Fin 7 => reached (ER (F := F)) (cell (csrc 0 c) (.rcv ⟨2 * (0 : Fin 2).val + p.1.val, by omega⟩ p.2)) 0)) (by iintro ⟨H, -⟩; iexact H) ?_
      exact bigSep_elim (Finset.mem_univ ((0, a) : Fin 2 × Fin 7))
    · refine BIBase.Entails.trans (Q := bigSep Finset.univ (fun p : Fin 2 × Fin 7 => reached (ER (F := F)) (cell (csrc 0 c) (.rcv ⟨2 * (0 : Fin 2).val + p.1.val, by omega⟩ p.2)) 0)) (by iintro ⟨H, -⟩; iexact H) ?_
      exact bigSep_elim (Finset.mem_univ ((1, a) : Fin 2 × Fin 7))
    · refine BIBase.Entails.trans (Q := bigSep Finset.univ (fun p : Fin 2 × Fin 7 => reached (ER (F := F)) (cell (csrc 1 c) (.rcv ⟨2 * (1 : Fin 2).val + p.1.val, by omega⟩ p.2)) 0)) (by iintro ⟨-, -, H, -⟩; iexact H) ?_
      exact bigSep_elim (Finset.mem_univ ((0, a) : Fin 2 × Fin 7))
    · refine BIBase.Entails.trans (Q := bigSep Finset.univ (fun p : Fin 2 × Fin 7 => reached (ER (F := F)) (cell (csrc 1 c) (.rcv ⟨2 * (1 : Fin 2).val + p.1.val, by omega⟩ p.2)) 0)) (by iintro ⟨-, -, H, -⟩; iexact H) ?_
      exact bigSep_elim (Finset.mem_univ ((1, a) : Fin 2 × Fin 7))
  · fin_cases d
    · refine BIBase.Entails.trans (Q := reached (ER (F := F)) (cell (csrc 1 c) (.crd (1 - 1))) 0) (by iintro ⟨-, -, -, H⟩; iexact H) ?_
      exact BIBase.Entails.of_eq rfl
    · refine BIBase.Entails.trans (Q := reached (ER (F := F)) (cell (csrc 0 c) (.crd (1 - 0))) 0) (by iintro ⟨-, H, -⟩; iexact H) ?_
      exact BIBase.Entails.of_eq rfl

theorem run_bar_wait {sem : Sem sig} {k : ℕ} (hs : SemLoc.reg sem = semOf .bar) (hk : k = 2)
    {kk : PUnit → Prog (TpuEff nD τ sig (Elt F) Λ₀ .tc) α}
    (hl : ∀ p ∈ ([(.bar, 0, 1), (.nslot 0 1, 0, 1), (.nslot 0 2, 0, 1), (.nslot 0 3, 0, 1), (.nslot 1 1, 0, 1), (.nslot 1 2, 0, 1), (.nslot 1 3, 0, 1), (.nslot 2 1, 0, 1), (.nslot 2 2, 0, 1), (.nslot 2 3, 0, 1), (.nslot 3 1, 0, 1), (.nslot 3 2, 0, 1), (.nslot 3 3, 0, 1)] : List (Cp × ℕ × ℕ)), L (enc p.1) = p.2.1) (hok : waitOk L (lvOf (some .bar) 0))
    (hr : Run X c K (updL L [(.bar, 1), (.nslot 0 1, 1), (.nslot 0 2, 1), (.nslot 0 3, 1), (.nslot 1 1, 1), (.nslot 1 2, 1), (.nslot 1 3, 1), (.nslot 2 1, 1), (.nslot 2 2, 1), (.nslot 2 3, 1), (.nslot 3 1, 1), (.nslot 3 2, 1), (.nslot 3 3, 1)]) (kk ⟨⟩) Q) :
    Run X c K L (.op (.semWait sem k) kk) Q := by
  subst hk
  unfold Run St at hr ⊢
  rw [owed_updL c L _ (by intro p hp; simp at hp; rcases hp with rfl | rfl | rfl | rfl | rfl | rfl | rfl | rfl | rfl | rfl | rfl | rfl | rfl <;> rfl)] at hr
  iintro ⟨#HK, HC, %W, HO⟩
  ihave HC := (comps_swap (X := X) (c := c) L [(.bar, 0, 1), (.nslot 0 1, 0, 1), (.nslot 0 2, 0, 1), (.nslot 0 3, 0, 1), (.nslot 1 1, 0, 1), (.nslot 1 2, 0, 1), (.nslot 1 3, 0, 1), (.nslot 2 1, 0, 1), (.nslot 2 2, 0, 1), (.nslot 2 3, 0, 1), (.nslot 3 1, 0, 1), (.nslot 3 2, 0, 1), (.nslot 3 3, 0, 1)] hl (by decide)) $$ HC
  icases HC with ⟨HS, HC⟩
  simp only [List.map_cons, List.map_nil, sepL]
  icases HS with ⟨Hb, -⟩
  ihave Hb := (Entails.of_eq (bar_zero (X := X) (c := c))) $$ Hb
  icases Hb with ⟨Hat, Hcr⟩
  iapply (wait_core (X := X) (c := c) (K := K) (L := L) .bar (fun J => by
    rw [← hs]; exact wpE_semWait_eq 𝒱₀ (c : Thread nD τ) none Set.univ J) hok) $$ [Hat Hcr HO]
  · isplitr; · iexact HK
    isplitl [Hcr]; · iexact Hcr
    isplitl [HO]; · iexact HO
    iexact Hat
  iintro ⟨HO, Hat, Hp⟩
  ihave Hp := (Entails.of_eq (bar_payload (X := X) (c := c))) $$ Hp
  unfold barPay
  icases Hp with ⟨⟨HA, #HA1, #HA2⟩, HB, #HB1, #HB2⟩
  ihave HA := (Entails.of_eq (bar_pay_slots0 (F := F) (csrc 0 c))) $$ HA
  ihave HB := (Entails.of_eq (bar_pay_slots1 (F := F) (csrc 1 c))) $$ HB
  icases HA with ⟨⟨H01, H02, H03⟩, H11, H12, H13⟩
  icases HB with ⟨⟨H21, H22, H23⟩, H31, H32, H33⟩
  iapply hr
  isplitr; · iexact HK
  isplitl [HC Hat H01 H02 H03 H11 H12 H13 H21 H22 H23 H31 H32 H33]
  · iapply HC
    isplitl [Hat]
    · iapply (Entails.of_eq (bar_one (X := X) (c := c)).symm)
      isplitl [Hat]; · iexact Hat
      iapply (heard_of_bar (F := F) (c := c))
      isplitr; · iexact HA1
      isplitr; · iexact HA2
      isplitr; · iexact HB1
      iexact HB2
    isplitl [H01]; · iapply (Entails.of_eq (show ownAny (F := F) (csrc 0 c) (slotV 0 1) = res X c (.nslot 0 1) 1 from rfl)); iexact H01
    isplitl [H02]; · iapply (Entails.of_eq (show ownAny (F := F) (csrc 0 c) (slotV 0 2) = res X c (.nslot 0 2) 1 from rfl)); iexact H02
    isplitl [H03]; · iapply (Entails.of_eq (show ownAny (F := F) (csrc 0 c) (slotV 0 3) = res X c (.nslot 0 3) 1 from rfl)); iexact H03
    isplitl [H11]; · iapply (Entails.of_eq (show ownAny (F := F) (csrc 0 c) (slotV 1 1) = res X c (.nslot 1 1) 1 from rfl)); iexact H11
    isplitl [H12]; · iapply (Entails.of_eq (show ownAny (F := F) (csrc 0 c) (slotV 1 2) = res X c (.nslot 1 2) 1 from rfl)); iexact H12
    isplitl [H13]; · iapply (Entails.of_eq (show ownAny (F := F) (csrc 0 c) (slotV 1 3) = res X c (.nslot 1 3) 1 from rfl)); iexact H13
    isplitl [H21]; · iapply (Entails.of_eq (show ownAny (F := F) (csrc 1 c) (slotV 2 1) = res X c (.nslot 2 1) 1 from rfl)); iexact H21
    isplitl [H22]; · iapply (Entails.of_eq (show ownAny (F := F) (csrc 1 c) (slotV 2 2) = res X c (.nslot 2 2) 1 from rfl)); iexact H22
    isplitl [H23]; · iapply (Entails.of_eq (show ownAny (F := F) (csrc 1 c) (slotV 2 3) = res X c (.nslot 2 3) 1 from rfl)); iexact H23
    isplitl [H31]; · iapply (Entails.of_eq (show ownAny (F := F) (csrc 1 c) (slotV 3 1) = res X c (.nslot 3 1) 1 from rfl)); iexact H31
    isplitl [H32]; · iapply (Entails.of_eq (show ownAny (F := F) (csrc 1 c) (slotV 3 2) = res X c (.nslot 3 2) 1 from rfl)); iexact H32
    isplitl [H33]; · iapply (Entails.of_eq (show ownAny (F := F) (csrc 1 c) (slotV 3 3) = res X c (.nslot 3 3) 1 from rfl)); iexact H33
    iempintro
  iexists (insert (semOf .bar, 0) W)
  iexact HO

/-! ## Credits -/

theorem run_credit_signal (d : Fin 2) (n : Fin 4) {dv : Dev nD} (hdv : dv = cdst d c) {sem : Sem sig} {k : ℕ} (hs : SemLoc.reg sem = semOf (.crd d)) (hk : k = 1)
    {kk : PUnit → Prog (TpuEff nD τ sig (Elt F) Λ₀ .tc) α}
    (h1 : L (enc (.crT d n)) = 0) (h2 : L (enc .bar) = 1)
    (hr : Run X c K (upd L (enc (.crT d n)) 1) (kk ⟨⟩) Q) :
    Run X c K L (.op (.semSignal ((dv : Dev nD) : Thread nD τ) sem k) kk) Q := by
  subst hdv hk
  unfold Run at hr ⊢
  have hO : owed c L = owed c (upd L (enc (.crT d n)) 1) + tallyAt (((cdst d c : Dev nD) : Thread nD τ), SemLoc.reg sem) n.val 1 := by
    rw [hs, show tallyAt (cell (cdst d c) (.crd d)) n.val 1 = oweAmt c (.crT d n) from rfl, ← owed_upd_pay c L (.crT d n) 1 (by decide) h1]
  unfold St at hr ⊢
  iintro ⟨#HK, HC, %W, HO⟩
  ihave HC := (comps_heard (X := X) (c := c) h2) $$ HC
  icases HC with ⟨#Hh, HC⟩
  ihave HC := (comps_swap (X := X) (c := c) L [(.crT d n, 0, 1)] (by intro p hp; simp at hp; subst hp; exact h1) (by simp)) $$ HC
  icases HC with ⟨HS, HC⟩
  simp only [List.map_cons, List.map_nil, sepL]
  icases HS with ⟨Ht, -⟩
  ihave Ht := (Entails.of_eq (show res X c (.crT d n) 0 = dutyTok ER (((cdst d c : Dev nD) : Thread nD τ), SemLoc.reg sem) 0 n.val by rw [hs]; rfl)) $$ Ht
  rw [hO]
  iapply (Rounds.wp_signal 𝒱₀ ER (Rd X) (c : Thread nD τ) none (dst := ((cdst d c : Dev nD) : Thread nD τ)) (sem := sem) (r := 0) (d := n.val) (κ := K (cell (cdst d c) (.crd d)))
    (by rw [hs, Rd_duties]; show n.val ∈ ({0, 1, 2, 3} : Finset ℕ); clear * - n; revert n; decide) (by rw [hs]; exact Rd_amount X (cdst d c) (.crd d) 0 n.val) n.val _ rfl (hr := by routes)) $$ [Ht HO]
  · isplitr; · rw [hs]; iapply (known_inv (X := X) (c := c) (K := K) (cdst d c) (.crd d)); iexact HK
    isplitl [HO]; · iexact HO
    isplitl [Ht]; · iexact Ht
    isplitr
    · have e : (Rd X).payload (((cdst d c : Dev nD) : Thread nD τ), SemLoc.reg sem) 0 n.val = iprop(emp) := by
        rw [hs, Rd_payload]; rfl
      iapply (Entails.of_eq e.symm)
      iempintro
    rw [hs]; iapply (heard_crd (c := c) d); iexact Hh
  iintro HO
  iapply hr
  isplitr; · iexact HK
  isplitl [HC]
  · iapply HC
    isplitr; · iapply (Entails.of_eq (show iprop(emp) = res X c (.crT d n) 1 from rfl)); iempintro
    iempintro
  iexists W
  iexact HO

theorem crW_lt (d : Fin 2) (n : ℕ) (h : n < 4) : res X c (.crW d) n = iprop((∃ T : Finset ℕ, atPos ER (cell c (.crd d)) 0 T n)
      ∗ bigSep ((Finset.range 4).filter (n ≤ ·)) fun k => cred (tallyAt (cell c (.crd d)) k 1)) := if_pos h
theorem crW_four (d : Fin 2) : res X c (.crW d) 4 = atPos ER (cell c (.crd d)) 1 ∅ 0 := rfl

theorem credits_step (d : Fin 2) (n : ℕ) (h : n < 4) :
    (bigSep ((Finset.range 4).filter (n ≤ ·)) fun k => (cred (tallyAt (cell c (.crd d)) k 1) : sProp 𝕄))
      = iprop(cred (tallyAt (cell c (.crd d)) n 1) ∗ bigSep ((Finset.range 4).filter (n + 1 ≤ ·)) fun k => cred (tallyAt (cell c (.crd d)) k 1)) := by
  have e : (Finset.range 4).filter (n ≤ ·) = insert n ((Finset.range 4).filter (n + 1 ≤ ·)) := by
    ext m; simp only [Finset.mem_filter, Finset.mem_range, Finset.mem_insert]; omega
  rw [e, bigSep_insert (by simp)]
  rfl

theorem run_credit_wait (d : Fin 2) (n : ℕ) {sem : Sem sig} {k : ℕ} (hs : SemLoc.reg sem = semOf (.crd d)) (hk : k = 1) (hn : n < 4)
    {kk : PUnit → Prog (TpuEff nD τ sig (Elt F) Λ₀ .tc) α}
    (h1 : L (enc (.crW d)) = n) (hok : waitOk L (lvOf (some (.crd d)) n))
    (hr : Run X c K (upd L (enc (.crW d)) (n + 1)) (kk ⟨⟩) Q) :
    Run X c K L (.op (.semWait sem k) kk) Q := by
  subst hk
  have hw : ∀ J : PUnit → sProp 𝕄, wpE (defs₀ (F := F)) 𝒱₀ (c : Thread nD τ) none Set.univ (.semWait sem 1) J = waitSpec (c : Thread nD τ) Set.univ (semOf (.crd d)) 1 J :=
    fun J => by rw [← hs]; exact wpE_semWait_eq 𝒱₀ (c : Thread nD τ) none Set.univ J
  unfold Run St at hr ⊢
  rw [owed_upd_same c L (.crW d) (n + 1) rfl] at hr
  iintro ⟨#HK, HC, %W, HO⟩
  ihave HC := (comps_swap (X := X) (c := c) L [(.crW d, n, n + 1)] (by intro p hp; simp at hp; subst hp; exact h1) (by simp)) $$ HC
  icases HC with ⟨HS, HC⟩
  simp only [List.map_cons, List.map_nil, sepL]
  icases HS with ⟨Hw, -⟩
  ihave Hw := (Entails.of_eq (crW_lt (X := X) (c := c) d n hn)) $$ Hw
  icases Hw with ⟨⟨%T, Hat⟩, Hcr⟩
  ihave Hcr := (Entails.of_eq (credits_step (F := F) (c := c) d n hn)) $$ Hcr
  icases Hcr with ⟨Hc1, Hcr⟩
  by_cases h3 : n = 3
  · subst h3
    iapply (Rounds.wp_wait_rest_token 𝒱₀ ER (Rd X) (c : Thread nD τ) none hw (Set.mem_univ (K (cell c (.crd d)))) 3 (R := 0) (T := T) (m := 3)
      (Rd_expect X c (.crd d)).symm) $$ [Hc1 HO Hat]
    · isplitr; · iapply (known_inv (X := X) (c := c) (K := K) c (.crd d)); iexact HK
      isplitl [Hc1]; · iexact Hc1
      isplitl [HO]; · iexact HO
      isplitr; · iapply (mayWait c L (.crd d) 3 (by decide) hok); iapply (known_lev (X := X) (c := c) (K := K)); iexact HK
      iexact Hat
    iintro ⟨HO, Hat, -, -⟩
    iapply hr
    isplitr; · iexact HK
    isplitl [HC Hat]
    · iapply HC
      isplitl [Hat]; · iapply (Entails.of_eq (crW_four (X := X) (c := c) d).symm); iexact Hat
      iempintro
    iexists (insert (semOf (.crd d), 3) W)
    iexact HO
  · iapply (Rounds.wp_wait 𝒱₀ ER (Rd X) (c : Thread nD τ) none hw (Set.mem_univ (K (cell c (.crd d)))) (cr := Finsupp.single n 1) (N := {(semOf (.crd d), n)})
      (R := 0) (T := T) (m := n) (by rw [Util.total_single]) (by simp)) $$ [Hc1 HO Hat]
    · isplitr; · iapply (known_inv (X := X) (c := c) (K := K) c (.crd d)); iexact HK
      isplitl [Hc1]; · iexact Hc1
      isplitl [HO]; · iexact HO
      isplitr; · iapply (mayWait c L (.crd d) n hn hok); iapply (known_lev (X := X) (c := c) (K := K)); iexact HK
      iexact Hat
    iintro %S ⟨-, HO, Hat, -⟩
    iapply hr
    isplitr; · iexact HK
    isplitl [HC Hat Hcr]
    · iapply HC
      isplitl [Hat Hcr]
      · iapply (Entails.of_eq (crW_lt (X := X) (c := c) d (n + 1) (by omega)).symm)
        isplitl [Hat]
        · iexists S; iexact Hat
        iexact Hcr
      iempintro
    iexists (W ∪ {(semOf (.crd d), n)})
    iexact HO

end Cert.KernelIdeal.Talk
-- ==== Proof.KernelIdeal.Tables.lean ====
module

public import proofs.«01_k».proof.Proof.KernelIdeal.Exchange

/-!
# Targets and tables
-/

@[expose] public noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig ℕ (Elt F) ℕ UU ℕ

/-! ## Whom a copy or a signal goes to -/

theorem dev1_eq (c : Dev nD) : (⟨k0_dev1 c, k0_dev1_lt c⟩ : Dev nD) = cdst 0 c := by revert c; decide +kernel
theorem dev2_eq (c : Dev nD) : (⟨k0_dev2 c, k0_dev2_lt c⟩ : Dev nD) = cdst 1 c := by revert c; decide +kernel
theorem dev3_eq (c : Dev nD) : (⟨k0_dev3 c, k0_dev3_lt c⟩ : Dev nD) = nb 0 c := by revert c; decide +kernel
theorem dev4_eq (c : Dev nD) : (⟨k0_dev4 c, k0_dev4_lt c⟩ : Dev nD) = nb 1 c := by revert c; decide +kernel
theorem dev5_eq (c : Dev nD) : (⟨k0_dev5 c, k0_dev5_lt c⟩ : Dev nD) = nb 2 c := by revert c; decide +kernel
theorem dev6_eq (c : Dev nD) : (⟨k0_dev6 c, k0_dev6_lt c⟩ : Dev nD) = nb 3 c := by revert c; decide +kernel
theorem dev7_eq (c : Dev nD) : (⟨k0_dev7 c, k0_dev7_lt c⟩ : Dev nD) = cdst 0 c := by revert c; decide +kernel
theorem dev8_eq (c : Dev nD) : (⟨k0_dev8 c, k0_dev8_lt c⟩ : Dev nD) = cdst 1 c := by revert c; decide +kernel
theorem dev9_eq (c : Dev nD) : (⟨k0_dev9 c, k0_dev9_lt c⟩ : Dev nD) = nb 0 c := by revert c; decide +kernel
theorem dev10_eq (c : Dev nD) : (⟨k0_dev10 c, k0_dev10_lt c⟩ : Dev nD) = nb 2 c := by revert c; decide +kernel
theorem dev11_eq (c : Dev nD) : (⟨k0_dev11 c, k0_dev11_lt c⟩ : Dev nD) = nb 1 c := by revert c; decide +kernel
theorem dev12_eq (c : Dev nD) : (⟨k0_dev12 c, k0_dev12_lt c⟩ : Dev nD) = nb 3 c := by revert c; decide +kernel
theorem dev13_eq (c : Dev nD) : (⟨k0_dev13 c, k0_dev13_lt c⟩ : Dev nD) = cdst 0 c := by revert c; decide +kernel
theorem dev14_eq (c : Dev nD) : (⟨k0_dev14 c, k0_dev14_lt c⟩ : Dev nD) = cdst 1 c := by revert c; decide +kernel
theorem dev15_eq (c : Dev nD) : (⟨k0_dev15 c, k0_dev15_lt c⟩ : Dev nD) = nb 0 c := by revert c; decide +kernel
theorem dev16_eq (c : Dev nD) : (⟨k0_dev16 c, k0_dev16_lt c⟩ : Dev nD) = nb 2 c := by revert c; decide +kernel
theorem dev17_eq (c : Dev nD) : (⟨k0_dev17 c, k0_dev17_lt c⟩ : Dev nD) = nb 1 c := by revert c; decide +kernel
theorem dev18_eq (c : Dev nD) : (⟨k0_dev18 c, k0_dev18_lt c⟩ : Dev nD) = nb 3 c := by revert c; decide +kernel
theorem dev19_eq (c : Dev nD) : (⟨k0_dev19 c, k0_dev19_lt c⟩ : Dev nD) = cdst 0 c := by revert c; decide +kernel
theorem dev20_eq (c : Dev nD) : (⟨k0_dev20 c, k0_dev20_lt c⟩ : Dev nD) = cdst 1 c := by revert c; decide +kernel
theorem dev21_eq (c : Dev nD) : (⟨k0_dev21 c, k0_dev21_lt c⟩ : Dev nD) = nb 0 c := by revert c; decide +kernel
theorem dev22_eq (c : Dev nD) : (⟨k0_dev22 c, k0_dev22_lt c⟩ : Dev nD) = nb 2 c := by revert c; decide +kernel
theorem dev23_eq (c : Dev nD) : (⟨k0_dev23 c, k0_dev23_lt c⟩ : Dev nD) = nb 1 c := by revert c; decide +kernel
theorem dev24_eq (c : Dev nD) : (⟨k0_dev24 c, k0_dev24_lt c⟩ : Dev nD) = nb 3 c := by revert c; decide +kernel
theorem dev25_eq (c : Dev nD) : (⟨k0_dev25 c, k0_dev25_lt c⟩ : Dev nD) = cdst 0 c := by revert c; decide +kernel
theorem dev26_eq (c : Dev nD) : (⟨k0_dev26 c, k0_dev26_lt c⟩ : Dev nD) = cdst 1 c := by revert c; decide +kernel
theorem dev27_eq (c : Dev nD) : (⟨k0_dev27 c, k0_dev27_lt c⟩ : Dev nD) = nb 0 c := by revert c; decide +kernel
theorem dev28_eq (c : Dev nD) : (⟨k0_dev28 c, k0_dev28_lt c⟩ : Dev nD) = nb 2 c := by revert c; decide +kernel
theorem dev29_eq (c : Dev nD) : (⟨k0_dev29 c, k0_dev29_lt c⟩ : Dev nD) = nb 1 c := by revert c; decide +kernel
theorem dev30_eq (c : Dev nD) : (⟨k0_dev30 c, k0_dev30_lt c⟩ : Dev nD) = nb 3 c := by revert c; decide +kernel
theorem dev31_eq (c : Dev nD) : (⟨k0_dev31 c, k0_dev31_lt c⟩ : Dev nD) = nb 0 c := by revert c; decide +kernel
theorem dev32_eq (c : Dev nD) : (⟨k0_dev32 c, k0_dev32_lt c⟩ : Dev nD) = nb 2 c := by revert c; decide +kernel
theorem dev33_eq (c : Dev nD) : (⟨k0_dev33 c, k0_dev33_lt c⟩ : Dev nD) = nb 1 c := by revert c; decide +kernel
theorem dev34_eq (c : Dev nD) : (⟨k0_dev34 c, k0_dev34_lt c⟩ : Dev nD) = nb 3 c := by revert c; decide +kernel
theorem dev35_eq (c : Dev nD) : (⟨k0_dev35 c, k0_dev35_lt c⟩ : Dev nD) = nb 0 c := by revert c; decide +kernel
theorem dev36_eq (c : Dev nD) : (⟨k0_dev36 c, k0_dev36_lt c⟩ : Dev nD) = nb 2 c := by revert c; decide +kernel
theorem dev37_eq (c : Dev nD) : (⟨k0_dev37 c, k0_dev37_lt c⟩ : Dev nD) = nb 1 c := by revert c; decide +kernel
theorem dev38_eq (c : Dev nD) : (⟨k0_dev38 c, k0_dev38_lt c⟩ : Dev nD) = nb 3 c := by revert c; decide +kernel

/-! ## The table before each part -/

def T8 : List ℕ := [0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 1, 1, 1, 1, 1, 1, 1, 1, 1, 1, 1, 1, 1, 1, 1, 1, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0]
def T9 : List ℕ := [0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 2, 0, 0, 0, 2, 0, 0, 0, 1, 0, 0, 0, 1, 0, 0, 0, 0, 1, 1, 1, 0, 1, 1, 1, 0, 1, 1, 1, 0, 1, 1, 1, 0, 0, 0, 0, 0, 0, 0, 0, 0, 0, 1, 1, 1, 0, 0, 0, 0, 0, 0, 0, 0, 0, 0, 0, 0, 0, 0, 0, 0, 0, 0, 0, 0, 0, 0, 0, 0, 0, 0, 0, 0, 0, 0, 0]
def T10 : List ℕ := [1, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 1, 0, 0, 0, 0, 0, 0, 0, 0, 0, 0, 0, 0, 0, 0, 0, 0, 0, 0, 0, 0, 0, 0, 0, 0, 0, 0, 0, 10, 0, 0, 0, 2, 0, 0, 0, 2, 0, 0, 0, 2, 0, 0, 0, 0, 0, 1, 1, 0, 1, 1, 1, 0, 1, 1, 1, 0, 1, 1, 1, 0, 0, 0, 0, 0, 0, 0, 0, 0, 0, 1, 1, 1, 0, 0, 0, 0, 0, 0, 0, 0, 0, 0, 0, 0, 0, 0, 0, 0, 0, 0, 0, 0, 0, 0, 0, 0, 0, 0, 0, 0, 0, 0, 0]
def T11 : List ℕ := [1, 0, 0, 0, 0, 0, 0, 1, 0, 0, 0, 0, 0, 0, 1, 0, 0, 0, 0, 0, 0, 0, 0, 0, 0, 0, 0, 0, 0, 0, 0, 0, 0, 0, 0, 0, 0, 0, 0, 0, 0, 0, 0, 0, 0, 0, 0, 0, 0, 0, 0, 0, 0, 0, 0, 0, 1, 0, 0, 0, 0, 0, 0, 1, 0, 0, 0, 0, 0, 0, 1, 0, 0, 0, 0, 0, 0, 0, 0, 0, 0, 0, 0, 0, 10, 0, 0, 0, 10, 0, 0, 0, 10, 0, 0, 0, 2, 0, 0, 0, 0, 0, 1, 1, 0, 0, 1, 1, 0, 0, 1, 1, 0, 1, 1, 1, 0, 0, 0, 0, 0, 0, 0, 0, 0, 0, 1, 1, 1, 0, 0, 0, 0, 0, 0, 0, 0, 0, 0, 0, 0, 0, 0, 0, 0, 0, 0, 0, 0, 0, 0, 0, 0, 0, 0, 0, 0, 0, 0, 0]
def T12 : List ℕ := [1, 0, 0, 0, 0, 0, 0, 1, 0, 0, 0, 0, 0, 0, 1, 0, 0, 0, 0, 0, 0, 1, 0, 0, 0, 0, 0, 0, 0, 0, 0, 0, 0, 0, 0, 0, 0, 0, 0, 0, 0, 0, 0, 0, 0, 0, 0, 0, 0, 0, 0, 0, 0, 0, 0, 0, 1, 0, 0, 0, 0, 0, 0, 1, 0, 0, 0, 0, 0, 0, 1, 0, 0, 0, 0, 0, 0, 1, 0, 0, 0, 0, 0, 0, 10, 0, 0, 0, 10, 0, 0, 0, 10, 0, 0, 0, 10, 0, 0, 0, 0, 0, 1, 1, 0, 0, 1, 1, 0, 0, 1, 1, 0, 0, 1, 1, 0, 0, 0, 0, 0, 0, 0, 0, 0, 0, 1, 1, 1, 1, 1, 0, 0, 0, 0, 0, 0, 0, 0, 0, 0, 0, 0, 0, 0, 0, 0, 0, 0, 0, 0, 0, 0, 0, 0, 0, 0, 0, 0, 0]
def T13 : List ℕ := [1, 0, 0, 0, 0, 0, 0, 1, 0, 0, 0, 0, 0, 0, 1, 0, 0, 0, 0, 0, 0, 1, 0, 0, 0, 0, 0, 0, 0, 0, 0, 0, 0, 0, 0, 0, 0, 0, 0, 0, 0, 0, 0, 0, 0, 0, 0, 0, 0, 0, 0, 0, 0, 0, 0, 0, 1, 0, 0, 0, 0, 0, 0, 1, 0, 0, 0, 0, 0, 0, 1, 0, 0, 0, 0, 0, 0, 1, 0, 0, 0, 0, 0, 0, 10, 0, 0, 0, 10, 0, 0, 0, 10, 0, 0, 0, 10, 0, 0, 0, 0, 0, 1, 1, 0, 0, 1, 1, 0, 0, 1, 1, 0, 0, 1, 1, 0, 0, 0, 0, 0, 0, 0, 0, 0, 0, 1, 1, 1, 1, 1, 1, 1, 1, 0, 0, 0, 0, 0, 0, 0, 0, 0, 0, 0, 0, 0, 0, 0, 0, 0, 0, 0, 0, 0, 0, 0, 0, 0, 0]
def T14 : List ℕ := [1, 0, 0, 0, 0, 0, 0, 1, 0, 0, 0, 0, 0, 0, 1, 0, 0, 0, 0, 0, 0, 1, 0, 0, 0, 0, 0, 0, 0, 0, 0, 0, 0, 0, 0, 0, 0, 0, 0, 0, 0, 0, 0, 0, 0, 0, 0, 0, 0, 0, 0, 0, 0, 0, 0, 0, 1, 0, 0, 0, 0, 0, 0, 1, 0, 0, 0, 0, 0, 0, 1, 0, 0, 0, 0, 0, 0, 1, 0, 0, 0, 0, 0, 0, 10, 0, 0, 0, 10, 0, 0, 0, 10, 0, 0, 0, 10, 0, 0, 0, 0, 0, 1, 1, 0, 0, 1, 1, 0, 0, 1, 1, 0, 0, 1, 1, 0, 0, 0, 0, 0, 0, 0, 0, 0, 0, 1, 1, 1, 1, 1, 1, 1, 1, 1, 1, 1, 0, 0, 0, 0, 0, 0, 0, 0, 0, 0, 0, 0, 0, 0, 0, 0, 0, 0, 0, 0, 0, 0, 0]
def T15 : List ℕ := [1, 0, 0, 0, 0, 0, 0, 1, 0, 0, 0, 0, 0, 0, 1, 0, 0, 0, 0, 0, 0, 1, 0, 0, 0, 0, 0, 0, 0, 0, 0, 0, 0, 0, 0, 0, 0, 0, 0, 0, 0, 0, 0, 0, 0, 0, 0, 0, 0, 0, 0, 0, 0, 0, 0, 0, 1, 0, 0, 0, 0, 0, 0, 1, 0, 0, 0, 0, 0, 0, 1, 0, 0, 0, 0, 0, 0, 1, 0, 0, 0, 0, 0, 0, 10, 0, 0, 0, 10, 0, 0, 0, 10, 0, 0, 0, 10, 0, 0, 0, 0, 0, 1, 1, 0, 0, 1, 1, 0, 0, 1, 1, 0, 0, 1, 1, 0, 0, 0, 0, 0, 0, 0, 0, 0, 0, 1, 1, 1, 1, 1, 1, 1, 1, 1, 1, 1, 0, 0, 0, 0, 0, 0, 0, 0, 0, 0, 0, 0, 0, 0, 0, 0, 0, 0, 0, 0, 0, 0, 0]
def T16 : List ℕ := [1, 0, 0, 0, 0, 0, 0, 1, 0, 0, 0, 0, 0, 0, 1, 0, 0, 0, 0, 0, 0, 1, 0, 0, 0, 0, 0, 0, 0, 0, 0, 0, 0, 0, 0, 0, 0, 0, 0, 0, 0, 0, 0, 0, 0, 0, 0, 0, 0, 0, 0, 0, 0, 0, 0, 0, 1, 0, 0, 0, 0, 0, 0, 1, 0, 0, 0, 0, 0, 0, 1, 0, 0, 0, 0, 0, 0, 1, 0, 0, 0, 0, 0, 0, 10, 0, 0, 0, 10, 0, 0, 0, 10, 0, 0, 0, 10, 0, 0, 0, 0, 0, 1, 1, 0, 0, 1, 1, 0, 0, 1, 1, 0, 0, 1, 1, 0, 0, 0, 0, 0, 0, 0, 0, 0, 0, 1, 1, 1, 1, 1, 1, 1, 1, 1, 1, 1, 0, 0, 0, 0, 0, 0, 0, 0, 0, 0, 0, 0, 0, 0, 0, 0, 0, 0, 0, 0, 0, 0, 0]
def T17 : List ℕ := [1, 0, 0, 0, 0, 0, 0, 1, 0, 0, 0, 0, 0, 0, 1, 0, 0, 0, 0, 0, 0, 1, 0, 0, 0, 0, 0, 0, 0, 0, 0, 0, 0, 0, 0, 0, 0, 0, 0, 0, 0, 0, 0, 0, 0, 0, 0, 0, 0, 0, 0, 0, 0, 0, 0, 0, 1, 0, 0, 0, 0, 0, 0, 1, 0, 0, 0, 0, 0, 0, 1, 0, 0, 0, 0, 0, 0, 1, 0, 0, 0, 0, 0, 0, 10, 0, 0, 0, 10, 0, 0, 0, 10, 0, 0, 0, 10, 0, 0, 0, 0, 0, 1, 1, 0, 0, 1, 1, 0, 0, 1, 1, 0, 0, 1, 1, 0, 0, 0, 0, 0, 0, 0, 0, 0, 0, 1, 1, 1, 1, 1, 1, 1, 1, 1, 1, 1, 0, 0, 0, 0, 0, 0, 0, 0, 0, 0, 0, 0, 0, 0, 0, 0, 0, 0, 0, 0, 0, 0, 0]
def T18 : List ℕ := [1, 0, 0, 0, 0, 0, 0, 1, 0, 0, 0, 0, 0, 0, 1, 0, 0, 0, 0, 0, 0, 1, 0, 0, 0, 0, 0, 0, 0, 0, 0, 0, 0, 0, 0, 0, 0, 0, 0, 0, 0, 0, 0, 0, 0, 0, 0, 0, 0, 0, 0, 0, 0, 0, 0, 0, 1, 0, 0, 0, 0, 0, 0, 1, 0, 0, 0, 0, 0, 0, 1, 0, 0, 0, 0, 0, 0, 1, 0, 0, 0, 0, 0, 0, 10, 0, 0, 0, 10, 0, 0, 0, 10, 0, 0, 0, 10, 0, 0, 0, 0, 0, 1, 1, 0, 0, 1, 1, 0, 0, 1, 1, 0, 0, 1, 1, 0, 0, 0, 0, 0, 0, 0, 0, 0, 0, 1, 1, 1, 1, 1, 1, 1, 1, 1, 1, 1, 0, 0, 0, 0, 0, 0, 0, 0, 0, 0, 0, 0, 0, 0, 0, 0, 0, 1, 1, 1, 0, 0, 0]
def T19 : List ℕ := [1, 0, 0, 0, 0, 0, 0, 1, 0, 0, 0, 0, 0, 0, 1, 0, 0, 0, 0, 0, 0, 1, 0, 0, 0, 0, 0, 0, 0, 0, 0, 0, 0, 0, 0, 0, 0, 0, 0, 0, 0, 0, 0, 0, 0, 0, 0, 0, 0, 0, 0, 0, 0, 0, 0, 0, 1, 0, 0, 0, 0, 0, 0, 1, 0, 0, 0, 0, 0, 0, 1, 0, 0, 0, 0, 0, 0, 1, 0, 0, 0, 0, 0, 0, 10, 0, 0, 0, 10, 0, 0, 0, 10, 0, 0, 0, 10, 0, 0, 0, 0, 0, 1, 1, 0, 0, 1, 1, 0, 0, 1, 1, 0, 0, 1, 1, 0, 0, 0, 0, 0, 0, 0, 0, 0, 0, 1, 1, 1, 1, 1, 1, 1, 1, 1, 1, 1, 1, 0, 0, 0, 0, 0, 0, 0, 1, 0, 0, 0, 0, 0, 0, 0, 0, 1, 1, 1, 1, 0, 0]
def T20 : List ℕ := [1, 0, 0, 0, 0, 0, 0, 1, 0, 0, 0, 0, 0, 0, 1, 0, 0, 0, 0, 0, 0, 1, 0, 0, 0, 0, 0, 0, 0, 0, 0, 0, 0, 0, 0, 0, 0, 0, 0, 0, 0, 0, 0, 0, 0, 0, 0, 0, 0, 0, 0, 0, 0, 0, 0, 0, 1, 0, 0, 0, 0, 0, 0, 1, 0, 0, 0, 0, 0, 0, 1, 0, 0, 0, 0, 0, 0, 1, 0, 0, 0, 0, 0, 0, 10, 0, 0, 0, 10, 0, 0, 0, 10, 0, 0, 0, 10, 0, 0, 0, 0, 0, 1, 1, 0, 0, 1, 1, 0, 0, 1, 1, 0, 0, 1, 1, 0, 0, 0, 0, 0, 0, 0, 0, 0, 0, 1, 1, 1, 1, 1, 1, 1, 1, 1, 1, 1, 2, 0, 0, 0, 0, 0, 0, 0, 2, 0, 0, 0, 0, 0, 0, 0, 0, 1, 1, 1, 1, 0, 0]
def T21 : List ℕ := [1, 0, 0, 0, 0, 0, 0, 1, 0, 0, 0, 0, 0, 0, 1, 0, 0, 0, 0, 0, 0, 1, 0, 0, 0, 0, 0, 0, 0, 0, 0, 0, 0, 0, 0, 0, 0, 0, 0, 0, 0, 0, 0, 0, 0, 0, 0, 0, 0, 0, 0, 0, 0, 0, 0, 0, 1, 0, 0, 0, 0, 0, 0, 1, 0, 0, 0, 0, 0, 0, 1, 0, 0, 0, 0, 0, 0, 1, 0, 0, 0, 0, 0, 0, 10, 0, 0, 0, 10, 0, 0, 0, 10, 0, 0, 0, 10, 0, 0, 0, 0, 0, 1, 1, 0, 0, 1, 1, 0, 0, 1, 1, 0, 0, 1, 1, 0, 0, 0, 0, 0, 0, 0, 0, 0, 0, 1, 1, 1, 1, 1, 1, 1, 1, 1, 1, 1, 2, 1, 0, 0, 0, 0, 0, 0, 2, 1, 0, 0, 0, 0, 0, 0, 0, 1, 1, 1, 1, 0, 0]
def T22 : List ℕ := [1, 0, 0, 0, 0, 0, 0, 1, 0, 0, 0, 0, 0, 0, 1, 0, 0, 0, 0, 0, 0, 1, 0, 0, 0, 0, 0, 0, 0, 0, 0, 0, 0, 0, 0, 0, 0, 0, 0, 0, 0, 0, 0, 0, 0, 0, 0, 0, 0, 0, 0, 0, 0, 0, 0, 0, 1, 0, 0, 0, 0, 0, 0, 1, 0, 0, 0, 0, 0, 0, 1, 0, 0, 0, 0, 0, 0, 1, 0, 0, 0, 0, 0, 0, 10, 0, 0, 0, 10, 0, 0, 0, 10, 0, 0, 0, 10, 0, 0, 0, 0, 0, 1, 1, 0, 0, 1, 1, 0, 0, 1, 1, 0, 0, 1, 1, 0, 0, 0, 0, 0, 0, 0, 0, 0, 0, 1, 1, 1, 1, 1, 1, 1, 1, 1, 1, 1, 2, 2, 0, 0, 0, 0, 0, 0, 2, 2, 0, 0, 0, 0, 0, 0, 0, 1, 1, 1, 1, 0, 0]
def T23 : List ℕ := [1, 0, 0, 0, 0, 0, 0, 1, 0, 0, 0, 0, 0, 0, 1, 0, 0, 0, 0, 0, 0, 1, 0, 0, 0, 0, 0, 0, 0, 0, 0, 0, 0, 0, 0, 0, 0, 0, 0, 0, 0, 0, 0, 0, 0, 0, 0, 0, 0, 0, 0, 0, 0, 0, 0, 0, 1, 0, 0, 0, 0, 0, 0, 1, 0, 0, 0, 0, 0, 0, 1, 0, 0, 0, 0, 0, 0, 1, 0, 0, 0, 0, 0, 0, 10, 0, 0, 0, 10, 0, 0, 0, 10, 0, 0, 0, 10, 0, 0, 0, 0, 0, 1, 1, 0, 0, 1, 1, 0, 0, 1, 1, 0, 0, 1, 1, 0, 0, 0, 0, 0, 0, 0, 0, 0, 0, 1, 1, 1, 1, 1, 1, 1, 1, 1, 1, 1, 2, 2, 2, 0, 0, 0, 0, 0, 2, 2, 1, 0, 0, 0, 0, 0, 0, 1, 1, 1, 1, 0, 0]
def T24 : List ℕ := [1, 0, 0, 0, 0, 0, 0, 1, 0, 0, 0, 0, 0, 0, 1, 0, 0, 0, 0, 0, 0, 1, 0, 0, 0, 0, 0, 0, 0, 0, 0, 0, 0, 0, 0, 0, 0, 0, 0, 0, 0, 0, 0, 0, 0, 0, 0, 0, 0, 0, 0, 0, 0, 0, 0, 0, 1, 0, 0, 0, 0, 0, 0, 1, 0, 0, 0, 0, 0, 0, 1, 0, 0, 0, 0, 0, 0, 1, 0, 0, 0, 0, 0, 0, 10, 0, 0, 0, 10, 0, 0, 0, 10, 0, 0, 0, 10, 0, 0, 0, 0, 0, 1, 1, 0, 0, 1, 1, 0, 0, 1, 1, 0, 0, 1, 1, 0, 0, 0, 0, 0, 0, 0, 0, 0, 0, 1, 1, 1, 1, 1, 1, 1, 1, 1, 1, 1, 2, 2, 2, 1, 0, 0, 0, 0, 2, 2, 2, 1, 0, 0, 0, 0, 0, 1, 1, 1, 1, 0, 0]
def T25 : List ℕ := [1, 0, 0, 0, 0, 0, 0, 1, 0, 0, 0, 0, 0, 0, 1, 0, 0, 0, 0, 0, 0, 1, 0, 0, 0, 0, 0, 0, 0, 0, 0, 0, 0, 0, 0, 0, 0, 0, 0, 0, 0, 0, 0, 0, 0, 0, 0, 0, 0, 0, 0, 0, 0, 0, 0, 0, 1, 0, 0, 0, 0, 0, 0, 1, 0, 0, 0, 0, 0, 0, 1, 0, 0, 0, 0, 0, 0, 1, 0, 0, 0, 0, 0, 0, 10, 0, 0, 0, 10, 0, 0, 0, 10, 0, 0, 0, 10, 0, 0, 0, 0, 0, 1, 1, 0, 0, 1, 1, 0, 0, 1, 1, 0, 0, 1, 1, 0, 0, 0, 0, 0, 0, 0, 0, 0, 0, 1, 1, 1, 1, 1, 1, 1, 1, 1, 1, 1, 2, 2, 2, 2, 0, 0, 0, 0, 2, 2, 2, 2, 0, 0, 0, 0, 0, 1, 1, 1, 1, 0, 0]
def T26 : List ℕ := [1, 0, 0, 0, 0, 0, 0, 1, 0, 0, 0, 0, 0, 0, 1, 0, 0, 0, 0, 0, 0, 1, 0, 0, 0, 0, 0, 0, 0, 0, 0, 0, 0, 0, 0, 0, 0, 0, 0, 0, 0, 0, 0, 0, 0, 0, 0, 0, 0, 0, 0, 0, 0, 0, 0, 0, 1, 0, 0, 0, 0, 0, 0, 1, 0, 0, 0, 0, 0, 0, 1, 0, 0, 0, 0, 0, 0, 1, 0, 0, 0, 0, 0, 0, 10, 0, 0, 0, 10, 0, 0, 0, 10, 0, 0, 0, 10, 0, 0, 0, 0, 0, 1, 1, 0, 0, 1, 1, 0, 0, 1, 1, 0, 0, 1, 1, 0, 0, 0, 0, 0, 0, 0, 0, 0, 0, 1, 1, 1, 1, 1, 1, 1, 1, 1, 1, 1, 2, 2, 2, 2, 1, 0, 0, 0, 2, 2, 2, 2, 1, 0, 0, 0, 0, 1, 1, 1, 1, 0, 0]
def T27 : List ℕ := [1, 0, 0, 0, 0, 0, 0, 1, 0, 0, 0, 0, 0, 0, 1, 0, 0, 0, 0, 0, 0, 1, 0, 0, 0, 0, 0, 0, 0, 0, 0, 0, 0, 0, 0, 0, 0, 0, 0, 0, 0, 0, 0, 0, 0, 0, 0, 0, 0, 0, 0, 0, 0, 0, 0, 0, 1, 0, 0, 0, 0, 0, 0, 1, 0, 0, 0, 0, 0, 0, 1, 0, 0, 0, 0, 0, 0, 1, 0, 0, 0, 0, 0, 0, 10, 0, 0, 0, 10, 0, 0, 0, 10, 0, 0, 0, 10, 0, 0, 0, 0, 0, 1, 1, 0, 0, 1, 1, 0, 0, 1, 1, 0, 0, 1, 1, 0, 0, 0, 0, 0, 0, 0, 0, 0, 0, 1, 1, 1, 1, 1, 1, 1, 1, 1, 1, 1, 2, 2, 2, 2, 2, 0, 0, 0, 2, 2, 2, 2, 2, 0, 0, 0, 0, 1, 1, 1, 1, 0, 0]
def T28 : List ℕ := [1, 0, 0, 0, 0, 0, 0, 1, 0, 0, 0, 0, 0, 0, 1, 0, 0, 0, 0, 0, 0, 1, 0, 0, 0, 0, 0, 0, 0, 0, 0, 0, 0, 0, 0, 0, 0, 0, 0, 0, 0, 0, 0, 0, 0, 0, 0, 0, 0, 0, 0, 0, 0, 0, 0, 0, 1, 0, 0, 0, 0, 0, 0, 1, 0, 0, 0, 0, 0, 0, 1, 0, 0, 0, 0, 0, 0, 1, 0, 0, 0, 0, 0, 0, 10, 0, 0, 0, 10, 0, 0, 0, 10, 0, 0, 0, 10, 0, 0, 0, 0, 0, 1, 1, 0, 0, 1, 1, 0, 0, 1, 1, 0, 0, 1, 1, 0, 0, 0, 0, 0, 0, 0, 0, 0, 0, 1, 1, 1, 1, 1, 1, 1, 1, 1, 1, 1, 2, 2, 2, 2, 2, 2, 0, 0, 2, 2, 2, 2, 2, 1, 0, 0, 0, 1, 1, 1, 1, 0, 0]
def T29 : List ℕ := [1, 0, 0, 0, 0, 0, 0, 1, 0, 0, 0, 0, 0, 0, 1, 0, 0, 0, 0, 0, 0, 1, 0, 0, 0, 0, 0, 0, 0, 0, 0, 0, 0, 0, 0, 0, 0, 0, 0, 0, 0, 0, 0, 0, 0, 0, 0, 0, 0, 0, 0, 0, 0, 0, 0, 0, 1, 0, 0, 0, 0, 0, 0, 1, 0, 0, 0, 0, 0, 0, 1, 0, 0, 0, 0, 0, 0, 1, 0, 0, 0, 0, 0, 0, 10, 0, 0, 0, 10, 0, 0, 0, 10, 0, 0, 0, 10, 0, 0, 0, 0, 0, 1, 1, 0, 0, 1, 1, 0, 0, 1, 1, 0, 0, 1, 1, 0, 0, 0, 0, 0, 0, 0, 0, 0, 0, 1, 1, 1, 1, 1, 1, 1, 1, 1, 1, 1, 2, 2, 2, 2, 2, 2, 1, 0, 2, 2, 2, 2, 2, 2, 1, 0, 0, 1, 1, 1, 1, 0, 0]
def T30 : List ℕ := [1, 0, 0, 0, 0, 0, 0, 1, 0, 0, 0, 0, 0, 0, 1, 0, 0, 0, 0, 0, 0, 1, 0, 0, 0, 0, 0, 0, 0, 0, 0, 0, 0, 0, 0, 0, 0, 0, 0, 0, 0, 0, 0, 0, 0, 0, 0, 0, 0, 0, 0, 0, 0, 0, 0, 0, 1, 0, 0, 0, 0, 0, 0, 1, 0, 0, 0, 0, 0, 0, 1, 0, 0, 0, 0, 0, 0, 1, 0, 0, 0, 0, 0, 0, 10, 0, 0, 0, 10, 0, 0, 0, 10, 0, 0, 0, 10, 0, 0, 0, 0, 0, 1, 1, 0, 0, 1, 1, 0, 0, 1, 1, 0, 0, 1, 1, 0, 0, 0, 0, 0, 0, 0, 0, 0, 0, 1, 1, 1, 1, 1, 1, 1, 1, 1, 1, 1, 2, 2, 2, 2, 2, 2, 2, 0, 2, 2, 2, 2, 2, 2, 2, 0, 0, 1, 1, 1, 1, 0, 0]
def T31 : List ℕ := [1, 0, 0, 0, 0, 0, 0, 1, 0, 0, 0, 0, 0, 0, 1, 0, 0, 0, 0, 0, 0, 1, 0, 0, 0, 0, 0, 0, 0, 0, 0, 0, 0, 0, 0, 0, 0, 0, 0, 0, 0, 0, 0, 0, 0, 0, 0, 0, 0, 0, 0, 0, 0, 0, 0, 0, 1, 0, 0, 0, 0, 0, 0, 1, 0, 0, 0, 0, 0, 0, 1, 0, 0, 0, 0, 0, 0, 1, 0, 0, 0, 0, 0, 0, 10, 0, 0, 0, 10, 0, 0, 0, 10, 0, 0, 0, 10, 0, 0, 0, 0, 0, 1, 1, 0, 0, 1, 1, 0, 0, 1, 1, 0, 0, 1, 1, 0, 0, 0, 0, 0, 0, 0, 0, 0, 0, 1, 1, 1, 1, 1, 1, 1, 1, 1, 1, 1, 2, 2, 2, 2, 2, 2, 2, 1, 2, 2, 2, 2, 2, 2, 2, 1, 0, 1, 1, 1, 1, 0, 0]
def T32 : List ℕ := [2, 0, 0, 0, 0, 0, 0, 1, 0, 0, 0, 0, 0, 0, 1, 0, 0, 0, 0, 0, 0, 1, 0, 0, 0, 0, 0, 0, 0, 0, 0, 0, 0, 0, 0, 0, 0, 0, 0, 0, 0, 0, 0, 0, 0, 0, 0, 0, 0, 0, 0, 0, 0, 0, 0, 0, 1, 0, 0, 0, 0, 0, 0, 1, 0, 0, 0, 0, 0, 0, 1, 0, 0, 0, 0, 0, 0, 1, 0, 0, 0, 0, 0, 0, 2, 0, 0, 0, 10, 0, 0, 0, 10, 0, 0, 0, 10, 0, 0, 0, 0, 0, 1, 1, 0, 0, 1, 1, 0, 0, 1, 1, 0, 0, 1, 1, 0, 0, 0, 0, 0, 0, 0, 0, 0, 0, 1, 1, 1, 1, 1, 1, 1, 1, 1, 1, 1, 2, 2, 2, 2, 2, 2, 2, 2, 2, 2, 2, 2, 2, 2, 2, 2, 0, 1, 1, 1, 1, 0, 0]
def T33 : List ℕ := [2, 0, 0, 0, 0, 0, 0, 2, 0, 0, 0, 0, 0, 0, 2, 0, 0, 0, 0, 0, 0, 2, 0, 0, 0, 0, 0, 0, 0, 0, 0, 0, 0, 0, 0, 0, 0, 0, 0, 0, 0, 0, 0, 0, 0, 0, 0, 0, 0, 0, 0, 0, 0, 0, 0, 0, 1, 0, 0, 0, 0, 0, 0, 1, 0, 0, 0, 0, 0, 0, 1, 0, 0, 0, 0, 0, 0, 1, 0, 0, 0, 0, 0, 0, 2, 0, 0, 0, 2, 0, 0, 0, 2, 0, 0, 0, 2, 0, 0, 0, 0, 0, 1, 1, 0, 0, 1, 1, 0, 0, 1, 1, 0, 0, 1, 1, 0, 0, 1, 0, 0, 0, 0, 0, 0, 0, 1, 1, 1, 1, 1, 1, 1, 1, 1, 1, 1, 2, 2, 2, 2, 2, 2, 2, 2, 2, 2, 2, 2, 2, 2, 2, 2, 0, 1, 1, 1, 1, 0, 0]
def T34 : List ℕ := [2, 1, 0, 0, 0, 0, 0, 2, 0, 0, 0, 0, 0, 0, 2, 0, 0, 0, 0, 0, 0, 2, 0, 0, 0, 0, 0, 0, 1, 0, 0, 0, 0, 0, 0, 0, 0, 0, 0, 0, 0, 0, 0, 0, 0, 0, 0, 0, 0, 0, 0, 0, 0, 0, 0, 0, 1, 1, 0, 0, 0, 0, 0, 1, 0, 0, 0, 0, 0, 0, 1, 0, 0, 0, 0, 0, 0, 1, 0, 0, 0, 0, 0, 0, 2, 11, 0, 0, 2, 0, 0, 0, 0, 0, 0, 0, 2, 0, 0, 0, 0, 0, 0, 1, 0, 0, 1, 1, 0, 0, 1, 1, 0, 0, 1, 1, 0, 0, 1, 0, 0, 0, 1, 0, 0, 0, 1, 1, 1, 1, 1, 1, 1, 1, 1, 1, 1, 2, 2, 2, 2, 2, 2, 2, 2, 2, 2, 2, 2, 2, 2, 2, 2, 0, 1, 1, 1, 1, 0, 0]
def T35 : List ℕ := [2, 1, 0, 0, 0, 0, 0, 2, 0, 0, 0, 0, 0, 0, 2, 1, 0, 0, 0, 0, 0, 2, 0, 0, 0, 0, 0, 0, 1, 0, 0, 0, 0, 0, 0, 1, 0, 0, 0, 0, 0, 0, 1, 0, 0, 0, 0, 0, 0, 0, 0, 0, 0, 0, 0, 0, 1, 1, 0, 0, 0, 0, 0, 1, 0, 0, 0, 0, 0, 0, 1, 1, 0, 0, 0, 0, 0, 1, 0, 0, 0, 0, 0, 0, 0, 11, 0, 0, 2, 3, 0, 0, 0, 11, 0, 0, 2, 0, 0, 0, 0, 0, 0, 1, 0, 0, 1, 1, 0, 0, 0, 1, 0, 0, 1, 1, 0, 0, 1, 0, 0, 0, 1, 0, 0, 0, 1, 1, 1, 1, 1, 1, 1, 1, 1, 1, 1, 2, 2, 2, 2, 2, 2, 2, 2, 2, 2, 2, 2, 2, 2, 2, 2, 0, 1, 1, 1, 1, 0, 0]
def T36 : List ℕ := [2, 1, 0, 0, 0, 0, 0, 2, 1, 0, 0, 0, 0, 0, 2, 1, 0, 0, 0, 0, 0, 2, 0, 0, 0, 0, 0, 0, 1, 0, 0, 0, 0, 0, 0, 1, 0, 0, 0, 0, 0, 0, 1, 0, 0, 0, 0, 0, 0, 1, 0, 0, 0, 0, 0, 0, 1, 1, 0, 0, 0, 0, 0, 1, 1, 0, 0, 0, 0, 0, 1, 1, 0, 0, 0, 0, 0, 1, 0, 0, 0, 0, 0, 0, 0, 11, 0, 0, 2, 11, 0, 0, 0, 11, 0, 0, 0, 3, 0, 0, 0, 0, 0, 1, 0, 0, 0, 1, 0, 0, 0, 1, 0, 0, 1, 1, 0, 0, 1, 0, 0, 0, 1, 0, 0, 0, 1, 1, 1, 1, 1, 1, 1, 1, 1, 1, 1, 2, 2, 2, 2, 2, 2, 2, 2, 2, 2, 2, 2, 2, 2, 2, 2, 0, 1, 1, 1, 1, 0, 0]
def T37 : List ℕ := [2, 1, 0, 0, 0, 0, 0, 2, 1, 0, 0, 0, 0, 0, 2, 1, 0, 0, 0, 0, 0, 2, 1, 0, 0, 0, 0, 0, 1, 0, 0, 0, 0, 0, 0, 1, 0, 0, 0, 0, 0, 0, 1, 0, 0, 0, 0, 0, 0, 1, 0, 0, 0, 0, 0, 0, 1, 1, 0, 0, 0, 0, 0, 1, 1, 0, 0, 0, 0, 0, 1, 1, 0, 0, 0, 0, 0, 1, 1, 0, 0, 0, 0, 0, 0, 11, 0, 0, 0, 11, 0, 0, 0, 11, 0, 0, 0, 11, 0, 0, 0, 0, 0, 1, 0, 0, 0, 1, 0, 0, 0, 1, 0, 0, 0, 1, 0, 0, 1, 0, 0, 0, 1, 0, 0, 0, 1, 1, 1, 1, 1, 1, 1, 1, 1, 1, 1, 2, 2, 2, 2, 2, 2, 2, 2, 2, 2, 2, 2, 2, 2, 2, 2, 0, 1, 1, 1, 1, 0, 0]
def T38 : List ℕ := [2, 1, 0, 0, 0, 0, 0, 2, 1, 0, 0, 0, 0, 0, 2, 1, 0, 0, 0, 0, 0, 2, 1, 0, 0, 0, 0, 0, 1, 0, 0, 0, 0, 0, 0, 1, 0, 0, 0, 0, 0, 0, 1, 0, 0, 0, 0, 0, 0, 1, 0, 0, 0, 0, 0, 0, 1, 1, 0, 0, 0, 0, 0, 1, 1, 0, 0, 0, 0, 0, 1, 1, 0, 0, 0, 0, 0, 1, 1, 0, 0, 0, 0, 0, 0, 11, 0, 0, 0, 11, 0, 0, 0, 11, 0, 0, 0, 11, 0, 0, 0, 0, 0, 1, 0, 0, 0, 1, 0, 0, 0, 1, 0, 0, 0, 1, 0, 0, 1, 0, 0, 0, 1, 0, 0, 0, 1, 1, 1, 1, 1, 1, 1, 1, 1, 1, 1, 2, 2, 2, 2, 2, 2, 2, 2, 2, 2, 2, 2, 2, 2, 2, 2, 0, 1, 1, 1, 1, 0, 0]
def T39 : List ℕ := [2, 1, 0, 0, 0, 0, 0, 2, 1, 0, 0, 0, 0, 0, 2, 1, 0, 0, 0, 0, 0, 2, 1, 0, 0, 0, 0, 0, 1, 0, 0, 0, 0, 0, 0, 1, 0, 0, 0, 0, 0, 0, 1, 0, 0, 0, 0, 0, 0, 1, 0, 0, 0, 0, 0, 0, 1, 1, 0, 0, 0, 0, 0, 1, 1, 0, 0, 0, 0, 0, 1, 1, 0, 0, 0, 0, 0, 1, 1, 0, 0, 0, 0, 0, 0, 11, 0, 0, 0, 11, 0, 0, 0, 11, 0, 0, 0, 11, 0, 0, 0, 0, 0, 1, 0, 0, 0, 1, 0, 0, 0, 1, 0, 0, 0, 1, 0, 0, 1, 0, 0, 0, 1, 0, 0, 0, 1, 1, 1, 1, 1, 1, 1, 1, 1, 1, 1, 2, 2, 2, 2, 2, 2, 2, 2, 2, 2, 2, 2, 2, 2, 2, 2, 0, 2, 2, 2, 1, 0, 0]
def T40 : List ℕ := [2, 2, 0, 0, 0, 0, 0, 2, 1, 0, 0, 0, 0, 0, 2, 2, 0, 0, 0, 0, 0, 2, 1, 0, 0, 0, 0, 0, 1, 0, 0, 0, 0, 0, 0, 1, 0, 0, 0, 0, 0, 0, 1, 0, 0, 0, 0, 0, 0, 1, 0, 0, 0, 0, 0, 0, 1, 1, 0, 0, 0, 0, 0, 1, 1, 0, 0, 0, 0, 0, 1, 1, 0, 0, 0, 0, 0, 1, 1, 0, 0, 0, 0, 0, 0, 3, 0, 0, 0, 11, 0, 0, 0, 3, 0, 0, 0, 11, 0, 0, 0, 0, 0, 1, 0, 0, 0, 1, 0, 0, 0, 1, 0, 0, 0, 1, 0, 0, 1, 0, 0, 0, 1, 0, 0, 0, 1, 1, 1, 1, 1, 1, 1, 1, 1, 1, 1, 4, 4, 4, 4, 4, 4, 4, 4, 4, 4, 4, 4, 4, 4, 4, 4, 0, 2, 2, 2, 2, 0, 0]
def T41 : List ℕ := [2, 2, 0, 0, 0, 0, 0, 2, 2, 0, 0, 0, 0, 0, 2, 2, 0, 0, 0, 0, 0, 2, 2, 0, 0, 0, 0, 0, 1, 0, 0, 0, 0, 0, 0, 1, 0, 0, 0, 0, 0, 0, 1, 0, 0, 0, 0, 0, 0, 1, 0, 0, 0, 0, 0, 0, 1, 1, 0, 0, 0, 0, 0, 1, 1, 0, 0, 0, 0, 0, 1, 1, 0, 0, 0, 0, 0, 1, 1, 0, 0, 0, 0, 0, 0, 3, 0, 0, 0, 3, 0, 0, 0, 3, 0, 0, 0, 3, 0, 0, 0, 0, 0, 1, 0, 0, 0, 1, 0, 0, 0, 1, 0, 0, 0, 1, 0, 0, 1, 1, 0, 0, 1, 1, 0, 0, 1, 1, 1, 1, 1, 1, 1, 1, 1, 1, 1, 4, 4, 4, 4, 4, 4, 4, 4, 4, 4, 4, 4, 4, 4, 4, 4, 0, 2, 2, 2, 2, 0, 0]
def T42 : List ℕ := [2, 2, 1, 0, 0, 0, 0, 2, 2, 0, 0, 0, 0, 0, 2, 2, 0, 0, 0, 0, 0, 2, 2, 0, 0, 0, 0, 0, 1, 1, 0, 0, 0, 0, 0, 1, 0, 0, 0, 0, 0, 0, 1, 0, 0, 0, 0, 0, 0, 1, 0, 0, 0, 0, 0, 0, 1, 1, 1, 0, 0, 0, 0, 1, 1, 0, 0, 0, 0, 0, 1, 1, 0, 0, 0, 0, 0, 1, 1, 0, 0, 0, 0, 0, 0, 3, 12, 0, 0, 3, 0, 0, 0, 0, 0, 0, 0, 3, 0, 0, 0, 0, 0, 0, 0, 0, 0, 1, 1, 0, 0, 1, 0, 0, 0, 1, 0, 0, 1, 1, 0, 0, 1, 1, 0, 0, 1, 1, 1, 1, 1, 1, 1, 1, 1, 1, 1, 4, 4, 4, 4, 4, 4, 4, 4, 4, 4, 4, 4, 4, 4, 4, 4, 0, 2, 2, 2, 2, 0, 0]
def T43 : List ℕ := [2, 2, 1, 0, 0, 0, 0, 2, 2, 0, 0, 0, 0, 0, 2, 2, 1, 0, 0, 0, 0, 2, 2, 0, 0, 0, 0, 0, 1, 1, 0, 0, 0, 0, 0, 1, 1, 0, 0, 0, 0, 0, 1, 1, 0, 0, 0, 0, 0, 1, 0, 0, 0, 0, 0, 0, 1, 1, 1, 0, 0, 0, 0, 1, 1, 0, 0, 0, 0, 0, 1, 1, 1, 0, 0, 0, 0, 1, 1, 0, 0, 0, 0, 0, 0, 0, 12, 0, 0, 3, 4, 0, 0, 0, 12, 0, 0, 3, 0, 0, 1, 0, 0, 0, 0, 0, 0, 1, 1, 0, 0, 0, 1, 0, 0, 1, 0, 0, 1, 1, 0, 0, 1, 1, 0, 0, 1, 1, 1, 1, 1, 1, 1, 1, 1, 1, 1, 4, 4, 4, 4, 4, 4, 4, 4, 4, 4, 4, 4, 4, 4, 4, 4, 0, 2, 2, 2, 2, 0, 0]
def T44 : List ℕ := [2, 2, 1, 0, 0, 0, 0, 2, 2, 1, 0, 0, 0, 0, 2, 2, 1, 0, 0, 0, 0, 2, 2, 0, 0, 0, 0, 0, 1, 1, 0, 0, 0, 0, 0, 1, 1, 0, 0, 0, 0, 0, 1, 1, 0, 0, 0, 0, 0, 1, 1, 0, 0, 0, 0, 0, 1, 1, 1, 0, 0, 0, 0, 1, 1, 1, 0, 0, 0, 0, 1, 1, 1, 0, 0, 0, 0, 1, 1, 0, 0, 0, 0, 0, 0, 0, 12, 0, 0, 3, 12, 0, 0, 0, 12, 0, 0, 0, 4, 0, 1, 0, 0, 0, 1, 0, 0, 0, 1, 0, 0, 0, 1, 0, 0, 1, 0, 0, 1, 1, 0, 0, 1, 1, 0, 0, 1, 1, 1, 1, 1, 1, 1, 1, 1, 1, 1, 4, 4, 4, 4, 4, 4, 4, 4, 4, 4, 4, 4, 4, 4, 4, 4, 0, 2, 2, 2, 2, 0, 0]
def T45 : List ℕ := [2, 2, 1, 0, 0, 0, 0, 2, 2, 1, 0, 0, 0, 0, 2, 2, 1, 0, 0, 0, 0, 2, 2, 1, 0, 0, 0, 0, 1, 1, 0, 0, 0, 0, 0, 1, 1, 0, 0, 0, 0, 0, 1, 1, 0, 0, 0, 0, 0, 1, 1, 0, 0, 0, 0, 0, 1, 1, 1, 0, 0, 0, 0, 1, 1, 1, 0, 0, 0, 0, 1, 1, 1, 0, 0, 0, 0, 1, 1, 1, 0, 0, 0, 0, 0, 0, 12, 0, 0, 0, 12, 0, 0, 0, 12, 0, 0, 0, 12, 0, 1, 0, 0, 0, 1, 0, 0, 0, 1, 0, 0, 0, 1, 0, 0, 0, 0, 0, 1, 1, 0, 0, 1, 1, 0, 0, 1, 1, 1, 1, 1, 1, 1, 1, 1, 1, 1, 4, 4, 4, 4, 4, 4, 4, 4, 4, 4, 4, 4, 4, 4, 4, 4, 0, 2, 2, 2, 2, 0, 0]
def T46 : List ℕ := [2, 2, 1, 0, 0, 0, 0, 2, 2, 1, 0, 0, 0, 0, 2, 2, 1, 0, 0, 0, 0, 2, 2, 1, 0, 0, 0, 0, 1, 1, 0, 0, 0, 0, 0, 1, 1, 0, 0, 0, 0, 0, 1, 1, 0, 0, 0, 0, 0, 1, 1, 0, 0, 0, 0, 0, 1, 1, 1, 0, 0, 0, 0, 1, 1, 1, 0, 0, 0, 0, 1, 1, 1, 0, 0, 0, 0, 1, 1, 1, 0, 0, 0, 0, 0, 0, 12, 0, 0, 0, 12, 0, 0, 0, 12, 0, 0, 0, 12, 0, 1, 0, 0, 0, 1, 0, 0, 0, 1, 0, 0, 0, 1, 0, 0, 0, 0, 0, 1, 1, 0, 0, 1, 1, 0, 0, 1, 1, 1, 1, 1, 1, 1, 1, 1, 1, 1, 4, 4, 4, 4, 4, 4, 4, 4, 4, 4, 4, 4, 4, 4, 4, 4, 0, 2, 2, 2, 2, 0, 0]
def T47 : List ℕ := [2, 2, 1, 0, 0, 0, 0, 2, 2, 1, 0, 0, 0, 0, 2, 2, 1, 0, 0, 0, 0, 2, 2, 1, 0, 0, 0, 0, 1, 1, 0, 0, 0, 0, 0, 1, 1, 0, 0, 0, 0, 0, 1, 1, 0, 0, 0, 0, 0, 1, 1, 0, 0, 0, 0, 0, 1, 1, 1, 0, 0, 0, 0, 1, 1, 1, 0, 0, 0, 0, 1, 1, 1, 0, 0, 0, 0, 1, 1, 1, 0, 0, 0, 0, 0, 0, 12, 0, 0, 0, 12, 0, 0, 0, 12, 0, 0, 0, 12, 0, 1, 0, 0, 0, 1, 0, 0, 0, 1, 0, 0, 0, 1, 0, 0, 0, 0, 0, 1, 1, 0, 0, 1, 1, 0, 0, 1, 1, 1, 1, 1, 1, 1, 1, 1, 1, 1, 4, 4, 4, 4, 4, 4, 4, 4, 4, 4, 4, 4, 4, 4, 4, 4, 0, 3, 3, 3, 2, 0, 0]
def T48 : List ℕ := [2, 2, 2, 0, 0, 0, 0, 2, 2, 1, 0, 0, 0, 0, 2, 2, 2, 0, 0, 0, 0, 2, 2, 1, 0, 0, 0, 0, 1, 1, 0, 0, 0, 0, 0, 1, 1, 0, 0, 0, 0, 0, 1, 1, 0, 0, 0, 0, 0, 1, 1, 0, 0, 0, 0, 0, 1, 1, 1, 0, 0, 0, 0, 1, 1, 1, 0, 0, 0, 0, 1, 1, 1, 0, 0, 0, 0, 1, 1, 1, 0, 0, 0, 0, 0, 0, 4, 0, 0, 0, 12, 0, 0, 0, 4, 0, 0, 0, 12, 0, 1, 0, 0, 0, 1, 0, 0, 0, 1, 0, 0, 0, 1, 0, 0, 0, 0, 0, 1, 1, 0, 0, 1, 1, 0, 0, 1, 1, 1, 1, 1, 1, 1, 1, 1, 1, 1, 6, 6, 6, 6, 6, 6, 6, 6, 6, 6, 6, 6, 6, 6, 6, 6, 0, 3, 3, 3, 3, 0, 0]
def T49 : List ℕ := [2, 2, 2, 0, 0, 0, 0, 2, 2, 2, 0, 0, 0, 0, 2, 2, 2, 0, 0, 0, 0, 2, 2, 2, 0, 0, 0, 0, 1, 1, 0, 0, 0, 0, 0, 1, 1, 0, 0, 0, 0, 0, 1, 1, 0, 0, 0, 0, 0, 1, 1, 0, 0, 0, 0, 0, 1, 1, 1, 0, 0, 0, 0, 1, 1, 1, 0, 0, 0, 0, 1, 1, 1, 0, 0, 0, 0, 1, 1, 1, 0, 0, 0, 0, 0, 0, 4, 0, 0, 0, 4, 0, 0, 0, 4, 0, 0, 0, 4, 0, 1, 0, 0, 0, 1, 0, 0, 0, 1, 0, 0, 0, 1, 0, 0, 0, 0, 0, 1, 1, 1, 0, 1, 1, 1, 0, 1, 1, 1, 1, 1, 1, 1, 1, 1, 1, 1, 6, 6, 6, 6, 6, 6, 6, 6, 6, 6, 6, 6, 6, 6, 6, 6, 0, 3, 3, 3, 3, 0, 0]
def T50 : List ℕ := [2, 2, 2, 1, 0, 0, 0, 2, 2, 2, 0, 0, 0, 0, 2, 2, 2, 0, 0, 0, 0, 2, 2, 2, 0, 0, 0, 0, 1, 1, 1, 0, 0, 0, 0, 1, 1, 0, 0, 0, 0, 0, 1, 1, 1, 0, 0, 0, 0, 1, 1, 0, 0, 0, 0, 0, 1, 1, 1, 1, 0, 0, 0, 1, 1, 1, 0, 0, 0, 0, 1, 1, 1, 0, 0, 0, 0, 1, 1, 1, 0, 0, 0, 0, 0, 0, 4, 13, 0, 0, 4, 0, 0, 0, 0, 5, 0, 0, 4, 0, 0, 1, 0, 0, 1, 0, 0, 0, 1, 1, 0, 0, 1, 0, 0, 0, 1, 1, 1, 1, 1, 0, 1, 1, 1, 0, 1, 1, 1, 1, 1, 1, 1, 1, 1, 1, 1, 6, 6, 6, 6, 6, 6, 6, 6, 6, 6, 6, 6, 6, 6, 6, 6, 0, 3, 3, 3, 3, 0, 0]
def T51 : List ℕ := [2, 2, 2, 1, 0, 0, 0, 2, 2, 2, 0, 0, 0, 0, 2, 2, 2, 1, 0, 0, 0, 2, 2, 2, 0, 0, 0, 0, 1, 1, 1, 0, 0, 0, 0, 1, 1, 1, 0, 0, 0, 0, 1, 1, 1, 0, 0, 0, 0, 1, 1, 0, 0, 0, 0, 0, 1, 1, 1, 1, 0, 0, 0, 1, 1, 1, 0, 0, 0, 0, 1, 1, 1, 1, 0, 0, 0, 1, 1, 1, 0, 0, 0, 0, 0, 0, 0, 13, 0, 0, 4, 5, 0, 0, 0, 13, 0, 0, 4, 0, 0, 1, 0, 0, 1, 0, 0, 0, 0, 1, 0, 0, 1, 1, 0, 0, 1, 1, 1, 1, 1, 0, 1, 1, 1, 0, 1, 1, 1, 1, 1, 1, 1, 1, 1, 1, 1, 6, 6, 6, 6, 6, 6, 6, 6, 6, 6, 6, 6, 6, 6, 6, 6, 0, 3, 3, 3, 3, 0, 0]
def T52 : List ℕ := [2, 2, 2, 1, 0, 0, 0, 2, 2, 2, 1, 0, 0, 0, 2, 2, 2, 1, 0, 0, 0, 2, 2, 2, 1, 0, 0, 0, 1, 1, 1, 0, 0, 0, 0, 1, 1, 1, 0, 0, 0, 0, 1, 1, 1, 0, 0, 0, 0, 1, 1, 1, 0, 0, 0, 0, 1, 1, 1, 1, 0, 0, 0, 1, 1, 1, 1, 0, 0, 0, 1, 1, 1, 1, 0, 0, 0, 1, 1, 1, 1, 0, 0, 0, 0, 0, 0, 13, 0, 0, 0, 13, 0, 0, 0, 13, 0, 0, 0, 13, 0, 1, 0, 0, 0, 1, 0, 0, 0, 1, 0, 0, 0, 1, 0, 0, 1, 1, 1, 1, 1, 0, 1, 1, 1, 0, 1, 1, 1, 1, 1, 1, 1, 1, 1, 1, 1, 6, 6, 6, 6, 6, 6, 6, 6, 6, 6, 6, 6, 6, 6, 6, 6, 0, 3, 3, 3, 3, 0, 0]
def T53 : List ℕ := [2, 2, 2, 1, 0, 0, 0, 2, 2, 2, 1, 0, 0, 0, 2, 2, 2, 1, 0, 0, 0, 2, 2, 2, 1, 0, 0, 0, 1, 1, 1, 0, 0, 0, 0, 1, 1, 1, 0, 0, 0, 0, 1, 1, 1, 0, 0, 0, 0, 1, 1, 1, 0, 0, 0, 0, 1, 1, 1, 1, 0, 0, 0, 1, 1, 1, 1, 0, 0, 0, 1, 1, 1, 1, 0, 0, 0, 1, 1, 1, 1, 0, 0, 0, 0, 0, 0, 13, 0, 0, 0, 13, 0, 0, 0, 13, 0, 0, 0, 13, 0, 1, 0, 0, 0, 1, 0, 0, 0, 1, 0, 0, 0, 1, 0, 0, 1, 1, 1, 1, 1, 0, 1, 1, 1, 0, 1, 1, 1, 1, 1, 1, 1, 1, 1, 1, 1, 6, 6, 6, 6, 6, 6, 6, 6, 6, 6, 6, 6, 6, 6, 6, 6, 0, 3, 3, 3, 3, 0, 0]
def T54 : List ℕ := [2, 2, 2, 1, 0, 0, 0, 2, 2, 2, 1, 0, 0, 0, 2, 2, 2, 1, 0, 0, 0, 2, 2, 2, 1, 0, 0, 0, 1, 1, 1, 0, 0, 0, 0, 1, 1, 1, 0, 0, 0, 0, 1, 1, 1, 0, 0, 0, 0, 1, 1, 1, 0, 0, 0, 0, 1, 1, 1, 1, 0, 0, 0, 1, 1, 1, 1, 0, 0, 0, 1, 1, 1, 1, 0, 0, 0, 1, 1, 1, 1, 0, 0, 0, 0, 0, 0, 13, 0, 0, 0, 13, 0, 0, 0, 13, 0, 0, 0, 13, 0, 1, 0, 0, 0, 1, 0, 0, 0, 1, 0, 0, 0, 1, 0, 0, 1, 1, 1, 1, 1, 0, 1, 1, 1, 0, 1, 1, 1, 1, 1, 1, 1, 1, 1, 1, 1, 6, 6, 6, 6, 6, 6, 6, 6, 6, 6, 6, 6, 6, 6, 6, 6, 0, 3, 3, 3, 3, 0, 0]
def T55 : List ℕ := [2, 2, 2, 1, 0, 0, 0, 2, 2, 2, 1, 0, 0, 0, 2, 2, 2, 1, 0, 0, 0, 2, 2, 2, 1, 0, 0, 0, 1, 1, 1, 0, 0, 0, 0, 1, 1, 1, 0, 0, 0, 0, 1, 1, 1, 0, 0, 0, 0, 1, 1, 1, 0, 0, 0, 0, 1, 1, 1, 1, 0, 0, 0, 1, 1, 1, 1, 0, 0, 0, 1, 1, 1, 1, 0, 0, 0, 1, 1, 1, 1, 0, 0, 0, 0, 0, 0, 13, 0, 0, 0, 13, 0, 0, 0, 13, 0, 0, 0, 13, 0, 1, 0, 0, 0, 1, 0, 0, 0, 1, 0, 0, 0, 1, 0, 0, 1, 1, 1, 1, 1, 0, 1, 1, 1, 0, 1, 1, 1, 1, 1, 1, 1, 1, 1, 1, 1, 6, 6, 6, 6, 6, 6, 6, 6, 6, 6, 6, 6, 6, 6, 6, 6, 0, 4, 4, 4, 4, 0, 0]
def T56 : List ℕ := [2, 2, 2, 2, 0, 0, 0, 2, 2, 2, 1, 0, 0, 0, 2, 2, 2, 2, 0, 0, 0, 2, 2, 2, 1, 0, 0, 0, 1, 1, 1, 0, 0, 0, 0, 1, 1, 1, 0, 0, 0, 0, 1, 1, 1, 0, 0, 0, 0, 1, 1, 1, 0, 0, 0, 0, 1, 1, 1, 1, 0, 0, 0, 1, 1, 1, 1, 0, 0, 0, 1, 1, 1, 1, 0, 0, 0, 1, 1, 1, 1, 0, 0, 0, 0, 0, 0, 5, 0, 0, 0, 13, 0, 0, 0, 5, 0, 0, 0, 13, 0, 1, 0, 0, 0, 1, 0, 0, 0, 1, 0, 0, 0, 1, 0, 0, 1, 1, 1, 1, 1, 0, 1, 1, 1, 0, 1, 1, 1, 1, 1, 1, 1, 1, 1, 1, 1, 8, 8, 8, 8, 8, 8, 8, 8, 8, 8, 8, 8, 8, 8, 8, 8, 0, 4, 4, 4, 4, 0, 0]
def T57 : List ℕ := [2, 2, 2, 2, 0, 0, 0, 2, 2, 2, 2, 0, 0, 0, 2, 2, 2, 2, 0, 0, 0, 2, 2, 2, 2, 0, 0, 0, 1, 1, 1, 1, 0, 0, 0, 1, 1, 1, 0, 0, 0, 0, 1, 1, 1, 0, 0, 0, 0, 1, 1, 1, 0, 0, 0, 0, 1, 1, 1, 1, 0, 0, 0, 1, 1, 1, 1, 0, 0, 0, 1, 1, 1, 1, 0, 0, 0, 1, 1, 1, 1, 0, 0, 0, 6, 0, 0, 5, 0, 0, 0, 5, 0, 0, 0, 5, 0, 0, 0, 5, 0, 1, 0, 0, 0, 1, 0, 0, 0, 1, 1, 0, 0, 1, 0, 0, 1, 1, 1, 1, 1, 1, 1, 1, 1, 1, 1, 1, 1, 1, 1, 1, 1, 1, 1, 1, 1, 8, 8, 8, 8, 8, 8, 8, 8, 8, 8, 8, 8, 8, 8, 8, 8, 0, 4, 4, 4, 4, 0, 0]
def T58 : List ℕ := [2, 2, 2, 2, 1, 0, 0, 2, 2, 2, 2, 0, 0, 0, 2, 2, 2, 2, 0, 0, 0, 2, 2, 2, 2, 0, 0, 0, 1, 1, 1, 1, 0, 0, 0, 1, 1, 1, 0, 0, 0, 0, 1, 1, 1, 1, 0, 0, 0, 1, 1, 1, 0, 0, 0, 0, 1, 1, 1, 1, 1, 0, 0, 1, 1, 1, 1, 0, 0, 0, 1, 1, 1, 1, 0, 0, 0, 1, 1, 1, 1, 0, 0, 0, 14, 0, 0, 5, 0, 0, 0, 5, 6, 0, 0, 0, 0, 0, 0, 5, 0, 0, 1, 0, 0, 1, 0, 0, 0, 1, 1, 0, 0, 1, 0, 0, 2, 2, 1, 1, 1, 1, 1, 1, 1, 1, 1, 1, 1, 1, 1, 1, 1, 1, 1, 1, 1, 8, 8, 8, 8, 8, 8, 8, 8, 8, 8, 8, 8, 8, 8, 8, 8, 0, 4, 4, 4, 4, 0, 0]
def T59 : List ℕ := [2, 2, 2, 2, 1, 0, 0, 2, 2, 2, 2, 0, 0, 0, 2, 2, 2, 2, 1, 0, 0, 2, 2, 2, 2, 0, 0, 0, 1, 1, 1, 1, 0, 0, 0, 1, 1, 1, 1, 0, 0, 0, 1, 1, 1, 1, 0, 0, 0, 1, 1, 1, 0, 0, 0, 0, 1, 1, 1, 1, 1, 0, 0, 1, 1, 1, 1, 0, 0, 0, 1, 1, 1, 1, 1, 0, 0, 1, 1, 1, 1, 0, 0, 0, 14, 0, 0, 0, 6, 0, 0, 5, 14, 0, 0, 0, 0, 0, 0, 5, 0, 0, 1, 0, 0, 1, 0, 0, 0, 0, 1, 0, 0, 1, 1, 0, 2, 2, 1, 1, 1, 1, 1, 1, 1, 1, 1, 1, 1, 1, 1, 1, 1, 1, 1, 1, 1, 8, 8, 8, 8, 8, 8, 8, 8, 8, 8, 8, 8, 8, 8, 8, 8, 0, 4, 4, 4, 4, 0, 0]
def T60 : List ℕ := [2, 2, 2, 2, 1, 0, 0, 2, 2, 2, 2, 1, 0, 0, 2, 2, 2, 2, 1, 0, 0, 2, 2, 2, 2, 1, 0, 0, 1, 1, 1, 1, 0, 0, 0, 1, 1, 1, 1, 0, 0, 0, 1, 1, 1, 1, 0, 0, 0, 1, 1, 1, 1, 0, 0, 0, 1, 1, 1, 1, 1, 0, 0, 1, 1, 1, 1, 1, 0, 0, 1, 1, 1, 1, 1, 0, 0, 1, 1, 1, 1, 1, 0, 0, 14, 0, 0, 0, 14, 0, 0, 0, 14, 0, 0, 0, 14, 0, 0, 0, 0, 0, 1, 0, 0, 0, 1, 0, 0, 0, 1, 0, 0, 0, 1, 0, 2, 2, 1, 1, 1, 1, 1, 1, 1, 1, 1, 1, 1, 1, 1, 1, 1, 1, 1, 1, 1, 8, 8, 8, 8, 8, 8, 8, 8, 8, 8, 8, 8, 8, 8, 8, 8, 0, 4, 4, 4, 4, 0, 0]
def T61 : List ℕ := [2, 2, 2, 2, 1, 0, 0, 2, 2, 2, 2, 1, 0, 0, 2, 2, 2, 2, 1, 0, 0, 2, 2, 2, 2, 1, 0, 0, 1, 1, 1, 1, 0, 0, 0, 1, 1, 1, 1, 0, 0, 0, 1, 1, 1, 1, 0, 0, 0, 1, 1, 1, 1, 0, 0, 0, 1, 1, 1, 1, 1, 0, 0, 1, 1, 1, 1, 1, 0, 0, 1, 1, 1, 1, 1, 0, 0, 1, 1, 1, 1, 1, 0, 0, 14, 0, 0, 0, 14, 0, 0, 0, 14, 0, 0, 0, 14, 0, 0, 0, 0, 0, 1, 0, 0, 0, 1, 0, 0, 0, 1, 0, 0, 0, 1, 0, 2, 2, 1, 1, 1, 1, 1, 1, 1, 1, 1, 1, 1, 1, 1, 1, 1, 1, 1, 1, 1, 8, 8, 8, 8, 8, 8, 8, 8, 8, 8, 8, 8, 8, 8, 8, 8, 0, 4, 4, 4, 4, 0, 0]
def T62 : List ℕ := [2, 2, 2, 2, 1, 0, 0, 2, 2, 2, 2, 1, 0, 0, 2, 2, 2, 2, 1, 0, 0, 2, 2, 2, 2, 1, 0, 0, 1, 1, 1, 1, 0, 0, 0, 1, 1, 1, 1, 0, 0, 0, 1, 1, 1, 1, 0, 0, 0, 1, 1, 1, 1, 0, 0, 0, 1, 1, 1, 1, 1, 0, 0, 1, 1, 1, 1, 1, 0, 0, 1, 1, 1, 1, 1, 0, 0, 1, 1, 1, 1, 1, 0, 0, 14, 0, 0, 0, 14, 0, 0, 0, 14, 0, 0, 0, 14, 0, 0, 0, 0, 0, 1, 0, 0, 0, 1, 0, 0, 0, 1, 0, 0, 0, 1, 0, 2, 2, 1, 1, 1, 1, 1, 1, 1, 1, 1, 1, 1, 1, 1, 1, 1, 1, 1, 1, 1, 8, 8, 8, 8, 8, 8, 8, 8, 8, 8, 8, 8, 8, 8, 8, 8, 0, 4, 4, 4, 4, 0, 0]
def T63 : List ℕ := [2, 2, 2, 2, 1, 0, 0, 2, 2, 2, 2, 1, 0, 0, 2, 2, 2, 2, 1, 0, 0, 2, 2, 2, 2, 1, 0, 0, 1, 1, 1, 1, 0, 0, 0, 1, 1, 1, 1, 0, 0, 0, 1, 1, 1, 1, 0, 0, 0, 1, 1, 1, 1, 0, 0, 0, 1, 1, 1, 1, 1, 0, 0, 1, 1, 1, 1, 1, 0, 0, 1, 1, 1, 1, 1, 0, 0, 1, 1, 1, 1, 1, 0, 0, 14, 0, 0, 0, 14, 0, 0, 0, 14, 0, 0, 0, 14, 0, 0, 0, 0, 0, 1, 0, 0, 0, 1, 0, 0, 0, 1, 0, 0, 0, 1, 0, 2, 2, 1, 1, 1, 1, 1, 1, 1, 1, 1, 1, 1, 1, 1, 1, 1, 1, 1, 1, 1, 10, 10, 10, 10, 10, 10, 10, 10, 10, 10, 10, 10, 10, 10, 10, 10, 0, 5, 5, 5, 5, 0, 0]
def T64 : List ℕ := [2, 2, 2, 2, 2, 0, 0, 2, 2, 2, 2, 1, 0, 0, 2, 2, 2, 2, 2, 0, 0, 2, 2, 2, 2, 1, 0, 0, 1, 1, 1, 1, 0, 0, 0, 1, 1, 1, 1, 0, 0, 0, 1, 1, 1, 1, 0, 0, 0, 1, 1, 1, 1, 0, 0, 0, 1, 1, 1, 1, 1, 0, 0, 1, 1, 1, 1, 1, 0, 0, 1, 1, 1, 1, 1, 0, 0, 1, 1, 1, 1, 1, 0, 0, 6, 0, 0, 0, 14, 0, 0, 0, 6, 0, 0, 0, 14, 0, 0, 0, 0, 0, 1, 0, 0, 0, 1, 0, 0, 0, 1, 0, 0, 0, 1, 0, 2, 2, 1, 1, 1, 1, 1, 1, 1, 1, 1, 1, 1, 1, 1, 1, 1, 1, 1, 1, 1, 10, 10, 10, 10, 10, 10, 10, 10, 10, 10, 10, 10, 10, 10, 10, 10, 0, 5, 5, 5, 5, 0, 0]
def T65 : List ℕ := [2, 2, 2, 2, 2, 0, 0, 2, 2, 2, 2, 2, 0, 0, 2, 2, 2, 2, 2, 0, 0, 2, 2, 2, 2, 2, 0, 0, 1, 1, 1, 1, 1, 0, 0, 1, 1, 1, 1, 0, 0, 0, 1, 1, 1, 1, 0, 0, 0, 1, 1, 1, 1, 0, 0, 0, 1, 1, 1, 1, 1, 0, 0, 1, 1, 1, 1, 1, 0, 0, 1, 1, 1, 1, 1, 0, 0, 1, 1, 1, 1, 1, 0, 0, 6, 7, 0, 0, 6, 0, 0, 0, 6, 0, 0, 0, 6, 0, 0, 0, 0, 0, 1, 0, 0, 0, 1, 0, 0, 0, 1, 1, 0, 0, 1, 0, 3, 2, 1, 1, 1, 1, 1, 1, 1, 1, 1, 1, 1, 1, 1, 1, 1, 1, 1, 1, 1, 10, 10, 10, 10, 10, 10, 10, 10, 10, 10, 10, 10, 10, 10, 10, 10, 0, 5, 5, 5, 5, 0, 0]
def T66 : List ℕ := [2, 2, 2, 2, 2, 1, 0, 2, 2, 2, 2, 2, 0, 0, 2, 2, 2, 2, 2, 0, 0, 2, 2, 2, 2, 2, 0, 0, 1, 1, 1, 1, 1, 0, 0, 1, 1, 1, 1, 0, 0, 0, 1, 1, 1, 1, 1, 0, 0, 1, 1, 1, 1, 0, 0, 0, 1, 1, 1, 1, 1, 1, 0, 1, 1, 1, 1, 1, 0, 0, 1, 1, 1, 1, 1, 0, 0, 1, 1, 1, 1, 1, 0, 0, 6, 15, 0, 0, 6, 0, 0, 0, 6, 7, 0, 0, 6, 0, 0, 0, 0, 0, 0, 1, 0, 0, 1, 0, 0, 0, 1, 1, 0, 0, 1, 0, 3, 3, 1, 1, 1, 1, 1, 1, 1, 1, 1, 1, 1, 1, 1, 1, 1, 1, 1, 1, 1, 10, 10, 10, 10, 10, 10, 10, 10, 10, 10, 10, 10, 10, 10, 10, 10, 0, 5, 5, 5, 5, 0, 0]
def T67 : List ℕ := [2, 2, 2, 2, 2, 1, 0, 2, 2, 2, 2, 2, 1, 0, 2, 2, 2, 2, 2, 1, 0, 2, 2, 2, 2, 2, 0, 0, 1, 1, 1, 1, 1, 0, 0, 1, 1, 1, 1, 1, 0, 0, 1, 1, 1, 1, 1, 0, 0, 1, 1, 1, 1, 0, 0, 0, 1, 1, 1, 1, 1, 1, 0, 1, 1, 1, 1, 1, 1, 0, 1, 1, 1, 1, 1, 1, 0, 1, 1, 1, 1, 1, 0, 0, 6, 15, 0, 0, 6, 15, 0, 0, 6, 15, 0, 0, 6, 0, 0, 0, 0, 0, 0, 1, 0, 0, 0, 0, 0, 0, 0, 1, 0, 0, 1, 1, 3, 3, 1, 1, 1, 1, 1, 1, 1, 1, 1, 1, 1, 1, 1, 1, 1, 1, 1, 1, 1, 10, 10, 10, 10, 10, 10, 10, 10, 10, 10, 10, 10, 10, 10, 10, 10, 0, 5, 5, 5, 5, 0, 0]
def T68 : List ℕ := [2, 2, 2, 2, 2, 1, 0, 2, 2, 2, 2, 2, 1, 0, 2, 2, 2, 2, 2, 1, 0, 2, 2, 2, 2, 2, 1, 0, 1, 1, 1, 1, 1, 0, 0, 1, 1, 1, 1, 1, 0, 0, 1, 1, 1, 1, 1, 0, 0, 1, 1, 1, 1, 1, 0, 0, 1, 1, 1, 1, 1, 1, 0, 1, 1, 1, 1, 1, 1, 0, 1, 1, 1, 1, 1, 1, 0, 1, 1, 1, 1, 1, 1, 0, 6, 15, 0, 0, 6, 15, 0, 0, 6, 15, 0, 0, 6, 15, 0, 0, 0, 0, 0, 1, 0, 0, 0, 1, 0, 0, 0, 1, 0, 0, 0, 1, 3, 3, 1, 1, 1, 1, 1, 1, 1, 1, 1, 1, 1, 1, 1, 1, 1, 1, 1, 1, 1, 10, 10, 10, 10, 10, 10, 10, 10, 10, 10, 10, 10, 10, 10, 10, 10, 0, 5, 5, 5, 5, 0, 0]
def T69 : List ℕ := [2, 2, 2, 2, 2, 1, 0, 2, 2, 2, 2, 2, 1, 0, 2, 2, 2, 2, 2, 1, 0, 2, 2, 2, 2, 2, 1, 0, 1, 1, 1, 1, 1, 0, 0, 1, 1, 1, 1, 1, 0, 0, 1, 1, 1, 1, 1, 0, 0, 1, 1, 1, 1, 1, 0, 0, 1, 1, 1, 1, 1, 1, 0, 1, 1, 1, 1, 1, 1, 0, 1, 1, 1, 1, 1, 1, 0, 1, 1, 1, 1, 1, 1, 0, 6, 15, 0, 0, 6, 15, 0, 0, 6, 15, 0, 0, 6, 15, 0, 0, 0, 0, 0, 1, 0, 0, 0, 1, 0, 0, 0, 1, 0, 0, 0, 1, 3, 3, 1, 1, 1, 1, 1, 1, 1, 1, 1, 1, 1, 1, 1, 1, 1, 1, 1, 1, 1, 10, 10, 10, 10, 10, 10, 10, 10, 10, 10, 10, 10, 10, 10, 10, 10, 0, 5, 5, 5, 5, 0, 0]
def T70 : List ℕ := [2, 2, 2, 2, 2, 1, 0, 2, 2, 2, 2, 2, 1, 0, 2, 2, 2, 2, 2, 1, 0, 2, 2, 2, 2, 2, 1, 0, 1, 1, 1, 1, 1, 0, 0, 1, 1, 1, 1, 1, 0, 0, 1, 1, 1, 1, 1, 0, 0, 1, 1, 1, 1, 1, 0, 0, 1, 1, 1, 1, 1, 1, 0, 1, 1, 1, 1, 1, 1, 0, 1, 1, 1, 1, 1, 1, 0, 1, 1, 1, 1, 1, 1, 0, 6, 15, 0, 0, 6, 15, 0, 0, 6, 15, 0, 0, 6, 15, 0, 0, 0, 0, 0, 1, 0, 0, 0, 1, 0, 0, 0, 1, 0, 0, 0, 1, 3, 3, 1, 1, 1, 1, 1, 1, 1, 1, 1, 1, 1, 1, 1, 1, 1, 1, 1, 1, 1, 10, 10, 10, 10, 10, 10, 10, 10, 10, 10, 10, 10, 10, 10, 10, 10, 0, 6, 5, 5, 5, 0, 0]
def T71 : List ℕ := [2, 2, 2, 2, 2, 1, 0, 2, 2, 2, 2, 2, 1, 0, 2, 2, 2, 2, 2, 1, 0, 2, 2, 2, 2, 2, 1, 0, 1, 1, 1, 1, 1, 0, 0, 1, 1, 1, 1, 1, 0, 0, 1, 1, 1, 1, 1, 0, 0, 1, 1, 1, 1, 1, 0, 0, 1, 1, 1, 1, 1, 1, 0, 1, 1, 1, 1, 1, 1, 0, 1, 1, 1, 1, 1, 1, 0, 1, 1, 1, 1, 1, 1, 0, 6, 15, 0, 0, 6, 15, 0, 0, 6, 15, 0, 0, 6, 15, 0, 0, 0, 0, 0, 1, 0, 0, 0, 1, 0, 0, 0, 1, 0, 0, 0, 1, 3, 3, 1, 1, 1, 1, 1, 1, 1, 1, 1, 1, 1, 1, 1, 1, 1, 1, 1, 1, 1, 12, 12, 12, 12, 12, 12, 12, 12, 12, 12, 12, 12, 12, 12, 12, 12, 0, 6, 6, 6, 6, 0, 0]
def T72 : List ℕ := [2, 2, 2, 2, 2, 2, 0, 2, 2, 2, 2, 2, 2, 0, 2, 2, 2, 2, 2, 2, 0, 2, 2, 2, 2, 2, 1, 0, 1, 1, 1, 1, 1, 0, 0, 1, 1, 1, 1, 1, 0, 0, 1, 1, 1, 1, 1, 0, 0, 1, 1, 1, 1, 1, 0, 0, 1, 1, 1, 1, 1, 1, 0, 1, 1, 1, 1, 1, 1, 0, 1, 1, 1, 1, 1, 1, 0, 1, 1, 1, 1, 1, 1, 0, 6, 7, 0, 0, 6, 7, 0, 0, 6, 7, 0, 0, 6, 15, 0, 0, 0, 0, 0, 1, 0, 0, 0, 1, 0, 0, 0, 1, 0, 0, 0, 1, 3, 3, 1, 1, 1, 1, 1, 1, 1, 1, 1, 1, 1, 1, 1, 1, 1, 1, 1, 1, 1, 12, 12, 12, 12, 12, 12, 12, 12, 12, 12, 12, 12, 12, 12, 12, 12, 0, 6, 6, 6, 6, 0, 0]
def T73 : List ℕ := [2, 2, 2, 2, 2, 2, 1, 2, 2, 2, 2, 2, 2, 0, 2, 2, 2, 2, 2, 2, 0, 2, 2, 2, 2, 2, 2, 0, 1, 1, 1, 1, 1, 1, 0, 1, 1, 1, 1, 1, 0, 0, 1, 1, 1, 1, 1, 0, 0, 1, 1, 1, 1, 1, 0, 0, 1, 1, 1, 1, 1, 1, 1, 1, 1, 1, 1, 1, 1, 0, 1, 1, 1, 1, 1, 1, 0, 1, 1, 1, 1, 1, 1, 0, 6, 7, 16, 0, 6, 7, 0, 0, 6, 7, 0, 0, 6, 7, 0, 0, 0, 0, 0, 0, 0, 0, 0, 1, 0, 0, 0, 1, 0, 0, 0, 1, 4, 3, 1, 1, 1, 1, 1, 1, 1, 1, 1, 1, 1, 1, 1, 1, 1, 1, 1, 1, 1, 12, 12, 12, 12, 12, 12, 12, 12, 12, 12, 12, 12, 12, 12, 12, 12, 0, 6, 6, 6, 6, 0, 0]
def T74 : List ℕ := [2, 2, 2, 2, 2, 2, 1, 2, 2, 2, 2, 2, 2, 0, 2, 2, 2, 2, 2, 2, 1, 2, 2, 2, 2, 2, 2, 0, 1, 1, 1, 1, 1, 1, 0, 1, 1, 1, 1, 1, 0, 0, 1, 1, 1, 1, 1, 1, 0, 1, 1, 1, 1, 1, 0, 0, 1, 1, 1, 1, 1, 1, 1, 1, 1, 1, 1, 1, 1, 0, 1, 1, 1, 1, 1, 1, 1, 1, 1, 1, 1, 1, 1, 0, 6, 7, 16, 0, 6, 7, 0, 0, 6, 7, 16, 0, 6, 7, 0, 0, 0, 0, 0, 0, 0, 0, 0, 1, 0, 0, 0, 0, 0, 0, 0, 1, 4, 4, 1, 1, 1, 1, 1, 1, 1, 1, 1, 1, 1, 1, 1, 1, 1, 1, 1, 1, 1, 12, 12, 12, 12, 12, 12, 12, 12, 12, 12, 12, 12, 12, 12, 12, 12, 0, 6, 6, 6, 6, 0, 0]
def T75 : List ℕ := [2, 2, 2, 2, 2, 2, 1, 2, 2, 2, 2, 2, 2, 1, 2, 2, 2, 2, 2, 2, 1, 2, 2, 2, 2, 2, 2, 0, 1, 1, 1, 1, 1, 1, 0, 1, 1, 1, 1, 1, 1, 0, 1, 1, 1, 1, 1, 1, 0, 1, 1, 1, 1, 1, 1, 0, 1, 1, 1, 1, 1, 1, 1, 1, 1, 1, 1, 1, 1, 1, 1, 1, 1, 1, 1, 1, 1, 1, 1, 1, 1, 1, 1, 0, 6, 7, 16, 0, 6, 7, 16, 0, 6, 7, 16, 0, 6, 7, 8, 0, 0, 0, 0, 0, 0, 0, 0, 0, 0, 0, 0, 0, 0, 0, 0, 1, 4, 4, 1, 1, 1, 1, 1, 1, 1, 1, 1, 1, 1, 1, 1, 1, 1, 1, 1, 1, 1, 12, 12, 12, 12, 12, 12, 12, 12, 12, 12, 12, 12, 12, 12, 12, 12, 0, 6, 6, 6, 6, 0, 0]
def T76 : List ℕ := [2, 2, 2, 2, 2, 2, 1, 2, 2, 2, 2, 2, 2, 1, 2, 2, 2, 2, 2, 2, 1, 2, 2, 2, 2, 2, 2, 1, 1, 1, 1, 1, 1, 1, 0, 1, 1, 1, 1, 1, 1, 0, 1, 1, 1, 1, 1, 1, 0, 1, 1, 1, 1, 1, 1, 0, 1, 1, 1, 1, 1, 1, 1, 1, 1, 1, 1, 1, 1, 1, 1, 1, 1, 1, 1, 1, 1, 1, 1, 1, 1, 1, 1, 1, 6, 7, 16, 0, 6, 7, 16, 0, 6, 7, 16, 0, 6, 7, 16, 0, 0, 0, 0, 0, 0, 0, 0, 0, 0, 0, 0, 0, 0, 0, 0, 0, 4, 4, 1, 1, 1, 1, 1, 1, 1, 1, 1, 1, 1, 1, 1, 1, 1, 1, 1, 1, 1, 12, 12, 12, 12, 12, 12, 12, 12, 12, 12, 12, 12, 12, 12, 12, 12, 0, 6, 6, 6, 6, 0, 0]
def T77 : List ℕ := [2, 2, 2, 2, 2, 2, 1, 2, 2, 2, 2, 2, 2, 1, 2, 2, 2, 2, 2, 2, 1, 2, 2, 2, 2, 2, 2, 1, 1, 1, 1, 1, 1, 1, 0, 1, 1, 1, 1, 1, 1, 0, 1, 1, 1, 1, 1, 1, 0, 1, 1, 1, 1, 1, 1, 0, 1, 1, 1, 1, 1, 1, 1, 1, 1, 1, 1, 1, 1, 1, 1, 1, 1, 1, 1, 1, 1, 1, 1, 1, 1, 1, 1, 1, 6, 7, 16, 0, 6, 7, 16, 0, 6, 7, 16, 0, 6, 7, 16, 0, 0, 0, 0, 0, 0, 0, 0, 0, 0, 0, 0, 0, 0, 0, 0, 0, 4, 4, 1, 1, 1, 1, 1, 1, 1, 1, 1, 1, 1, 1, 1, 1, 1, 1, 1, 1, 1, 12, 12, 12, 12, 12, 12, 12, 12, 12, 12, 12, 12, 12, 12, 12, 12, 0, 6, 6, 6, 6, 0, 0]
def T78 : List ℕ := [2, 2, 2, 2, 2, 2, 1, 2, 2, 2, 2, 2, 2, 1, 2, 2, 2, 2, 2, 2, 1, 2, 2, 2, 2, 2, 2, 1, 1, 1, 1, 1, 1, 1, 0, 1, 1, 1, 1, 1, 1, 0, 1, 1, 1, 1, 1, 1, 0, 1, 1, 1, 1, 1, 1, 0, 1, 1, 1, 1, 1, 1, 1, 1, 1, 1, 1, 1, 1, 1, 1, 1, 1, 1, 1, 1, 1, 1, 1, 1, 1, 1, 1, 1, 6, 7, 16, 0, 6, 7, 16, 0, 6, 7, 16, 0, 6, 7, 16, 0, 0, 0, 0, 0, 0, 0, 0, 0, 0, 0, 0, 0, 0, 0, 0, 0, 4, 4, 1, 1, 1, 1, 1, 1, 1, 1, 1, 1, 1, 1, 1, 1, 1, 1, 1, 1, 1, 12, 12, 12, 12, 12, 12, 12, 12, 12, 12, 12, 12, 12, 12, 12, 12, 0, 7, 7, 6, 6, 0, 0]
def T79 : List ℕ := [2, 2, 2, 2, 2, 2, 2, 2, 2, 2, 2, 2, 2, 1, 2, 2, 2, 2, 2, 2, 1, 2, 2, 2, 2, 2, 2, 1, 1, 1, 1, 1, 1, 1, 0, 1, 1, 1, 1, 1, 1, 0, 1, 1, 1, 1, 1, 1, 0, 1, 1, 1, 1, 1, 1, 0, 1, 1, 1, 1, 1, 1, 1, 1, 1, 1, 1, 1, 1, 1, 1, 1, 1, 1, 1, 1, 1, 1, 1, 1, 1, 1, 1, 1, 6, 7, 8, 0, 6, 7, 16, 0, 6, 7, 16, 0, 6, 7, 16, 0, 0, 0, 0, 0, 0, 0, 0, 0, 0, 0, 0, 0, 0, 0, 0, 0, 4, 4, 1, 1, 1, 1, 1, 1, 1, 1, 1, 1, 1, 1, 1, 1, 1, 1, 1, 1, 1, 14, 14, 14, 14, 14, 14, 14, 14, 14, 14, 14, 14, 14, 14, 14, 14, 0, 7, 7, 7, 7, 0, 0]
def T80 : List ℕ := [2, 2, 2, 2, 2, 2, 2, 2, 2, 2, 2, 2, 2, 2, 2, 2, 2, 2, 2, 2, 2, 2, 2, 2, 2, 2, 2, 2, 1, 1, 1, 1, 1, 1, 0, 1, 1, 1, 1, 1, 1, 0, 1, 1, 1, 1, 1, 1, 0, 1, 1, 1, 1, 1, 1, 0, 1, 1, 1, 1, 1, 1, 1, 1, 1, 1, 1, 1, 1, 1, 1, 1, 1, 1, 1, 1, 1, 1, 1, 1, 1, 1, 1, 1, 6, 7, 8, 0, 6, 7, 8, 0, 6, 7, 8, 0, 6, 7, 8, 0, 0, 0, 0, 0, 0, 0, 0, 0, 0, 0, 0, 0, 0, 0, 0, 0, 4, 4, 1, 1, 1, 1, 1, 1, 1, 1, 1, 1, 1, 1, 1, 1, 1, 1, 1, 1, 1, 14, 14, 14, 14, 14, 14, 14, 14, 14, 14, 14, 14, 14, 14, 14, 14, 0, 7, 7, 7, 7, 0, 0]
def T81 : List ℕ := [2, 2, 2, 2, 2, 2, 2, 2, 2, 2, 2, 2, 2, 2, 2, 2, 2, 2, 2, 2, 2, 2, 2, 2, 2, 2, 2, 2, 1, 1, 1, 1, 1, 1, 1, 1, 1, 1, 1, 1, 1, 1, 1, 1, 1, 1, 1, 1, 1, 1, 1, 1, 1, 1, 1, 0, 1, 1, 1, 1, 1, 1, 1, 1, 1, 1, 1, 1, 1, 1, 1, 1, 1, 1, 1, 1, 1, 1, 1, 1, 1, 1, 1, 1, 6, 7, 8, 9, 6, 7, 8, 9, 6, 7, 8, 9, 6, 7, 8, 0, 0, 0, 0, 0, 0, 0, 0, 0, 0, 0, 0, 0, 0, 0, 0, 0, 4, 4, 1, 1, 1, 1, 1, 1, 1, 1, 1, 1, 1, 1, 1, 1, 1, 1, 1, 1, 1, 14, 14, 14, 14, 14, 14, 14, 14, 14, 14, 14, 14, 14, 14, 14, 14, 0, 7, 7, 7, 7, 0, 0]
def T82 : List ℕ := [2, 2, 2, 2, 2, 2, 2, 2, 2, 2, 2, 2, 2, 2, 2, 2, 2, 2, 2, 2, 2, 2, 2, 2, 2, 2, 2, 2, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 6, 7, 8, 9, 6, 7, 8, 9, 6, 7, 8, 9, 6, 7, 8, 9, 0, 0, 0, 0, 0, 0, 0, 0, 0, 0, 0, 0, 0, 0, 0, 0, 4, 4, 1, 1, 1, 1, 1, 1, 1, 1, 1, 1, 1, 1, 1, 1, 1, 1, 1, 1, 1, 14, 14, 14, 14, 14, 14, 14, 14, 14, 14, 14, 14, 14, 14, 14, 14, 0, 7, 7, 7, 7, 0, 0]
def T83 : List ℕ := [2, 2, 2, 2, 2, 2, 2, 2, 2, 2, 2, 2, 2, 2, 2, 2, 2, 2, 2, 2, 2, 2, 2, 2, 2, 2, 2, 2, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 6, 7, 8, 9, 6, 7, 8, 9, 6, 7, 8, 9, 6, 7, 8, 9, 0, 0, 0, 0, 0, 0, 0, 0, 0, 0, 0, 0, 0, 0, 0, 0, 4, 4, 1, 1, 1, 1, 1, 1, 1, 1, 1, 1, 1, 1, 1, 1, 1, 1, 1, 1, 1, 14, 14, 14, 14, 14, 14, 14, 14, 14, 14, 14, 14, 14, 14, 14, 14, 0, 7, 7, 7, 7, 0, 0]
def T84 : List ℕ := [2, 2, 2, 2, 2, 2, 2, 2, 2, 2, 2, 2, 2, 2, 2, 2, 2, 2, 2, 2, 2, 2, 2, 2, 2, 2, 2, 2, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 6, 7, 8, 9, 6, 7, 8, 9, 6, 7, 8, 9, 6, 7, 8, 9, 0, 0, 0, 0, 0, 0, 0, 0, 0, 0, 0, 0, 0, 0, 0, 0, 4, 4, 1, 1, 1, 1, 1, 1, 1, 1, 1, 1, 1, 1, 1, 1, 1, 1, 1, 1, 1, 14, 14, 14, 14, 14, 14, 14, 14, 14, 14, 14, 14, 14, 14, 14, 14, 0, 8, 8, 7, 7, 0, 0]
def T85 : List ℕ := [2, 2, 2, 2, 2, 2, 2, 2, 2, 2, 2, 2, 2, 2, 2, 2, 2, 2, 2, 2, 2, 2, 2, 2, 2, 2, 2, 2, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 6, 7, 8, 9, 6, 7, 8, 9, 6, 7, 8, 9, 6, 7, 8, 9, 0, 0, 0, 0, 0, 0, 0, 0, 0, 0, 0, 0, 0, 0, 0, 0, 4, 4, 1, 1, 1, 1, 1, 1, 1, 1, 1, 1, 1, 1, 1, 1, 1, 1, 1, 1, 1, 16, 16, 16, 16, 16, 16, 16, 16, 16, 16, 16, 16, 16, 16, 16, 16, 1, 8, 8, 8, 8, 0, 0]
def T86 : List ℕ := [2, 2, 2, 2, 2, 2, 2, 2, 2, 2, 2, 2, 2, 2, 2, 2, 2, 2, 2, 2, 2, 2, 2, 2, 2, 2, 2, 2, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 6, 7, 8, 9, 6, 7, 8, 9, 6, 7, 8, 9, 6, 7, 8, 9, 0, 0, 0, 0, 0, 0, 0, 0, 0, 0, 0, 0, 0, 0, 0, 0, 4, 4, 1, 1, 1, 1, 1, 1, 1, 1, 1, 1, 1, 1, 1, 1, 1, 1, 1, 1, 1, 16, 16, 16, 16, 16, 16, 16, 16, 16, 16, 16, 16, 16, 16, 16, 16, 4, 8, 8, 8, 8, 0, 0]
def TEnd : List ℕ := [2, 2, 2, 2, 2, 2, 2, 2, 2, 2, 2, 2, 2, 2, 2, 2, 2, 2, 2, 2, 2, 2, 2, 2, 2, 2, 2, 2, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 6, 7, 8, 9, 6, 7, 8, 9, 6, 7, 8, 9, 6, 7, 8, 9, 0, 0, 0, 0, 0, 0, 0, 0, 0, 0, 0, 0, 0, 0, 0, 0, 4, 4, 1, 1, 1, 1, 1, 1, 1, 1, 1, 1, 1, 1, 1, 1, 1, 1, 1, 1, 1, 16, 16, 16, 16, 16, 16, 16, 16, 16, 16, 16, 16, 16, 16, 16, 16, 7, 8, 8, 8, 8, 0, 0]

end Cert.KernelIdeal.Talk
-- ==== Proof.KernelIdeal.Parts1.lean ====
module

public import proofs.«01_k».proof.Proof.KernelIdeal.Exchange
public import proofs.«01_k».proof.Proof.KernelIdeal.Tables

/-!
# Parts of the body, 1 of 8
-/

@[expose] public noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig ℕ (Elt F) ℕ UU ℕ

variable {X : Ins F} {c : Dev nD} {K : GSem nD τ sig → ℕ} {α : Type}
variable {Q : α → sProp (MT nD τ sig ℕ (Elt F) ℕ UU ℕ)}

theorem run_part8 {k : _ → Prog (TpuEff nD τ sig (Elt F) Λ₀ .tc) α} (h : Run X c K (ofList T9) (k ⟨c, (v2 c), (v5 c), (v7 c)⟩) Q) :
    Run X c K (ofList T8) (k0_part8 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 >>= k) Q := by
  rw [k0_part8_eq_skeleton]
  refine run_device ?_
  refine run_bar_signal0 (dev1_eq c) rfl rfl (by decide +kernel) ?_
  refine run_bar_signal1 (dev2_eq c) rfl rfl (by decide +kernel) ?_
  refine run_bar_wait rfl rfl (by decide +kernel) (by decide +kernel) ?_
  refine run_inp2 (by decide +kernel) ?_
  refine run_slot_dead 0 0 rfl _ rfl (by decide +kernel) fun _ => ?_
  refine run_slot_store 0 rfl _ rfl (by decide +kernel) rfl ?_
  refine run_inp3 (by decide +kernel) ?_
  refine run_slot_dead 1 0 rfl _ rfl (by decide +kernel) fun _ => ?_
  refine run_slot_store 1 rfl _ rfl (by decide +kernel) rfl ?_
  exact Run.table (by decide +kernel) h

theorem run_part9 {k : _ → Prog (TpuEff nD τ sig (Elt F) Λ₀ .tc) α} (h : Run X c K (ofList T10) (k 1#32) Q) :
    Run X c K (ofList T9) (k0_part9 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 c (v7 c) >>= k) Q := by
  rw [k0_part9_eq_skeleton]
  refine run_inp2 (by decide +kernel) ?_
  refine run_slot_dead 2 0 rfl _ rfl (by decide +kernel) fun _ => ?_
  refine run_slot_store 2 rfl _ rfl (by decide +kernel) rfl ?_
  refine run_inp3 (by decide +kernel) ?_
  refine run_slot_dead 3 0 rfl _ rfl (by decide +kernel) fun _ => ?_
  refine run_slot_store 3 rfl _ rfl (by decide +kernel) rfl ?_
  refine run_send 0 0 (dev3_eq c) rfl rfl rfl rfl (by decide) (by decide +kernel) (by decide +kernel) (by decide +kernel) (by decide +kernel) (by decide +kernel) ?_
  exact Run.table (by decide +kernel) h

theorem run_part10 {k : _ → Prog (TpuEff nD τ sig (Elt F) Λ₀ .tc) α} (h : Run X c K (ofList T11) (k ⟨⟩) Q) :
    Run X c K (ofList T10) (k0_part10 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 c (v5 c) (v7 c) 1#32 >>= k) Q := by
  rw [k0_part10_eq_skeleton]
  refine run_send 1 0 (dev4_eq c) rfl rfl rfl rfl (by decide) (by decide +kernel) (by decide +kernel) (by decide +kernel) (by decide +kernel) (by decide +kernel) ?_
  refine run_send 2 0 (dev5_eq c) rfl rfl rfl rfl (by decide) (by decide +kernel) (by decide +kernel) (by decide +kernel) (by decide +kernel) (by decide +kernel) ?_
  exact Run.table (by decide +kernel) h

theorem run_part11 {k : _ → Prog (TpuEff nD τ sig (Elt F) Λ₀ .tc) α} (h : Run X c K (ofList T12) (k (k0_pay30 (xV X c) (wqV X c 2))) Q) :
    Run X c K (ofList T11) (k0_part11 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 c >>= k) Q := by
  rw [k0_part11_eq_skeleton]
  refine run_send 3 0 (dev6_eq c) rfl rfl rfl rfl (by decide) (by decide +kernel) (by decide +kernel) (by decide +kernel) (by decide +kernel) (by decide +kernel) ?_
  refine run_inp0 (by decide +kernel) ?_
  refine run_inp1 (by decide +kernel) ?_
  refine run_q_dead 0 _ rfl (by decide +kernel) fun _ => ?_
  refine run_q_store 0 _ rfl (by decide +kernel) rfl ?_
  refine run_inp0 (by decide +kernel) ?_
  refine run_inp1 (by decide +kernel) ?_
  refine run_q_dead 1 _ rfl (by decide +kernel) fun _ => ?_
  refine run_q_store 1 _ rfl (by decide +kernel) rfl ?_
  refine run_inp0 (by decide +kernel) ?_
  refine run_inp1 (by decide +kernel) ?_
  exact Run.table (by decide +kernel) h

theorem run_part12 {k : _ → Prog (TpuEff nD τ sig (Elt F) Λ₀ .tc) α} (h : Run X c K (ofList T13) (k ⟨(k0_pay34 (xV X c)), (wqV X c 5)⟩) Q) :
    Run X c K (ofList T12) (k0_part12 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (k0_pay30 (xV X c) (wqV X c 2)) >>= k) Q := by
  rw [k0_part12_eq_skeleton]
  refine run_q_dead 2 _ rfl (by decide +kernel) fun _ => ?_
  refine run_q_store 2 _ rfl (by decide +kernel) rfl ?_
  refine run_inp0 (by decide +kernel) ?_
  refine run_inp1 (by decide +kernel) ?_
  refine run_q_dead 3 _ rfl (by decide +kernel) fun _ => ?_
  refine run_q_store 3 _ rfl (by decide +kernel) rfl ?_
  refine run_inp0 (by decide +kernel) ?_
  refine run_inp1 (by decide +kernel) ?_
  refine run_q_dead 4 _ rfl (by decide +kernel) fun _ => ?_
  refine run_q_store 4 _ rfl (by decide +kernel) rfl ?_
  refine run_inp0 (by decide +kernel) ?_
  refine run_inp1 (by decide +kernel) ?_
  exact Run.table (by decide +kernel) h

theorem run_part13 {k : _ → Prog (TpuEff nD τ sig (Elt F) Λ₀ .tc) α} (h : Run X c K (ofList T14) (k ⟨(v161 c), (v162 c), 64#32⟩) Q) :
    Run X c K (ofList T13) (k0_part13 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v2 c) (k0_pay34 (xV X c)) (wqV X c 5) >>= k) Q := by
  rw [k0_part13_eq_skeleton]
  refine run_q_dead 5 _ rfl (by decide +kernel) fun _ => ?_
  refine run_q_store 5 _ rfl (by decide +kernel) rfl ?_
  refine run_inp0 (by decide +kernel) ?_
  refine run_inp1 (by decide +kernel) ?_
  refine run_q_dead 6 _ rfl (by decide +kernel) fun _ => ?_
  refine run_q_store 6 _ rfl (by decide +kernel) rfl ?_
  refine run_inp0 (by decide +kernel) ?_
  refine run_inp1 (by decide +kernel) ?_
  refine run_q_dead 7 _ rfl (by decide +kernel) fun _ => ?_
  refine run_q_store 7 _ rfl (by decide +kernel) rfl ?_
  exact Run.table (by decide +kernel) h

theorem run_part14 {k : _ → Prog (TpuEff nD τ sig (Elt F) Λ₀ .tc) α} (h : Run X c K (ofList T15) (k ⟨(v188 c), (v190 c), (v193 c), (v207 c), (v209 c), 0#32⟩) Q) :
    Run X c K (ofList T14) (k0_part14 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v161 c) (v162 c) 64#32 >>= k) Q := by
  rw [k0_part14_eq_skeleton]
  exact Run.table (by decide +kernel) h

theorem run_part15 {k : _ → Prog (TpuEff nD τ sig (Elt F) Λ₀ .tc) α} (h : Run X c K (ofList T16) (k ⟨(v215 c), (v216 c), (v221 c), (v246 c), (v249 c), (v252 c)⟩) Q) :
    Run X c K (ofList T15) (k0_part15 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v2 c) (v188 c) (v190 c) (v193 c) (v207 c) (v209 c) 0#32 >>= k) Q := by
  rw [k0_part15_eq_skeleton]
  exact Run.table (by decide +kernel) h

theorem run_part16 {k : _ → Prog (TpuEff nD τ sig (Elt F) Λ₀ .tc) α} (h : Run X c K (ofList T17) (k ⟨(v259 c), (v295 c), (v297 c)⟩) Q) :
    Run X c K (ofList T16) (k0_part16 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v188 c) (v190 c) (v215 c) (v221 c) (v246 c) (v249 c) (v252 c) >>= k) Q := by
  rw [k0_part16_eq_skeleton]
  exact Run.table (by decide +kernel) h

end Cert.KernelIdeal.Talk
-- ==== Proof.KernelIdeal.Parts2.lean ====
module

public import proofs.«01_k».proof.Proof.KernelIdeal.Exchange
public import proofs.«01_k».proof.Proof.KernelIdeal.Tables

/-!
# Parts of the body, 2 of 8
-/

@[expose] public noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig ℕ (Elt F) ℕ UU ℕ

variable {X : Ins F} {c : Dev nD} {K : GSem nD τ sig → ℕ} {α : Type}
variable {Q : α → sProp (MT nD τ sig ℕ (Elt F) ℕ UU ℕ)}

theorem run_part17 {k : _ → Prog (TpuEff nD τ sig (Elt F) Λ₀ .tc) α} (h : Run X c K (ofList T18) (k ⟨(v298 c), (k0_pay58 (ver X 3 c 0))⟩) Q) :
    Run X c K (ofList T17) (k0_part17 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v295 c) (v297 c) >>= k) Q := by
  rw [k0_part17_eq_skeleton]
  refine run_slot_load_lent 0 0 0 rfl _ rfl (by decide +kernel) (by decide) ?_
  refine run_stg_dead 0 0 _ rfl (by decide +kernel) fun _ => ?_
  refine run_stg_store 0 0 0 _ rfl (by decide +kernel) rfl ?_
  refine run_slot_load_lent 1 0 0 rfl _ rfl (by decide +kernel) (by decide) ?_
  refine run_stg_dead 0 1 _ rfl (by decide +kernel) fun _ => ?_
  refine run_stg_store 0 1 0 _ rfl (by decide +kernel) rfl ?_
  refine run_slot_load_lent 2 0 0 rfl _ rfl (by decide +kernel) (by decide) ?_
  refine run_stg_dead 1 0 _ rfl (by decide +kernel) fun _ => ?_
  refine run_stg_store 1 0 0 _ rfl (by decide +kernel) rfl ?_
  refine run_slot_load_lent 3 0 0 rfl _ rfl (by decide +kernel) (by decide) ?_
  exact Run.table (by decide +kernel) h

theorem run_part18 {k : _ → Prog (TpuEff nD τ sig (Elt F) Λ₀ .tc) α} (h : Run X c K (ofList T19) (k (k0_pay63 (kvH X c 1 0 0 0))) Q) :
    Run X c K (ofList T18) (k0_part18 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v259 c) (k0_pay58 (ver X 3 c 0)) >>= k) Q := by
  rw [k0_part18_eq_skeleton]
  refine run_stg_dead 1 1 _ rfl (by decide +kernel) fun _ => ?_
  refine run_stg_store 1 1 0 _ rfl (by decide +kernel) rfl ?_
  refine run_stg_load 0 0 0 0 _ rfl (by decide +kernel) (by decide) ?_
  refine run_stg_load 0 1 0 0 _ rfl (by decide +kernel) (by decide) ?_
  refine run_q_load 0 0 _ rfl (by decide +kernel) (by decide) ?_
  refine run_acc_dead 0 _ rfl (by decide +kernel) fun _ => ?_
  refine run_acc_store 0 0 _ rfl (by decide +kernel) rfl ?_
  refine run_den_dead 0 _ rfl (by decide +kernel) fun _ => ?_
  refine run_den_store 0 0 _ rfl (by decide +kernel) rfl ?_
  refine run_stg_load 1 0 0 0 _ rfl (by decide +kernel) (by decide) ?_
  exact Run.table (by decide +kernel) h

theorem run_part19 {k : _ → Prog (TpuEff nD τ sig (Elt F) Λ₀ .tc) α} (h : Run X c K (ofList T20) (k (k0_pay67 (kvH X c 0 0 0 1))) Q) :
    Run X c K (ofList T19) (k0_part19 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v298 c) (k0_pay63 (kvH X c 1 0 0 0)) >>= k) Q := by
  rw [k0_part19_eq_skeleton]
  refine run_stg_load 1 1 0 0 _ rfl (by decide +kernel) (by decide) ?_
  refine run_q_load 0 0 _ rfl (by decide +kernel) (by decide) ?_
  refine run_acc_load 0 0 _ rfl (by decide +kernel) (by decide) ?_
  refine run_acc_load 0 0 _ rfl (by decide +kernel) (by decide) ?_
  refine run_acc_store 0 1 _ rfl (by decide +kernel) rfl ?_
  refine run_den_load 0 0 _ rfl (by decide +kernel) (by decide) ?_
  refine run_den_load 0 0 _ rfl (by decide +kernel) (by decide) ?_
  refine run_den_store 0 1 _ rfl (by decide +kernel) rfl ?_
  refine run_stg_load 0 0 0 1 _ rfl (by decide +kernel) (by decide) ?_
  exact Run.table (by decide +kernel) h

theorem run_part20 {k : _ → Prog (TpuEff nD τ sig (Elt F) Λ₀ .tc) α} (h : Run X c K (ofList T21) (k ⟨(k0_pay71 (kvH X c 1 1 0 1)), (k0_pay72 (v298 c) (kvH X c 1 0 0 1) (qH X c 1)), (constant S1024x128 .f32 0x00000000#32)⟩) Q) :
    Run X c K (ofList T20) (k0_part20 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v259 c) (v298 c) (k0_pay67 (kvH X c 0 0 0 1)) >>= k) Q := by
  rw [k0_part20_eq_skeleton]
  refine run_stg_load 0 1 0 1 _ rfl (by decide +kernel) (by decide) ?_
  refine run_q_load 1 0 _ rfl (by decide +kernel) (by decide) ?_
  refine run_acc_dead 1 _ rfl (by decide +kernel) fun _ => ?_
  refine run_acc_store 1 0 _ rfl (by decide +kernel) rfl ?_
  refine run_den_dead 1 _ rfl (by decide +kernel) fun _ => ?_
  refine run_den_store 1 0 _ rfl (by decide +kernel) rfl ?_
  refine run_stg_load 1 0 0 1 _ rfl (by decide +kernel) (by decide) ?_
  refine run_stg_load 1 1 0 1 _ rfl (by decide +kernel) (by decide) ?_
  refine run_q_load 1 0 _ rfl (by decide +kernel) (by decide) ?_
  exact Run.table (by decide +kernel) h

theorem run_part21 {k : _ → Prog (TpuEff nD τ sig (Elt F) Λ₀ .tc) α} (h : Run X c K (ofList T22) (k ⟨(k0_pay76 (v259 c) (kvH X c 0 0 0 2) (kvH X c 0 1 0 2) (qH X c 2)), (k0_pay77 (v216 c) (v259 c) (kvH X c 0 0 0 2) (qH X c 2))⟩) Q) :
    Run X c K (ofList T21) (k0_part21 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v259 c) (k0_pay71 (kvH X c 1 1 0 1)) (k0_pay72 (v298 c) (kvH X c 1 0 0 1) (qH X c 1)) (constant S1024x128 .f32 0x00000000#32) >>= k) Q := by
  rw [k0_part21_eq_skeleton]
  refine run_acc_load 1 0 _ rfl (by decide +kernel) (by decide) ?_
  refine run_acc_load 1 0 _ rfl (by decide +kernel) (by decide) ?_
  refine run_acc_store 1 1 _ rfl (by decide +kernel) rfl ?_
  refine run_den_load 1 0 _ rfl (by decide +kernel) (by decide) ?_
  refine run_den_load 1 0 _ rfl (by decide +kernel) (by decide) ?_
  refine run_den_store 1 1 _ rfl (by decide +kernel) rfl ?_
  refine run_stg_load 0 0 0 2 _ rfl (by decide +kernel) (by decide) ?_
  refine run_stg_load 0 1 0 2 _ rfl (by decide +kernel) (by decide) ?_
  refine run_q_load 2 0 _ rfl (by decide +kernel) (by decide) ?_
  exact Run.table (by decide +kernel) h

theorem run_part22 {k : _ → Prog (TpuEff nD τ sig (Elt F) Λ₀ .tc) α} (h : Run X c K (ofList T23) (k ⟨(k0_pay81 (v216 c) (v298 c) (kvH X c 1 0 0 2) (qH X c 2)), (denH X c 2 0)⟩) Q) :
    Run X c K (ofList T22) (k0_part22 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v298 c) (k0_pay76 (v259 c) (kvH X c 0 0 0 2) (kvH X c 0 1 0 2) (qH X c 2)) (k0_pay77 (v216 c) (v259 c) (kvH X c 0 0 0 2) (qH X c 2)) >>= k) Q := by
  rw [k0_part22_eq_skeleton]
  refine run_acc_dead 2 _ rfl (by decide +kernel) fun _ => ?_
  refine run_acc_store 2 0 _ rfl (by decide +kernel) rfl ?_
  refine run_den_dead 2 _ rfl (by decide +kernel) fun _ => ?_
  refine run_den_store 2 0 _ rfl (by decide +kernel) rfl ?_
  refine run_stg_load 1 0 0 2 _ rfl (by decide +kernel) (by decide) ?_
  refine run_stg_load 1 1 0 2 _ rfl (by decide +kernel) (by decide) ?_
  refine run_q_load 2 0 _ rfl (by decide +kernel) (by decide) ?_
  refine run_acc_load 2 0 _ rfl (by decide +kernel) (by decide) ?_
  refine run_acc_load 2 0 _ rfl (by decide +kernel) (by decide) ?_
  refine run_acc_store 2 1 _ rfl (by decide +kernel) rfl ?_
  refine run_den_load 2 0 _ rfl (by decide +kernel) (by decide) ?_
  exact Run.table (by decide +kernel) h

theorem run_part23 {k : _ → Prog (TpuEff nD τ sig (Elt F) Λ₀ .tc) α} (h : Run X c K (ofList T24) (k (k0_pay87 (kvH X c 1 0 0 3))) Q) :
    Run X c K (ofList T23) (k0_part23 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v259 c) (k0_pay81 (v216 c) (v298 c) (kvH X c 1 0 0 2) (qH X c 2)) (denH X c 2 0) >>= k) Q := by
  rw [k0_part23_eq_skeleton]
  refine run_den_load 2 0 _ rfl (by decide +kernel) (by decide) ?_
  refine run_den_store 2 1 _ rfl (by decide +kernel) rfl ?_
  refine run_stg_load 0 0 0 3 _ rfl (by decide +kernel) (by decide) ?_
  refine run_stg_load 0 1 0 3 _ rfl (by decide +kernel) (by decide) ?_
  refine run_q_load 3 0 _ rfl (by decide +kernel) (by decide) ?_
  refine run_acc_dead 3 _ rfl (by decide +kernel) fun _ => ?_
  refine run_acc_store 3 0 _ rfl (by decide +kernel) rfl ?_
  refine run_den_dead 3 _ rfl (by decide +kernel) fun _ => ?_
  refine run_den_store 3 0 _ rfl (by decide +kernel) rfl ?_
  refine run_stg_load 1 0 0 3 _ rfl (by decide +kernel) (by decide) ?_
  exact Run.table (by decide +kernel) h

theorem run_part24 {k : _ → Prog (TpuEff nD τ sig (Elt F) Λ₀ .tc) α} (h : Run X c K (ofList T25) (k (k0_pay91 (kvH X c 0 0 0 4))) Q) :
    Run X c K (ofList T24) (k0_part24 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v298 c) (k0_pay87 (kvH X c 1 0 0 3)) >>= k) Q := by
  rw [k0_part24_eq_skeleton]
  refine run_stg_load 1 1 0 3 _ rfl (by decide +kernel) (by decide) ?_
  refine run_q_load 3 0 _ rfl (by decide +kernel) (by decide) ?_
  refine run_acc_load 3 0 _ rfl (by decide +kernel) (by decide) ?_
  refine run_acc_load 3 0 _ rfl (by decide +kernel) (by decide) ?_
  refine run_acc_store 3 1 _ rfl (by decide +kernel) rfl ?_
  refine run_den_load 3 0 _ rfl (by decide +kernel) (by decide) ?_
  refine run_den_load 3 0 _ rfl (by decide +kernel) (by decide) ?_
  refine run_den_store 3 1 _ rfl (by decide +kernel) rfl ?_
  refine run_stg_load 0 0 0 4 _ rfl (by decide +kernel) (by decide) ?_
  exact Run.table (by decide +kernel) h

theorem run_part25 {k : _ → Prog (TpuEff nD τ sig (Elt F) Λ₀ .tc) α} (h : Run X c K (ofList T26) (k ⟨(k0_pay95 (kvH X c 1 1 0 4)), (k0_pay96 (v298 c) (kvH X c 1 0 0 4) (qH X c 4)), (constant S1024x128 .f32 0x00000000#32)⟩) Q) :
    Run X c K (ofList T25) (k0_part25 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v259 c) (v298 c) (k0_pay91 (kvH X c 0 0 0 4)) >>= k) Q := by
  rw [k0_part25_eq_skeleton]
  refine run_stg_load 0 1 0 4 _ rfl (by decide +kernel) (by decide) ?_
  refine run_q_load 4 0 _ rfl (by decide +kernel) (by decide) ?_
  refine run_acc_dead 4 _ rfl (by decide +kernel) fun _ => ?_
  refine run_acc_store 4 0 _ rfl (by decide +kernel) rfl ?_
  refine run_den_dead 4 _ rfl (by decide +kernel) fun _ => ?_
  refine run_den_store 4 0 _ rfl (by decide +kernel) rfl ?_
  refine run_stg_load 1 0 0 4 _ rfl (by decide +kernel) (by decide) ?_
  refine run_stg_load 1 1 0 4 _ rfl (by decide +kernel) (by decide) ?_
  refine run_q_load 4 0 _ rfl (by decide +kernel) (by decide) ?_
  exact Run.table (by decide +kernel) h

end Cert.KernelIdeal.Talk
-- ==== Proof.KernelIdeal.Parts3.lean ====
module

public import proofs.«01_k».proof.Proof.KernelIdeal.Exchange
public import proofs.«01_k».proof.Proof.KernelIdeal.Tables

/-!
# Parts of the body, 3 of 8
-/

@[expose] public noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig ℕ (Elt F) ℕ UU ℕ

variable {X : Ins F} {c : Dev nD} {K : GSem nD τ sig → ℕ} {α : Type}
variable {Q : α → sProp (MT nD τ sig ℕ (Elt F) ℕ UU ℕ)}

theorem run_part26 {k : _ → Prog (TpuEff nD τ sig (Elt F) Λ₀ .tc) α} (h : Run X c K (ofList T27) (k ⟨(k0_pay100 (v259 c) (kvH X c 0 0 0 5) (kvH X c 0 1 0 5) (qH X c 5)), (k0_pay101 (v216 c) (v259 c) (kvH X c 0 0 0 5) (qH X c 5))⟩) Q) :
    Run X c K (ofList T26) (k0_part26 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v259 c) (k0_pay95 (kvH X c 1 1 0 4)) (k0_pay96 (v298 c) (kvH X c 1 0 0 4) (qH X c 4)) (constant S1024x128 .f32 0x00000000#32) >>= k) Q := by
  rw [k0_part26_eq_skeleton]
  refine run_acc_load 4 0 _ rfl (by decide +kernel) (by decide) ?_
  refine run_acc_load 4 0 _ rfl (by decide +kernel) (by decide) ?_
  refine run_acc_store 4 1 _ rfl (by decide +kernel) rfl ?_
  refine run_den_load 4 0 _ rfl (by decide +kernel) (by decide) ?_
  refine run_den_load 4 0 _ rfl (by decide +kernel) (by decide) ?_
  refine run_den_store 4 1 _ rfl (by decide +kernel) rfl ?_
  refine run_stg_load 0 0 0 5 _ rfl (by decide +kernel) (by decide) ?_
  refine run_stg_load 0 1 0 5 _ rfl (by decide +kernel) (by decide) ?_
  refine run_q_load 5 0 _ rfl (by decide +kernel) (by decide) ?_
  exact Run.table (by decide +kernel) h

theorem run_part27 {k : _ → Prog (TpuEff nD τ sig (Elt F) Λ₀ .tc) α} (h : Run X c K (ofList T28) (k ⟨(k0_pay105 (v216 c) (v298 c) (kvH X c 1 0 0 5) (qH X c 5)), (denH X c 5 0)⟩) Q) :
    Run X c K (ofList T27) (k0_part27 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v298 c) (k0_pay100 (v259 c) (kvH X c 0 0 0 5) (kvH X c 0 1 0 5) (qH X c 5)) (k0_pay101 (v216 c) (v259 c) (kvH X c 0 0 0 5) (qH X c 5)) >>= k) Q := by
  rw [k0_part27_eq_skeleton]
  refine run_acc_dead 5 _ rfl (by decide +kernel) fun _ => ?_
  refine run_acc_store 5 0 _ rfl (by decide +kernel) rfl ?_
  refine run_den_dead 5 _ rfl (by decide +kernel) fun _ => ?_
  refine run_den_store 5 0 _ rfl (by decide +kernel) rfl ?_
  refine run_stg_load 1 0 0 5 _ rfl (by decide +kernel) (by decide) ?_
  refine run_stg_load 1 1 0 5 _ rfl (by decide +kernel) (by decide) ?_
  refine run_q_load 5 0 _ rfl (by decide +kernel) (by decide) ?_
  refine run_acc_load 5 0 _ rfl (by decide +kernel) (by decide) ?_
  refine run_acc_load 5 0 _ rfl (by decide +kernel) (by decide) ?_
  refine run_acc_store 5 1 _ rfl (by decide +kernel) rfl ?_
  refine run_den_load 5 0 _ rfl (by decide +kernel) (by decide) ?_
  exact Run.table (by decide +kernel) h

theorem run_part28 {k : _ → Prog (TpuEff nD τ sig (Elt F) Λ₀ .tc) α} (h : Run X c K (ofList T29) (k (k0_pay111 (kvH X c 1 0 0 6))) Q) :
    Run X c K (ofList T28) (k0_part28 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v259 c) (k0_pay105 (v216 c) (v298 c) (kvH X c 1 0 0 5) (qH X c 5)) (denH X c 5 0) >>= k) Q := by
  rw [k0_part28_eq_skeleton]
  refine run_den_load 5 0 _ rfl (by decide +kernel) (by decide) ?_
  refine run_den_store 5 1 _ rfl (by decide +kernel) rfl ?_
  refine run_stg_load 0 0 0 6 _ rfl (by decide +kernel) (by decide) ?_
  refine run_stg_load 0 1 0 6 _ rfl (by decide +kernel) (by decide) ?_
  refine run_q_load 6 0 _ rfl (by decide +kernel) (by decide) ?_
  refine run_acc_dead 6 _ rfl (by decide +kernel) fun _ => ?_
  refine run_acc_store 6 0 _ rfl (by decide +kernel) rfl ?_
  refine run_den_dead 6 _ rfl (by decide +kernel) fun _ => ?_
  refine run_den_store 6 0 _ rfl (by decide +kernel) rfl ?_
  refine run_stg_load 1 0 0 6 _ rfl (by decide +kernel) (by decide) ?_
  exact Run.table (by decide +kernel) h

theorem run_part29 {k : _ → Prog (TpuEff nD τ sig (Elt F) Λ₀ .tc) α} (h : Run X c K (ofList T30) (k (k0_pay115 (kvH X c 0 0 0 7))) Q) :
    Run X c K (ofList T29) (k0_part29 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v298 c) (k0_pay111 (kvH X c 1 0 0 6)) >>= k) Q := by
  rw [k0_part29_eq_skeleton]
  refine run_stg_load 1 1 0 6 _ rfl (by decide +kernel) (by decide) ?_
  refine run_q_load 6 0 _ rfl (by decide +kernel) (by decide) ?_
  refine run_acc_load 6 0 _ rfl (by decide +kernel) (by decide) ?_
  refine run_acc_load 6 0 _ rfl (by decide +kernel) (by decide) ?_
  refine run_acc_store 6 1 _ rfl (by decide +kernel) rfl ?_
  refine run_den_load 6 0 _ rfl (by decide +kernel) (by decide) ?_
  refine run_den_load 6 0 _ rfl (by decide +kernel) (by decide) ?_
  refine run_den_store 6 1 _ rfl (by decide +kernel) rfl ?_
  refine run_stg_load 0 0 0 7 _ rfl (by decide +kernel) (by decide) ?_
  exact Run.table (by decide +kernel) h

theorem run_part30 {k : _ → Prog (TpuEff nD τ sig (Elt F) Λ₀ .tc) α} (h : Run X c K (ofList T31) (k ⟨(k0_pay119 (kvH X c 1 1 0 7)), (k0_pay120 (v298 c) (kvH X c 1 0 0 7) (qH X c 7)), (constant S1024x128 .f32 0x00000000#32)⟩) Q) :
    Run X c K (ofList T30) (k0_part30 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v259 c) (v298 c) (k0_pay115 (kvH X c 0 0 0 7)) >>= k) Q := by
  rw [k0_part30_eq_skeleton]
  refine run_stg_load 0 1 0 7 _ rfl (by decide +kernel) (by decide) ?_
  refine run_q_load 7 0 _ rfl (by decide +kernel) (by decide) ?_
  refine run_acc_dead 7 _ rfl (by decide +kernel) fun _ => ?_
  refine run_acc_store 7 0 _ rfl (by decide +kernel) rfl ?_
  refine run_den_dead 7 _ rfl (by decide +kernel) fun _ => ?_
  refine run_den_store 7 0 _ rfl (by decide +kernel) rfl ?_
  refine run_stg_load 1 0 0 7 _ rfl (by decide +kernel) (by decide) ?_
  refine run_stg_load 1 1 0 7 _ rfl (by decide +kernel) (by decide) ?_
  refine run_q_load 7 0 _ rfl (by decide +kernel) (by decide) ?_
  exact Run.table (by decide +kernel) h

theorem run_part31 {k : _ → Prog (TpuEff nD τ sig (Elt F) Λ₀ .tc) α} (h : Run X c K (ofList T32) (k ⟨⟩) Q) :
    Run X c K (ofList T31) (k0_part31 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (k0_pay119 (kvH X c 1 1 0 7)) (k0_pay120 (v298 c) (kvH X c 1 0 0 7) (qH X c 7)) (constant S1024x128 .f32 0x00000000#32) >>= k) Q := by
  rw [k0_part31_eq_skeleton]
  refine run_acc_load 7 0 _ rfl (by decide +kernel) (by decide) ?_
  refine run_acc_load 7 0 _ rfl (by decide +kernel) (by decide) ?_
  refine run_acc_store 7 1 _ rfl (by decide +kernel) rfl ?_
  refine run_den_load 7 0 _ rfl (by decide +kernel) (by decide) ?_
  refine run_den_load 7 0 _ rfl (by decide +kernel) (by decide) ?_
  refine run_den_store 7 1 _ rfl (by decide +kernel) rfl ?_
  refine run_wait_send 0 0 rfl (by rfl) (by decide +kernel) (by decide +kernel) (by decide +kernel) ?_
  exact Run.table (by decide +kernel) h

theorem run_part32 {k : _ → Prog (TpuEff nD τ sig (Elt F) Λ₀ .tc) α} (h : Run X c K (ofList T33) (k ⟨⟩) Q) :
    Run X c K (ofList T32) (k0_part32 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 c (v5 c) (v7 c) >>= k) Q := by
  rw [k0_part32_eq_skeleton]
  refine run_wait_send 1 0 rfl (by rfl) (by decide +kernel) (by decide +kernel) (by decide +kernel) ?_
  refine run_wait_send 2 0 rfl (by rfl) (by decide +kernel) (by decide +kernel) (by decide +kernel) ?_
  refine run_wait_send 3 0 rfl (by rfl) (by decide +kernel) (by decide +kernel) (by decide +kernel) ?_
  refine run_credit_signal 0 0 (dev7_eq c) rfl rfl (by decide +kernel) (by decide +kernel) ?_
  exact Run.table (by decide +kernel) h

theorem run_part33 {k : _ → Prog (TpuEff nD τ sig (Elt F) Λ₀ .tc) α} (h : Run X c K (ofList T34) (k ⟨⟩) Q) :
    Run X c K (ofList T33) (k0_part33 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 c (v5 c) (v7 c) >>= k) Q := by
  rw [k0_part33_eq_skeleton]
  refine run_credit_signal 1 0 (dev8_eq c) rfl rfl (by decide +kernel) (by decide +kernel) ?_
  refine run_wait_recv 0 0 rfl (by rfl) (by decide) (by decide +kernel) (by decide +kernel) (by decide +kernel) ?_
  refine run_send_give 0 1 (dev9_eq c) rfl rfl rfl rfl (by decide) (by decide +kernel) (by decide +kernel) (by decide +kernel) (by decide +kernel) (by decide +kernel) (by decide +kernel) ?_
  exact Run.table (by decide +kernel) h

theorem run_part34 {k : _ → Prog (TpuEff nD τ sig (Elt F) Λ₀ .tc) α} (h : Run X c K (ofList T35) (k ⟨⟩) Q) :
    Run X c K (ofList T34) (k0_part34 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 c (v5 c) (v7 c) >>= k) Q := by
  rw [k0_part34_eq_skeleton]
  refine run_wait_recv 2 0 rfl (by rfl) (by decide) (by decide +kernel) (by decide +kernel) (by decide +kernel) ?_
  refine run_send_give 2 1 (dev10_eq c) rfl rfl rfl rfl (by decide) (by decide +kernel) (by decide +kernel) (by decide +kernel) (by decide +kernel) (by decide +kernel) (by decide +kernel) ?_
  refine run_wait_recv 1 0 rfl (by rfl) (by decide) (by decide +kernel) (by decide +kernel) (by decide +kernel) ?_
  exact Run.table (by decide +kernel) h

end Cert.KernelIdeal.Talk
-- ==== Proof.KernelIdeal.Parts4.lean ====
module

public import proofs.«01_k».proof.Proof.KernelIdeal.Exchange
public import proofs.«01_k».proof.Proof.KernelIdeal.Tables

/-!
# Parts of the body, 4 of 8
-/

@[expose] public noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig ℕ (Elt F) ℕ UU ℕ

variable {X : Ins F} {c : Dev nD} {K : GSem nD τ sig → ℕ} {α : Type}
variable {Q : α → sProp (MT nD τ sig ℕ (Elt F) ℕ UU ℕ)}

theorem run_part35 {k : _ → Prog (TpuEff nD τ sig (Elt F) Λ₀ .tc) α} (h : Run X c K (ofList T36) (k ⟨⟩) Q) :
    Run X c K (ofList T35) (k0_part35 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 c (v5 c) (v7 c) >>= k) Q := by
  rw [k0_part35_eq_skeleton]
  refine run_send_give 1 1 (dev11_eq c) rfl rfl rfl rfl (by decide) (by decide +kernel) (by decide +kernel) (by decide +kernel) (by decide +kernel) (by decide +kernel) (by decide +kernel) ?_
  refine run_wait_recv 3 0 rfl (by rfl) (by decide) (by decide +kernel) (by decide +kernel) (by decide +kernel) ?_
  exact Run.table (by decide +kernel) h

theorem run_part36 {k : _ → Prog (TpuEff nD τ sig (Elt F) Λ₀ .tc) α} (h : Run X c K (ofList T37) (k ⟨(v779 c), (v799 c), (v804 c), (v807 c)⟩) Q) :
    Run X c K (ofList T36) (k0_part36 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 c (v2 c) (v188 c) (v190 c) (v215 c) >>= k) Q := by
  rw [k0_part36_eq_skeleton]
  refine run_send_give 3 1 (dev12_eq c) rfl rfl rfl rfl (by decide) (by decide +kernel) (by decide +kernel) (by decide +kernel) (by decide +kernel) (by decide +kernel) (by decide +kernel) ?_
  exact Run.table (by decide +kernel) h

theorem run_part37 {k : _ → Prog (TpuEff nD τ sig (Elt F) Λ₀ .tc) α} (h : Run X c K (ofList T38) (k ⟨(v817 c), (v843 c), (v850 c), (v852 c)⟩) Q) :
    Run X c K (ofList T37) (k0_part37 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v188 c) (v190 c) (v215 c) (v779 c) (v799 c) (v804 c) (v807 c) >>= k) Q := by
  rw [k0_part37_eq_skeleton]
  exact Run.table (by decide +kernel) h

theorem run_part38 {k : _ → Prog (TpuEff nD τ sig (Elt F) Λ₀ .tc) α} (h : Run X c K (ofList T39) (k (v856 c)) Q) :
    Run X c K (ofList T38) (k0_part38 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v843 c) (v850 c) (v852 c) >>= k) Q := by
  rw [k0_part38_eq_skeleton]
  refine run_slot_load_lent 0 1 1 rfl _ rfl (by decide +kernel) (by decide) ?_
  refine run_stg_whole 0 0 0 _ rfl (by decide +kernel) (by decide) ?_
  refine run_stg_store 0 0 1 _ rfl (by decide +kernel) rfl ?_
  refine run_slot_load_lent 1 1 1 rfl _ rfl (by decide +kernel) (by decide) ?_
  refine run_stg_whole 0 1 0 _ rfl (by decide +kernel) (by decide) ?_
  refine run_stg_store 0 1 1 _ rfl (by decide +kernel) rfl ?_
  refine run_slot_load_lent 2 1 1 rfl _ rfl (by decide +kernel) (by decide) ?_
  refine run_stg_whole 1 0 0 _ rfl (by decide +kernel) (by decide) ?_
  refine run_stg_store 1 0 1 _ rfl (by decide +kernel) rfl ?_
  exact Run.table (by decide +kernel) h

theorem run_part40 {k : _ → Prog (TpuEff nD τ sig (Elt F) Λ₀ .tc) α} (h : Run X c K (ofList T41) (k ⟨(v910 c), 0#32⟩) Q) :
    Run X c K (ofList T40) (k0_part40 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 c (v5 c) (v7 c) >>= k) Q := by
  rw [k0_part40_eq_skeleton]
  refine run_wait_send 1 1 rfl (by rfl) (by decide +kernel) (by decide +kernel) (by decide +kernel) ?_
  refine run_wait_send 3 1 rfl (by rfl) (by decide +kernel) (by decide +kernel) (by decide +kernel) ?_
  refine run_credit_signal 0 1 (dev13_eq c) rfl rfl (by decide +kernel) (by decide +kernel) ?_
  refine run_credit_signal 1 1 (dev14_eq c) rfl rfl (by decide +kernel) (by decide +kernel) ?_
  exact Run.table (by decide +kernel) h

theorem run_part41 {k : _ → Prog (TpuEff nD τ sig (Elt F) Λ₀ .tc) α} (h : Run X c K (ofList T42) (k ⟨⟩) Q) :
    Run X c K (ofList T41) (k0_part41 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 c (v5 c) (v7 c) (v910 c) 0#32 >>= k) Q := by
  rw [k0_part41_eq_skeleton]
  refine run_wait_recv_take 0 1 rfl (by rfl) (by decide) (by decide +kernel) (by decide +kernel) (by decide +kernel) (by decide +kernel) ?_
  refine run_send_give 0 2 (dev15_eq c) rfl rfl rfl rfl (by decide) (by decide +kernel) (by decide +kernel) (by decide +kernel) (by decide +kernel) (by decide +kernel) (by decide +kernel) ?_
  exact Run.table (by decide +kernel) h

theorem run_part42 {k : _ → Prog (TpuEff nD τ sig (Elt F) Λ₀ .tc) α} (h : Run X c K (ofList T43) (k ⟨⟩) Q) :
    Run X c K (ofList T42) (k0_part42 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 c (v5 c) (v7 c) >>= k) Q := by
  rw [k0_part42_eq_skeleton]
  refine run_wait_recv_take 2 1 rfl (by rfl) (by decide) (by decide +kernel) (by decide +kernel) (by decide +kernel) (by decide +kernel) ?_
  refine run_send_give 2 2 (dev16_eq c) rfl rfl rfl rfl (by decide) (by decide +kernel) (by decide +kernel) (by decide +kernel) (by decide +kernel) (by decide +kernel) (by decide +kernel) ?_
  refine run_wait_recv_take 1 1 rfl (by rfl) (by decide) (by decide +kernel) (by decide +kernel) (by decide +kernel) (by decide +kernel) ?_
  exact Run.table (by decide +kernel) h

theorem run_part43 {k : _ → Prog (TpuEff nD τ sig (Elt F) Λ₀ .tc) α} (h : Run X c K (ofList T44) (k ⟨⟩) Q) :
    Run X c K (ofList T43) (k0_part43 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 c (v5 c) >>= k) Q := by
  rw [k0_part43_eq_skeleton]
  refine run_send_give 1 2 (dev17_eq c) rfl rfl rfl rfl (by decide) (by decide +kernel) (by decide +kernel) (by decide +kernel) (by decide +kernel) (by decide +kernel) (by decide +kernel) ?_
  refine run_wait_recv_take 3 1 rfl (by rfl) (by decide) (by decide +kernel) (by decide +kernel) (by decide +kernel) (by decide +kernel) ?_
  exact Run.table (by decide +kernel) h

theorem run_part44 {k : _ → Prog (TpuEff nD τ sig (Elt F) Λ₀ .tc) α} (h : Run X c K (ofList T45) (k ⟨(v986 c), (v1011 c), (v1021 c), 3#32⟩) Q) :
    Run X c K (ofList T44) (k0_part44 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 c (v2 c) (v188 c) (v190 c) (v215 c) >>= k) Q := by
  rw [k0_part44_eq_skeleton]
  refine run_send_give 3 2 (dev18_eq c) rfl rfl rfl rfl (by decide) (by decide +kernel) (by decide +kernel) (by decide +kernel) (by decide +kernel) (by decide +kernel) (by decide +kernel) ?_
  exact Run.table (by decide +kernel) h

end Cert.KernelIdeal.Talk
-- ==== Proof.KernelIdeal.Parts5.lean ====
module

public import proofs.«01_k».proof.Proof.KernelIdeal.Exchange
public import proofs.«01_k».proof.Proof.KernelIdeal.Tables

/-!
# Parts of the body, 5 of 8
-/

@[expose] public noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig ℕ (Elt F) ℕ UU ℕ

variable {X : Ins F} {c : Dev nD} {K : GSem nD τ sig → ℕ} {α : Type}
variable {Q : α → sProp (MT nD τ sig ℕ (Elt F) ℕ UU ℕ)}

theorem run_part45 {k : _ → Prog (TpuEff nD τ sig (Elt F) Λ₀ .tc) α} (h : Run X c K (ofList T46) (k ⟨(v1024 c), (v1063 c)⟩) Q) :
    Run X c K (ofList T45) (k0_part45 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v188 c) (v190 c) (v215 c) (v986 c) (v1011 c) (v1021 c) 3#32 >>= k) Q := by
  rw [k0_part45_eq_skeleton]
  exact Run.table (by decide +kernel) h

theorem run_part46 {k : _ → Prog (TpuEff nD τ sig (Elt F) Λ₀ .tc) α} (h : Run X c K (ofList T47) (k ⟨(k0_pay147 (ver X 3 c 2)), (stgV X c 1 1 1)⟩) Q) :
    Run X c K (ofList T46) (k0_part46 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 >>= k) Q := by
  rw [k0_part46_eq_skeleton]
  refine run_slot_load_lent 0 2 2 rfl _ rfl (by decide +kernel) (by decide) ?_
  refine run_stg_whole 0 0 1 _ rfl (by decide +kernel) (by decide) ?_
  refine run_stg_store 0 0 2 _ rfl (by decide +kernel) rfl ?_
  refine run_slot_load_lent 1 2 2 rfl _ rfl (by decide +kernel) (by decide) ?_
  refine run_stg_whole 0 1 1 _ rfl (by decide +kernel) (by decide) ?_
  refine run_stg_store 0 1 2 _ rfl (by decide +kernel) rfl ?_
  refine run_slot_load_lent 2 2 2 rfl _ rfl (by decide +kernel) (by decide) ?_
  refine run_stg_whole 1 0 1 _ rfl (by decide +kernel) (by decide) ?_
  refine run_stg_store 1 0 2 _ rfl (by decide +kernel) rfl ?_
  refine run_slot_load_lent 3 2 2 rfl _ rfl (by decide +kernel) (by decide) ?_
  refine run_stg_whole 1 1 1 _ rfl (by decide +kernel) (by decide) ?_
  exact Run.table (by decide +kernel) h

theorem run_part48 {k : _ → Prog (TpuEff nD τ sig (Elt F) Λ₀ .tc) α} (h : Run X c K (ofList T49) (k ⟨⟩) Q) :
    Run X c K (ofList T48) (k0_part48 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 c (v5 c) (v7 c) >>= k) Q := by
  rw [k0_part48_eq_skeleton]
  refine run_wait_send 1 2 rfl (by rfl) (by decide +kernel) (by decide +kernel) (by decide +kernel) ?_
  refine run_wait_send 3 2 rfl (by rfl) (by decide +kernel) (by decide +kernel) (by decide +kernel) ?_
  refine run_credit_signal 0 2 (dev19_eq c) rfl rfl (by decide +kernel) (by decide +kernel) ?_
  refine run_credit_signal 1 2 (dev20_eq c) rfl rfl (by decide +kernel) (by decide +kernel) ?_
  exact Run.table (by decide +kernel) h

theorem run_part49 {k : _ → Prog (TpuEff nD τ sig (Elt F) Λ₀ .tc) α} (h : Run X c K (ofList T50) (k ⟨⟩) Q) :
    Run X c K (ofList T49) (k0_part49 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 c (v5 c) (v7 c) >>= k) Q := by
  rw [k0_part49_eq_skeleton]
  refine run_wait_recv_take 0 2 rfl (by rfl) (by decide) (by decide +kernel) (by decide +kernel) (by decide +kernel) (by decide +kernel) ?_
  refine run_credit_wait 0 0 rfl rfl (by decide) (by decide +kernel) (by decide +kernel) ?_
  refine run_send_give 0 3 (dev21_eq c) rfl rfl rfl rfl (by decide) (by decide +kernel) (by decide +kernel) (by decide +kernel) (by decide +kernel) (by decide +kernel) (by decide +kernel) ?_
  refine run_wait_recv_take 2 2 rfl (by rfl) (by decide) (by decide +kernel) (by decide +kernel) (by decide +kernel) (by decide +kernel) ?_
  refine run_credit_wait 1 0 rfl rfl (by decide) (by decide +kernel) (by decide +kernel) ?_
  exact Run.table (by decide +kernel) h

theorem run_part50 {k : _ → Prog (TpuEff nD τ sig (Elt F) Λ₀ .tc) α} (h : Run X c K (ofList T51) (k ⟨⟩) Q) :
    Run X c K (ofList T50) (k0_part50 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 c (v5 c) (v7 c) >>= k) Q := by
  rw [k0_part50_eq_skeleton]
  refine run_send_give 2 3 (dev22_eq c) rfl rfl rfl rfl (by decide) (by decide +kernel) (by decide +kernel) (by decide +kernel) (by decide +kernel) (by decide +kernel) (by decide +kernel) ?_
  refine run_wait_recv_take 1 2 rfl (by rfl) (by decide) (by decide +kernel) (by decide +kernel) (by decide +kernel) (by decide +kernel) ?_
  exact Run.table (by decide +kernel) h

theorem run_part51 {k : _ → Prog (TpuEff nD τ sig (Elt F) Λ₀ .tc) α} (h : Run X c K (ofList T52) (k 3#32) Q) :
    Run X c K (ofList T51) (k0_part51 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 c (v5 c) >>= k) Q := by
  rw [k0_part51_eq_skeleton]
  refine run_send_give 1 3 (dev23_eq c) rfl rfl rfl rfl (by decide) (by decide +kernel) (by decide +kernel) (by decide +kernel) (by decide +kernel) (by decide +kernel) (by decide +kernel) ?_
  refine run_wait_recv_take 3 2 rfl (by rfl) (by decide) (by decide +kernel) (by decide +kernel) (by decide +kernel) (by decide +kernel) ?_
  refine run_send_give 3 3 (dev24_eq c) rfl rfl rfl rfl (by decide) (by decide +kernel) (by decide +kernel) (by decide +kernel) (by decide +kernel) (by decide +kernel) (by decide +kernel) ?_
  exact Run.table (by decide +kernel) h

theorem run_part52 {k : _ → Prog (TpuEff nD τ sig (Elt F) Λ₀ .tc) α} (h : Run X c K (ofList T53) (k ⟨(v1193 c), (v1231 c), 1024#32⟩) Q) :
    Run X c K (ofList T52) (k0_part52 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v2 c) (v188 c) (v190 c) (v215 c) 3#32 >>= k) Q := by
  rw [k0_part52_eq_skeleton]
  exact Run.table (by decide +kernel) h

theorem run_part53 {k : _ → Prog (TpuEff nD τ sig (Elt F) Λ₀ .tc) α} (h : Run X c K (ofList T54) (k ⟨(v1270 c), (k0_pay154 (ver X 0 c 3))⟩) Q) :
    Run X c K (ofList T53) (k0_part53 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v188 c) (v190 c) (v215 c) (v1193 c) 1024#32 >>= k) Q := by
  rw [k0_part53_eq_skeleton]
  refine run_slot_load_lent 0 3 3 rfl _ rfl (by decide +kernel) (by decide) ?_
  exact Run.table (by decide +kernel) h

theorem run_part54 {k : _ → Prog (TpuEff nD τ sig (Elt F) Λ₀ .tc) α} (h : Run X c K (ofList T55) (k 0#32) Q) :
    Run X c K (ofList T54) (k0_part54 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (k0_pay154 (ver X 0 c 3)) >>= k) Q := by
  rw [k0_part54_eq_skeleton]
  refine run_stg_whole 0 0 2 _ rfl (by decide +kernel) (by decide) ?_
  refine run_stg_store 0 0 3 _ rfl (by decide +kernel) rfl ?_
  refine run_slot_load_lent 1 3 3 rfl _ rfl (by decide +kernel) (by decide) ?_
  refine run_stg_whole 0 1 2 _ rfl (by decide +kernel) (by decide) ?_
  refine run_stg_store 0 1 3 _ rfl (by decide +kernel) rfl ?_
  refine run_slot_load_lent 2 3 3 rfl _ rfl (by decide +kernel) (by decide) ?_
  refine run_stg_whole 1 0 2 _ rfl (by decide +kernel) (by decide) ?_
  refine run_stg_store 1 0 3 _ rfl (by decide +kernel) rfl ?_
  refine run_slot_load_lent 3 3 3 rfl _ rfl (by decide +kernel) (by decide) ?_
  refine run_stg_whole 1 1 2 _ rfl (by decide +kernel) (by decide) ?_
  refine run_stg_store 1 1 3 _ rfl (by decide +kernel) rfl ?_
  exact Run.table (by decide +kernel) h

end Cert.KernelIdeal.Talk
-- ==== Proof.KernelIdeal.Parts6.lean ====
module

public import proofs.«01_k».proof.Proof.KernelIdeal.Exchange
public import proofs.«01_k».proof.Proof.KernelIdeal.Tables

/-!
# Parts of the body, 6 of 8
-/

@[expose] public noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig ℕ (Elt F) ℕ UU ℕ

variable {X : Ins F} {c : Dev nD} {K : GSem nD τ sig → ℕ} {α : Type}
variable {Q : α → sProp (MT nD τ sig ℕ (Elt F) ℕ UU ℕ)}

theorem run_part56 {k : _ → Prog (TpuEff nD τ sig (Elt F) Λ₀ .tc) α} (h : Run X c K (ofList T57) (k ⟨⟩) Q) :
    Run X c K (ofList T56) (k0_part56 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 c (v5 c) (v7 c) >>= k) Q := by
  rw [k0_part56_eq_skeleton]
  refine run_wait_send 1 3 rfl (by rfl) (by decide +kernel) (by decide +kernel) (by decide +kernel) ?_
  refine run_wait_send 3 3 rfl (by rfl) (by decide +kernel) (by decide +kernel) (by decide +kernel) ?_
  refine run_credit_signal 0 3 (dev25_eq c) rfl rfl (by decide +kernel) (by decide +kernel) ?_
  refine run_credit_signal 1 3 (dev26_eq c) rfl rfl (by decide +kernel) (by decide +kernel) ?_
  refine run_wait_recv_take 0 3 rfl (by rfl) (by decide) (by decide +kernel) (by decide +kernel) (by decide +kernel) (by decide +kernel) ?_
  exact Run.table (by decide +kernel) h

theorem run_part57 {k : _ → Prog (TpuEff nD τ sig (Elt F) Λ₀ .tc) α} (h : Run X c K (ofList T58) (k ⟨⟩) Q) :
    Run X c K (ofList T57) (k0_part57 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 c (v5 c) (v7 c) >>= k) Q := by
  rw [k0_part57_eq_skeleton]
  refine run_credit_wait 0 1 rfl rfl (by decide) (by decide +kernel) (by decide +kernel) ?_
  refine run_send_give 0 4 (dev27_eq c) rfl rfl rfl rfl (by decide) (by decide +kernel) (by decide +kernel) (by decide +kernel) (by decide +kernel) (by decide +kernel) (by decide +kernel) ?_
  refine run_wait_recv_take 2 3 rfl (by rfl) (by decide) (by decide +kernel) (by decide +kernel) (by decide +kernel) (by decide +kernel) ?_
  refine run_credit_wait 1 1 rfl rfl (by decide) (by decide +kernel) (by decide +kernel) ?_
  exact Run.table (by decide +kernel) h

theorem run_part58 {k : _ → Prog (TpuEff nD τ sig (Elt F) Λ₀ .tc) α} (h : Run X c K (ofList T59) (k ⟨⟩) Q) :
    Run X c K (ofList T58) (k0_part58 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 c (v5 c) (v7 c) >>= k) Q := by
  rw [k0_part58_eq_skeleton]
  refine run_send_give 2 4 (dev28_eq c) rfl rfl rfl rfl (by decide) (by decide +kernel) (by decide +kernel) (by decide +kernel) (by decide +kernel) (by decide +kernel) (by decide +kernel) ?_
  refine run_wait_recv_take 1 3 rfl (by rfl) (by decide) (by decide +kernel) (by decide +kernel) (by decide +kernel) (by decide +kernel) ?_
  exact Run.table (by decide +kernel) h

theorem run_part59 {k : _ → Prog (TpuEff nD τ sig (Elt F) Λ₀ .tc) α} (h : Run X c K (ofList T60) (k ⟨(v1397 c), 8#32⟩) Q) :
    Run X c K (ofList T59) (k0_part59 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 c (v2 c) (v5 c) >>= k) Q := by
  rw [k0_part59_eq_skeleton]
  refine run_send_give 1 4 (dev29_eq c) rfl rfl rfl rfl (by decide) (by decide +kernel) (by decide +kernel) (by decide +kernel) (by decide +kernel) (by decide +kernel) (by decide +kernel) ?_
  refine run_wait_recv_take 3 3 rfl (by rfl) (by decide) (by decide +kernel) (by decide +kernel) (by decide +kernel) (by decide +kernel) ?_
  refine run_send_give 3 4 (dev30_eq c) rfl rfl rfl rfl (by decide) (by decide +kernel) (by decide +kernel) (by decide +kernel) (by decide +kernel) (by decide +kernel) (by decide +kernel) ?_
  exact Run.table (by decide +kernel) h

theorem run_part60 {k : _ → Prog (TpuEff nD τ sig (Elt F) Λ₀ .tc) α} (h : Run X c K (ofList T61) (k ⟨(v1438 c), (v1440 c), 64#32⟩) Q) :
    Run X c K (ofList T60) (k0_part60 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v2 c) (v188 c) (v190 c) (v215 c) (v1397 c) 8#32 >>= k) Q := by
  rw [k0_part60_eq_skeleton]
  exact Run.table (by decide +kernel) h

theorem run_part61 {k : _ → Prog (TpuEff nD τ sig (Elt F) Λ₀ .tc) α} (h : Run X c K (ofList T62) (k ⟨(v1477 c), (k0_pay164 (ver X 0 c 4))⟩) Q) :
    Run X c K (ofList T61) (k0_part61 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v188 c) (v190 c) (v215 c) (v1440 c) 64#32 >>= k) Q := by
  rw [k0_part61_eq_skeleton]
  refine run_slot_load_lent 0 0 4 rfl _ rfl (by decide +kernel) (by decide) ?_
  exact Run.table (by decide +kernel) h

theorem run_part63 {k : _ → Prog (TpuEff nD τ sig (Elt F) Λ₀ .tc) α} (h : Run X c K (ofList T64) (k ⟨⟩) Q) :
    Run X c K (ofList T63) (k0_part63 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 >>= k) Q := by
  rw [k0_part63_eq_skeleton]
  refine run_wait_send 0 4 rfl (by rfl) (by decide +kernel) (by decide +kernel) (by decide +kernel) ?_
  refine run_wait_send 2 4 rfl (by rfl) (by decide +kernel) (by decide +kernel) (by decide +kernel) ?_
  exact Run.table (by decide +kernel) h

theorem run_part64 {k : _ → Prog (TpuEff nD τ sig (Elt F) Λ₀ .tc) α} (h : Run X c K (ofList T65) (k ⟨⟩) Q) :
    Run X c K (ofList T64) (k0_part64 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v7 c) >>= k) Q := by
  rw [k0_part64_eq_skeleton]
  refine run_wait_send 1 4 rfl (by rfl) (by decide +kernel) (by decide +kernel) (by decide +kernel) ?_
  refine run_wait_send 3 4 rfl (by rfl) (by decide +kernel) (by decide +kernel) (by decide +kernel) ?_
  refine run_wait_recv_take 0 4 rfl (by rfl) (by decide) (by decide +kernel) (by decide +kernel) (by decide +kernel) (by decide +kernel) ?_
  refine run_credit_wait 0 2 rfl rfl (by decide) (by decide +kernel) (by decide +kernel) ?_
  exact Run.table (by decide +kernel) h

theorem run_part65 {k : _ → Prog (TpuEff nD τ sig (Elt F) Λ₀ .tc) α} (h : Run X c K (ofList T66) (k ⟨⟩) Q) :
    Run X c K (ofList T65) (k0_part65 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 c (v5 c) >>= k) Q := by
  rw [k0_part65_eq_skeleton]
  refine run_send 0 5 (dev31_eq c) rfl rfl rfl rfl (by decide) (by decide +kernel) (by decide +kernel) (by decide +kernel) (by decide +kernel) (by decide +kernel) ?_
  refine run_wait_recv_take 2 4 rfl (by rfl) (by decide) (by decide +kernel) (by decide +kernel) (by decide +kernel) (by decide +kernel) ?_
  refine run_credit_wait 1 2 rfl rfl (by decide) (by decide +kernel) (by decide +kernel) ?_
  exact Run.table (by decide +kernel) h

end Cert.KernelIdeal.Talk
-- ==== Proof.KernelIdeal.Parts7.lean ====
module

public import proofs.«01_k».proof.Proof.KernelIdeal.Exchange
public import proofs.«01_k».proof.Proof.KernelIdeal.Tables

/-!
# Parts of the body, 7 of 8
-/

@[expose] public noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig ℕ (Elt F) ℕ UU ℕ

variable {X : Ins F} {c : Dev nD} {K : GSem nD τ sig → ℕ} {α : Type}
variable {Q : α → sProp (MT nD τ sig ℕ (Elt F) ℕ UU ℕ)}

theorem run_part66 {k : _ → Prog (TpuEff nD τ sig (Elt F) Λ₀ .tc) α} (h : Run X c K (ofList T67) (k ⟨(v1581 c), 0#32⟩) Q) :
    Run X c K (ofList T66) (k0_part66 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 c (v5 c) (v7 c) >>= k) Q := by
  rw [k0_part66_eq_skeleton]
  refine run_send 2 5 (dev32_eq c) rfl rfl rfl rfl (by decide) (by decide +kernel) (by decide +kernel) (by decide +kernel) (by decide +kernel) (by decide +kernel) ?_
  refine run_wait_recv_take 1 4 rfl (by rfl) (by decide) (by decide +kernel) (by decide +kernel) (by decide +kernel) (by decide +kernel) ?_
  refine run_send 1 5 (dev33_eq c) rfl rfl rfl rfl (by decide) (by decide +kernel) (by decide +kernel) (by decide +kernel) (by decide +kernel) (by decide +kernel) ?_
  exact Run.table (by decide +kernel) h

theorem run_part67 {k : _ → Prog (TpuEff nD τ sig (Elt F) Λ₀ .tc) α} (h : Run X c K (ofList T68) (k ⟨(v1603 c), (v1604 c), 64#32, (v1605 c), (v1610 c)⟩) Q) :
    Run X c K (ofList T67) (k0_part67 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 c (v2 c) (v5 c) (v1581 c) 0#32 >>= k) Q := by
  rw [k0_part67_eq_skeleton]
  refine run_wait_recv_take 3 4 rfl (by rfl) (by decide) (by decide +kernel) (by decide +kernel) (by decide +kernel) (by decide +kernel) ?_
  refine run_send 3 5 (dev34_eq c) rfl rfl rfl rfl (by decide) (by decide +kernel) (by decide +kernel) (by decide +kernel) (by decide +kernel) (by decide +kernel) ?_
  exact Run.table (by decide +kernel) h

theorem run_part68 {k : _ → Prog (TpuEff nD τ sig (Elt F) Λ₀ .tc) α} (h : Run X c K (ofList T69) (k ⟨(v1641 c), (v1643 c), 64#32, (v1644 c), (v1655 c)⟩) Q) :
    Run X c K (ofList T68) (k0_part68 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v188 c) (v190 c) (v215 c) (v1603 c) (v1604 c) 64#32 (v1605 c) (v1610 c) >>= k) Q := by
  rw [k0_part68_eq_skeleton]
  exact Run.table (by decide +kernel) h

theorem run_part69 {k : _ → Prog (TpuEff nD τ sig (Elt F) Λ₀ .tc) α} (h : Run X c K (ofList T70) (k ⟨(v1680 c), (k0_pay175 (ver X 1 c 5))⟩) Q) :
    Run X c K (ofList T69) (k0_part69 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v188 c) (v190 c) (v215 c) (v1643 c) 64#32 (v1644 c) (v1655 c) >>= k) Q := by
  rw [k0_part69_eq_skeleton]
  refine run_slot_load_lent 0 1 5 rfl _ rfl (by decide +kernel) (by decide) ?_
  refine run_stg_whole 0 0 4 _ rfl (by decide +kernel) (by decide) ?_
  refine run_stg_store 0 0 5 _ rfl (by decide +kernel) rfl ?_
  refine run_slot_load_lent 1 1 5 rfl _ rfl (by decide +kernel) (by decide) ?_
  exact Run.table (by decide +kernel) h

theorem run_part71 {k : _ → Prog (TpuEff nD τ sig (Elt F) Λ₀ .tc) α} (h : Run X c K (ofList T72) (k ⟨⟩) Q) :
    Run X c K (ofList T71) (k0_part71 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 >>= k) Q := by
  rw [k0_part71_eq_skeleton]
  refine run_wait_send 0 5 rfl (by rfl) (by decide +kernel) (by decide +kernel) (by decide +kernel) ?_
  refine run_wait_send 2 5 rfl (by rfl) (by decide +kernel) (by decide +kernel) (by decide +kernel) ?_
  refine run_wait_send 1 5 rfl (by rfl) (by decide +kernel) (by decide +kernel) (by decide +kernel) ?_
  exact Run.table (by decide +kernel) h

theorem run_part72 {k : _ → Prog (TpuEff nD τ sig (Elt F) Λ₀ .tc) α} (h : Run X c K (ofList T73) (k ⟨⟩) Q) :
    Run X c K (ofList T72) (k0_part72 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 c (v7 c) >>= k) Q := by
  rw [k0_part72_eq_skeleton]
  refine run_wait_send 3 5 rfl (by rfl) (by decide +kernel) (by decide +kernel) (by decide +kernel) ?_
  refine run_wait_recv 0 5 rfl (by rfl) (by decide) (by decide +kernel) (by decide +kernel) (by decide +kernel) ?_
  refine run_credit_wait 0 3 rfl rfl (by decide) (by decide +kernel) (by decide +kernel) ?_
  refine run_send 0 6 (dev35_eq c) rfl rfl rfl rfl (by decide) (by decide +kernel) (by decide +kernel) (by decide +kernel) (by decide +kernel) (by decide +kernel) ?_
  exact Run.table (by decide +kernel) h

theorem run_part73 {k : _ → Prog (TpuEff nD τ sig (Elt F) Λ₀ .tc) α} (h : Run X c K (ofList T74) (k ⟨⟩) Q) :
    Run X c K (ofList T73) (k0_part73 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 c (v5 c) (v7 c) >>= k) Q := by
  rw [k0_part73_eq_skeleton]
  refine run_wait_recv 2 5 rfl (by rfl) (by decide) (by decide +kernel) (by decide +kernel) (by decide +kernel) ?_
  refine run_credit_wait 1 3 rfl rfl (by decide) (by decide +kernel) (by decide +kernel) ?_
  refine run_send 2 6 (dev36_eq c) rfl rfl rfl rfl (by decide) (by decide +kernel) (by decide +kernel) (by decide +kernel) (by decide +kernel) (by decide +kernel) ?_
  exact Run.table (by decide +kernel) h

theorem run_part74 {k : _ → Prog (TpuEff nD τ sig (Elt F) Λ₀ .tc) α} (h : Run X c K (ofList T75) (k ⟨⟩) Q) :
    Run X c K (ofList T74) (k0_part74 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 c (v5 c) (v7 c) >>= k) Q := by
  rw [k0_part74_eq_skeleton]
  refine run_wait_recv 1 5 rfl (by rfl) (by decide) (by decide +kernel) (by decide +kernel) (by decide +kernel) ?_
  refine run_send 1 6 (dev37_eq c) rfl rfl rfl rfl (by decide) (by decide +kernel) (by decide +kernel) (by decide +kernel) (by decide +kernel) (by decide +kernel) ?_
  refine run_wait_recv 3 5 rfl (by rfl) (by decide) (by decide +kernel) (by decide +kernel) (by decide +kernel) ?_
  exact Run.table (by decide +kernel) h

theorem run_part75 {k : _ → Prog (TpuEff nD τ sig (Elt F) Λ₀ .tc) α} (h : Run X c K (ofList T76) (k ⟨(v1806 c), (v1825 c)⟩) Q) :
    Run X c K (ofList T75) (k0_part75 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 c (v2 c) (v5 c) >>= k) Q := by
  rw [k0_part75_eq_skeleton]
  refine run_send 3 6 (dev38_eq c) rfl rfl rfl rfl (by decide) (by decide +kernel) (by decide +kernel) (by decide +kernel) (by decide +kernel) (by decide +kernel) ?_
  exact Run.table (by decide +kernel) h

end Cert.KernelIdeal.Talk
-- ==== Proof.KernelIdeal.Parts8.lean ====
module

public import proofs.«01_k».proof.Proof.KernelIdeal.Exchange
public import proofs.«01_k».proof.Proof.KernelIdeal.Tables

/-!
# Parts of the body, 8 of 8
-/

@[expose] public noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig ℕ (Elt F) ℕ UU ℕ

variable {X : Ins F} {c : Dev nD} {K : GSem nD τ sig → ℕ} {α : Type}
variable {Q : α → sProp (MT nD τ sig ℕ (Elt F) ℕ UU ℕ)}

theorem run_part76 {k : _ → Prog (TpuEff nD τ sig (Elt F) Λ₀ .tc) α} (h : Run X c K (ofList T77) (k ⟨(v1844 c), (v1865 c), (v1870 c), (v1871 c)⟩) Q) :
    Run X c K (ofList T76) (k0_part76 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v188 c) (v190 c) (v215 c) (v1806 c) (v1825 c) >>= k) Q := by
  rw [k0_part76_eq_skeleton]
  exact Run.table (by decide +kernel) h

theorem run_part77 {k : _ → Prog (TpuEff nD τ sig (Elt F) Λ₀ .tc) α} (h : Run X c K (ofList T78) (k ⟨(v1883 c), (k0_pay190 (ver X 2 c 6))⟩) Q) :
    Run X c K (ofList T77) (k0_part77 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v1865 c) (v1870 c) (v1871 c) >>= k) Q := by
  rw [k0_part77_eq_skeleton]
  refine run_slot_load_lent 0 2 6 rfl _ rfl (by decide +kernel) (by decide) ?_
  refine run_stg_whole 0 0 5 _ rfl (by decide +kernel) (by decide) ?_
  refine run_stg_store 0 0 6 _ rfl (by decide +kernel) rfl ?_
  refine run_slot_load_lent 1 2 6 rfl _ rfl (by decide +kernel) (by decide) ?_
  refine run_stg_whole 0 1 5 _ rfl (by decide +kernel) (by decide) ?_
  refine run_stg_store 0 1 6 _ rfl (by decide +kernel) rfl ?_
  refine run_slot_load_lent 2 2 6 rfl _ rfl (by decide +kernel) (by decide) ?_
  exact Run.table (by decide +kernel) h

theorem run_part79 {k : _ → Prog (TpuEff nD τ sig (Elt F) Λ₀ .tc) α} (h : Run X c K (ofList T80) (k ⟨⟩) Q) :
    Run X c K (ofList T79) (k0_part79 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v7 c) >>= k) Q := by
  rw [k0_part79_eq_skeleton]
  refine run_wait_send 2 6 rfl (by rfl) (by decide +kernel) (by decide +kernel) (by decide +kernel) ?_
  refine run_wait_send 1 6 rfl (by rfl) (by decide +kernel) (by decide +kernel) (by decide +kernel) ?_
  refine run_wait_send 3 6 rfl (by rfl) (by decide +kernel) (by decide +kernel) (by decide +kernel) ?_
  exact Run.table (by decide +kernel) h

theorem run_part80 {k : _ → Prog (TpuEff nD τ sig (Elt F) Λ₀ .tc) α} (h : Run X c K (ofList T81) (k ⟨⟩) Q) :
    Run X c K (ofList T80) (k0_part80 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v5 c) (v7 c) >>= k) Q := by
  rw [k0_part80_eq_skeleton]
  refine run_wait_recv 0 6 rfl (by rfl) (by decide) (by decide +kernel) (by decide +kernel) (by decide +kernel) ?_
  refine run_wait_recv 2 6 rfl (by rfl) (by decide) (by decide +kernel) (by decide +kernel) (by decide +kernel) ?_
  refine run_wait_recv 1 6 rfl (by rfl) (by decide) (by decide +kernel) (by decide +kernel) (by decide +kernel) ?_
  exact Run.table (by decide +kernel) h

theorem run_part81 {k : _ → Prog (TpuEff nD τ sig (Elt F) Λ₀ .tc) α} (h : Run X c K (ofList T82) (k ⟨(v1969 c), (v1989 c), 3#32⟩) Q) :
    Run X c K (ofList T81) (k0_part81 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v2 c) (v5 c) (v215 c) >>= k) Q := by
  rw [k0_part81_eq_skeleton]
  refine run_wait_recv 3 6 rfl (by rfl) (by decide) (by decide +kernel) (by decide +kernel) (by decide +kernel) ?_
  exact Run.table (by decide +kernel) h

theorem run_part82 {k : _ → Prog (TpuEff nD τ sig (Elt F) Λ₀ .tc) α} (h : Run X c K (ofList T83) (k ⟨(v2007 c), (v2028 c), (v2033 c), (v2036 c)⟩) Q) :
    Run X c K (ofList T82) (k0_part82 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v188 c) (v190 c) (v215 c) (v1969 c) (v1989 c) 3#32 >>= k) Q := by
  rw [k0_part82_eq_skeleton]
  exact Run.table (by decide +kernel) h

theorem run_part83 {k : _ → Prog (TpuEff nD τ sig (Elt F) Λ₀ .tc) α} (h : Run X c K (ofList T84) (k ⟨(v2046 c), (k0_pay204 (ver X 2 c 7))⟩) Q) :
    Run X c K (ofList T83) (k0_part83 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v2028 c) (v2033 c) (v2036 c) >>= k) Q := by
  rw [k0_part83_eq_skeleton]
  refine run_slot_load 0 3 7 rfl _ rfl (by decide +kernel) (by decide) ?_
  refine run_stg_whole 0 0 6 _ rfl (by decide +kernel) (by decide) ?_
  refine run_stg_store 0 0 7 _ rfl (by decide +kernel) rfl ?_
  refine run_slot_load 1 3 7 rfl _ rfl (by decide +kernel) (by decide) ?_
  refine run_stg_whole 0 1 6 _ rfl (by decide +kernel) (by decide) ?_
  refine run_stg_store 0 1 7 _ rfl (by decide +kernel) rfl ?_
  refine run_slot_load 2 3 7 rfl _ rfl (by decide +kernel) (by decide) ?_
  exact Run.table (by decide +kernel) h

theorem run_part85 {k : _ → Prog (TpuEff nD τ sig (Elt F) Λ₀ .tc) α} (h : Run X c K (ofList T86) (k ⟨(k0_pay215 (accH X c 4 15)), (denH X c 4 15)⟩) Q) :
    Run X c K (ofList T85) (k0_part85 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (k0_pay211 (accH X c 1 15) (denH X c 1 15)) (Scalar.ofBits .f32 0x3D23D70A#32) >>= k) Q := by
  rw [k0_part85_eq_skeleton]
  refine run_ctx_dead 1 _ rfl (by decide +kernel) fun _ => ?_
  refine run_ctx_store 1 _ rfl (by decide +kernel) rfl ?_
  refine run_acc_load 2 15 _ rfl (by decide +kernel) (by decide) ?_
  refine run_den_load 2 15 _ rfl (by decide +kernel) (by decide) ?_
  refine run_ctx_dead 2 _ rfl (by decide +kernel) fun _ => ?_
  refine run_ctx_store 2 _ rfl (by decide +kernel) rfl ?_
  refine run_acc_load 3 15 _ rfl (by decide +kernel) (by decide) ?_
  refine run_den_load 3 15 _ rfl (by decide +kernel) (by decide) ?_
  refine run_ctx_dead 3 _ rfl (by decide +kernel) fun _ => ?_
  refine run_ctx_store 3 _ rfl (by decide +kernel) rfl ?_
  refine run_acc_load 4 15 _ rfl (by decide +kernel) (by decide) ?_
  refine run_den_load 4 15 _ rfl (by decide +kernel) (by decide) ?_
  exact Run.table (by decide +kernel) h

theorem run_part86 {k : _ → Prog (TpuEff nD τ sig (Elt F) Λ₀ .tc) α} (h : Run X c K (ofList TEnd) (k (k0_pay219 (accH X c 7 15))) Q) :
    Run X c K (ofList T86) (k0_part86 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (k0_pay215 (accH X c 4 15)) (denH X c 4 15) >>= k) Q := by
  rw [k0_part86_eq_skeleton]
  refine run_ctx_dead 4 _ rfl (by decide +kernel) fun _ => ?_
  refine run_ctx_store 4 _ rfl (by decide +kernel) rfl ?_
  refine run_acc_load 5 15 _ rfl (by decide +kernel) (by decide) ?_
  refine run_den_load 5 15 _ rfl (by decide +kernel) (by decide) ?_
  refine run_ctx_dead 5 _ rfl (by decide +kernel) fun _ => ?_
  refine run_ctx_store 5 _ rfl (by decide +kernel) rfl ?_
  refine run_acc_load 6 15 _ rfl (by decide +kernel) (by decide) ?_
  refine run_den_load 6 15 _ rfl (by decide +kernel) (by decide) ?_
  refine run_ctx_dead 6 _ rfl (by decide +kernel) fun _ => ?_
  refine run_ctx_store 6 _ rfl (by decide +kernel) rfl ?_
  refine run_acc_load 7 15 _ rfl (by decide +kernel) (by decide) ?_
  exact Run.table (by decide +kernel) h

end Cert.KernelIdeal.Talk
-- ==== Proof.KernelIdeal.LoopRuns.lean ====
module

public import proofs.«01_k».proof.Proof.KernelIdeal.Exchange
public import proofs.«01_k».proof.Proof.KernelIdeal.Tables

/-!
# The loops over the heads
-/

@[expose] public noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig ℕ (Elt F) ℕ UU ℕ

/-- The table after `k` heads of a loop: each has taken two more half blocks. -/
def adv (L : ℕ → ℕ) (k : ℕ) : ℕ → ℕ := fun n => if (137 ≤ n ∧ n < 137 + k) ∨ (145 ≤ n ∧ n < 145 + k) then L n + 2 else L n

/-- A loop of age `a` may start: the stage is at age `a`, the queries are there, each head has taken `2 * a` half blocks. -/
structure Ready (L : ℕ → ℕ) (a : ℕ) : Prop where
  stg : ∀ i j : Fin 2, L (enc (.stg i j)) = a + 1
  q : ∀ h : Fin 8, L (enc (.q h)) = 1
  acc : ∀ h : Fin 8, L (enc (.acc h)) = 2 * a
  den : ∀ h : Fin 8, L (enc (.den h)) = 2 * a

theorem adv_stg (L : ℕ → ℕ) {k : ℕ} (hk : k ≤ 8) (i j : Fin 2) : adv L k (enc (.stg i j)) = L (enc (.stg i j)) :=
  if_neg (by simp only [enc]; omega)
theorem adv_q (L : ℕ → ℕ) {k : ℕ} (hk : k ≤ 8) (h : Fin 8) : adv L k (enc (.q h)) = L (enc (.q h)) :=
  if_neg (by simp only [enc]; omega)
theorem adv_acc (L : ℕ → ℕ) {k : ℕ} (h : Fin 8) (hh : h.val = k) : adv L k (enc (.acc h)) = L (enc (.acc h)) :=
  if_neg (by simp only [enc]; omega)
theorem adv_den (L : ℕ → ℕ) {k : ℕ} (h : Fin 8) (hh : h.val = k) : adv L k (enc (.den h)) = L (enc (.den h)) :=
  if_neg (by simp only [enc]; omega)
theorem adv_zero (L : ℕ → ℕ) : adv L 0 = L := by
  funext n; exact if_neg (by omega)

theorem upd_four (M : ℕ → ℕ) (e e' v w : ℕ) (n : ℕ) :
    upd (upd (upd (upd M e v) e' v) e w) e' w n = if n = e' then w else if n = e then w else M n := by
  unfold upd
  split_ifs <;> rfl

theorem adv_succ (L : ℕ → ℕ) (a : ℕ) (hL : Ready L a) (h : Fin 8) :
    upd (upd (upd (upd (adv L h.val) (enc (.acc h)) (2 * a + 1)) (enc (.den h)) (2 * a + 1)) (enc (.acc h)) (2 * a + 1 + 1)) (enc (.den h)) (2 * a + 1 + 1)
      = adv L (h.val + 1) := by
  have ha : L (137 + h.val) = 2 * a := hL.acc h
  have hd : L (145 + h.val) = 2 * a := hL.den h
  funext n
  refine (upd_four _ _ _ _ _ n).trans ?_
  show (if n = 145 + h.val then 2 * a + 1 + 1 else if n = 137 + h.val then 2 * a + 1 + 1
      else if (137 ≤ n ∧ n < 137 + h.val) ∨ (145 ≤ n ∧ n < 145 + h.val) then L n + 2 else L n)
    = if (137 ≤ n ∧ n < 137 + (h.val + 1)) ∨ (145 ≤ n ∧ n < 145 + (h.val + 1)) then L n + 2 else L n
  split_ifs <;> first
    | omega
    | (subst_vars; omega)

variable {X : Ins F} {c : Dev nD} {K : GSem nD τ sig → ℕ} {L : ℕ → ℕ} {α : Type}
variable {Q : α → sProp (MT nD τ sig ℕ (Elt F) ℕ UU ℕ)}

theorem Run.ret (a : α) (h : St X c K L ⊢ Q a) : Run X c K L (.ret a) Q := by
  unfold Run; rw [wp_ret]; exact h.trans fupd_intro

theorem Run.assoc {β γ : Type} {p : Prog (TpuEff nD τ sig (Elt F) Λ₀ .tc) β} {f : β → Prog (TpuEff nD τ sig (Elt F) Λ₀ .tc) γ}
    {k : γ → Prog (TpuEff nD τ sig (Elt F) Λ₀ .tc) α} (h : Run X c K L (p >>= fun x => f x >>= k) Q) : Run X c K L ((p >>= f) >>= k) Q := by
  rw [bind_assoc]; exact h

theorem Run.ret_bind {β : Type} {x : β} {f : β → Prog (TpuEff nD τ sig (Elt F) Λ₀ .tc) α} (h : Run X c K L (f x) Q) :
    Run X c K L ((.ret x : Prog (TpuEff nD τ sig (Elt F) Λ₀ .tc) β) >>= f) Q := h

/-! ## The loop of age 1 -/

theorem trips1 : k0_t1_loop.trips = 8 := by decide +kernel
theorem off1_eq (t : Fin k0_t1_loop.trips) : k0_off1 t = ![0, 0, t.val, 0, 0] := by revert t; decide +kernel
theorem off2_eq (t : Fin k0_t1_loop.trips) : k0_off2 t = ![0, 1, t.val, 0, 0] := by revert t; decide +kernel
theorem off3_eq (t : Fin k0_t1_loop.trips) : k0_off3 t = ![t.val, 0, 0] := by revert t; decide +kernel
theorem off4_eq (t : Fin k0_t1_loop.trips) : k0_off4 t = ![1, 0, t.val, 0, 0] := by revert t; decide +kernel
theorem off5_eq (t : Fin k0_t1_loop.trips) : k0_off5 t = ![1, 1, t.val, 0, 0] := by revert t; decide +kernel

theorem trip1 (hL : Ready L 1) (t : Fin k0_t1_loop.trips) (u : Unit) :
    Run X c K (adv L t.val) (k0_t1_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v817 c) (v856 c) t u) (fun _ => St X c K (adv L (t.val + 1))) := by
  have h8 : t.val < 8 := by have := t.isLt; have e := trips1; omega
  obtain ⟨h, hh⟩ : ∃ h : Fin 8, h.val = t.val := ⟨⟨t.val, h8⟩, rfl⟩
  rw [← hh, ← adv_succ L 1 hL h]
  have hs : ∀ i j : Fin 2, adv L h.val (enc (.stg i j)) = 1 + 1 := fun i j => (adv_stg L (by omega) i j).trans (hL.stg i j)
  have hq : adv L h.val (enc (.q h)) = 1 := (adv_q L (by omega) h).trans (hL.q h)
  have ha : adv L h.val (enc (.acc h)) = 2 * 1 := (adv_acc L h rfl).trans (hL.acc h)
  have hd : adv L h.val (enc (.den h)) = 2 * 1 := (adv_den L h rfl).trans (hL.den h)
  unfold k0_t1_body
  rw [k0_part1_eq_skeleton]
  generalize adv L h.val = M at hs hq ha hd ⊢
  refine run_stg_load 0 0 1 h _ (by rw [off1_eq, hh]; try rfl) (by exact hs _ _) (by decide) ?_
  refine run_stg_load 0 1 1 h _ (by rw [off2_eq, hh]; try rfl) (by exact hs _ _) (by decide) ?_
  refine run_q_load h 0 _ (by rw [off3_eq, hh]) (by exact hq) (by decide) ?_
  refine run_acc_load h 1 _ (by rw [off3_eq, hh]) (by exact ha) (by decide) ?_
  refine run_acc_load h 1 _ (by rw [off3_eq, hh]) (by exact ha) (by decide) ?_
  refine run_acc_store h 2 _ (by rw [off3_eq, hh]) (by exact ⟨ha, by decide⟩) rfl ?_
  refine run_den_load h 1 _ (by rw [off3_eq, hh]) (by rw [upd_of_ne _ (by simp only [enc]; omega)]; exact hd) (by decide) ?_
  refine run_den_load h 1 _ (by rw [off3_eq, hh]) (by rw [upd_of_ne _ (by simp only [enc]; omega)]; exact hd) (by decide) ?_
  refine run_den_store h 2 _ (by rw [off3_eq, hh]) (by rw [upd_of_ne _ (by simp only [enc]; omega)]; exact ⟨hd, by decide⟩) rfl ?_
  refine run_stg_load 1 0 1 h _ (by rw [off4_eq, hh]; try rfl) (by rw [upd_of_ne _ (by simp only [enc]; omega)]; rw [upd_of_ne _ (by simp only [enc]; omega)]; exact hs _ _) (by decide) ?_
  refine run_stg_load 1 1 1 h _ (by rw [off5_eq, hh]; try rfl) (by rw [upd_of_ne _ (by simp only [enc]; omega)]; rw [upd_of_ne _ (by simp only [enc]; omega)]; exact hs _ _) (by decide) ?_
  refine run_q_load h 0 _ (by rw [off3_eq, hh]) (by rw [upd_of_ne _ (by simp only [enc]; omega)]; rw [upd_of_ne _ (by simp only [enc]; omega)]; exact hq) (by decide) ?_
  refine run_acc_load h 2 _ (by rw [off3_eq, hh]) (by rw [upd_of_ne _ (by simp only [enc]; omega)]; exact upd_self _ _ _) (by decide) ?_
  refine run_acc_load h 2 _ (by rw [off3_eq, hh]) (by rw [upd_of_ne _ (by simp only [enc]; omega)]; exact upd_self _ _ _) (by decide) ?_
  refine run_acc_store h 3 _ (by rw [off3_eq, hh]) (by rw [upd_of_ne _ (by simp only [enc]; omega)]; exact ⟨upd_self _ _ _, by decide⟩) rfl ?_
  refine run_den_load h 2 _ (by rw [off3_eq, hh]) (by rw [upd_of_ne _ (by simp only [enc]; omega)]; exact upd_self _ _ _) (by decide) ?_
  refine run_den_load h 2 _ (by rw [off3_eq, hh]) (by rw [upd_of_ne _ (by simp only [enc]; omega)]; exact upd_self _ _ _) (by decide) ?_
  refine run_den_store h 3 _ (by rw [off3_eq, hh]) (by rw [upd_of_ne _ (by simp only [enc]; omega)]; exact ⟨upd_self _ _ _, by decide⟩) rfl ?_
  exact Run.ret _ .rfl

theorem loop1 {kk : Unit → Prog (TpuEff nD τ sig (Elt F) Λ₀ .tc) α} (hL : Ready L 1) (hr : Run X c K (adv L 8) (kk ⟨⟩) Q) :
    Run X c K L (Scf.Loop.for k0_t1_loop k0_t1_ok ⟨⟩ (k0_t1_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v817 c) (v856 c)) >>= kk) Q := by
  unfold Run at hr ⊢
  iintro H
  iapply (Scf.wp_for_bind frame (wpE (defs₀ (F := F)) 𝒱₀ (c : Thread nD τ) none) Set.univ k0_t1_loop.lb k0_t1_loop.ub k0_t1_loop.st k0_t1_ok ⟨⟩
    (k0_t1_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v817 c) (v856 c)) (fun k _ => St X c K (adv L k)) (fun k acc => trip1 hL k acc)) $$ [H]
  · iapply (Entails.of_eq (congrArg (St X c K) (adv_zero L).symm)); iexact H
  iintro %acc H
  iapply (show St X c K (adv L (Scf.trips k0_t1_loop.lb k0_t1_loop.ub k0_t1_loop.st)) ⊢ wp frame (wpE (defs₀ (F := F)) 𝒱₀ (c : Thread nD τ) none) Set.univ (kk acc) Q by
    rw [show Scf.trips k0_t1_loop.lb k0_t1_loop.ub k0_t1_loop.st = 8 from trips1]; exact hr)
  iexact H

/-! ## The loop of age 2 -/

theorem trips2 : k0_t2_loop.trips = 8 := by decide +kernel
theorem off6_eq (t : Fin k0_t2_loop.trips) : k0_off6 t = ![0, 0, t.val, 0, 0] := by revert t; decide +kernel
theorem off7_eq (t : Fin k0_t2_loop.trips) : k0_off7 t = ![0, 1, t.val, 0, 0] := by revert t; decide +kernel
theorem off8_eq (t : Fin k0_t2_loop.trips) : k0_off8 t = ![t.val, 0, 0] := by revert t; decide +kernel
theorem off9_eq (t : Fin k0_t2_loop.trips) : k0_off9 t = ![1, 0, t.val, 0, 0] := by revert t; decide +kernel
theorem off10_eq (t : Fin k0_t2_loop.trips) : k0_off10 t = ![1, 1, t.val, 0, 0] := by revert t; decide +kernel

theorem trip2 (hL : Ready L 2) (t : Fin k0_t2_loop.trips) (u : Unit) :
    Run X c K (adv L t.val) (k0_t2_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v1024 c) (v1063 c) (k0_pay147 (ver X 3 c 2)) (stgV X c 1 1 1) t u) (fun _ => St X c K (adv L (t.val + 1))) := by
  have h8 : t.val < 8 := by have := t.isLt; have e := trips2; omega
  obtain ⟨h, hh⟩ : ∃ h : Fin 8, h.val = t.val := ⟨⟨t.val, h8⟩, rfl⟩
  rw [← hh, ← adv_succ L 2 hL h]
  have hs : ∀ i j : Fin 2, adv L h.val (enc (.stg i j)) = 2 + 1 := fun i j => (adv_stg L (by omega) i j).trans (hL.stg i j)
  have hq : adv L h.val (enc (.q h)) = 1 := (adv_q L (by omega) h).trans (hL.q h)
  have ha : adv L h.val (enc (.acc h)) = 2 * 2 := (adv_acc L h rfl).trans (hL.acc h)
  have hd : adv L h.val (enc (.den h)) = 2 * 2 := (adv_den L h rfl).trans (hL.den h)
  unfold k0_t2_body
  rw [k0_part2_eq_skeleton]
  generalize adv L h.val = M at hs hq ha hd ⊢
  refine run_stg_load 0 0 2 h _ (by rw [off6_eq, hh]; try rfl) (by exact hs _ _) (by decide) ?_
  refine run_stg_load 0 1 2 h _ (by rw [off7_eq, hh]; try rfl) (by exact hs _ _) (by decide) ?_
  refine run_q_load h 0 _ (by rw [off8_eq, hh]) (by exact hq) (by decide) ?_
  refine run_acc_load h 3 _ (by rw [off8_eq, hh]) (by exact ha) (by decide) ?_
  refine run_acc_load h 3 _ (by rw [off8_eq, hh]) (by exact ha) (by decide) ?_
  refine run_acc_store h 4 _ (by rw [off8_eq, hh]) (by exact ⟨ha, by decide⟩) rfl ?_
  refine run_den_load h 3 _ (by rw [off8_eq, hh]) (by rw [upd_of_ne _ (by simp only [enc]; omega)]; exact hd) (by decide) ?_
  refine run_den_load h 3 _ (by rw [off8_eq, hh]) (by rw [upd_of_ne _ (by simp only [enc]; omega)]; exact hd) (by decide) ?_
  refine run_den_store h 4 _ (by rw [off8_eq, hh]) (by rw [upd_of_ne _ (by simp only [enc]; omega)]; exact ⟨hd, by decide⟩) rfl ?_
  refine run_stg_load 1 0 2 h _ (by rw [off9_eq, hh]; try rfl) (by rw [upd_of_ne _ (by simp only [enc]; omega)]; rw [upd_of_ne _ (by simp only [enc]; omega)]; exact hs _ _) (by decide) ?_
  refine run_stg_load 1 1 2 h _ (by rw [off10_eq, hh]; try rfl) (by rw [upd_of_ne _ (by simp only [enc]; omega)]; rw [upd_of_ne _ (by simp only [enc]; omega)]; exact hs _ _) (by decide) ?_
  refine run_q_load h 0 _ (by rw [off8_eq, hh]) (by rw [upd_of_ne _ (by simp only [enc]; omega)]; rw [upd_of_ne _ (by simp only [enc]; omega)]; exact hq) (by decide) ?_
  refine run_acc_load h 4 _ (by rw [off8_eq, hh]) (by rw [upd_of_ne _ (by simp only [enc]; omega)]; exact upd_self _ _ _) (by decide) ?_
  refine run_acc_load h 4 _ (by rw [off8_eq, hh]) (by rw [upd_of_ne _ (by simp only [enc]; omega)]; exact upd_self _ _ _) (by decide) ?_
  refine run_acc_store h 5 _ (by rw [off8_eq, hh]) (by rw [upd_of_ne _ (by simp only [enc]; omega)]; exact ⟨upd_self _ _ _, by decide⟩) rfl ?_
  refine run_den_load h 4 _ (by rw [off8_eq, hh]) (by rw [upd_of_ne _ (by simp only [enc]; omega)]; exact upd_self _ _ _) (by decide) ?_
  refine run_den_load h 4 _ (by rw [off8_eq, hh]) (by rw [upd_of_ne _ (by simp only [enc]; omega)]; exact upd_self _ _ _) (by decide) ?_
  refine run_den_store h 5 _ (by rw [off8_eq, hh]) (by rw [upd_of_ne _ (by simp only [enc]; omega)]; exact ⟨upd_self _ _ _, by decide⟩) rfl ?_
  exact Run.ret _ .rfl

theorem loop2 {kk : Unit → Prog (TpuEff nD τ sig (Elt F) Λ₀ .tc) α} (hL : Ready L 2) (hr : Run X c K (adv L 8) (kk ⟨⟩) Q) :
    Run X c K L (Scf.Loop.for k0_t2_loop k0_t2_ok ⟨⟩ (k0_t2_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v1024 c) (v1063 c) (k0_pay147 (ver X 3 c 2)) (stgV X c 1 1 1)) >>= kk) Q := by
  unfold Run at hr ⊢
  iintro H
  iapply (Scf.wp_for_bind frame (wpE (defs₀ (F := F)) 𝒱₀ (c : Thread nD τ) none) Set.univ k0_t2_loop.lb k0_t2_loop.ub k0_t2_loop.st k0_t2_ok ⟨⟩
    (k0_t2_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v1024 c) (v1063 c) (k0_pay147 (ver X 3 c 2)) (stgV X c 1 1 1)) (fun k _ => St X c K (adv L k)) (fun k acc => trip2 hL k acc)) $$ [H]
  · iapply (Entails.of_eq (congrArg (St X c K) (adv_zero L).symm)); iexact H
  iintro %acc H
  iapply (show St X c K (adv L (Scf.trips k0_t2_loop.lb k0_t2_loop.ub k0_t2_loop.st)) ⊢ wp frame (wpE (defs₀ (F := F)) 𝒱₀ (c : Thread nD τ) none) Set.univ (kk acc) Q by
    rw [show Scf.trips k0_t2_loop.lb k0_t2_loop.ub k0_t2_loop.st = 8 from trips2]; exact hr)
  iexact H

/-! ## The loop of age 3 -/

theorem trips3 : k0_t3_loop.trips = 8 := by decide +kernel
theorem off11_eq (t : Fin k0_t3_loop.trips) : k0_off11 t = ![0, 0, t.val, 0, 0] := by revert t; decide +kernel
theorem off12_eq (t : Fin k0_t3_loop.trips) : k0_off12 t = ![0, 1, t.val, 0, 0] := by revert t; decide +kernel
theorem off13_eq (t : Fin k0_t3_loop.trips) : k0_off13 t = ![t.val, 0, 0] := by revert t; decide +kernel
theorem off14_eq (t : Fin k0_t3_loop.trips) : k0_off14 t = ![1, 0, t.val, 0, 0] := by revert t; decide +kernel
theorem off15_eq (t : Fin k0_t3_loop.trips) : k0_off15 t = ![1, 1, t.val, 0, 0] := by revert t; decide +kernel

theorem trip3 (hL : Ready L 3) (t : Fin k0_t3_loop.trips) (u : Unit) :
    Run X c K (adv L t.val) (k0_t3_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v1231 c) (v1270 c) 0#32 t u) (fun _ => St X c K (adv L (t.val + 1))) := by
  have h8 : t.val < 8 := by have := t.isLt; have e := trips3; omega
  obtain ⟨h, hh⟩ : ∃ h : Fin 8, h.val = t.val := ⟨⟨t.val, h8⟩, rfl⟩
  rw [← hh, ← adv_succ L 3 hL h]
  have hs : ∀ i j : Fin 2, adv L h.val (enc (.stg i j)) = 3 + 1 := fun i j => (adv_stg L (by omega) i j).trans (hL.stg i j)
  have hq : adv L h.val (enc (.q h)) = 1 := (adv_q L (by omega) h).trans (hL.q h)
  have ha : adv L h.val (enc (.acc h)) = 2 * 3 := (adv_acc L h rfl).trans (hL.acc h)
  have hd : adv L h.val (enc (.den h)) = 2 * 3 := (adv_den L h rfl).trans (hL.den h)
  unfold k0_t3_body
  rw [k0_part3_eq_skeleton]
  generalize adv L h.val = M at hs hq ha hd ⊢
  refine run_stg_load 0 0 3 h _ (by rw [off11_eq, hh]; try rfl) (by exact hs _ _) (by decide) ?_
  refine run_stg_load 0 1 3 h _ (by rw [off12_eq, hh]; try rfl) (by exact hs _ _) (by decide) ?_
  refine run_q_load h 0 _ (by rw [off13_eq, hh]) (by exact hq) (by decide) ?_
  refine run_acc_load h 5 _ (by rw [off13_eq, hh]) (by exact ha) (by decide) ?_
  refine run_acc_load h 5 _ (by rw [off13_eq, hh]) (by exact ha) (by decide) ?_
  refine run_acc_store h 6 _ (by rw [off13_eq, hh]) (by exact ⟨ha, by decide⟩) rfl ?_
  refine run_den_load h 5 _ (by rw [off13_eq, hh]) (by rw [upd_of_ne _ (by simp only [enc]; omega)]; exact hd) (by decide) ?_
  refine run_den_load h 5 _ (by rw [off13_eq, hh]) (by rw [upd_of_ne _ (by simp only [enc]; omega)]; exact hd) (by decide) ?_
  refine run_den_store h 6 _ (by rw [off13_eq, hh]) (by rw [upd_of_ne _ (by simp only [enc]; omega)]; exact ⟨hd, by decide⟩) rfl ?_
  refine run_stg_load 1 0 3 h _ (by rw [off14_eq, hh]; try rfl) (by rw [upd_of_ne _ (by simp only [enc]; omega)]; rw [upd_of_ne _ (by simp only [enc]; omega)]; exact hs _ _) (by decide) ?_
  refine run_stg_load 1 1 3 h _ (by rw [off15_eq, hh]; try rfl) (by rw [upd_of_ne _ (by simp only [enc]; omega)]; rw [upd_of_ne _ (by simp only [enc]; omega)]; exact hs _ _) (by decide) ?_
  refine run_q_load h 0 _ (by rw [off13_eq, hh]) (by rw [upd_of_ne _ (by simp only [enc]; omega)]; rw [upd_of_ne _ (by simp only [enc]; omega)]; exact hq) (by decide) ?_
  refine run_acc_load h 6 _ (by rw [off13_eq, hh]) (by rw [upd_of_ne _ (by simp only [enc]; omega)]; exact upd_self _ _ _) (by decide) ?_
  refine run_acc_load h 6 _ (by rw [off13_eq, hh]) (by rw [upd_of_ne _ (by simp only [enc]; omega)]; exact upd_self _ _ _) (by decide) ?_
  refine run_acc_store h 7 _ (by rw [off13_eq, hh]) (by rw [upd_of_ne _ (by simp only [enc]; omega)]; exact ⟨upd_self _ _ _, by decide⟩) rfl ?_
  refine run_den_load h 6 _ (by rw [off13_eq, hh]) (by rw [upd_of_ne _ (by simp only [enc]; omega)]; exact upd_self _ _ _) (by decide) ?_
  refine run_den_load h 6 _ (by rw [off13_eq, hh]) (by rw [upd_of_ne _ (by simp only [enc]; omega)]; exact upd_self _ _ _) (by decide) ?_
  refine run_den_store h 7 _ (by rw [off13_eq, hh]) (by rw [upd_of_ne _ (by simp only [enc]; omega)]; exact ⟨upd_self _ _ _, by decide⟩) rfl ?_
  exact Run.ret _ .rfl

theorem loop3 {kk : Unit → Prog (TpuEff nD τ sig (Elt F) Λ₀ .tc) α} (hL : Ready L 3) (hr : Run X c K (adv L 8) (kk ⟨⟩) Q) :
    Run X c K L (Scf.Loop.for k0_t3_loop k0_t3_ok ⟨⟩ (k0_t3_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v1231 c) (v1270 c) 0#32) >>= kk) Q := by
  unfold Run at hr ⊢
  iintro H
  iapply (Scf.wp_for_bind frame (wpE (defs₀ (F := F)) 𝒱₀ (c : Thread nD τ) none) Set.univ k0_t3_loop.lb k0_t3_loop.ub k0_t3_loop.st k0_t3_ok ⟨⟩
    (k0_t3_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v1231 c) (v1270 c) 0#32) (fun k _ => St X c K (adv L k)) (fun k acc => trip3 hL k acc)) $$ [H]
  · iapply (Entails.of_eq (congrArg (St X c K) (adv_zero L).symm)); iexact H
  iintro %acc H
  iapply (show St X c K (adv L (Scf.trips k0_t3_loop.lb k0_t3_loop.ub k0_t3_loop.st)) ⊢ wp frame (wpE (defs₀ (F := F)) 𝒱₀ (c : Thread nD τ) none) Set.univ (kk acc) Q by
    rw [show Scf.trips k0_t3_loop.lb k0_t3_loop.ub k0_t3_loop.st = 8 from trips3]; exact hr)
  iexact H

/-! ## The loop of age 4 -/

theorem trips4 : k0_t4_loop.trips = 8 := by decide +kernel
theorem off16_eq (t : Fin k0_t4_loop.trips) : k0_off16 t = ![0, 0, t.val, 0, 0] := by revert t; decide +kernel
theorem off17_eq (t : Fin k0_t4_loop.trips) : k0_off17 t = ![0, 1, t.val, 0, 0] := by revert t; decide +kernel
theorem off18_eq (t : Fin k0_t4_loop.trips) : k0_off18 t = ![t.val, 0, 0] := by revert t; decide +kernel
theorem off19_eq (t : Fin k0_t4_loop.trips) : k0_off19 t = ![1, 0, t.val, 0, 0] := by revert t; decide +kernel
theorem off20_eq (t : Fin k0_t4_loop.trips) : k0_off20 t = ![1, 1, t.val, 0, 0] := by revert t; decide +kernel

theorem trip4 (hL : Ready L 4) (t : Fin k0_t4_loop.trips) (u : Unit) :
    Run X c K (adv L t.val) (k0_t4_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v1438 c) (v1477 c) (k0_pay164 (ver X 0 c 4)) t u) (fun _ => St X c K (adv L (t.val + 1))) := by
  have h8 : t.val < 8 := by have := t.isLt; have e := trips4; omega
  obtain ⟨h, hh⟩ : ∃ h : Fin 8, h.val = t.val := ⟨⟨t.val, h8⟩, rfl⟩
  rw [← hh, ← adv_succ L 4 hL h]
  have hs : ∀ i j : Fin 2, adv L h.val (enc (.stg i j)) = 4 + 1 := fun i j => (adv_stg L (by omega) i j).trans (hL.stg i j)
  have hq : adv L h.val (enc (.q h)) = 1 := (adv_q L (by omega) h).trans (hL.q h)
  have ha : adv L h.val (enc (.acc h)) = 2 * 4 := (adv_acc L h rfl).trans (hL.acc h)
  have hd : adv L h.val (enc (.den h)) = 2 * 4 := (adv_den L h rfl).trans (hL.den h)
  unfold k0_t4_body
  rw [k0_part4_eq_skeleton]
  generalize adv L h.val = M at hs hq ha hd ⊢
  refine run_stg_load 0 0 4 h _ (by rw [off16_eq, hh]; try rfl) (by exact hs _ _) (by decide) ?_
  refine run_stg_load 0 1 4 h _ (by rw [off17_eq, hh]; try rfl) (by exact hs _ _) (by decide) ?_
  refine run_q_load h 0 _ (by rw [off18_eq, hh]) (by exact hq) (by decide) ?_
  refine run_acc_load h 7 _ (by rw [off18_eq, hh]) (by exact ha) (by decide) ?_
  refine run_acc_load h 7 _ (by rw [off18_eq, hh]) (by exact ha) (by decide) ?_
  refine run_acc_store h 8 _ (by rw [off18_eq, hh]) (by exact ⟨ha, by decide⟩) rfl ?_
  refine run_den_load h 7 _ (by rw [off18_eq, hh]) (by rw [upd_of_ne _ (by simp only [enc]; omega)]; exact hd) (by decide) ?_
  refine run_den_load h 7 _ (by rw [off18_eq, hh]) (by rw [upd_of_ne _ (by simp only [enc]; omega)]; exact hd) (by decide) ?_
  refine run_den_store h 8 _ (by rw [off18_eq, hh]) (by rw [upd_of_ne _ (by simp only [enc]; omega)]; exact ⟨hd, by decide⟩) rfl ?_
  refine run_stg_load 1 0 4 h _ (by rw [off19_eq, hh]; try rfl) (by rw [upd_of_ne _ (by simp only [enc]; omega)]; rw [upd_of_ne _ (by simp only [enc]; omega)]; exact hs _ _) (by decide) ?_
  refine run_stg_load 1 1 4 h _ (by rw [off20_eq, hh]; try rfl) (by rw [upd_of_ne _ (by simp only [enc]; omega)]; rw [upd_of_ne _ (by simp only [enc]; omega)]; exact hs _ _) (by decide) ?_
  refine run_q_load h 0 _ (by rw [off18_eq, hh]) (by rw [upd_of_ne _ (by simp only [enc]; omega)]; rw [upd_of_ne _ (by simp only [enc]; omega)]; exact hq) (by decide) ?_
  refine run_acc_load h 8 _ (by rw [off18_eq, hh]) (by rw [upd_of_ne _ (by simp only [enc]; omega)]; exact upd_self _ _ _) (by decide) ?_
  refine run_acc_load h 8 _ (by rw [off18_eq, hh]) (by rw [upd_of_ne _ (by simp only [enc]; omega)]; exact upd_self _ _ _) (by decide) ?_
  refine run_acc_store h 9 _ (by rw [off18_eq, hh]) (by rw [upd_of_ne _ (by simp only [enc]; omega)]; exact ⟨upd_self _ _ _, by decide⟩) rfl ?_
  refine run_den_load h 8 _ (by rw [off18_eq, hh]) (by rw [upd_of_ne _ (by simp only [enc]; omega)]; exact upd_self _ _ _) (by decide) ?_
  refine run_den_load h 8 _ (by rw [off18_eq, hh]) (by rw [upd_of_ne _ (by simp only [enc]; omega)]; exact upd_self _ _ _) (by decide) ?_
  refine run_den_store h 9 _ (by rw [off18_eq, hh]) (by rw [upd_of_ne _ (by simp only [enc]; omega)]; exact ⟨upd_self _ _ _, by decide⟩) rfl ?_
  exact Run.ret _ .rfl

theorem loop4 {kk : Unit → Prog (TpuEff nD τ sig (Elt F) Λ₀ .tc) α} (hL : Ready L 4) (hr : Run X c K (adv L 8) (kk ⟨⟩) Q) :
    Run X c K L (Scf.Loop.for k0_t4_loop k0_t4_ok ⟨⟩ (k0_t4_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v1438 c) (v1477 c) (k0_pay164 (ver X 0 c 4))) >>= kk) Q := by
  unfold Run at hr ⊢
  iintro H
  iapply (Scf.wp_for_bind frame (wpE (defs₀ (F := F)) 𝒱₀ (c : Thread nD τ) none) Set.univ k0_t4_loop.lb k0_t4_loop.ub k0_t4_loop.st k0_t4_ok ⟨⟩
    (k0_t4_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v1438 c) (v1477 c) (k0_pay164 (ver X 0 c 4))) (fun k _ => St X c K (adv L k)) (fun k acc => trip4 hL k acc)) $$ [H]
  · iapply (Entails.of_eq (congrArg (St X c K) (adv_zero L).symm)); iexact H
  iintro %acc H
  iapply (show St X c K (adv L (Scf.trips k0_t4_loop.lb k0_t4_loop.ub k0_t4_loop.st)) ⊢ wp frame (wpE (defs₀ (F := F)) 𝒱₀ (c : Thread nD τ) none) Set.univ (kk acc) Q by
    rw [show Scf.trips k0_t4_loop.lb k0_t4_loop.ub k0_t4_loop.st = 8 from trips4]; exact hr)
  iexact H

/-! ## The loop of age 5 -/

theorem trips5 : k0_t5_loop.trips = 8 := by decide +kernel
theorem off21_eq (t : Fin k0_t5_loop.trips) : k0_off21 t = ![0, 0, t.val, 0, 0] := by revert t; decide +kernel
theorem off22_eq (t : Fin k0_t5_loop.trips) : k0_off22 t = ![0, 1, t.val, 0, 0] := by revert t; decide +kernel
theorem off23_eq (t : Fin k0_t5_loop.trips) : k0_off23 t = ![t.val, 0, 0] := by revert t; decide +kernel
theorem off24_eq (t : Fin k0_t5_loop.trips) : k0_off24 t = ![1, 0, t.val, 0, 0] := by revert t; decide +kernel
theorem off25_eq (t : Fin k0_t5_loop.trips) : k0_off25 t = ![1, 1, t.val, 0, 0] := by revert t; decide +kernel

theorem trip5 (hL : Ready L 5) (t : Fin k0_t5_loop.trips) (u : Unit) :
    Run X c K (adv L t.val) (k0_t5_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v1641 c) (v1680 c) (k0_pay175 (ver X 1 c 5)) t u) (fun _ => St X c K (adv L (t.val + 1))) := by
  have h8 : t.val < 8 := by have := t.isLt; have e := trips5; omega
  obtain ⟨h, hh⟩ : ∃ h : Fin 8, h.val = t.val := ⟨⟨t.val, h8⟩, rfl⟩
  rw [← hh, ← adv_succ L 5 hL h]
  have hs : ∀ i j : Fin 2, adv L h.val (enc (.stg i j)) = 5 + 1 := fun i j => (adv_stg L (by omega) i j).trans (hL.stg i j)
  have hq : adv L h.val (enc (.q h)) = 1 := (adv_q L (by omega) h).trans (hL.q h)
  have ha : adv L h.val (enc (.acc h)) = 2 * 5 := (adv_acc L h rfl).trans (hL.acc h)
  have hd : adv L h.val (enc (.den h)) = 2 * 5 := (adv_den L h rfl).trans (hL.den h)
  unfold k0_t5_body
  rw [k0_part5_eq_skeleton]
  generalize adv L h.val = M at hs hq ha hd ⊢
  refine run_stg_load 0 0 5 h _ (by rw [off21_eq, hh]; try rfl) (by exact hs _ _) (by decide) ?_
  refine run_stg_load 0 1 5 h _ (by rw [off22_eq, hh]; try rfl) (by exact hs _ _) (by decide) ?_
  refine run_q_load h 0 _ (by rw [off23_eq, hh]) (by exact hq) (by decide) ?_
  refine run_acc_load h 9 _ (by rw [off23_eq, hh]) (by exact ha) (by decide) ?_
  refine run_acc_load h 9 _ (by rw [off23_eq, hh]) (by exact ha) (by decide) ?_
  refine run_acc_store h 10 _ (by rw [off23_eq, hh]) (by exact ⟨ha, by decide⟩) rfl ?_
  refine run_den_load h 9 _ (by rw [off23_eq, hh]) (by rw [upd_of_ne _ (by simp only [enc]; omega)]; exact hd) (by decide) ?_
  refine run_den_load h 9 _ (by rw [off23_eq, hh]) (by rw [upd_of_ne _ (by simp only [enc]; omega)]; exact hd) (by decide) ?_
  refine run_den_store h 10 _ (by rw [off23_eq, hh]) (by rw [upd_of_ne _ (by simp only [enc]; omega)]; exact ⟨hd, by decide⟩) rfl ?_
  refine run_stg_load 1 0 5 h _ (by rw [off24_eq, hh]; try rfl) (by rw [upd_of_ne _ (by simp only [enc]; omega)]; rw [upd_of_ne _ (by simp only [enc]; omega)]; exact hs _ _) (by decide) ?_
  refine run_stg_load 1 1 5 h _ (by rw [off25_eq, hh]; try rfl) (by rw [upd_of_ne _ (by simp only [enc]; omega)]; rw [upd_of_ne _ (by simp only [enc]; omega)]; exact hs _ _) (by decide) ?_
  refine run_q_load h 0 _ (by rw [off23_eq, hh]) (by rw [upd_of_ne _ (by simp only [enc]; omega)]; rw [upd_of_ne _ (by simp only [enc]; omega)]; exact hq) (by decide) ?_
  refine run_acc_load h 10 _ (by rw [off23_eq, hh]) (by rw [upd_of_ne _ (by simp only [enc]; omega)]; exact upd_self _ _ _) (by decide) ?_
  refine run_acc_load h 10 _ (by rw [off23_eq, hh]) (by rw [upd_of_ne _ (by simp only [enc]; omega)]; exact upd_self _ _ _) (by decide) ?_
  refine run_acc_store h 11 _ (by rw [off23_eq, hh]) (by rw [upd_of_ne _ (by simp only [enc]; omega)]; exact ⟨upd_self _ _ _, by decide⟩) rfl ?_
  refine run_den_load h 10 _ (by rw [off23_eq, hh]) (by rw [upd_of_ne _ (by simp only [enc]; omega)]; exact upd_self _ _ _) (by decide) ?_
  refine run_den_load h 10 _ (by rw [off23_eq, hh]) (by rw [upd_of_ne _ (by simp only [enc]; omega)]; exact upd_self _ _ _) (by decide) ?_
  refine run_den_store h 11 _ (by rw [off23_eq, hh]) (by rw [upd_of_ne _ (by simp only [enc]; omega)]; exact ⟨upd_self _ _ _, by decide⟩) rfl ?_
  exact Run.ret _ .rfl

theorem loop5 {kk : Unit → Prog (TpuEff nD τ sig (Elt F) Λ₀ .tc) α} (hL : Ready L 5) (hr : Run X c K (adv L 8) (kk ⟨⟩) Q) :
    Run X c K L (Scf.Loop.for k0_t5_loop k0_t5_ok ⟨⟩ (k0_t5_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v1641 c) (v1680 c) (k0_pay175 (ver X 1 c 5))) >>= kk) Q := by
  unfold Run at hr ⊢
  iintro H
  iapply (Scf.wp_for_bind frame (wpE (defs₀ (F := F)) 𝒱₀ (c : Thread nD τ) none) Set.univ k0_t5_loop.lb k0_t5_loop.ub k0_t5_loop.st k0_t5_ok ⟨⟩
    (k0_t5_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v1641 c) (v1680 c) (k0_pay175 (ver X 1 c 5))) (fun k _ => St X c K (adv L k)) (fun k acc => trip5 hL k acc)) $$ [H]
  · iapply (Entails.of_eq (congrArg (St X c K) (adv_zero L).symm)); iexact H
  iintro %acc H
  iapply (show St X c K (adv L (Scf.trips k0_t5_loop.lb k0_t5_loop.ub k0_t5_loop.st)) ⊢ wp frame (wpE (defs₀ (F := F)) 𝒱₀ (c : Thread nD τ) none) Set.univ (kk acc) Q by
    rw [show Scf.trips k0_t5_loop.lb k0_t5_loop.ub k0_t5_loop.st = 8 from trips5]; exact hr)
  iexact H

/-! ## The loop of age 6 -/

theorem trips6 : k0_t6_loop.trips = 8 := by decide +kernel
theorem off26_eq (t : Fin k0_t6_loop.trips) : k0_off26 t = ![0, 0, t.val, 0, 0] := by revert t; decide +kernel
theorem off27_eq (t : Fin k0_t6_loop.trips) : k0_off27 t = ![0, 1, t.val, 0, 0] := by revert t; decide +kernel
theorem off28_eq (t : Fin k0_t6_loop.trips) : k0_off28 t = ![t.val, 0, 0] := by revert t; decide +kernel
theorem off29_eq (t : Fin k0_t6_loop.trips) : k0_off29 t = ![1, 0, t.val, 0, 0] := by revert t; decide +kernel
theorem off30_eq (t : Fin k0_t6_loop.trips) : k0_off30 t = ![1, 1, t.val, 0, 0] := by revert t; decide +kernel

theorem trip6 (hL : Ready L 6) (t : Fin k0_t6_loop.trips) (u : Unit) :
    Run X c K (adv L t.val) (k0_t6_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v1844 c) (v1883 c) (k0_pay190 (ver X 2 c 6)) t u) (fun _ => St X c K (adv L (t.val + 1))) := by
  have h8 : t.val < 8 := by have := t.isLt; have e := trips6; omega
  obtain ⟨h, hh⟩ : ∃ h : Fin 8, h.val = t.val := ⟨⟨t.val, h8⟩, rfl⟩
  rw [← hh, ← adv_succ L 6 hL h]
  have hs : ∀ i j : Fin 2, adv L h.val (enc (.stg i j)) = 6 + 1 := fun i j => (adv_stg L (by omega) i j).trans (hL.stg i j)
  have hq : adv L h.val (enc (.q h)) = 1 := (adv_q L (by omega) h).trans (hL.q h)
  have ha : adv L h.val (enc (.acc h)) = 2 * 6 := (adv_acc L h rfl).trans (hL.acc h)
  have hd : adv L h.val (enc (.den h)) = 2 * 6 := (adv_den L h rfl).trans (hL.den h)
  unfold k0_t6_body
  rw [k0_part6_eq_skeleton]
  generalize adv L h.val = M at hs hq ha hd ⊢
  refine run_stg_load 0 0 6 h _ (by rw [off26_eq, hh]; try rfl) (by exact hs _ _) (by decide) ?_
  refine run_stg_load 0 1 6 h _ (by rw [off27_eq, hh]; try rfl) (by exact hs _ _) (by decide) ?_
  refine run_q_load h 0 _ (by rw [off28_eq, hh]) (by exact hq) (by decide) ?_
  refine run_acc_load h 11 _ (by rw [off28_eq, hh]) (by exact ha) (by decide) ?_
  refine run_acc_load h 11 _ (by rw [off28_eq, hh]) (by exact ha) (by decide) ?_
  refine run_acc_store h 12 _ (by rw [off28_eq, hh]) (by exact ⟨ha, by decide⟩) rfl ?_
  refine run_den_load h 11 _ (by rw [off28_eq, hh]) (by rw [upd_of_ne _ (by simp only [enc]; omega)]; exact hd) (by decide) ?_
  refine run_den_load h 11 _ (by rw [off28_eq, hh]) (by rw [upd_of_ne _ (by simp only [enc]; omega)]; exact hd) (by decide) ?_
  refine run_den_store h 12 _ (by rw [off28_eq, hh]) (by rw [upd_of_ne _ (by simp only [enc]; omega)]; exact ⟨hd, by decide⟩) rfl ?_
  refine run_stg_load 1 0 6 h _ (by rw [off29_eq, hh]; try rfl) (by rw [upd_of_ne _ (by simp only [enc]; omega)]; rw [upd_of_ne _ (by simp only [enc]; omega)]; exact hs _ _) (by decide) ?_
  refine run_stg_load 1 1 6 h _ (by rw [off30_eq, hh]; try rfl) (by rw [upd_of_ne _ (by simp only [enc]; omega)]; rw [upd_of_ne _ (by simp only [enc]; omega)]; exact hs _ _) (by decide) ?_
  refine run_q_load h 0 _ (by rw [off28_eq, hh]) (by rw [upd_of_ne _ (by simp only [enc]; omega)]; rw [upd_of_ne _ (by simp only [enc]; omega)]; exact hq) (by decide) ?_
  refine run_acc_load h 12 _ (by rw [off28_eq, hh]) (by rw [upd_of_ne _ (by simp only [enc]; omega)]; exact upd_self _ _ _) (by decide) ?_
  refine run_acc_load h 12 _ (by rw [off28_eq, hh]) (by rw [upd_of_ne _ (by simp only [enc]; omega)]; exact upd_self _ _ _) (by decide) ?_
  refine run_acc_store h 13 _ (by rw [off28_eq, hh]) (by rw [upd_of_ne _ (by simp only [enc]; omega)]; exact ⟨upd_self _ _ _, by decide⟩) rfl ?_
  refine run_den_load h 12 _ (by rw [off28_eq, hh]) (by rw [upd_of_ne _ (by simp only [enc]; omega)]; exact upd_self _ _ _) (by decide) ?_
  refine run_den_load h 12 _ (by rw [off28_eq, hh]) (by rw [upd_of_ne _ (by simp only [enc]; omega)]; exact upd_self _ _ _) (by decide) ?_
  refine run_den_store h 13 _ (by rw [off28_eq, hh]) (by rw [upd_of_ne _ (by simp only [enc]; omega)]; exact ⟨upd_self _ _ _, by decide⟩) rfl ?_
  exact Run.ret _ .rfl

theorem loop6 {kk : Unit → Prog (TpuEff nD τ sig (Elt F) Λ₀ .tc) α} (hL : Ready L 6) (hr : Run X c K (adv L 8) (kk ⟨⟩) Q) :
    Run X c K L (Scf.Loop.for k0_t6_loop k0_t6_ok ⟨⟩ (k0_t6_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v1844 c) (v1883 c) (k0_pay190 (ver X 2 c 6))) >>= kk) Q := by
  unfold Run at hr ⊢
  iintro H
  iapply (Scf.wp_for_bind frame (wpE (defs₀ (F := F)) 𝒱₀ (c : Thread nD τ) none) Set.univ k0_t6_loop.lb k0_t6_loop.ub k0_t6_loop.st k0_t6_ok ⟨⟩
    (k0_t6_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v1844 c) (v1883 c) (k0_pay190 (ver X 2 c 6))) (fun k _ => St X c K (adv L k)) (fun k acc => trip6 hL k acc)) $$ [H]
  · iapply (Entails.of_eq (congrArg (St X c K) (adv_zero L).symm)); iexact H
  iintro %acc H
  iapply (show St X c K (adv L (Scf.trips k0_t6_loop.lb k0_t6_loop.ub k0_t6_loop.st)) ⊢ wp frame (wpE (defs₀ (F := F)) 𝒱₀ (c : Thread nD τ) none) Set.univ (kk acc) Q by
    rw [show Scf.trips k0_t6_loop.lb k0_t6_loop.ub k0_t6_loop.st = 8 from trips6]; exact hr)
  iexact H

/-! ## The loop of age 7 -/

theorem trips7 : k0_t7_loop.trips = 8 := by decide +kernel
theorem off31_eq (t : Fin k0_t7_loop.trips) : k0_off31 t = ![0, 0, t.val, 0, 0] := by revert t; decide +kernel
theorem off32_eq (t : Fin k0_t7_loop.trips) : k0_off32 t = ![0, 1, t.val, 0, 0] := by revert t; decide +kernel
theorem off33_eq (t : Fin k0_t7_loop.trips) : k0_off33 t = ![t.val, 0, 0] := by revert t; decide +kernel
theorem off34_eq (t : Fin k0_t7_loop.trips) : k0_off34 t = ![1, 0, t.val, 0, 0] := by revert t; decide +kernel
theorem off35_eq (t : Fin k0_t7_loop.trips) : k0_off35 t = ![1, 1, t.val, 0, 0] := by revert t; decide +kernel

theorem trip7 (hL : Ready L 7) (t : Fin k0_t7_loop.trips) (u : Unit) :
    Run X c K (adv L t.val) (k0_t7_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v2007 c) (v2046 c) (k0_pay204 (ver X 2 c 7)) t u) (fun _ => St X c K (adv L (t.val + 1))) := by
  have h8 : t.val < 8 := by have := t.isLt; have e := trips7; omega
  obtain ⟨h, hh⟩ : ∃ h : Fin 8, h.val = t.val := ⟨⟨t.val, h8⟩, rfl⟩
  rw [← hh, ← adv_succ L 7 hL h]
  have hs : ∀ i j : Fin 2, adv L h.val (enc (.stg i j)) = 7 + 1 := fun i j => (adv_stg L (by omega) i j).trans (hL.stg i j)
  have hq : adv L h.val (enc (.q h)) = 1 := (adv_q L (by omega) h).trans (hL.q h)
  have ha : adv L h.val (enc (.acc h)) = 2 * 7 := (adv_acc L h rfl).trans (hL.acc h)
  have hd : adv L h.val (enc (.den h)) = 2 * 7 := (adv_den L h rfl).trans (hL.den h)
  unfold k0_t7_body
  rw [k0_part7_eq_skeleton]
  generalize adv L h.val = M at hs hq ha hd ⊢
  refine run_stg_load 0 0 7 h _ (by rw [off31_eq, hh]; try rfl) (by exact hs _ _) (by decide) ?_
  refine run_stg_load 0 1 7 h _ (by rw [off32_eq, hh]; try rfl) (by exact hs _ _) (by decide) ?_
  refine run_q_load h 0 _ (by rw [off33_eq, hh]) (by exact hq) (by decide) ?_
  refine run_acc_load h 13 _ (by rw [off33_eq, hh]) (by exact ha) (by decide) ?_
  refine run_acc_load h 13 _ (by rw [off33_eq, hh]) (by exact ha) (by decide) ?_
  refine run_acc_store h 14 _ (by rw [off33_eq, hh]) (by exact ⟨ha, by decide⟩) rfl ?_
  refine run_den_load h 13 _ (by rw [off33_eq, hh]) (by rw [upd_of_ne _ (by simp only [enc]; omega)]; exact hd) (by decide) ?_
  refine run_den_load h 13 _ (by rw [off33_eq, hh]) (by rw [upd_of_ne _ (by simp only [enc]; omega)]; exact hd) (by decide) ?_
  refine run_den_store h 14 _ (by rw [off33_eq, hh]) (by rw [upd_of_ne _ (by simp only [enc]; omega)]; exact ⟨hd, by decide⟩) rfl ?_
  refine run_stg_load 1 0 7 h _ (by rw [off34_eq, hh]; try rfl) (by rw [upd_of_ne _ (by simp only [enc]; omega)]; rw [upd_of_ne _ (by simp only [enc]; omega)]; exact hs _ _) (by decide) ?_
  refine run_stg_load 1 1 7 h _ (by rw [off35_eq, hh]; try rfl) (by rw [upd_of_ne _ (by simp only [enc]; omega)]; rw [upd_of_ne _ (by simp only [enc]; omega)]; exact hs _ _) (by decide) ?_
  refine run_q_load h 0 _ (by rw [off33_eq, hh]) (by rw [upd_of_ne _ (by simp only [enc]; omega)]; rw [upd_of_ne _ (by simp only [enc]; omega)]; exact hq) (by decide) ?_
  refine run_acc_load h 14 _ (by rw [off33_eq, hh]) (by rw [upd_of_ne _ (by simp only [enc]; omega)]; exact upd_self _ _ _) (by decide) ?_
  refine run_acc_load h 14 _ (by rw [off33_eq, hh]) (by rw [upd_of_ne _ (by simp only [enc]; omega)]; exact upd_self _ _ _) (by decide) ?_
  refine run_acc_store h 15 _ (by rw [off33_eq, hh]) (by rw [upd_of_ne _ (by simp only [enc]; omega)]; exact ⟨upd_self _ _ _, by decide⟩) rfl ?_
  refine run_den_load h 14 _ (by rw [off33_eq, hh]) (by rw [upd_of_ne _ (by simp only [enc]; omega)]; exact upd_self _ _ _) (by decide) ?_
  refine run_den_load h 14 _ (by rw [off33_eq, hh]) (by rw [upd_of_ne _ (by simp only [enc]; omega)]; exact upd_self _ _ _) (by decide) ?_
  refine run_den_store h 15 _ (by rw [off33_eq, hh]) (by rw [upd_of_ne _ (by simp only [enc]; omega)]; exact ⟨upd_self _ _ _, by decide⟩) rfl ?_
  exact Run.ret _ .rfl

theorem loop7 {kk : Unit → Prog (TpuEff nD τ sig (Elt F) Λ₀ .tc) α} (hL : Ready L 7) (hr : Run X c K (adv L 8) (kk ⟨⟩) Q) :
    Run X c K L (Scf.Loop.for k0_t7_loop k0_t7_ok ⟨⟩ (k0_t7_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v2007 c) (v2046 c) (k0_pay204 (ver X 2 c 7))) >>= kk) Q := by
  unfold Run at hr ⊢
  iintro H
  iapply (Scf.wp_for_bind frame (wpE (defs₀ (F := F)) 𝒱₀ (c : Thread nD τ) none) Set.univ k0_t7_loop.lb k0_t7_loop.ub k0_t7_loop.st k0_t7_ok ⟨⟩
    (k0_t7_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v2007 c) (v2046 c) (k0_pay204 (ver X 2 c 7))) (fun k _ => St X c K (adv L k)) (fun k acc => trip7 hL k acc)) $$ [H]
  · iapply (Entails.of_eq (congrArg (St X c K) (adv_zero L).symm)); iexact H
  iintro %acc H
  iapply (show St X c K (adv L (Scf.trips k0_t7_loop.lb k0_t7_loop.ub k0_t7_loop.st)) ⊢ wp frame (wpE (defs₀ (F := F)) 𝒱₀ (c : Thread nD τ) none) Set.univ (kk acc) Q by
    rw [show Scf.trips k0_t7_loop.lb k0_t7_loop.ub k0_t7_loop.st = 8 from trips7]; exact hr)
  iexact H

end Cert.KernelIdeal.Talk
-- ==== Proof.KernelIdeal.Parts9.lean ====
module

public import proofs.«01_k».proof.Proof.KernelIdeal.Exchange
public import proofs.«01_k».proof.Proof.KernelIdeal.LoopRuns

/-!
# Parts of the body that hold a loop
-/

@[expose] public noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig ℕ (Elt F) ℕ UU ℕ

variable {X : Ins F} {c : Dev nD} {K : GSem nD τ sig → ℕ} {α : Type}
variable {Q : α → sProp (MT nD τ sig ℕ (Elt F) ℕ UU ℕ)}

theorem run_part39 {k : _ → Prog (TpuEff nD τ sig (Elt F) Λ₀ .tc) α} (h : Run X c K (ofList T40) (k ⟨⟩) Q) :
    Run X c K (ofList T39) (k0_part39 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v817 c) (v856 c) >>= k) Q := by
  rw [k0_part39_eq_skeleton]
  refine run_slot_load_lent 3 1 1 rfl _ rfl (by decide +kernel) (by decide) ?_
  refine run_stg_whole 1 1 0 _ rfl (by decide +kernel) (by decide) ?_
  refine run_stg_store 1 1 1 _ rfl (by decide +kernel) rfl ?_
  refine Run.assoc ?_
  refine Run.ret_bind ?_
  refine Run.assoc ?_
  refine loop1 (F := F) (X := X) (c := c) (K := K) ?_ ?_
  · constructor <;> decide +kernel
  refine run_wait_send 0 1 rfl (by rfl) (by decide +kernel) (by decide +kernel) (by decide +kernel) ?_
  refine run_wait_send 2 1 rfl (by rfl) (by decide +kernel) (by decide +kernel) (by decide +kernel) ?_
  exact Run.table (by decide +kernel) h

theorem run_part47 {k : _ → Prog (TpuEff nD τ sig (Elt F) Λ₀ .tc) α} (h : Run X c K (ofList T48) (k ⟨⟩) Q) :
    Run X c K (ofList T47) (k0_part47 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v1024 c) (v1063 c) (k0_pay147 (ver X 3 c 2)) (stgV X c 1 1 1) >>= k) Q := by
  rw [k0_part47_eq_skeleton]
  refine run_stg_store 1 1 2 _ rfl (by decide +kernel) rfl ?_
  refine Run.assoc ?_
  refine Run.ret_bind ?_
  refine Run.assoc ?_
  refine loop2 (F := F) (X := X) (c := c) (K := K) ?_ ?_
  · constructor <;> decide +kernel
  refine run_wait_send 0 2 rfl (by rfl) (by decide +kernel) (by decide +kernel) (by decide +kernel) ?_
  refine run_wait_send 2 2 rfl (by rfl) (by decide +kernel) (by decide +kernel) (by decide +kernel) ?_
  exact Run.table (by decide +kernel) h

theorem run_part55 {k : _ → Prog (TpuEff nD τ sig (Elt F) Λ₀ .tc) α} (h : Run X c K (ofList T56) (k ⟨⟩) Q) :
    Run X c K (ofList T55) (k0_part55 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v1231 c) (v1270 c) 0#32 >>= k) Q := by
  rw [k0_part55_eq_skeleton]
  refine Run.assoc ?_
  refine loop3 (F := F) (X := X) (c := c) (K := K) ?_ ?_
  · constructor <;> decide +kernel
  refine run_wait_send 0 3 rfl (by rfl) (by decide +kernel) (by decide +kernel) (by decide +kernel) ?_
  refine run_wait_send 2 3 rfl (by rfl) (by decide +kernel) (by decide +kernel) (by decide +kernel) ?_
  exact Run.table (by decide +kernel) h

theorem run_part62 {k : _ → Prog (TpuEff nD τ sig (Elt F) Λ₀ .tc) α} (h : Run X c K (ofList T63) (k ⟨⟩) Q) :
    Run X c K (ofList T62) (k0_part62 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v1438 c) (v1477 c) (k0_pay164 (ver X 0 c 4)) >>= k) Q := by
  rw [k0_part62_eq_skeleton]
  refine run_stg_whole 0 0 3 _ rfl (by decide +kernel) (by decide) ?_
  refine run_stg_store 0 0 4 _ rfl (by decide +kernel) rfl ?_
  refine run_slot_load_lent 1 0 4 rfl _ rfl (by decide +kernel) (by decide) ?_
  refine run_stg_whole 0 1 3 _ rfl (by decide +kernel) (by decide) ?_
  refine run_stg_store 0 1 4 _ rfl (by decide +kernel) rfl ?_
  refine run_slot_load_lent 2 0 4 rfl _ rfl (by decide +kernel) (by decide) ?_
  refine run_stg_whole 1 0 3 _ rfl (by decide +kernel) (by decide) ?_
  refine run_stg_store 1 0 4 _ rfl (by decide +kernel) rfl ?_
  refine run_slot_load_lent 3 0 4 rfl _ rfl (by decide +kernel) (by decide) ?_
  refine run_stg_whole 1 1 3 _ rfl (by decide +kernel) (by decide) ?_
  refine run_stg_store 1 1 4 _ rfl (by decide +kernel) rfl ?_
  refine Run.assoc ?_
  refine Run.ret_bind ?_
  refine Run.assoc ?_
  refine loop4 (F := F) (X := X) (c := c) (K := K) ?_ ?_
  · constructor <;> decide +kernel
  exact Run.table (by decide +kernel) h

theorem run_part70 {k : _ → Prog (TpuEff nD τ sig (Elt F) Λ₀ .tc) α} (h : Run X c K (ofList T71) (k ⟨⟩) Q) :
    Run X c K (ofList T70) (k0_part70 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v1641 c) (v1680 c) (k0_pay175 (ver X 1 c 5)) >>= k) Q := by
  rw [k0_part70_eq_skeleton]
  refine run_stg_whole 0 1 4 _ rfl (by decide +kernel) (by decide) ?_
  refine run_stg_store 0 1 5 _ rfl (by decide +kernel) rfl ?_
  refine run_slot_load_lent 2 1 5 rfl _ rfl (by decide +kernel) (by decide) ?_
  refine run_stg_whole 1 0 4 _ rfl (by decide +kernel) (by decide) ?_
  refine run_stg_store 1 0 5 _ rfl (by decide +kernel) rfl ?_
  refine run_slot_load_lent 3 1 5 rfl _ rfl (by decide +kernel) (by decide) ?_
  refine run_stg_whole 1 1 4 _ rfl (by decide +kernel) (by decide) ?_
  refine run_stg_store 1 1 5 _ rfl (by decide +kernel) rfl ?_
  refine Run.assoc ?_
  refine Run.ret_bind ?_
  refine Run.assoc ?_
  refine loop5 (F := F) (X := X) (c := c) (K := K) ?_ ?_
  · constructor <;> decide +kernel
  exact Run.table (by decide +kernel) h

theorem run_part78 {k : _ → Prog (TpuEff nD τ sig (Elt F) Λ₀ .tc) α} (h : Run X c K (ofList T79) (k ⟨⟩) Q) :
    Run X c K (ofList T78) (k0_part78 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v1844 c) (v1883 c) (k0_pay190 (ver X 2 c 6)) >>= k) Q := by
  rw [k0_part78_eq_skeleton]
  refine run_stg_whole 1 0 5 _ rfl (by decide +kernel) (by decide) ?_
  refine run_stg_store 1 0 6 _ rfl (by decide +kernel) rfl ?_
  refine run_slot_load_lent 3 2 6 rfl _ rfl (by decide +kernel) (by decide) ?_
  refine run_stg_whole 1 1 5 _ rfl (by decide +kernel) (by decide) ?_
  refine run_stg_store 1 1 6 _ rfl (by decide +kernel) rfl ?_
  refine Run.assoc ?_
  refine Run.ret_bind ?_
  refine Run.assoc ?_
  refine loop6 (F := F) (X := X) (c := c) (K := K) ?_ ?_
  · constructor <;> decide +kernel
  refine run_wait_send 0 6 rfl (by rfl) (by decide +kernel) (by decide +kernel) (by decide +kernel) ?_
  exact Run.table (by decide +kernel) h

theorem run_part84 {k : _ → Prog (TpuEff nD τ sig (Elt F) Λ₀ .tc) α} (h : Run X c K (ofList T85) (k ⟨(k0_pay211 (accH X c 1 15) (denH X c 1 15)), (Scalar.ofBits .f32 0x3D23D70A#32)⟩) Q) :
    Run X c K (ofList T84) (k0_part84 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 (v216 c) (v2007 c) (v2046 c) (k0_pay204 (ver X 2 c 7)) >>= k) Q := by
  rw [k0_part84_eq_skeleton]
  refine run_stg_whole 1 0 6 _ rfl (by decide +kernel) (by decide) ?_
  refine run_stg_store 1 0 7 _ rfl (by decide +kernel) rfl ?_
  refine run_slot_load 3 3 7 rfl _ rfl (by decide +kernel) (by decide) ?_
  refine run_stg_whole 1 1 6 _ rfl (by decide +kernel) (by decide) ?_
  refine run_stg_store 1 1 7 _ rfl (by decide +kernel) rfl ?_
  refine Run.assoc ?_
  refine Run.ret_bind ?_
  refine Run.assoc ?_
  refine loop7 (F := F) (X := X) (c := c) (K := K) ?_ ?_
  · constructor <;> decide +kernel
  refine run_acc_load 0 15 _ rfl (by decide +kernel) (by decide) ?_
  refine run_den_load 0 15 _ rfl (by decide +kernel) (by decide) ?_
  refine run_ctx_dead 0 _ rfl (by decide +kernel) fun _ => ?_
  refine run_ctx_store 0 _ rfl (by decide +kernel) rfl ?_
  refine run_acc_load 1 15 _ rfl (by decide +kernel) (by decide) ?_
  refine run_den_load 1 15 _ rfl (by decide +kernel) (by decide) ?_
  exact Run.table (by decide +kernel) h

end Cert.KernelIdeal.Talk
-- ==== Proof.KernelIdeal.Body.lean ====
module

public import proofs.«01_k».proof.Proof.KernelIdeal.Parts1
public import proofs.«01_k».proof.Proof.KernelIdeal.Parts2
public import proofs.«01_k».proof.Proof.KernelIdeal.Parts3
public import proofs.«01_k».proof.Proof.KernelIdeal.Parts4
public import proofs.«01_k».proof.Proof.KernelIdeal.Parts5
public import proofs.«01_k».proof.Proof.KernelIdeal.Parts6
public import proofs.«01_k».proof.Proof.KernelIdeal.Parts7
public import proofs.«01_k».proof.Proof.KernelIdeal.Parts8
public import proofs.«01_k».proof.Proof.KernelIdeal.Parts9

/-!
# The body as a whole
-/

@[expose] public noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig ℕ (Elt F) ℕ UU ℕ

variable {X : Ins F} {c : Dev nD} {K : GSem nD τ sig → ℕ} {α : Type}
variable {Q : α → sProp (MT nD τ sig ℕ (Elt F) ℕ UU ℕ)}

theorem run_part87 {k : _ → Prog (TpuEff nD τ sig (Elt F) Λ₀ .tc) α} (h : Run X c K (ofList T68) (k ⟨c, (v2 c), (v5 c), (v7 c), (v188 c), (v190 c), (v215 c), (v216 c), (v1603 c), (v1604 c), 64#32, (v1605 c), (v1610 c)⟩) Q) :
    Run X c K (ofList T8) (k0_part87 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16 >>= k) Q := by
  rw [k0_part87_eq_skeleton]
  refine Run.assoc ?_
  refine run_part8 ?_
  refine Run.assoc ?_
  refine run_part9 ?_
  refine Run.assoc ?_
  refine run_part10 ?_
  refine Run.assoc ?_
  refine run_part11 ?_
  refine Run.assoc ?_
  refine run_part12 ?_
  refine Run.assoc ?_
  refine run_part13 ?_
  refine Run.assoc ?_
  refine run_part14 ?_
  refine Run.assoc ?_
  refine run_part15 ?_
  refine Run.assoc ?_
  refine run_part16 ?_
  refine Run.assoc ?_
  refine run_part17 ?_
  refine Run.assoc ?_
  refine run_part18 ?_
  refine Run.assoc ?_
  refine run_part19 ?_
  refine Run.assoc ?_
  refine run_part20 ?_
  refine Run.assoc ?_
  refine run_part21 ?_
  refine Run.assoc ?_
  refine run_part22 ?_
  refine Run.assoc ?_
  refine run_part23 ?_
  refine Run.assoc ?_
  refine run_part24 ?_
  refine Run.assoc ?_
  refine run_part25 ?_
  refine Run.assoc ?_
  refine run_part26 ?_
  refine Run.assoc ?_
  refine run_part27 ?_
  refine Run.assoc ?_
  refine run_part28 ?_
  refine Run.assoc ?_
  refine run_part29 ?_
  refine Run.assoc ?_
  refine run_part30 ?_
  refine Run.assoc ?_
  refine run_part31 ?_
  refine Run.assoc ?_
  refine run_part32 ?_
  refine Run.assoc ?_
  refine run_part33 ?_
  refine Run.assoc ?_
  refine run_part34 ?_
  refine Run.assoc ?_
  refine run_part35 ?_
  refine Run.assoc ?_
  refine run_part36 ?_
  refine Run.assoc ?_
  refine run_part37 ?_
  refine Run.assoc ?_
  refine run_part38 ?_
  refine Run.assoc ?_
  refine run_part39 ?_
  refine Run.assoc ?_
  refine run_part40 ?_
  refine Run.assoc ?_
  refine run_part41 ?_
  refine Run.assoc ?_
  refine run_part42 ?_
  refine Run.assoc ?_
  refine run_part43 ?_
  refine Run.assoc ?_
  refine run_part44 ?_
  refine Run.assoc ?_
  refine run_part45 ?_
  refine Run.assoc ?_
  refine run_part46 ?_
  refine Run.assoc ?_
  refine run_part47 ?_
  refine Run.assoc ?_
  refine run_part48 ?_
  refine Run.assoc ?_
  refine run_part49 ?_
  refine Run.assoc ?_
  refine run_part50 ?_
  refine Run.assoc ?_
  refine run_part51 ?_
  refine Run.assoc ?_
  refine run_part52 ?_
  refine Run.assoc ?_
  refine run_part53 ?_
  refine Run.assoc ?_
  refine run_part54 ?_
  refine Run.assoc ?_
  refine run_part55 ?_
  refine Run.assoc ?_
  refine run_part56 ?_
  refine Run.assoc ?_
  refine run_part57 ?_
  refine Run.assoc ?_
  refine run_part58 ?_
  refine Run.assoc ?_
  refine run_part59 ?_
  refine Run.assoc ?_
  refine run_part60 ?_
  refine Run.assoc ?_
  refine run_part61 ?_
  refine Run.assoc ?_
  refine run_part62 ?_
  refine Run.assoc ?_
  refine run_part63 ?_
  refine Run.assoc ?_
  refine run_part64 ?_
  refine Run.assoc ?_
  refine run_part65 ?_
  refine Run.assoc ?_
  refine run_part66 ?_
  refine Run.assoc ?_
  refine run_part67 ?_
  exact Run.ret_bind h

/-- The number of each component after the call. -/
def TDone : List ℕ := [2, 2, 2, 2, 2, 2, 2, 2, 2, 2, 2, 2, 2, 2, 2, 2, 2, 2, 2, 2, 2, 2, 2, 2, 2, 2, 2, 2, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 1, 6, 7, 8, 9, 6, 7, 8, 9, 6, 7, 8, 9, 6, 7, 8, 9, 0, 0, 0, 0, 0, 0, 0, 0, 0, 0, 0, 0, 0, 0, 0, 0, 4, 4, 1, 1, 1, 1, 1, 1, 1, 1, 1, 1, 1, 1, 1, 1, 1, 1, 1, 1, 1, 16, 16, 16, 16, 16, 16, 16, 16, 16, 16, 16, 16, 16, 16, 16, 16, 8, 8, 8, 8, 8, 1, 0]

/-- The call's body on one device, from the table before it to the table after it. -/
theorem run_body : Run X c K (ofList T8) (cc0_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16) (fun _ => St X c K (ofList TDone)) := by
  rw [cc0_body_eq_skeleton]
  refine run_part87 ?_
  refine run_part68 ?_
  refine run_part69 ?_
  refine run_part70 ?_
  refine run_part71 ?_
  refine run_part72 ?_
  refine run_part73 ?_
  refine run_part74 ?_
  refine run_part75 ?_
  refine run_part76 ?_
  refine run_part77 ?_
  refine run_part78 ?_
  refine run_part79 ?_
  refine run_part80 ?_
  refine run_part81 ?_
  refine run_part82 ?_
  refine run_part83 ?_
  refine run_part84 ?_
  refine run_part85 ?_
  refine run_part86 ?_
  refine run_den_load 7 15 _ rfl (by decide +kernel) (by decide) ?_
  refine run_ctx_dead 7 _ rfl (by decide +kernel) fun _ => ?_
  refine run_ctx_store 7 _ rfl (by decide +kernel) rfl ?_
  refine run_ctx_load _ rfl (by decide +kernel) ?_
  refine run_inp4 (by decide +kernel) ?_
  refine run_out_dead _ rfl (by decide +kernel) fun _ => ?_
  refine run_out_store _ rfl (by decide +kernel) rfl ?_
  refine Run.table (L' := ofList TDone) (by decide +kernel) ?_
  exact Run.ret _ .rfl

end Cert.KernelIdeal.Talk
-- ==== Proof.KernelIdeal.Region.lean ====
module

public import proofs.«01_k».proof.Proof.KernelIdeal.Funds
public import proofs.«01_k».proof.Proof.KernelIdeal.Body

/-!
# The call as one region of the program

The table filled from what the launch hands over, the table emptied after the body, and the call with its six windows as a
region of the program.
-/

@[expose] public noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F] [Named F]

local notation "𝕄" => MT nD τ sig ℕ (Elt F) ℕ UU ℕ

/-! ## Before and after, component by component -/

/-- The number of a component before the call. -/
def atStart : Cp → ℕ
  | .slot _ _ => 1
  | _ => 0

/-- The number of a component after it. -/
def atDone : Cp → ℕ
  | .snd _ _ => 2
  | .slot _ i => 6 + i.val
  | .nslot _ _ => 0
  | .crW _ => 4
  | .acc _ => 16
  | .den _ => 16
  | .ctx => 8
  | .stg _ _ => 8
  | .inp => 0
  | _ => 1

theorem start_at (i : Cp) : ofList T8 (enc i) = atStart i := by revert i; decide +kernel
theorem start_at' (i : Cp) : ofList TStart (enc i) = atStart i := by revert i; decide +kernel
theorem done_at (i : Cp) : ofList TDone (enc i) = atDone i := by revert i; decide +kernel

theorem owed_start (c : Dev nD) : owed c (ofList T8) = O₀ c := by
  unfold O₀ owed
  exact Finset.sum_congr rfl fun i _ => by rw [start_at, start_at']

theorem owed_done (c : Dev nD) : owed c (ofList TDone) = 0 := by
  unfold owed
  refine Finset.sum_eq_zero fun i _ => ?_
  rw [done_at]
  cases i <;> first
    | rfl
    | exact if_neg (by simp only [atDone]; omega)

/-! ## What the launch hands over -/

/-- The credits of a device. -/
def creds (c : Dev nD) : sProp 𝕄 :=
  iprop((bigSep Finset.univ fun p : Fin 4 × Fin 7 => cred (tallyAt (cell c (.rcv p.1 p.2)) 0 NN))
    ∗ cred (tallyAt (cell c .bar) 0 2)
    ∗ (bigSep Finset.univ fun d : Fin 2 => bigSep (Finset.range 4) fun k => cred (tallyAt (cell c (.crd d)) k 1)))

variable (X : Ins F) (c : Dev nD)

/-- The invariants of all cells, and which cells of the neighbours are known to be in use. -/
def allInv (K : GSem nD τ sig → ℕ) : sProp 𝕄 :=
  iprop((bigSep (Finset.univ : Finset (Dev nD × Kd)) fun p => cellInv ER (Rd X) (K (cell p.1 p.2)) (cell p.1 p.2))
    ∗ (bigSep (Finset.univ : Finset (Dev nD)) fun d => reached (ER (F := F)) (cell d .bar) 0))

instance allInv_persistent (K : GSem nD τ sig → ℕ) : BI.Persistent (allInv X K) := by unfold allInv; infer_instance

/-- What device `c` keeps until the call. -/
def kept (K : GSem nD τ sig → ℕ) : sProp 𝕄 :=
  iprop(allInv X K ∗ atPos ER (cell c .bar) 0 ∅ 0 ∗ (bigSep Finset.univ fun k : Ow => openTok ER (cell c k.1)) ∗ toks c)

def Tk : sProp 𝕄 := iprop((∃ K, kept X c K) ∗ creds c)
def Xk : sProp 𝕄 := iprop((∃ K, known X c K ∗ (bigSep Finset.univ fun k : Kd => atPos ER (cell c k) 0 ∅ 0) ∗ toks c) ∗ creds c)
abbrev Yk : sProp 𝕄 := semVal (cell c .bar) 0

theorem inv_elim (K : GSem nD τ sig → ℕ) (d : Dev nD) (k : Kd) :
    (bigSep (Finset.univ : Finset (Dev nD × Kd)) fun p => cellInv ER (Rd X) (K (cell p.1 p.2)) (cell p.1 p.2)) ⊢ cellInv ER (Rd X) (K (cell d k)) (cell d k) :=
  bigSep_elim (Φ := fun p : Dev nD × Kd => cellInv ER (Rd X) (K (cell p.1 p.2)) (cell p.1 p.2)) (Finset.mem_univ (d, k))

theorem inv_at (K : GSem nD τ sig → ℕ) (d : Dev nD) (k : Kd) : allInv X K ⊢ cellInv ER (Rd X) (K (cell d k)) (cell d k) := by
  unfold allInv
  iintro ⟨H, -⟩
  iapply (inv_elim X K d k) $$ H

theorem bar_at (K : GSem nD τ sig → ℕ) (d : Dev nD) : allInv X K ⊢ reached (ER (F := F)) (cell d .bar) 0 := by
  unfold allInv
  iintro ⟨-, H⟩
  iapply (show (bigSep (Finset.univ : Finset (Dev nD)) fun d => reached (ER (F := F)) (cell d .bar) 0) ⊢ reached (ER (F := F)) (cell d .bar) 0 from
    bigSep_elim (Φ := fun d : Dev nD => reached (ER (F := F)) (cell d .bar) 0) (Finset.mem_univ d)) $$ H

/-- The own cells opened. -/
theorem open_own : iprop(Tk X c ∗ Pipeline.ownSems0 osem c ∗ levAts Lx lv) ⊢ (|={Set.univ}=> Xk X c : sProp 𝕄) := by
  unfold Tk Xk kept Pipeline.ownSems0
  iintro ⟨⟨⟨%K, ⟨#Hi, Hat, Ho, Ht⟩⟩, Hc⟩, Hs, #HL⟩
  have step : iprop(allInv X K ∗ ((bigSep Finset.univ fun k : Ow => openTok ER (cell c k.1)) ∗ bigSep Finset.univ fun k : Ow => semVal ((c : Thread nD τ), osem k) 0))
      ⊢ (|={Set.univ}=> bigSep Finset.univ fun k : Ow => iprop(atPos ER (cell c k.1) 0 ∅ 0 ∗ reached (ER (F := F)) (cell c k.1) 0) : sProp 𝕄) := by
    rw [← bigSep_sep']
    refine BIBase.Entails.trans ?_ (bigSep_fupd _ _)
    refine bigSep_with_persistent fun k _ => ?_
    show iprop(allInv X K ∗ (openTok ER (cell c k.1) ∗ semVal (cell c k.1) 0)) ⊢ _
    iintro ⟨H, H1, H2⟩
    iapply (Rounds.cell_open ER (Rd X) (g := cell c k.1) (Set.mem_univ (K (cell c k.1))))
    isplitl [H]; · iapply (inv_at X K c k.1) $$ H
    isplitl [H1] <;> iassumption
  imod step $$ [Ho Hs] with H
  · isplitr; · iexact Hi
    isplitl [Ho] <;> iassumption
  imodintro
  ihave H' := (Entails.of_eq (bigSep_sep' _ _ _)) $$ H
  icases H' with ⟨Hp, #Hr⟩
  isplitr [Hc]
  · iexists K
    isplitr
    · unfold known
      isplitr; · unfold allInv; icases Hi with ⟨H, -⟩; iexact H
      isplitr; · iexact HL
      isplitr
      · iapply (Entails.of_eq (bigSep_kd_bar _).symm)
        isplitr; · iapply (bar_at X K c) $$ Hi
        iexact Hr
      · iapply (bigSep_intro_persistent (S := (Finset.univ : Finset (Fin 2))) (R := allInv X K) (Φ := fun d => reached (ER (F := F)) (cell (cdst d c) .bar) 0)
          fun d _ => bar_at X K (cdst d c)) $$ Hi
    isplitl [Hat Hp]
    · iapply (Entails.of_eq (bigSep_kd_bar _).symm)
      isplitl [Hat] <;> iassumption
    iexact Ht
  iexact Hc

/-! ## The table filled and emptied -/

abbrev someF (b : Ref sig .tc) : sProp 𝕄 := iprop(∃ f : Buf (Elt F) ((c : Thread nD τ).loc b), ((c : Thread nD τ).loc b) ↦{fullShare} f)

abbrev scratch : sProp 𝕄 :=
  iprop(someF (F := F) c cc0_scratch0 ∗ someF (F := F) c cc0_scratch1 ∗ someF (F := F) c cc0_scratch2 ∗ someF (F := F) c cc0_scratch3
    ∗ someF (F := F) c cc0_scratch4 ∗ someF (F := F) c cc0_scratch5 ∗ someF (F := F) c cc0_scratch6)

theorem crW_start (d : Fin 2) : (iprop(atPos ER (cell c (.crd d)) 0 ∅ 0 ∗ bigSep (Finset.range 4) fun k => cred (tallyAt (cell c (.crd d)) k 1)) : sProp 𝕄)
    ⊢ crWRes c d 0 := by
  refine BIBase.Entails.trans ?_ (Entails.of_eq (if_pos (by decide)).symm)
  rw [show (Finset.range 4).filter (0 ≤ ·) = Finset.range 4 from by decide]
  iintro ⟨H1, H2⟩
  isplitl [H1]
  · iexists ∅; iexact H1
  iexact H2

theorem crW_done (d : Fin 2) : crWRes (F := F) c d 4 ⊢ atPos ER (cell c (.crd d)) 1 ∅ 0 := by
  unfold crWRes
  rw [if_neg (by decide), if_pos rfl]

theorem fill_table : iprop((bigSep Finset.univ fun k : Kd => atPos ER (cell c k) 0 ∅ 0) ∗ toks c ∗ creds c ∗ scratch (F := F) c ∗ someF (F := F) c cc0_stg5_0 ∗ inpRes X c 0)
    ⊢ comps X c (ofList T8) := by
  have e : comps X c (ofList T8) = bigSep Finset.univ fun i => res X c i (atStart i) := by
    unfold comps; exact bigSep_congr fun i _ => by rw [start_at]
  rw [e, bigSep_cp, bigSep_kd]
  unfold toks creds
  show _ ⊢ iprop(_ ∗ _ ∗ _ ∗ _ ∗ _ ∗ _ ∗ _ ∗ _ ∗ (atPos ER (cell c .bar) 0 ∅ 0 ∗ cred (tallyAt (cell c .bar) 0 2)) ∗ _ ∗ _ ∗ _ ∗ ctxRes X c 0 ∗ _ ∗ ownAny (F := F) c outView ∗ inpRes X c 0)
  iintro ⟨⟨Ps, Pr, Pc, Pb⟩, ⟨Ts, Tr, Tc, Tb⟩, ⟨Cr, Cb, Cc⟩, ⟨S0, S1, S2, S3, S4, S5, S6⟩, ⟨%f, Ho⟩, Hi⟩
  isplitl [Ps Ts]
  · iapply (show iprop((bigSep Finset.univ fun p : Fin 4 × Fin 7 => atPos ER (cell c (.snd p.1 p.2)) 0 ∅ 0) ∗ bigSep Finset.univ fun p : Fin 4 × Fin 7 => dutyTok ER (cell c (.snd p.1 p.2)) 0 0)
      ⊢ bigSep Finset.univ fun p : Fin 4 × Fin 7 => res X c (.snd p.1 p.2) (atStart (.snd p.1 p.2)) from Entails.of_eq (bigSep_sep' _ _ _).symm)
    isplitl [Ps] <;> iassumption
  isplitl [Pr Cr]
  · iapply (show iprop((bigSep Finset.univ fun p : Fin 4 × Fin 7 => atPos ER (cell c (.rcv p.1 p.2)) 0 ∅ 0) ∗ bigSep Finset.univ fun p : Fin 4 × Fin 7 => cred (tallyAt (cell c (.rcv p.1 p.2)) 0 NN))
      ⊢ bigSep Finset.univ fun p : Fin 4 × Fin 7 => res X c (.rcv p.1 p.2) (atStart (.rcv p.1 p.2)) from Entails.of_eq (bigSep_sep' _ _ _).symm)
    isplitl [Pr] <;> iassumption
  isplitl [Tr]; · iexact Tr
  isplitl [S0 S1]
  · iapply (cut_slots (F := F) c)
    isplitl [S0] <;> iassumption
  isplitr
  · iapply (show (iprop(emp) : sProp 𝕄) ⊢ bigSep Finset.univ fun p : Fin 4 × Fin 4 => res X c (.nslot p.1 p.2) (atStart (.nslot p.1 p.2)) from
      Entails.of_eq (BI.bigSep_emp_const _).symm)
    iempintro
  isplitl [Pc Cc]
  · iapply (show iprop((bigSep Finset.univ fun d : Fin 2 => atPos ER (cell c (.crd d)) 0 ∅ 0) ∗ bigSep Finset.univ fun d : Fin 2 => bigSep (Finset.range 4) fun k => cred (tallyAt (cell c (.crd d)) k 1))
      ⊢ bigSep Finset.univ fun d : Fin 2 => res X c (.crW d) (atStart (.crW d)) from
      (Entails.of_eq (bigSep_sep' _ _ _).symm).trans (bigSep_mono fun d _ => crW_start c d))
    isplitl [Pc] <;> iassumption
  isplitl [Tc]; · iexact Tc
  isplitl [Tb]; · iexact Tb
  isplitl [Pb Cb]; · isplitl [Pb] <;> iassumption
  isplitl [S3]; · iapply (cut_whole (F := F) c cc0_scratch3 headR head_disjoint head_cover) $$ S3
  isplitl [S4]; · iapply (cut_whole (F := F) c cc0_scratch4 headR head_disjoint head_cover) $$ S4
  isplitl [S5]; · iapply (cut_whole (F := F) c cc0_scratch5 headR head_disjoint head_cover) $$ S5
  isplitl [S6]
  · iapply (show someF (F := F) c cc0_scratch6 ⊢ ctxRes X c 0 from by
      unfold ctxRes
      rw [if_neg (by decide)]
      iintro ⟨%g, H⟩
      iexists g
      isplitr; · ipureintro; exact fun h hh => absurd hh (Nat.not_lt_zero _)
      iexact H) $$ S6
  isplitl [S2]; · iapply (cut_whole (F := F) c cc0_scratch2 stageR stage_disjoint stage_cover) $$ S2
  isplitl [Ho]; · iapply (cut_out (F := F) c f) $$ Ho
  iexact Hi

theorem val_any {sp : Space} {sh : Shape} {e : EltTy} (w : View sig .tc sp sh e) (v : ℕ → sh.Idx → Elt F e) (n : ℕ) (hn : n + 1 ≠ 99) :
    valRes c w v (n + 1) ⊢ ownAny (F := F) c w := (Entails.of_eq (if_neg hn)).trans (own_any w _)

theorem empty_table : comps X c (ofList TDone) ⊢ iprop((bigSep Finset.univ fun k : Kd => atPos ER (cell c k) 1 ∅ 0) ∗ scratch (F := F) c
    ∗ (((c : Thread nD τ).loc cc0_stg5_0) ↦{fullShare} outC X c) ∗ inpRes X c 0) := by
  have e : comps X c (ofList TDone) = bigSep Finset.univ fun i => res X c i (atDone i) := by
    unfold comps; exact bigSep_congr fun i _ => by rw [done_at]
  rw [e, bigSep_cp, bigSep_kd]
  show iprop(_ ∗ _ ∗ _ ∗ _ ∗ _ ∗ _ ∗ _ ∗ _ ∗ (atPos ER (cell c .bar) 1 ∅ 0 ∗ heard c) ∗ _ ∗ _ ∗ _ ∗ ctxRes X c 8 ∗ _ ∗ valRes c outView (fun _ => outC X c) 1 ∗ inpRes X c 0) ⊢ _
  iintro ⟨Ps, Pr, -, HS, -, Pc, -, -, Pb, Hq, Ha, Hd, Hc, Hg, Ho, Hi⟩
  isplitl [Ps Pr Pc Pb]
  · isplitl [Ps]; · iexact Ps
    isplitl [Pr]; · iexact Pr
    isplitl [Pc]
    · iapply (show (bigSep Finset.univ fun d : Fin 2 => res X c (.crW d) (atDone (.crW d))) ⊢ bigSep Finset.univ fun d : Fin 2 => atPos ER (cell c (.crd d)) 1 ∅ 0 from
        bigSep_mono fun d _ => crW_done c d) $$ Pc
    icases Pb with ⟨H, -⟩
    iexact H
  isplitr [Ho Hi]
  · ihave H01 := (show (bigSep Finset.univ fun p : Fin 4 × Fin 4 => res X c (.slot p.1 p.2) (atDone (.slot p.1 p.2)))
        ⊢ iprop(someF (F := F) c cc0_scratch0 ∗ someF (F := F) c cc0_scratch1) from
      (bigSep_mono fun p _ => show slotRes X c p.1 p.2 (6 + p.2.val) ⊢ ownAny (F := F) c (slotV p.1 p.2) from by
        have := p.2.isLt
        unfold slotRes
        rw [if_neg (by omega), if_neg (by omega), if_pos (by omega)]
        exact own_any _ _).trans (glue_slots c (fun _ => 0#8) (fun _ => 0#8))) $$ HS
    icases H01 with ⟨H0, H1⟩
    isplitl [H0]; · iexact H0
    isplitl [H1]; · iexact H1
    isplitl [Hg]
    · iapply (show (bigSep Finset.univ fun p : Fin 2 × Fin 2 => res X c (.stg p.1 p.2) (atDone (.stg p.1 p.2))) ⊢ someF (F := F) c cc0_scratch2 from
        (bigSep_mono fun p _ => val_any c (stgView p.1 p.2) (stgV X c p.1 p.2) 7 (by decide)).trans
        (glue_whole (F := F) c cc0_scratch2 stageR stage_disjoint stage_cover (fun _ => Classical.arbitrary _))) $$ Hg
    isplitl [Hq]
    · iapply (show (bigSep Finset.univ fun h : Fin 8 => res X c (.q h) (atDone (.q h))) ⊢ someF (F := F) c cc0_scratch3 from
        (bigSep_mono fun h _ => val_any c (qView h) (fun _ => qH X c h) 0 (by decide)).trans
        (glue_whole (F := F) c cc0_scratch3 headR head_disjoint head_cover (fun _ => Classical.arbitrary _))) $$ Hq
    isplitl [Ha]
    · iapply (show (bigSep Finset.univ fun h : Fin 8 => res X c (.acc h) (atDone (.acc h))) ⊢ someF (F := F) c cc0_scratch4 from
        (bigSep_mono fun h _ => val_any c (accView h) (accH X c h) 15 (by decide)).trans
        (glue_whole (F := F) c cc0_scratch4 headR head_disjoint head_cover (fun _ => Classical.arbitrary _))) $$ Ha
    isplitl [Hd]
    · iapply (show (bigSep Finset.univ fun h : Fin 8 => res X c (.den h) (atDone (.den h))) ⊢ someF (F := F) c cc0_scratch5 from
        (bigSep_mono fun h _ => val_any c (denView h) (denH X c h) 15 (by decide)).trans
        (glue_whole (F := F) c cc0_scratch5 headR head_disjoint head_cover (fun _ => Classical.arbitrary _))) $$ Hd
    iapply (show ctxRes X c 8 ⊢ someF (F := F) c cc0_scratch6 from by
      unfold ctxRes
      rw [if_neg (by decide)]
      iintro ⟨%g, -, H⟩
      iexists g
      iexact H) $$ Hc
  isplitl [Ho]
  · iapply (show valRes c outView (fun _ => outC X c) 1 ⊢ (((c : Thread nD τ).loc cc0_stg5_0) ↦{fullShare} outC X c) from
      (show (if 0 + 1 = 99 then iprop(emp) else own c outView fullShare (outC X c)) ⊢ own c outView fullShare (outC X c) from Entails.of_eq (if_neg (by decide))).trans (glue_out c _)) $$ Ho
  iexact Hi

/-- All cells closed. -/
theorem close_all (K : GSem nD τ sig → ℕ) : iprop(known X c K ∗ bigSep Finset.univ fun k : Kd => atPos ER (cell c k) 1 ∅ 0)
    ⊢ (|={Set.univ}=> iprop(semVal (cell c .bar) 0 ∗ Pipeline.ownSems0 osem c) : sProp 𝕄) := by
  have e : (iprop(semVal (cell c .bar) 0 ∗ Pipeline.ownSems0 osem c) : sProp 𝕄) = bigSep Finset.univ fun k : Kd => semVal (cell c k) 0 := by
    rw [bigSep_kd_bar]; rfl
  rw [e]
  refine BIBase.Entails.trans ?_ (bigSep_fupd _ _)
  refine bigSep_with_persistent fun k _ => ?_
  show iprop(known X c K ∗ atPos ER (cell c k) 1 ∅ 0) ⊢ _
  unfold known
  iintro ⟨⟨H, -⟩, H'⟩
  iapply (Rounds.cell_close ER (Rd X) (g := cell c k) (κ := K (cell c k)) (R := 1) (Set.mem_univ _) id fun r hr => Rd_later _ _ _ hr)
  isplitl [H]
  · iapply (inv_elim X K c k) $$ H
  iexact H'

end Cert.KernelIdeal.Talk
-- ==== Proof.KernelIdeal.Call.lean ====
module

public import proofs.«01_k».proof.Proof.KernelIdeal.Region

/-!
# The call with its windows
-/

@[expose] public noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F] [Named F]

local notation "𝕄" => MT nD τ sig ℕ (Elt F) ℕ UU ℕ

variable (E : Dev nD → Valuation τ sig (Elt F)) (c : Dev nD)

/-- The block a window is given, read off its array. -/
def blk (w : Fin cfg0.W) : ((cfg0.win w).xblock (cfg0.grid.coords t0_0)).Idx → Elt F (cfg0.win w).elt :=
  ((cfg0.win w).blk t0_0).view.read (Elt F) (E c (Proc.devRef .tc (Pipeline.arrRef spec0 w)))

/-- The inputs of the call. -/
def ins : Ins F where
  x c := blk E c 0
  wq c := blk E c 1
  k8 c := blk E c 2
  v8 c := blk E c 3
  wo c := blk E c 4

/-- The state between the windows' steps: before the body and after it. -/
def dat (c : Dev nD) : Dat τ (Elt F) ℕ ℕ UU ℕ cfg0 c where
  A w := E c (Proc.devRef .tc (Pipeline.arrRef spec0 w))
  after w _ := match w with
    | ⟨0, _⟩ => (ins E).x c
    | ⟨1, _⟩ => (ins E).wq c
    | ⟨2, _⟩ => (ins E).k8 c
    | ⟨3, _⟩ => (ins E).v8 c
    | ⟨4, _⟩ => (ins E).wo c
    | ⟨5, _⟩ => outC (ins E) c
  Φ t := if t.val = 0 then iprop(Xk (ins E) c ∗ scratch (F := F) c ∗ ∃ r, prngReg c r)
    else iprop(Yk c ∗ Pipeline.ownSems0 osem c ∗ scratch (F := F) c ∗ ∃ r, prngReg c r)
  q _ := fullShare
  owed t := if t.val = 0 then O₀ c else 0

theorem owed_first : (dat E c).owed t0_0.castSucc = O₀ c := by
  show (if (t0_0.castSucc : Fin (cfg0.N + 1)).val = 0 then O₀ c else 0) = O₀ c; exact if_pos rfl
theorem owed_last : (dat E c).owed (Fin.last _) = 0 := by
  show (if (Fin.last cfg0.N).val = 0 then O₀ c else 0) = 0
  rw [Fin.val_last, if_neg (by rw [show cfg0.N = 1 from N_0]; decide)]

theorem owes_in (t : Fin (cfg0.N + 1)) (O : CellTallies nD τ sig ℕ) (h : (dat E c).owed t = O) (W : Waits sig ℕ) :
    (owes (c : Thread nD τ) O W : sProp 𝕄) ⊢ (dat E c).owesAt (0 : ℕ) t := by
  unfold Dat.owesAt Pipeline.owesWithin Dat.bound
  rw [h]
  iintro H
  iexists W
  isplitr; · ipureintro; exact fun _ _ => Or.inl trivial
  iexact H
theorem owes_out (t : Fin (cfg0.N + 1)) (O : CellTallies nD τ sig ℕ) (h : (dat E c).owed t = O) :
    ((dat E c).owesAt (0 : ℕ) t : sProp 𝕄) ⊢ iprop(∃ W, owes (c : Thread nD τ) O W) := by
  unfold Dat.owesAt Pipeline.owesWithin
  rw [h]
  iintro ⟨%W, -, H⟩
  iexists W
  iexact H

theorem before0 (d) : (dat E c).before 0 t0_0 d = (ins E).x c := by unfold Dat.before; rw [if_pos (fetch0_0 t0_0)]; rfl
theorem before1 (d) : (dat E c).before 1 t0_0 d = (ins E).wq c := by unfold Dat.before; rw [if_pos (fetch0_1 t0_0)]; rfl
theorem before2 (d) : (dat E c).before 2 t0_0 d = (ins E).k8 c := by unfold Dat.before; rw [if_pos (fetch0_2 t0_0)]; rfl
theorem before3 (d) : (dat E c).before 3 t0_0 d = (ins E).v8 c := by unfold Dat.before; rw [if_pos (fetch0_3 t0_0)]; rfl
theorem before4 (d) : (dat E c).before 4 t0_0 d = (ins E).wo c := by unfold Dat.before; rw [if_pos (fetch0_4 t0_0)]; rfl

abbrev isAt (b : Ref sig .tc) (v : b.ty.Contents (Elt F)) : sProp 𝕄 :=
  iprop(∃ f : Buf (Elt F) ((c : Thread nD τ).loc b), ⌜f = v⌝ ∗ (((c : Thread nD τ).loc b) ↦{fullShare} f))

theorem isAt_out {b : Ref sig .tc} {v : b.ty.Contents (Elt F)} : isAt c b v ⊢ heldAt c b v := by
  iintro ⟨%f, %h, H⟩
  subst h
  iexact H
theorem isAt_in {b : Ref sig .tc} {v : b.ty.Contents (Elt F)} : heldAt c b v ⊢ isAt c b v := by
  iintro H
  iexists v
  isplitr; · ipureintro; rfl
  iexact H

theorem inp_split (X : Ins F) : inpRes X c 0 = iprop(heldAt c cc0_stg0_0 (X.x c) ∗ heldAt c cc0_stg1_0 (X.wq c) ∗ heldAt c cc0_stg2_0 (X.k8 c)
    ∗ heldAt c cc0_stg3_0 (X.v8 c) ∗ heldAt c cc0_stg4_0 (X.wo c)) := rfl

/-- The body as a step of the table. -/
theorem body_step (K : GSem nD τ sig → ℕ) (X : Ins F) : St X c K (ofList T8) ⊢ wp frame (wpE (defs₀ (F := F)) 𝒱₀ c none) Set.univ
    (cc0_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16)
    (fun _ => iprop((semVal (cell c .bar) 0 ∗ Pipeline.ownSems0 osem c) ∗ scratch (F := F) c ∗ heldAt c cc0_stg5_0 (outC X c) ∗ inpRes X c 0
      ∗ ∃ W, owes (c : Thread nD τ) 0 W)) := by
  refine (run_body (X := X) (c := c) (K := K)).trans ?_
  refine BIBase.Entails.trans (wp_mono _ _ _ fun _ => ?_) (wp_fupd _ _ _ _ _)
  unfold St
  rw [owed_done]
  iintro ⟨#HK, HC, HO⟩
  ihave HC' := (empty_table X c) $$ HC
  icases HC' with ⟨Hp, Hs, Ho, Hi⟩
  imod (close_all X c K) $$ [Hp] with Hv
  · isplitr; · iexact HK
    iexact Hp
  imodintro
  isplitl [Hv]; · iexact Hv
  isplitl [Hs]; · iexact Hs
  isplitl [Ho]; · iexact Ho
  isplitl [Hi]; · iexact Hi
  iexact HO

set_option maxRecDepth 10000 in
theorem body_ok : BodyObligation (dat E c) (defs₀ (F := F)) 𝒱₀ (0 : ℕ) Set.univ := fun t => by
  obtain rfl := fin_N0 t
  rw [bigSep_W0, bigSep_W0]
  simp only [owns_whole_eq]
  show iprop((Xk (ins E) c ∗ scratch (F := F) c ∗ ∃ r, prngReg c r) ∗ (dat E c).owesAt (0 : ℕ) t0_0.castSucc
      ∗ (∃ d, isAt c cc0_stg0_0 ((dat E c).before 0 t0_0 d)) ∗ (∃ d, isAt c cc0_stg1_0 ((dat E c).before 1 t0_0 d))
      ∗ (∃ d, isAt c cc0_stg2_0 ((dat E c).before 2 t0_0 d)) ∗ (∃ d, isAt c cc0_stg3_0 ((dat E c).before 3 t0_0 d))
      ∗ (∃ d, isAt c cc0_stg4_0 ((dat E c).before 4 t0_0 d)) ∗ (∃ d, isAt c cc0_stg5_0 ((dat E c).before 5 t0_0 d)))
    ⊢ wp frame (wpE (defs₀ (F := F)) 𝒱₀ c none) Set.univ
      (cc0_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch7 cc0_scratch8 cc0_scratch9 cc0_scratch10 cc0_scratch11 cc0_scratch12 cc0_scratch13 cc0_scratch14 cc0_scratch15 cc0_scratch16)
      (fun _ => iprop((Yk c ∗ Pipeline.ownSems0 osem c ∗ scratch (F := F) c ∗ ∃ r, prngReg c r) ∗ (dat E c).owesAt (0 : ℕ) t0_0.succ
        ∗ isAt c cc0_stg0_0 ((ins E).x c) ∗ isAt c cc0_stg1_0 ((ins E).wq c) ∗ isAt c cc0_stg2_0 ((ins E).k8 c)
        ∗ isAt c cc0_stg3_0 ((ins E).v8 c) ∗ isAt c cc0_stg4_0 ((ins E).wo c) ∗ isAt c cc0_stg5_0 (outC (ins E) c)))
  simp only [before0, before1, before2, before3, before4]
  unfold Xk
  iintro ⟨⟨⟨⟨%K, ⟨#HK, Hp, Ht⟩⟩, Hc⟩, Hs, Hr⟩, HO, ⟨%d0, H0⟩, ⟨%d1, H1⟩, ⟨%d2, H2⟩, ⟨%d3, H3⟩, ⟨%d4, H4⟩, ⟨%d5, ⟨%f5, -, H5⟩⟩⟩
  ihave HO' := (owes_out E c _ (O₀ c) (owed_first E c)) $$ HO
  ihave HC := (fill_table (ins E) c) $$ [Hp Ht Hc Hs H0 H1 H2 H3 H4 H5]
  · isplitl [Hp]; · iexact Hp
    isplitl [Ht]; · iexact Ht
    isplitl [Hc]; · iexact Hc
    isplitl [Hs]; · iexact Hs
    isplitl [H5]; · iexists f5; iexact H5
    iapply (Entails.of_eq (inp_split c (ins E)).symm)
    isplitl [H0]; · iapply (isAt_out c) $$ H0
    isplitl [H1]; · iapply (isAt_out c) $$ H1
    isplitl [H2]; · iapply (isAt_out c) $$ H2
    isplitl [H3]; · iapply (isAt_out c) $$ H3
    iapply (isAt_out c) $$ H4
  iapply (wp_wand_r Idealize.ShloMosaic.frame (wpE (defs₀ (F := F)) 𝒱₀ c none) Set.univ (Q := fun _ => iprop((semVal (cell c .bar) 0 ∗ Pipeline.ownSems0 osem c) ∗ scratch (F := F) c ∗ heldAt c cc0_stg5_0 (outC (ins E) c) ∗ inpRes (ins E) c 0
      ∗ ∃ W, owes (c : Thread nD τ) 0 W)))
  isplitl [HC HO']
  · iapply (body_step c K (ins E))
    unfold St
    isplitr; · iexact HK
    isplitl [HC]; · iexact HC
    iapply (Entails.of_eq (by rw [owed_start])) $$ HO'
  iintro %u ⟨⟨Hb, Hz⟩, Hs, Ho, Hi, ⟨%W, HO⟩⟩
  ihave Hj := (Entails.of_eq (inp_split c (ins E))) $$ Hi
  icases Hj with ⟨H0, H1, H2, H3, H4⟩
  isplitl [Hb Hz Hs Hr]
  · isplitl [Hb]; · iexact Hb
    isplitl [Hz]; · iexact Hz
    isplitl [Hs] <;> iassumption
  isplitl [HO]; · iapply (owes_in E c t0_0.succ 0 (owed_last E c) W) $$ HO
  isplitl [H0]; · iapply (isAt_in c) $$ H0
  isplitl [H1]; · iapply (isAt_in c) $$ H1
  isplitl [H2]; · iapply (isAt_in c) $$ H2
  isplitl [H3]; · iapply (isAt_in c) $$ H3
  isplitl [H4]; · iapply (isAt_in c) $$ H4
  iapply (isAt_in c) $$ Ho

/-! ## The region -/

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat E

/-- The buffers of the program once the call is over. -/
def after1 (c : Dev nD) : Valuation τ sig (Elt F) := Pipeline.withArrays spec0 c (E c) fun w => (dat E c).arrAt w cfg0.N

theorem kit : Pipeline.PLaunchFacts (nD := nD) (τ := τ) (pcfgs (F := F)) 0 where
  cellOf_inj a := by rw [Subsingleton.elim a adm]; exact cellOf_inj
  win := (by decide : Pipeline.WinFacts spec0)
  pre := Pipeline.PreFacts.none _
  block_pos := block_pos0
  arr_whole := arr_whole0
  stage_whole := stage_whole0

theorem own_facts : Pipeline.OwnSemFacts spec0 osem := by decide +kernel

/-- The program's buffers that are no array of the call. -/
abbrev restBufs : Finset (DevRef τ sig) := Pipeline.ucRefs τ sig \ Pipeline.arrRefs spec0

theorem cut (c : Dev nD) (t : Fin ((Pipeline.pin (pcfgs (F := F)) adm 0).N + 1)) (g : GSem nD τ sig) (i : ℕ)
    (h : 0 < (pdats E 0 c).owed t g i) : i ∈ Lx g ∧ (0 : ℕ) < lv g i := by
  have e : (pdats E 0 c).owed t = if t.val = 0 then O₀ c else 0 := rfl
  rw [e] at h
  split at h
  · exact owed_pos c _ 0 (by decide +kernel) g i h
  · exact absurd h (Nat.lt_irrefl 0)

theorem stage_lev (c : Dev nD) (w : Fin cfg0.W) (s : Fin (cfg0.win w).nbuf) : (0 : ℕ) ∈ Lx ((c : Thread nD τ), SemLoc.dma ((cfg0.win w).sem s)) ∧
    lv ((c : Thread nD τ), SemLoc.dma ((cfg0.win w).sem s)) 0 ≤ 0 := by
  refine ⟨by rw [Lx_tc]; exact Finset.mem_range.mpr (by decide), ?_⟩
  show lvOf (kdOf (SemLoc.dma ((cfg0.win w).sem s))) 0 ≤ 0
  revert w s
  decide +kernel

theorem rest_same (c : Dev nD) (b : DevRef τ sig) (hb : b ∈ restBufs \ ∅) : after1 E c b = E c b := by
  unfold after1 Pipeline.withArrays
  refine dif_neg fun ⟨w, e⟩ => ?_
  refine (Finset.mem_sdiff.mp (Finset.mem_sdiff.mp hb).1).2 ?_
  rw [← e]
  unfold Pipeline.arrRefs
  exact Finset.mem_map_of_mem _ (Finset.mem_image_of_mem _ (Finset.mem_univ w))

theorem enter (c : Dev nD) : iprop(Pipeline.scopedRest (Pipeline.pin (pcfgs (F := F)) adm 0).spec c ∗ (∃ r, prngReg c r)
    ∗ StableHlo.held (c.tc : Thread nD τ) ∅ (E c) ∗ Xk (ins E) c) ⊢ (pdats E 0 c).Φ 0 := by
  show iprop(Pipeline.scopedRest spec0 c ∗ (∃ r, prngReg c r) ∗ StableHlo.held (c.tc : Thread nD τ) ∅ (E c) ∗ Xk (ins E) c)
    ⊢ iprop(Xk (ins E) c ∗ scratch (F := F) c ∗ ∃ r, prngReg c r)
  rw [scopedRest0_eq]
  iintro ⟨Hs, Hp, -, HX⟩
  isplitl [HX]; · iexact HX
  isplitl [Hs]; · iexact Hs
  iexact Hp

theorem leave (c : Dev nD) : (pdats E 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (after1 E c) ∗ Pipeline.ownSems0 osem c ∗ Yk c) := by
  show iprop(Yk c ∗ Pipeline.ownSems0 osem c ∗ scratch (F := F) c ∗ ∃ r, prngReg c r)
    ⊢ iprop(Pipeline.scopedRest spec0 c ∗ (∃ r, prngReg c r) ∗ StableHlo.held (c.tc : Thread nD τ) ∅ (after1 E c) ∗ Pipeline.ownSems0 osem c ∗ Yk c)
  rw [scopedRest0_eq, show (StableHlo.held (c.tc : Thread nD τ) ∅ (after1 E c) : sProp 𝕄) = BI.emp from BI.bigSep_empty]
  iintro ⟨HY, Hz, Hs, Hp⟩
  isplitl [Hs]; · iexact Hs
  isplitl [Hp]; · iexact Hp
  isplitr; · iempintro
  isplitl [Hz] <;> iassumption

theorem arr_inj : Function.Injective (Pipeline.arrRef spec0) := by decide

theorem arr_after (c : Dev nD) (w : Fin cfg0.W) : (dat E c).arrAt w cfg0.N = after1 E c (Proc.devRef .tc (Pipeline.arrRef spec0 w)) := by
  unfold after1
  exact (Pipeline.withArrays_arr spec0 arr_inj c (E c) (fun w => (dat E c).arrAt w cfg0.N) w).symm

set_option backward.isDefEq.respectTransparency.types false in
/-- The call as a region of the program. -/
def reg : Pipeline.RegionSeg (pcfgs (F := F)) adm (pdats E) (0 : ℕ) defs₀ 𝒱₀ Lx lv 0 :=
  Pipeline.RegionSeg.ofTalk (pcfgs (F := F)) adm (pdats E) (0 : ℕ) defs₀ 𝒱₀ Lx lv 0 osem own_facts
    ∅ restBufs (Finset.empty_subset _) kit rfl (fun c => (body_ok E c).loose)
    (fun _ => 0) O₀ (fun c => (owed_first E c).trans (zero_add _).symm) (owed_last E) (fun _ => rfl) (fun c w => by unfold Dat.share; split <;> rfl)
    E (after1 E) (rest_same E)
    (Tk (ins E)) Yk (Xk (ins E)) Yk (open_own (ins E)) (enter E) (leave E)
    (fun c => by iintro H; imodintro; iexact H)
    (fun _ => 0)
    ⟨fun c w s => (stage_lev c w s).1, fun c w s => (stage_lev c w s).2, fun c t g i h => cut E c t g i h⟩
    (fun _ => iprop(emp))
    (fun _ _ => rfl) (fun c w => arr_after E c w)

end Cert.KernelIdeal.Talk
-- ==== Proof.KernelIdeal.Launch.lean ====
module

public import proofs.«01_k».proof.Proof.KernelIdeal.Call
public import proofs.«01_k».proof.Proof.Gen.KernelIdeal.Frame

/-!
# The whole program

The host's steps and the call in a row, everything the launch provides dealt to the devices, and the run of the program
on the eight devices: the arguments are kept, the counters end at zero, and the result is what the contents say.
-/

@[expose] public noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F] [Named F]

local notation "𝕄" => MT nD τ sig ℕ (Elt F) ℕ UU ℕ

variable (m : (ℓ : Loc nD τ sig) → Buf (Elt F) ℓ) (ρ : Dev nD → PrngReg)

/-! ## The contents stretch by stretch -/

def hv0 (c : Dev nD) : Valuation τ sig (Elt F) := fun b => m (c, b)
def hv1 (c : Dev nD) : Valuation τ sig (Elt F) := StableHlo.after hostOps0 (hv0 m c)
def hv2 (c : Dev nD) : Valuation τ sig (Elt F) := StableHlo.after hostOps0_1 (hv1 m c)
def hv3 (c : Dev nD) : Valuation τ sig (Elt F) := StableHlo.after hostOps0_2 (hv2 m c)
def hv4 (c : Dev nD) : Valuation τ sig (Elt F) := StableHlo.after hostOps0_3 (hv3 m c)
def hv5 (c : Dev nD) : Valuation τ sig (Elt F) := StableHlo.after hostOps0_4 (hv4 m c)
def hv6 (c : Dev nD) : Valuation τ sig (Elt F) := StableHlo.after hostOps0_5 (hv5 m c)
def hv7 (c : Dev nD) : Valuation τ sig (Elt F) := StableHlo.after hostOps0_6 (hv6 m c)
def hv8 (c : Dev nD) : Valuation τ sig (Elt F) := StableHlo.after hostOps0_7 (hv7 m c)
/-- The contents at the call, -/
def vCall (c : Dev nD) : Valuation τ sig (Elt F) := StableHlo.after hostOps0_8 (hv8 m c)
/-- and at the end. -/
def vEnd (c : Dev nD) : Valuation τ sig (Elt F) := StableHlo.after hostOps1 (after1 (vCall m) c)

theorem after_app (l l' : List (HloOp τ sig (Elt F))) (V : Valuation τ sig (Elt F)) :
    StableHlo.after (l ++ l') V = StableHlo.after l' (StableHlo.after l V) := by
  induction l generalizing V with
  | nil => rfl
  | cons op l ih => exact ih _

theorem vCall_eq (c : Dev nD) : vCall m c = V0 m c := by
  unfold V0 vCall hv8 hv7 hv6 hv5 hv4 hv3 hv2 hv1 hv0
  simp only [List.flatten_cons, List.flatten_nil, after_app, List.append_nil]

/-! ## The stretches -/

abbrev ucs : Finset (DevRef τ sig) := Pipeline.ucRefs τ sig

/-- What rides beside the buffers before the call, -/
def ride (c : Dev nD) : sProp 𝕄 :=
  iprop((∃ r, prngReg c r) ∗ Tk (ins (vCall m)) c ∗ ∃ W, owes (c : Thread nD τ) (O₀ c) W)
/-- and after it. -/
def rest (c : Dev nD) : sProp 𝕄 := iprop((∃ r, prngReg c r) ∗ Yk c ∗ ∃ W, owes (c : Thread nD τ) 0 W)

theorem sub_of (ops : List (HloOp τ sig (Elt F))) (h : ops.Forall fun op => op.bufs ⊆ StableHlo.tcRefs τ sig) : ∀ op ∈ ops, op.bufs ⊆ ucs :=
  fun op hop => Pipeline.sub_ucRefs op ((List.forall_iff_forall_mem.mp h) op hop)

/-- A stretch of host steps. -/
def stretch (ops : List (HloOp τ sig (Elt F))) (h : ops.Forall fun op => op.bufs ⊆ StableHlo.tcRefs τ sig) (hf : ops.Forall fun op => op.fresh = ∅)
    (V : Dev nD → Valuation τ sig (Elt F)) (R : Dev nD → sProp 𝕄) :
    Pipeline.HostSeg (Name := ℕ) (U := UU) (pcfgs (F := F)) defs₀ 𝒱₀ Lx lv :=
  Pipeline.HostSeg.ofOps _ _ _ _ _ ucs ops (sub_of ops h) (List.forall_iff_forall_mem.mp hf) V R

/-- The program as a list of stretches. -/
def segs : List (Pipeline.Seg (pcfgs (F := F)) adm (pdats (vCall m)) (0 : ℕ) defs₀ 𝒱₀ Lx lv) :=
  [.host (stretch hostOps0 hostOps0_sub hostOps0_fresh (hv0 m) (ride m)),
   .host (stretch hostOps0_1 hostOps0_1_sub hostOps0_1_fresh (hv1 m) (ride m)),
   .host (stretch hostOps0_2 hostOps0_2_sub hostOps0_2_fresh (hv2 m) (ride m)),
   .host (stretch hostOps0_3 hostOps0_3_sub hostOps0_3_fresh (hv3 m) (ride m)),
   .host (stretch hostOps0_4 hostOps0_4_sub hostOps0_4_fresh (hv4 m) (ride m)),
   .host (stretch hostOps0_5 hostOps0_5_sub hostOps0_5_fresh (hv5 m) (ride m)),
   .host (stretch hostOps0_6 hostOps0_6_sub hostOps0_6_fresh (hv6 m) (ride m)),
   .host (stretch hostOps0_7 hostOps0_7_sub hostOps0_7_fresh (hv7 m) (ride m)),
   .host (stretch hostOps0_8 hostOps0_8_sub hostOps0_8_fresh (hv8 m) (ride m)),
   .region (reg (vCall m)),
   .host (stretch hostOps1 hostOps1_sub hostOps1_fresh (after1 (vCall m)) rest)]

theorem main_eq (c : Dev nD) : main (F := F) c = Pipeline.Seg.run (segs m) := by
  rw [main_chain, Pipeline.Seg.run_eq_chain]
  rfl

theorem arr_sub : Pipeline.arrRefs (τ := τ) spec0 ⊆ ucs := by decide

variable (E : Dev nD → Valuation τ sig (Elt F))

theorem reg_pre (c : Dev nD) : iprop(StableHlo.held (c : Thread nD τ) ucs (vCall m c) ∗ ride m c) ⊢ (reg (vCall m)).pre c := by
  show _ ⊢ iprop(StableHlo.held (c.tc : Thread nD τ) (Pipeline.arrRefs (τ := τ) spec0) (vCall m c) ∗ (∃ r, prngReg c r)
    ∗ (StableHlo.held (c.tc : Thread nD τ) restBufs (vCall m c) ∗ emp) ∗ Tk (ins (vCall m)) c ∗ ∃ Wd, owes (c : Thread nD τ) (0 + O₀ c) Wd)
  rw [zero_add, StableHlo.held_sub_split (c : Thread nD τ) arr_sub]
  unfold ride
  iintro ⟨⟨Ha, Hb⟩, Hp, HT, HO⟩
  isplitl [Ha]; · iexact Ha
  isplitl [Hp]; · iexact Hp
  isplitl [Hb]
  · isplitl [Hb]; · iexact Hb
    iempintro
  isplitl [HT] <;> iassumption

theorem reg_post (c : Dev nD) : (reg (vCall m)).post c ⊢ iprop(StableHlo.held (c : Thread nD τ) ucs (after1 (vCall m) c) ∗ rest c) := by
  show iprop(StableHlo.held (c.tc : Thread nD τ) (Pipeline.arrRefs (τ := τ) spec0) (after1 (vCall m) c) ∗ (∃ r, prngReg c r)
    ∗ (StableHlo.held (c.tc : Thread nD τ) restBufs (after1 (vCall m) c) ∗ emp) ∗ Yk c ∗ ∃ Wd, owes (c : Thread nD τ) (0 : CellTallies nD τ sig ℕ) Wd) ⊢ _
  rw [StableHlo.held_sub_split (c : Thread nD τ) arr_sub]
  unfold rest
  iintro ⟨Ha, Hp, ⟨Hb, -⟩, HY, HO⟩
  isplitl [Ha Hb]; · isplitl [Ha] <;> iassumption
  isplitl [Hp]; · iexact Hp
  isplitl [HY] <;> iassumption

/-! ## The launch -/

theorem unscopedSems0_eq (c : Dev nD) : (unscopedSems0 c : sProp 𝕄) = semVal (cell c .bar) 0 := by
  unfold unscopedSems0
  rw [show (Finset.univ.filter fun sm : SemLoc sig => ¬ sm.isScoped .tc) = {semOf .bar} from by decide, BI.bigSep_singleton]

def semEmb : Kd ↪ SemLoc sig := ⟨semOf, fun _ _ h => semOf_inj h⟩

/-- The credits a device meets at the launch are those of its cells. -/
theorem creds_of (c : Dev nD) : (Pipeline.launchCred O₀ c : sProp 𝕄) ⊢ creds c := by
  unfold Pipeline.launchCred creds
  refine (BI.bigSep_subset (Finset.subset_univ (Finset.univ.map semEmb))).trans ?_
  rw [bigSep_map]
  show (bigSep Finset.univ fun k : Kd => cred (tallyOn (cell c k) (launchCredit (Pipeline.owing O₀) 0 (cell c k)))) ⊢ _
  rw [bigSep_kd]
  simp only [credit_rcv, credit_bar, credit_crd, Pipeline.cred_finsetSum]
  iintro ⟨-, Hr, Hc, Hb⟩
  isplitl [Hr]; · iexact Hr
  isplitl [Hb] <;> iassumption

/-- One resource, kept at one device. -/
def atDev (d : Dev nD) (P : sProp 𝕄) (c : Dev nD) : sProp 𝕄 := if c = d then P else iprop(emp)

theorem atDev_all (d : Dev nD) (P : sProp 𝕄) : bigSep Finset.univ (atDev d P) = P := by
  have h : ∀ c ∈ (Finset.univ : Finset (Dev nD)).erase d, atDev d P c = (BI.emp : sProp 𝕄) := fun c hc => if_neg (Finset.ne_of_mem_erase hc)
  rw [bigSep_univ_at _ d, bigSep_congr h, BI.bigSep_emp_const, show atDev d P d = P from if_pos rfl]
  exact BI.equiv_iff.mp sep_emp

/-- The protocol's own start, in one piece. -/
def seed : sProp 𝕄 := BI.own (ER (launchOf barCells owCells allToks))

def u₀ : UU :=
  (initOf (Pipeline.cells (Pipeline.pin (pcfgs (F := F)) adm) cellOf_inj) (Pipeline.launchToks (Pipeline.pin (pcfgs (F := F)) adm) cellOf_inj),
    launchOf barCells owCells allToks)

abbrev Tfirst (c : Dev nD) : sProp 𝕄 := iprop(StableHlo.held (c : Thread nD τ) ucs (hv0 m c) ∗ ride m c)
abbrev Tlast (c : Dev nD) : sProp 𝕄 := iprop(StableHlo.held (c : Thread nD τ) ucs (vEnd m c) ∗ semVal (cell c .bar) 0)

/-- A device's own part of the protocol, -/
def own1 (c : Dev nD) : sProp 𝕄 :=
  iprop(atPos ER (cell c .bar) 0 ∅ 0 ∗ (bigSep Finset.univ fun k : Ow => openTok ER (cell c k.1)) ∗ toks c)
/-- and the rest of what it starts with. -/
def base (c : Dev nD) : sProp 𝕄 :=
  iprop(StableHlo.held (c : Thread nD τ) ucs (hv0 m c) ∗ creds c ∗ owes (c : Thread nD τ) (O₀ c) ∅ ∗ ∃ r, prngReg c r)

theorem first_intro (X : Ins F) (hX : X = ins (vCall m)) (K : GSem nD τ sig → ℕ) (c : Dev nD) : iprop(allInv X K ∗ (own1 c ∗ base m c)) ⊢ Tfirst m c := by
  subst hX
  unfold own1 base Tfirst ride Tk kept
  iintro ⟨#HI, ⟨Ha, Ho, Ht⟩, Hh, Hc, HO, Hp⟩
  isplitl [Hh]; · iexact Hh
  isplitl [Hp]; · iexact Hp
  isplitr [HO]
  · isplitr [Hc]
    · iexists K
      isplitr; · iexact HI
      isplitl [Ha]; · iexact Ha
      isplitl [Ho] <;> iassumption
    iexact Hc
  iexists ∅; iexact HO

theorem allInv_of (X : Ins F) (K : GSem nD τ sig → ℕ) :
    iprop((bigSep (barCells ∪ owCells) fun g => cellInv ER (Rd X) (K g) g) ∗ bigSep barCells fun g => reached (ER (F := F)) g 0) ⊢ allInv X K := by
  unfold allInv
  refine BIClass.sep_mono ?_ (Entails.of_eq (bigSep_map (s := Finset.univ) barEmb (Φ := fun g : GSem nD τ sig => (reached (ER (F := F)) g 0 : sProp 𝕄))))
  refine bigSep_intro_persistent fun p _ => ?_
  exact bigSep_elim (Φ := fun g => cellInv ER (Rd X) (K g) g) (cell_mem p.1 p.2)

theorem both_out {Φ Ψ : Dev nD → sProp 𝕄} : bigSep Finset.univ (fun c => iprop(Φ c ∗ Ψ c)) ⊢ iprop(bigSep Finset.univ Φ ∗ bigSep Finset.univ Ψ) :=
  Entails.of_eq (bigSep_sep _ _ _)
theorem both_in {Φ Ψ : Dev nD → sProp 𝕄} : iprop(bigSep Finset.univ Φ ∗ bigSep Finset.univ Ψ) ⊢ bigSep Finset.univ (fun c => iprop(Φ c ∗ Ψ c)) :=
  Entails.of_eq (bigSep_sep _ _ _).symm

/-- The launch, all devices at once. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ atDev 0 seed c)) ∗ levAts Lx lv)
      ⊢ (|={Set.univ}=> bigSep Finset.univ (Tfirst m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ atDev 0 seed c)
      ⊢ (iprop(base m c ∗ (semVal (cell c .bar) 0 ∗ atDev 0 seed c)) : sProp 𝕄) := by
    rw [show unscopedBufs c (fun b => m ((c : Thread nD τ).loc b)) = StableHlo.held (c : Thread nD τ) ucs (hv0 m c) from Pipeline.unscopedBufs_held c (hv0 m c),
      unscopedSems0_eq]
    unfold base
    iintro ⟨Hh, Hs, HO, Hc, Hp, HG⟩
    isplitl [Hh Hc HO Hp]
    · isplitl [Hh]; · iexact Hh
      isplitl [Hc]; · iapply (creds_of (F := F) c) $$ Hc
      isplitl [HO]; · iexact HO
      iexists (ρ c); iexact Hp
    isplitl [Hs] <;> iassumption
  have hv : bigSep Finset.univ (fun c : Dev nD => (semVal (cell c .bar) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c .bar) 0 ∅ 0 : sProp 𝕄)) :=
    Entails.of_eq (bigSep_map (s := Finset.univ) barEmb (Φ := fun g : GSem nD τ sig => (atPos ER g 0 ∅ 0 : sProp 𝕄)))
  have hopen : bigSep owCells (fun g => (openTok ER g : sProp 𝕄))
      ⊢ bigSep Finset.univ (fun c : Dev nD => bigSep Finset.univ fun k : Ow => openTok ER (cell c k.1)) :=
    Entails.of_eq (by
      rw [bigSep_map, bigSep_univ_prod]
      rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ atDev 0 seed c))
      ⊢ (bigSep Finset.univ fun c : Dev nD => iprop(base m c ∗ (semVal (cell c .bar) 0 ∗ atDev 0 seed c)) : sProp 𝕄) from bigSep_mono fun c _ => hcore c) $$ H
  ihave H2 := (both_out (F := F)) $$ H'; icases H2 with ⟨HB, H3⟩
  ihave H4 := (both_out (F := F)) $$ H3; icases H4 with ⟨Hv, HG⟩
  ihave Hu := (show bigSep Finset.univ (atDev 0 (seed (F := F))) ⊢ BI.own (ER (launchOf barCells owCells allToks)) from
    Entails.of_eq (atDev_all (F := F) 0 seed)) $$ HG
  imod (Rounds.fund_launch ER (Rd (ins (vCall m))) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := allInv (ins (vCall m)) κ) (Φ := fun c => iprop(own1 c ∗ base m c)) fun c _ => first_intro m _ rfl κ c)
  isplitr
  · iapply (allInv_of (ins (vCall m)) κ)
    isplitr; · iexact Hinv
    iexact Hr
  iapply both_in
  isplitr [HB]
  · unfold own1
    iapply both_in; isplitl [Hat]; · iapply hat $$ Hat
    iapply both_in; isplitl [Hopen]; · iapply hopen $$ Hopen
    iapply (Entails.of_eq (allToks_eq (F := F))) $$ Htok
  · iexact HB

/-! ## The run -/

/-- The buffers the claims name. -/
abbrev named6 : List (DevRef τ sig) :=
  [Proc.devRef .tc main_arg0, Proc.devRef .tc main_arg1, Proc.devRef .tc main_arg2, Proc.devRef .tc main_arg3, Proc.devRef .tc main_arg4, Proc.devRef .tc main_v21]

theorem named6_sub : named6.toFinset ⊆ ucs := by decide

abbrev pt (c : Dev nD) (b : Ref sig .tc) (v : Buf (Elt F) ((c : Thread nD τ).loc b)) : sProp 𝕄 := ((c : Thread nD τ).loc b) ↦{fullShare} v

theorem named6_eq (c : Dev nD) (W : Valuation τ sig (Elt F)) : (StableHlo.held (c : Thread nD τ) named6.toFinset W : sProp 𝕄)
    = iprop(pt c main_arg0 (W (Proc.devRef .tc main_arg0)) ∗ pt c main_arg1 (W (Proc.devRef .tc main_arg1)) ∗ pt c main_arg2 (W (Proc.devRef .tc main_arg2))
      ∗ pt c main_arg3 (W (Proc.devRef .tc main_arg3)) ∗ pt c main_arg4 (W (Proc.devRef .tc main_arg4)) ∗ pt c main_v21 (W (Proc.devRef .tc main_v21))) := by
  unfold StableHlo.held
  rw [bigSep_eq_bigSepL_of_eq named6 rfl (by decide)]
  rfl

theorem unscoped_eq : ∀ sm : SemLoc sig, sm.isScoped .tc = false → sm = semOf .bar := by decide

/-- What the final state says of a device. -/
def Seen (c : Dev nD) (s : MemSt nD τ sig (Elt F)) : Prop :=
  (s.mem ((c : Thread nD τ).loc main_arg0) = vEnd m c (Proc.devRef .tc main_arg0)
    ∧ s.mem ((c : Thread nD τ).loc main_arg1) = vEnd m c (Proc.devRef .tc main_arg1)
    ∧ s.mem ((c : Thread nD τ).loc main_arg2) = vEnd m c (Proc.devRef .tc main_arg2)
    ∧ s.mem ((c : Thread nD τ).loc main_arg3) = vEnd m c (Proc.devRef .tc main_arg3)
    ∧ s.mem ((c : Thread nD τ).loc main_arg4) = vEnd m c (Proc.devRef .tc main_arg4)
    ∧ s.mem ((c : Thread nD τ).loc main_v21) = vEnd m c (Proc.devRef .tc main_v21))
  ∧ s.sem (cell c .bar) = 0

theorem see (c : Dev nD) (s' : Phys nD τ sig (Elt F)) : iprop(Tlast m c ∗ SI s') ⊢ (|={Set.univ}=> iprop(⌜Seen m c s'.mem⌝ ∗ SI s') : sProp 𝕄) := by
  unfold Tlast
  rw [StableHlo.held_sub_split (c : Thread nD τ) named6_sub, named6_eq]
  iintro ⟨⟨⟨⟨H0, H1, H2, H3, H4, H5⟩, -⟩, Hb⟩, HSI⟩
  icombine HSI H0 gives %h0
  icombine HSI H1 gives %h1
  icombine HSI H2 gives %h2
  icombine HSI H3 gives %h3
  icombine HSI H4 gives %h4
  icombine HSI H5 gives %h5
  icombine HSI Hb gives %hb
  imodintro
  isplitr
  · ipureintro
    exact ⟨⟨Buf.eq_of_forall_mem_univ h0, Buf.eq_of_forall_mem_univ h1, Buf.eq_of_forall_mem_univ h2, Buf.eq_of_forall_mem_univ h3,
      Buf.eq_of_forall_mem_univ h4, Buf.eq_of_forall_mem_univ h5⟩, by simpa using hb⟩
  iexact HSI

set_option backward.isDefEq.respectTransparency.types false in
theorem run_main : θ_run defs (onTc (τ := τ) (main (F := F))) (⟨m, fun _ => 0, ρ⟩ : MemSt nD τ sig (Elt F))
    (fun r => (∀ c : Dev nD, Seen m c r.2) ∧ r.2.sem = fun _ => 0) :=
  Pipeline.θ_run_regions_kit_sems (pcfgs (F := F)) adm (pdats (vCall m)) (0 : ℕ) cellOf_inj EP defs₀ 𝒱₀ Lx lv m ρ main (segs m)
    (fun c Q => by rw [main_eq m c])
    (by simp only [segs, Pipeline.Seg.pipes_host, Pipeline.Seg.pipes_region, Pipeline.Seg.pipes_nil]; decide)
    (O₀ := O₀) (hL := fun g h => if_neg h) (G := atDev 0 seed) (u₀ := u₀)
    (hu₀ := by
      unfold u₀ seed
      iintro Hu
      ihave H := (ownU_pair _ _) $$ Hu
      icases H with ⟨HP, HX⟩
      imodintro
      isplitl [HP]; · iexact HP
      rw [atDev_all]; iexact HX)
    (T₀ := Tfirst m) (Tₙ := Tlast m)
    (hch := by
      refine ⟨fun c => .rfl, fun c => .rfl, fun c => .rfl, fun c => .rfl, fun c => .rfl, fun c => .rfl, fun c => .rfl, fun c => .rfl, fun c => .rfl,
        fun c => reg_pre m c, fun c => reg_post m c, fun c => ?_⟩
      show iprop(StableHlo.held (c : Thread nD τ) ucs (vEnd m c) ∗ rest c)
        ⊢ iprop(Tlast m c ∗ ∃ W, owes (c : Thread nD τ) (0 : CellTallies nD τ sig ℕ) W)
      unfold rest
      iintro ⟨Hh, -, Hb, HO⟩
      isplitr [HO]
      · isplitl [Hh] <;> iassumption
      · iexact HO)
    (hinit := init m ρ)
    (QY := Seen m)
    (hfin := see m)
    (hQ := fun s h hs => ⟨h, sem_eq_zero hs fun c sm hsm => by
        obtain rfl := unscoped_eq sm hsm
        exact (h c).2⟩)

end Cert.KernelIdeal.Talk
-- ==== Proof.KernelIdeal.End.lean ====
module

public import proofs.«01_k».proof.Proof.KernelIdeal.Launch
public import Idealize.ShloMosaic.Lib.Pipeline.ValueKit.Geometry

/-!
# What the run leaves

The arguments as they were, every counter at zero, and the result spelled as the contents of the output window.
-/

@[expose] public noncomputable section

namespace Cert.KernelIdeal.Talk

open Idealize.ShloMosaic Idealize.ShloMosaic.TcCoe
open Idealize.SL.Sem
open Cert.KernelIdeal.Gen

variable {F : FTy → Type} [FloatOps F] [Named F]

variable (m : (ℓ : Loc nD τ sig) → Buf (Elt F) ℓ) (ρ : Dev nD → PrngReg) (c : Dev nD)

theorem tail_keeps (W : Valuation τ sig (Elt F)) (b : Ref sig .tc) (hb : b ≠ main_v21) :
    StableHlo.after hostOps1 W (Proc.devRef .tc b) = W (Proc.devRef .tc b) := by
  refine StableHlo.after_of_forall_not_mem _ _ (List.forall_iff_forall_mem.mp ?_)
  simp only [hostOps1, List.Forall, StableHlo.unary_writes, Finset.mem_singleton]
  exact StableHlo.devRef_ne_of_ne hb

theorem end_other (b : Ref sig .tc) (hb : b ≠ main_v21) (ha : ∀ w, Pipeline.arrRef spec0 w ≠ b) (hv : V m c b = m ((c : Thread nD τ).loc b)) :
    vEnd m c (Proc.devRef .tc b) = m ((c : Thread nD τ).loc b) := by
  unfold vEnd
  rw [tail_keeps _ b hb]
  unfold after1
  rw [Pipeline.withArrays_of_ne spec0 c _ _ b ha, vCall_eq]
  exact hv

theorem end_in (w : Fin cfg0.W) (hw : (cfg0.win w).isOut = false) (hb : Pipeline.arrRef spec0 w ≠ main_v21)
    (hv : V m c (Pipeline.arrRef spec0 w) = m ((c : Thread nD τ).loc (Pipeline.arrRef spec0 w))) :
    vEnd m c (Proc.devRef .tc (Pipeline.arrRef spec0 w)) = m ((c : Thread nD τ).loc (Pipeline.arrRef spec0 w)) := by
  unfold vEnd
  rw [tail_keeps _ _ hb, ← arr_after, Pipeline.Dat.arrAt_in _ _ hw]
  exact (congrFun (vCall_eq m c) _).trans hv

theorem out_arr : (dat (vCall m) c).arrAt 5 cfg0.N = outC (ins (vCall m)) c :=
  Pipeline.Dat.arrAt_eq_of_after_last _ 5 t0_0 (by decide +kernel) _ fun j => rfl

/-- The result of device `c`. -/
def result : Vec F S1x1024x1024 .f32 := broadcastInDim S1x1024x1024 ![1, 2] bcast_S1024x1024_S1x1024x1024_1_2 (outC (ins (vCall m)) c)

theorem end_result : vEnd m c (Proc.devRef .tc main_v21) = result m c := by
  unfold vEnd result
  show StableHlo.after [_] _ _ = _
  rw [StableHlo.after_cons, StableHlo.after_nil, StableHlo.unary_result]
  exact congrArg (broadcastInDim S1x1024x1024 ![1, 2] bcast_S1024x1024_S1x1024x1024_1_2) ((arr_after (vCall m) c 5).symm.trans (out_arr m c))

/-- The run: the arguments kept, the counters zero, the result as said. -/
theorem run_all : θ_run defs (onTc (τ := τ) (main (F := F))) (⟨m, fun _ => 0, ρ⟩ : MemSt nD τ sig (Elt F))
    (fun r => (∀ c : Dev nD, r.2.mem ((c : Thread nD τ).loc main_v21) = result m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  (θ_run defs _ _).mono (fun r h => ⟨fun c => by
    obtain ⟨⟨h0, h1, h2, h3, h4, h5⟩, -⟩ := h.1 c
    exact ⟨h5.trans (end_result m c), h0.trans (end_other m c main_arg0 (by decide) (by decide) (V_main_arg0 m c)),
      h1.trans (end_in m c 1 rfl (by decide) (V_main_arg1 m c)),
      h2.trans (end_other m c main_arg2 (by decide) (by decide) (V_main_arg2 m c)),
      h3.trans (end_other m c main_arg3 (by decide) (by decide) (V_main_arg3 m c)),
      h4.trans (end_in m c 4 rfl (by decide) (V_main_arg4 m c))⟩, h.2⟩) (run_main m ρ)

end Cert.KernelIdeal.Talk
-- ==== Proof.Same.lean ====
module

public import proofs.«01_k».proof.Proof.Gen.Kernel
public import proofs.«01_k».proof.Proof.KernelIdeal.End

/-!
# One text, two programs

The program as compiled and its ideal version differ only in how two constants are spelled. At a reading of the names as
their printed words the two are the same program, so the run proved for one is the run of the other.
-/

@[expose] public noncomputable section

namespace Cert.Same
open Idealize.ShloMosaic Idealize.ShloMosaic.TcCoe Idealize.SL.Sem

variable {F : FTy → Type} [FloatOps F]

/-- Names read as their printed words. -/
@[reducible] def asPrinted : Named F := ⟨fun _ _ {φ} b => FloatOps.ofBits φ b⟩

set_option maxHeartbeats 4000000 in
theorem body_same : @Cert.Kernel.cc0_body F _ _ = @Cert.KernelIdeal.cc0_body F _ asPrinted _ := rfl

set_option maxHeartbeats 4000000 in
theorem table_same : @Cert.Kernel.defs₀ F _ _ = @Cert.KernelIdeal.defs₀ F _ asPrinted _ := by
  unfold Cert.Kernel.defs₀ Cert.KernelIdeal.defs₀
  rw [body_same]
  refine congrArg Defs.onTc (funext fun l => funext fun a => ?_)
  match l, a with
  | 0, (t, s) => rfl
  | ⟨_ + 1, h⟩, _ => exact absurd h (Nat.not_lt.2 (Nat.le_add_left _ _))

set_option maxHeartbeats 4000000 in
theorem defs_same : @Cert.Kernel.defs F _ _ = @Cert.KernelIdeal.defs F _ asPrinted _ := by
  unfold Cert.Kernel.defs Cert.KernelIdeal.defs
  rw [table_same]
  rfl

set_option maxHeartbeats 4000000 in
theorem main_same : @Cert.Kernel.main F _ _ = @Cert.KernelIdeal.main F _ _ := rfl

theorem run_printed (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  letI : Named F := asPrinted
  have h := Cert.KernelIdeal.Talk.run_all (F := F) m g
  rw [defs_same, main_same]
  exact (θ_run (Cert.KernelIdeal.defs (F := F)) _ _).mono (fun r h => ⟨fun c => (h.1 c).2, h.2⟩) h

end Cert.Same
-- ==== Proof.Value.Payload.lean ====
module

public import proofs.«01_k».proof.Proof.KernelIdeal.Contents
public import Idealize.ShloMosaic.Lib.Pointwise

/-!
# The call's contents, element by element

Every stored value of the call over the extended reals, at an index: queries, staged blocks, the two running sums, the
context and the result.
-/

@[expose] public noncomputable section

namespace Cert.KernelIdeal.Talk

open Idealize.ShloMosaic Idealize.ShloMosaic.TcCoe Idealize.ShloMosaic.Tactic
open Cert.KernelIdeal.Gen

set_option maxRecDepth 16384

/-- The factor of the queries. -/
def qs : EReal := ((63690514211647 / 18014398509481984 : ℝ) : EReal)

/-- Column `d` of head `h`. -/
abbrev col (h : Fin 8) (d : Fin 128) : Fin 1024 := ⟨128 * h.val + d.val, by omega⟩
/-- Row `t` of a half of a device's keys. -/
abbrev hrow (half : Fin 2) (t : Fin 512) : Fin 1024 := ⟨512 * half.val + t.val, by omega⟩

variable (X : Ins Ideal) (c : Dev nD)

theorem one_step0 (x : ℕ) : 0 + 1 * x = x := by omega
theorem one_step (n x : ℕ) : n + 1 * x = n + x := by omega

theorem xV_apply (r e : Fin 1024) : xV X c (ix2 r e) = X.x c (ix2 r e) := by
  refine congrArg (X.x c) (funext fun a => ?_)
  fin_cases a <;> exact Fin.ext (one_step0 _)

theorem woV_apply (r e : Fin 1024) : woV X c (ix2 r e) = X.wo c (ix2 r e) := by
  refine congrArg (X.wo c) (funext fun a => ?_)
  fin_cases a <;> exact Fin.ext (one_step0 _)

theorem wqV_apply (h : Fin 8) (e : Fin 1024) (d : Fin 128) : wqV X c h (ix2 e d) = X.wq c (ix2 e (col h d)) := by
  refine congrArg (X.wq c) (funext fun a => ?_)
  fin_cases a
  · exact Fin.ext (one_step0 _)
  · exact Fin.ext (one_step _ _)

theorem loRows_apply (w : Vec Ideal S8x1024x128 .i8) (h : Fin 8) (t : Fin 512) (k : Fin 128) :
    loRows w (ix3 h t k) = w (ix3 h (hrow 0 t) k) := by
  refine congrArg w (funext fun a => ?_)
  fin_cases a
  · exact Fin.ext (one_step0 _)
  · exact Fin.ext (one_step 0 t.val)
  · exact Fin.ext (one_step0 _)

theorem hiRows_apply (w : Vec Ideal S8x1024x128 .i8) (h : Fin 8) (t : Fin 512) (k : Fin 128) :
    hiRows w (ix3 h t k) = w (ix3 h (hrow 1 t) k) := by
  refine congrArg w (funext fun a => ?_)
  fin_cases a
  · exact Fin.ext (one_step0 _)
  · exact Fin.ext (one_step _ _)
  · exact Fin.ext (one_step0 _)

theorem innerR_emb (h : Fin 8) (t : Fin 512) (k : Fin 128) : (innerR h).emb (ix5 0 0 0 t k) = ix5 0 0 h t k := by
  refine funext fun a => ?_
  fin_cases a
  · rfl
  · rfl
  · rfl
  · exact Fin.ext (one_step0 _)
  · exact Fin.ext (one_step0 _)

theorem start_apply (s : Fin 4) (d : Dev nD) (h : Fin 8) (t : Fin 512) (k : Fin 128) :
    start X s d (ix5 0 0 h t k) = (if s.val % 2 = 0 then X.k8 else X.v8) d (ix3 h (hrow ⟨s.val / 2, by omega⟩ t) k) := by
  fin_cases s
  · refine Eq.trans ?_ (loRows_apply (X.k8 d) h t k)
    pointwise [start, k0_pay24]
  · refine Eq.trans ?_ (loRows_apply (X.v8 d) h t k)
    pointwise [start, k0_pay25]
  · refine Eq.trans ?_ (hiRows_apply (X.k8 d) h t k)
    pointwise [start, k0_pay26]
  · refine Eq.trans ?_ (hiRows_apply (X.v8 d) h t k)
    pointwise [start, k0_pay27]

theorem qH_apply (h : Fin 8) (r : Fin 1024) (d : Fin 128) :
    qH X c h (ix3 0 r d) = (∑ e : Fin 1024, X.x c (ix2 r e) * X.wq c (ix2 e (col h d))) * qs := by
  unfold qH
  pointwise [k0_pay28]
  simp only [xV_apply, wqV_apply]
  rfl

theorem stg_apply (v : Vec Ideal S1x1x8x512x128 .i8) (h : Fin 8) (t : Fin 512) (k : Fin 128) :
    k0_pay55 v (ix5 0 0 h t k) = (((v (ix5 0 0 h t k)).toInt : ℝ) : EReal) := by
  pointwise [k0_pay55]
  rfl

theorem kH_apply (half : Fin 2) (a : ℕ) (h : Fin 8) (t : Fin 512) (k : Fin 128) :
    kvH X c half 0 a h (ix5 0 0 0 t k) = (((X.k8 (org (streamOf half 0) c a) (ix3 h (hrow half t) k)).toInt : ℝ) : EReal) := by
  unfold kvH stgV ver
  rw [innerR_emb, stg_apply, start_apply]
  fin_cases half <;> rfl

theorem vH_apply (half : Fin 2) (a : ℕ) (h : Fin 8) (t : Fin 512) (k : Fin 128) :
    kvH X c half 1 a h (ix5 0 0 0 t k) = (((X.v8 (org (streamOf half 0) c a) (ix3 h (hrow half t) k)).toInt : ℝ) : EReal) := by
  unfold kvH stgV ver
  rw [innerR_emb, stg_apply, start_apply]
  fin_cases half <;> rfl

theorem weight_apply (M : IVec S1024x512 1) (kk : Vec Ideal S1x1x1x512x128 .bf16) (q : Vec Ideal S1x1024x128 .bf16) (r : Fin 1024) (t : Fin 512) :
    k0_pay3 M kk q (ix2 r t) = if M (ix2 r t) = 1#1 then Ideal.exp (∑ k : Fin 128, q (ix3 0 r k) * kk (ix5 0 0 0 t k)) else 0 := by
  pointwise [k0_pay3]
  rfl

theorem out_apply (C W : Vec Ideal S1024x1024 .bf16) (r l : Fin 1024) : k0_pay2 C W (ix2 r l) = ∑ k : Fin 1024, C (ix2 r k) * W (ix2 k l) := by
  pointwise [k0_pay2]

theorem ctx_apply (A D : Vec Ideal S1x1024x128 .f32) (r : Fin 1024) (l : Fin 128) :
    k0_pay210 A D (ix2 r l) = Ideal.div (A (ix3 0 r l)) (D (ix3 0 r l)) * Ideal.ofBits .f32 0x3D23D70A#32 := by
  pointwise [k0_pay210]

theorem acc_apply (M : IVec S1024x512 1) (kk vv : Vec Ideal S1x1x1x512x128 .bf16) (q : Vec Ideal S1x1024x128 .bf16) (A : Vec Ideal S1x1024x128 .f32) (r : Fin 1024) (l : Fin 128) :
    k0_pay4 M kk vv q A (ix3 0 r l) = A (ix3 0 r l) + ∑ t : Fin 512, k0_pay3 M kk q (ix2 r t) * vv (ix5 0 0 0 t l) := by
  pointwise [k0_pay4]

theorem acc0_apply (M : IVec S1024x512 1) (kk vv : Vec Ideal S1x1x1x512x128 .bf16) (q : Vec Ideal S1x1024x128 .bf16) (r : Fin 1024) (l : Fin 128) :
    k0_pay61 M kk vv q (ix3 0 r l) = ∑ t : Fin 512, k0_pay3 M kk q (ix2 r t) * vv (ix5 0 0 0 t l) := by
  pointwise [k0_pay61]
  rfl

theorem den_apply (M : IVec S1024x512 1) (kk : Vec Ideal S1x1x1x512x128 .bf16) (q : Vec Ideal S1x1024x128 .bf16) (A : Vec Ideal S1x1024x128 .f32) (r : Fin 1024) (l : Fin 128) :
    k0_pay5 (v216 c) M kk q A (ix3 0 r l) = A (ix3 0 r l) + ∑ t : Fin 512, k0_pay3 M kk q (ix2 r t) := by
  pointwise [k0_pay5, v216, k0_pay44]

theorem den0_apply (M : IVec S1024x512 1) (kk : Vec Ideal S1x1x1x512x128 .bf16) (q : Vec Ideal S1x1024x128 .bf16) (r : Fin 1024) (l : Fin 128) :
    k0_pay62 (v216 c) M kk q (ix3 0 r l) = ∑ t : Fin 512, k0_pay3 M kk q (ix2 r t) := by
  pointwise [k0_pay62, v216, k0_pay44]
  rfl

end Cert.KernelIdeal.Talk
-- ==== Proof.Value.Masks.lean ====
module

public import proofs.«01_k».proof.Proof.Value.Payload

/-!
# The masks, element by element
-/

@[expose] public noncomputable section

namespace Cert.KernelIdeal.Talk

open Idealize.ShloMosaic Idealize.ShloMosaic.TcCoe Idealize.ShloMosaic.Tactic
open Cert.KernelIdeal.Gen

set_option maxRecDepth 16384

/-- The block of a row among a device's sixteen. -/
def rb (r : Fin 1024) : Fin 16 := ⟨r.val / 64, by omega⟩
/-- The block of a key among the eight of a half. -/
def tb (t : Fin 512) : Fin 8 := ⟨t.val / 64, by omega⟩

variable (c : Dev nD)

/-- Block `q` sees block `k`. -/
def sees (q k : ℕ) : Prop := q = k ∨ k = 0 ∨ (q + k) % 3 = 0

instance (q k : ℕ) : Decidable (sees q k) := by unfold sees; infer_instance

/-- A number up to 1023 divided by sixty-four, as the program divides. -/
def div64 (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32)
    (IntOp.divsi .vector w 64#32)

theorem div64_eq : ∀ (a : Fin 16) (b : Fin 64), div64 (BitVec.ofNat 32 (64 * a.val + b.val)) = BitVec.ofNat 32 a.val := by decide +kernel

theorem div64_of {n : ℕ} (h : n < 1024) : div64 (BitVec.ofNat 32 n) = BitVec.ofNat 32 (n / 64) := by
  have e := div64_eq ⟨n / 64, by omega⟩ ⟨n % 64, by omega⟩
  simp only [show 64 * (n / 64) + n % 64 = n by omega] at e
  exact e

theorem row_word : ∀ (d : Dev nD) (b : Fin 16), IntOp.addi (v161 d) (BitVec.ofNat 32 b.val) = BitVec.ofNat 32 (16 * d.val + b.val) := by decide +kernel
theorem row_rem : ∀ (d : Dev nD) (b : Fin 16), IntOp.remsi ArithUnit.vector (BitVec.ofNat 32 (16 * d.val + b.val)) 3#32 = BitVec.ofNat 32 ((16 * d.val + b.val) % 3) := by decide +kernel

theorem q1 (r : Fin 1024) : v188 c (ix2 r 0) = BitVec.ofNat 32 (16 * c.val + (rb r).val) := by
  refine Eq.trans ?_ (row_word c (rb r))
  rw [show BitVec.ofNat 32 (rb r).val = div64 (BitVec.ofNat 32 r.val) from (div64_of r.isLt).symm]
  pointwise [v188, k0_pay38, v162, div64]

theorem q2 (r : Fin 1024) : v190 c (ix2 r 0) = BitVec.ofNat 32 ((16 * c.val + (rb r).val) % 3) := by
  rw [← row_rem, ← q1]
  pointwise [v190, k0_pay39, v188]

theorem q4 (t : Fin 512) : k0_pay43 (v193 c) (v207 c) (v209 c) 0#32 (ix2 0 t) = BitVec.ofNat 32 (tb t).val := by
  rw [show BitVec.ofNat 32 (tb t).val = div64 (BitVec.ofNat 32 t.val) from (div64_of (by omega)).symm]
  pointwise [k0_pay43, v193, v207, v209, k0_pay40, k0_pay41, k0_pay42, div64]

theorem q3 (t : Fin 512) : v215 c (ix2 0 t) = BitVec.ofNat 32 (tb t).val := q4 c t

theorem sees_0 (r : Fin 1024) (t : Fin 512) : maskR c 0 (ix2 r t) = 1#1 ↔ sees (16 * c.val + (rb r).val) (16 * (org 0 c 0).val + 0 + (tb t).val) := by
  show v259 c (ix2 r t) = _ ↔ _
  pointwise [v259, v252, v249, v246, k0_pay48, k0_pay45, k0_pay47, k0_pay46, k0_pay49]
  simp only [q1, q2, q3, q4]
  generalize rb r = b
  generalize tb t = d
  revert c b d
  decide +kernel

theorem sees_1 (r : Fin 1024) (t : Fin 512) : maskL c 0 (ix2 r t) = 1#1 ↔ sees (16 * c.val + (rb r).val) (16 * (org 2 c 0).val + 8 + (tb t).val) := by
  show v298 c (ix2 r t) = _ ↔ _
  pointwise [v298, v297, v295, k0_pay53, k0_pay51, k0_pay50, k0_pay52, k0_pay54]
  simp only [q1, q2, q3]
  generalize rb r = b
  generalize tb t = d
  revert c b d
  decide +kernel

theorem sees_2 (r : Fin 1024) (t : Fin 512) : maskR c 1 (ix2 r t) = 1#1 ↔ sees (16 * c.val + (rb r).val) (16 * (org 0 c 1).val + 0 + (tb t).val) := by
  show v817 c (ix2 r t) = _ ↔ _
  pointwise [v817, v807, v804, v799, k0_pay125, k0_pay123, k0_pay124, k0_pay126]
  simp only [q1, q2, q3]
  generalize rb r = b
  generalize tb t = d
  revert c b d
  decide +kernel

theorem sees_3 (r : Fin 1024) (t : Fin 512) : maskL c 1 (ix2 r t) = 1#1 ↔ sees (16 * c.val + (rb r).val) (16 * (org 2 c 1).val + 8 + (tb t).val) := by
  show v856 c (ix2 r t) = _ ↔ _
  pointwise [v856, v852, v850, v843, k0_pay130, k0_pay128, k0_pay127, k0_pay129, k0_pay131]
  simp only [q1, q2, q3]
  generalize rb r = b
  generalize tb t = d
  revert c b d
  decide +kernel

theorem sees_4 (r : Fin 1024) (t : Fin 512) : maskR c 2 (ix2 r t) = 1#1 ↔ sees (16 * c.val + (rb r).val) (16 * (org 0 c 2).val + 0 + (tb t).val) := by
  show v1024 c (ix2 r t) = _ ↔ _
  pointwise [v1024, v1021, v1011, k0_pay141, k0_pay140, k0_pay139, k0_pay142]
  simp only [q1, q2, q3]
  generalize rb r = b
  generalize tb t = d
  revert c b d
  decide +kernel

theorem sees_5 (r : Fin 1024) (t : Fin 512) : maskL c 2 (ix2 r t) = 1#1 ↔ sees (16 * c.val + (rb r).val) (16 * (org 2 c 2).val + 8 + (tb t).val) := by
  show v1063 c (ix2 r t) = _ ↔ _
  pointwise [v1063, k0_pay143]
  simp only [q1, q2, q3]
  generalize rb r = b
  generalize tb t = d
  revert c b d
  decide +kernel

theorem sees_6 (r : Fin 1024) (t : Fin 512) : maskR c 3 (ix2 r t) = 1#1 ↔ sees (16 * c.val + (rb r).val) (16 * (org 0 c 3).val + 0 + (tb t).val) := by
  show v1231 c (ix2 r t) = _ ↔ _
  pointwise [v1231, k0_pay152]
  simp only [q1, q2, q3]
  generalize rb r = b
  generalize tb t = d
  revert c b d
  decide +kernel

theorem sees_7 (r : Fin 1024) (t : Fin 512) : maskL c 3 (ix2 r t) = 1#1 ↔ sees (16 * c.val + (rb r).val) (16 * (org 2 c 3).val + 8 + (tb t).val) := by
  show v1270 c (ix2 r t) = _ ↔ _
  pointwise [v1270, k0_pay153]
  simp only [q1, q2, q3]
  generalize rb r = b
  generalize tb t = d
  revert c b d
  decide +kernel

theorem sees_8 (r : Fin 1024) (t : Fin 512) : maskR c 4 (ix2 r t) = 1#1 ↔ sees (16 * c.val + (rb r).val) (16 * (org 0 c 4).val + 0 + (tb t).val) := by
  show v1438 c (ix2 r t) = _ ↔ _
  pointwise [v1438, k0_pay162]
  simp only [q1, q2, q3]
  generalize rb r = b
  generalize tb t = d
  revert c b d
  decide +kernel

theorem sees_9 (r : Fin 1024) (t : Fin 512) : maskL c 4 (ix2 r t) = 1#1 ↔ sees (16 * c.val + (rb r).val) (16 * (org 2 c 4).val + 8 + (tb t).val) := by
  show v1477 c (ix2 r t) = _ ↔ _
  pointwise [v1477, k0_pay163]
  simp only [q1, q2, q3]
  generalize rb r = b
  generalize tb t = d
  revert c b d
  decide +kernel

theorem sees_10 (r : Fin 1024) (t : Fin 512) : maskR c 5 (ix2 r t) = 1#1 ↔ sees (16 * c.val + (rb r).val) (16 * (org 0 c 5).val + 0 + (tb t).val) := by
  show v1641 c (ix2 r t) = _ ↔ _
  pointwise [v1641, k0_pay172]
  simp only [q1, q2, q3]
  generalize rb r = b
  generalize tb t = d
  revert c b d
  decide +kernel

theorem sees_11 (r : Fin 1024) (t : Fin 512) : maskL c 5 (ix2 r t) = 1#1 ↔ sees (16 * c.val + (rb r).val) (16 * (org 2 c 5).val + 8 + (tb t).val) := by
  show v1680 c (ix2 r t) = _ ↔ _
  pointwise [v1680, k0_pay173]
  simp only [q1, q2, q3]
  generalize rb r = b
  generalize tb t = d
  revert c b d
  decide +kernel

theorem sees_12 (r : Fin 1024) (t : Fin 512) : maskR c 6 (ix2 r t) = 1#1 ↔ sees (16 * c.val + (rb r).val) (16 * (org 0 c 6).val + 0 + (tb t).val) := by
  show v1844 c (ix2 r t) = _ ↔ _
  pointwise [v1844, v1825, k0_pay182, k0_pay183]
  simp only [q1, q2, q3]
  generalize rb r = b
  generalize tb t = d
  revert c b d
  decide +kernel

theorem sees_13 (r : Fin 1024) (t : Fin 512) : maskL c 6 (ix2 r t) = 1#1 ↔ sees (16 * c.val + (rb r).val) (16 * (org 2 c 6).val + 8 + (tb t).val) := by
  show v1883 c (ix2 r t) = _ ↔ _
  pointwise [v1883, v1871, v1870, v1865, k0_pay186, k0_pay185, k0_pay184, k0_pay187]
  simp only [q1, q2, q3]
  generalize rb r = b
  generalize tb t = d
  revert c b d
  decide +kernel

theorem sees_14 (r : Fin 1024) (t : Fin 512) : maskR c 7 (ix2 r t) = 1#1 ↔ sees (16 * c.val + (rb r).val) (16 * (org 0 c 7).val + 0 + (tb t).val) := by
  show v2007 c (ix2 r t) = _ ↔ _
  pointwise [v2007, v1989, k0_pay196, k0_pay197]
  simp only [q1, q2, q3]
  generalize rb r = b
  generalize tb t = d
  revert c b d
  decide +kernel

theorem sees_15 (r : Fin 1024) (t : Fin 512) : maskL c 7 (ix2 r t) = 1#1 ↔ sees (16 * c.val + (rb r).val) (16 * (org 2 c 7).val + 8 + (tb t).val) := by
  show v2046 c (ix2 r t) = _ ↔ _
  pointwise [v2046, v2036, v2033, v2028, k0_pay200, k0_pay198, k0_pay199, k0_pay201]
  simp only [q1, q2, q3]
  generalize rb r = b
  generalize tb t = d
  revert c b d
  decide +kernel

/-- The device whose keys half block `n` holds. -/
def src (c : Dev nD) (n : Fin 16) : Dev nD := org (streamOf (halfOf n.val) 0) c (n.val / 2)

theorem sees_at (n : Fin 16) (r : Fin 1024) (t : Fin 512) :
    maskAt c n.val (ix2 r t) = 1#1 ↔ sees (16 * c.val + (rb r).val) (16 * (src c n).val + 8 * (n.val % 2) + (tb t).val) := by
  fin_cases n
  · exact sees_0 c r t
  · exact sees_1 c r t
  · exact sees_2 c r t
  · exact sees_3 c r t
  · exact sees_4 c r t
  · exact sees_5 c r t
  · exact sees_6 c r t
  · exact sees_7 c r t
  · exact sees_8 c r t
  · exact sees_9 c r t
  · exact sees_10 c r t
  · exact sees_11 c r t
  · exact sees_12 c r t
  · exact sees_13 c r t
  · exact sees_14 c r t
  · exact sees_15 c r t

end Cert.KernelIdeal.Talk
-- ==== Proof.Value.Math.lean ====
module

public import Idealize.ShloMosaic.Lib.Pointwise

/-!
# Softmax with and without the largest score taken off

The arithmetic of the claim: whole numbers as words, and the two ways of writing a masked softmax over the reals.
-/

@[expose] public noncomputable section

namespace Cert.Softmax

open Idealize.ShloMosaic

theorem sum_coe {J : Type} [Fintype J] (f : J → ℝ) : (∑ j, ((f j : ℝ) : EReal)) = ((∑ j, f j : ℝ) : EReal) := by
  classical
  refine Finset.induction_on (Finset.univ : Finset J) (by simp) fun a s ha ih => ?_
  rw [Finset.sum_insert ha, Finset.sum_insert ha, ih, EReal.coe_add]

theorem exp_coe (r : ℝ) : Ideal.exp ((r : ℝ) : EReal) = ((Real.exp r : ℝ) : EReal) := rfl
theorem exp_bot : Ideal.exp ⊥ = ((0 : ℝ) : EReal) := rfl

theorem div_coe (a b : ℝ) (hb : b ≠ 0) : Ideal.div ((a : ℝ) : EReal) ((b : ℝ) : EReal) = ((a / b : ℝ) : EReal) := by
  unfold Ideal.div
  rw [if_neg (by exact_mod_cast hb), ← EReal.coe_inv, ← EReal.coe_mul, div_eq_mul_inv]

variable {J : Type} [Fintype J] (P : J → Prop) [DecidablePred P] (s v : J → ℝ) (k : ℝ)

/-- The scores, those masked at minus infinity. -/
def masked (j : J) : EReal := if P j then ((s j : ℝ) : EReal) else ⊥

/-- The largest of them. -/
def peak : EReal := Finset.univ.fold max ⊥ fun j => masked P s j

theorem peak_real (j0 : J) (h0 : P j0) : ∃ r : ℝ, peak P s = ((r : ℝ) : EReal) := by
  have ht : peak P s < ⊤ := by
    unfold peak
    rw [Finset.fold_max_lt]
    refine ⟨bot_lt_top, fun j _ => ?_⟩
    unfold masked
    split
    · exact EReal.coe_lt_top _
    · exact bot_lt_top
  have hb : ⊥ < peak P s := by
    refine lt_of_lt_of_le (EReal.bot_lt_coe (s j0)) ?_
    unfold peak
    rw [Finset.le_fold_max]
    exact .inr ⟨j0, Finset.mem_univ _, by unfold masked; rw [if_pos h0]⟩
  exact ⟨(peak P s).toReal, (EReal.coe_toReal ht.ne hb.ne').symm⟩

theorem shifted (r : ℝ) (j : J) : Ideal.exp (masked P s j - ((r : ℝ) : EReal)) = (((if P j then Real.exp (s j - r) else 0 : ℝ)) : EReal) := by
  unfold masked
  split
  · rw [← EReal.coe_sub, exp_coe]
  · rw [EReal.bot_sub, exp_bot]

theorem plain (j : J) : (if P j then Ideal.exp ((s j : ℝ) : EReal) else 0) = (((if P j then Real.exp (s j) else 0 : ℝ)) : EReal) := by
  split
  · rfl
  · rfl

/-- A masked softmax applied to whole-number values, normed after the sum, is the one normed before it. -/
theorem softmax_eq (j0 : J) (h0 : P j0) :
    Ideal.div (∑ j, (if P j then Ideal.exp ((s j : ℝ) : EReal) else 0) * ((v j : ℝ) : EReal)) (∑ j, if P j then Ideal.exp ((s j : ℝ) : EReal) else 0) * ((k : ℝ) : EReal)
      = ∑ j, (((v j : ℝ) : EReal) * ((k : ℝ) : EReal)) * Ideal.div (Ideal.exp (masked P s j - peak P s)) (∑ i, Ideal.exp (masked P s i - peak P s)) := by
  obtain ⟨r, hr⟩ := peak_real P s j0 h0
  rw [hr]
  simp only [shifted, plain, ← EReal.coe_mul, sum_coe]
  have hpos : ∀ r : ℝ, 0 < ∑ j, (if P j then Real.exp (s j - r) else 0 : ℝ) := fun r =>
    Finset.sum_pos' (fun j _ => by split <;> [exact (Real.exp_pos _).le; exact le_rfl]) ⟨j0, Finset.mem_univ _, by rw [if_pos h0]; exact Real.exp_pos _⟩
  have h1 := hpos 0
  have h2 := hpos r
  simp only [sub_zero] at h1
  simp only [div_coe _ _ h1.ne', div_coe _ _ h2.ne', ← EReal.coe_mul, sum_coe]
  refine congrArg _ ?_
  have he : ∀ j, (if P j then Real.exp (s j - r) else 0 : ℝ) = (if P j then Real.exp (s j) else 0) * Real.exp (-r) := fun j => by
    split
    · rw [← Real.exp_add, sub_eq_add_neg]
    · rw [zero_mul]
  simp only [he, ← Finset.sum_mul]
  rw [div_mul_eq_mul_div, Finset.sum_mul, Finset.sum_div]
  refine Finset.sum_congr rfl fun j _ => ?_
  rw [mul_div_mul_right _ _ (Real.exp_pos _).ne']
  ring

/-! ## The quantiser -/

/-- One element in steps, rounded and held between −127 and 127. -/
def qz (a : EReal) : EReal :=
  min (((127#32).toInt : ℝ) : EReal) (max (((4294967169#32).toInt : ℝ) : EReal)
    (Ideal.liftRound Ideal.roundHalfEven (Ideal.div a (Ideal.ofBits .bf16 0x3D24#16))))

theorem int_mono : Monotone fun z : ℤ => (((z : ℤ) : ℝ) : EReal) := fun _ _ h => EReal.coe_le_coe_iff.mpr (Int.cast_le.mpr h)

theorem clip_int (b : EReal) : ∃ z : ℤ, -127 ≤ z ∧ z ≤ 127 ∧
    min (((127 : ℤ) : ℝ) : EReal) (max (((-127 : ℤ) : ℝ) : EReal) (Ideal.liftRound Ideal.roundHalfEven b)) = (((z : ℤ) : ℝ) : EReal) := by
  induction b using EReal.rec with
  | bot =>
    refine ⟨-127, by decide, by decide, ?_⟩
    show min _ (max _ ⊥) = _
    rw [max_eq_left bot_le]
    exact (int_mono.map_min (a := 127) (b := -127)).symm
  | top =>
    refine ⟨127, by decide, by decide, ?_⟩
    show min _ (max _ ⊤) = _
    rw [max_eq_right le_top, min_eq_left le_top]
  | coe r =>
    refine ⟨min 127 (max (-127) (Ideal.roundHalfEven r)), by omega, by omega, ?_⟩
    exact ((int_mono.map_min (a := 127) (b := max (-127) (Ideal.roundHalfEven r))).trans
      (congrArg _ (int_mono.map_max (a := -127) (b := Ideal.roundHalfEven r)))).symm

theorem qz_int (a : EReal) : ∃ z : ℤ, -127 ≤ z ∧ z ≤ 127 ∧ qz a = (((z : ℤ) : ℝ) : EReal) := clip_int _

theorem qz_word (a : EReal) : ((((BitVec.setWidth 8 (Ideal.fptosi 32 (qz a))).toInt : ℤ) : ℝ) : EReal) = qz a := by
  obtain ⟨z, h1, h2, h⟩ := qz_int a
  rw [h]
  have hw : Ideal.fptosi 32 (((z : ℤ) : ℝ) : EReal) = BitVec.ofInt 32 z := by
    unfold Ideal.fptosi
    rw [Ideal.toIntClamped_coe]
    rw [Int.floor_intCast, Int.ceil_intCast, ite_self]
    refine congrArg _ ?_
    norm_num
    omega
  rw [hw]
  have : (BitVec.setWidth 8 (BitVec.ofInt 32 z)).toInt = z := by
    interval_cases z <;> rfl
  rw [this]

end Cert.Softmax
-- ==== Proof.Value.Sums.lean ====
module

public import proofs.«01_k».proof.Proof.Value.Payload
public import proofs.«01_k».proof.Proof.Value.Masks
public import proofs.«01_k».proof.Proof.Value.Math

/-!
# The call's sums over all keys

The sixteen half blocks of a device's walk round the ring, put in the order of the sequence.
-/

@[expose] public noncomputable section

namespace Cert.KernelIdeal.Talk

open Idealize.ShloMosaic Idealize.ShloMosaic.TcCoe
open Cert.KernelIdeal.Gen

set_option maxRecDepth 16384

variable (X : Ins Ideal) (c : Dev nD)

/-- The position in the sequence of key `t` of half block `n`. -/
def pos (n : Fin 16) (t : Fin 512) : Fin 8192 := ⟨1024 * (src c n).val + 512 * (n.val % 2) + t.val, by
  have := (src c n).isLt
  change _ < 8 at this
  omega⟩

theorem src_inj : ∀ (c : Dev nD) (n n' : Fin 16), 2 * (src c n).val + n.val % 2 = 2 * (src c n').val + n'.val % 2 → n = n' := by decide +kernel

theorem pos_inj : Function.Injective fun p : Fin 16 × Fin 512 => pos c p.1 p.2 := by
  rintro ⟨n, t⟩ ⟨n', t'⟩ h
  have h : 1024 * (src c n).val + 512 * (n.val % 2) + t.val = 1024 * (src c n').val + 512 * (n'.val % 2) + t'.val := congrArg Fin.val h
  have hn : n = n' := src_inj c n n' (by omega)
  subst hn
  have ht : t = t' := Fin.ext (by omega)
  rw [ht]

theorem sum_pos (f : Fin 8192 → EReal) : ∑ n : Fin 16, ∑ t : Fin 512, f (pos c n t) = ∑ j, f j := by
  rw [← Fintype.sum_prod_type' (f := fun n t => f (pos c n t))]
  exact Fintype.sum_bijective (fun p : Fin 16 × Fin 512 => pos c p.1 p.2)
    ((Fintype.bijective_iff_injective_and_card _).mpr ⟨pos_inj c, by rw [Fintype.card_prod, Fintype.card_fin, Fintype.card_fin, Fintype.card_fin]⟩)
    _ _ fun _ => rfl

/-- The weight of key `t` of half block `n`. -/
def wt (h : Fin 8) (r : Fin 1024) (n : ℕ) (t : Fin 512) : EReal :=
  k0_pay3 (maskAt c n) (kvH X c (halfOf n) 0 (n / 2) h) (qH X c h) (ix2 r t)

theorem accH_sum (h : Fin 8) (r : Fin 1024) (l : Fin 128) (n : ℕ) :
    accH X c h n (ix3 0 r l) = ∑ i ∈ Finset.range (n + 1), ∑ t : Fin 512, wt X c h r i t * kvH X c (halfOf i) 1 (i / 2) h (ix5 0 0 0 t l) := by
  induction n with
  | zero =>
    rw [Finset.sum_range_one]
    exact acc0_apply _ _ _ _ r l
  | succ n ih =>
    rw [Finset.sum_range_succ, ← ih]
    exact acc_apply _ _ _ _ _ r l

theorem denH_sum (h : Fin 8) (r : Fin 1024) (l : Fin 128) (n : ℕ) :
    denH X c h n (ix3 0 r l) = ∑ i ∈ Finset.range (n + 1), ∑ t : Fin 512, wt X c h r i t := by
  induction n with
  | zero =>
    rw [Finset.sum_range_one]
    exact den0_apply c _ _ _ r l
  | succ n ih =>
    rw [Finset.sum_range_succ, ← ih]
    exact den_apply c _ _ _ _ r l

/-- The block of a position, seen from query row `r` of device `c`. -/
def vis (r : Fin 1024) (j : Fin 8192) : Prop := sees (16 * c.val + (rb r).val) (j.val / 64)

instance (r : Fin 1024) : DecidablePred (vis c r) := fun j => by unfold vis; infer_instance

theorem vis_pos (n : Fin 16) (r : Fin 1024) (t : Fin 512) : maskAt c n.val (ix2 r t) = 1#1 ↔ vis c r (pos c n t) := by
  rw [sees_at]
  unfold vis
  have : (pos c n t).val / 64 = 16 * (src c n).val + 8 * (n.val % 2) + (tb t).val := by
    show (1024 * (src c n).val + 512 * (n.val % 2) + t.val) / 64 = 16 * (src c n).val + 8 * (n.val % 2) + t.val / 64
    omega
  rw [this]

variable (h : Fin 8) (r : Fin 1024) (q : Fin 128 → ℝ) (zk zv : Fin 8192 → Fin 128 → ℝ)
  (hq : ∀ d, qH X c h (ix3 0 r d) = ((q d : ℝ) : EReal))
  (hk : ∀ (s : Dev nD) (u : Fin 1024) (d : Fin 128) (j : Fin 8192), j.val = 1024 * s.val + u.val → (((X.k8 s (ix3 h u d)).toInt : ℝ) : EReal) = ((zk j d : ℝ) : EReal))
  (hv : ∀ (s : Dev nD) (u : Fin 1024) (d : Fin 128) (j : Fin 8192), j.val = 1024 * s.val + u.val → (((X.v8 s (ix3 h u d)).toInt : ℝ) : EReal) = ((zv j d : ℝ) : EReal))

/-- The score of a position. -/
def score (q : Fin 128 → ℝ) (zk : Fin 8192 → Fin 128 → ℝ) (j : Fin 8192) : ℝ := ∑ d, q d * zk j d

include hq hk in
theorem wt_pos (n : Fin 16) (t : Fin 512) : wt X c h r n.val t = if vis c r (pos c n t) then Ideal.exp ((score q zk (pos c n t) : ℝ) : EReal) else 0 := by
  unfold wt
  rw [weight_apply]
  refine if_congr (vis_pos c n r t) (congrArg _ ?_) rfl
  have : ∀ d, qH X c h (ix3 0 r d) * kvH X c (halfOf n.val) 0 (n.val / 2) h (ix5 0 0 0 t d) = ((q d * zk (pos c n t) d : ℝ) : EReal) := fun d => by
    rw [hq, kH_apply, show org (streamOf (halfOf n.val) 0) c (n.val / 2) = src c n from rfl, hk (src c n) (hrow (halfOf n.val) t) d (pos c n t) (by show _ + _ + _ = _ + (512 * (n.val % 2) + _); omega), EReal.coe_mul]
  simp only [this]
  exact Cert.Softmax.sum_coe _

include hq hk in
theorem den_all (l : Fin 128) : denH X c h 15 (ix3 0 r l) = ∑ j : Fin 8192, if vis c r j then Ideal.exp ((score q zk j : ℝ) : EReal) else 0 := by
  rw [denH_sum, Finset.sum_range]
  refine Eq.trans ?_ (sum_pos c _)
  exact Finset.sum_congr rfl fun n _ => Finset.sum_congr rfl fun t _ => wt_pos X c h r q zk hq hk n t

include hq hk hv in
theorem acc_all (l : Fin 128) : accH X c h 15 (ix3 0 r l) = ∑ j : Fin 8192, (if vis c r j then Ideal.exp ((score q zk j : ℝ) : EReal) else 0) * ((zv j l : ℝ) : EReal) := by
  rw [accH_sum, Finset.sum_range]
  refine Eq.trans ?_ (sum_pos c _)
  refine Finset.sum_congr rfl fun n _ => Finset.sum_congr rfl fun t _ => ?_
  rw [wt_pos X c h r q zk hq hk n t, vH_apply]
  exact congrArg _ (hv (src c n) (hrow (halfOf n.val) t) l (pos c n t) (by show _ + _ + _ = _ + (512 * (n.val % 2) + _); omega))

end Cert.KernelIdeal.Talk
-- ==== Proof.Value.RefDefs.lean ====
module

public import proofs.«01_k».proof.Proof.Gen.ReferenceIdeal.Run
public import Idealize.ShloMosaic.Lib.Pointwise

/-!
# The reference, stage by stage

The reference's result cut into named stages.
-/

@[expose] public noncomputable section

namespace Cert.ReferenceIdeal.Stage

open Cert.ReferenceIdeal Cert.ReferenceIdeal.Gen Idealize.ShloMosaic Idealize.ShloMosaic.TcCoe

set_option maxRecDepth 16384

/-- Keys or values as whole numbers between −127 and 127. -/
def quant (A : FVec Ideal S1x8192x8x128 .bf16) : FVec Ideal S1x8192x8x128 .bf16 :=
  minimumf (broadcastInDim S1x8192x8x128 ![] bcast_S_S1x8192x8x128 (sitofp .bf16 (constantI S_ 32 127#32)))
    (maximumf (broadcastInDim S1x8192x8x128 ![] bcast_S_S1x8192x8x128 (sitofp .bf16 (constantI S_ 32 4294967169#32)))
      (Host.roundeven (Host.divf A (broadcastInDim S1x8192x8x128 ![] bcast_S_S1x8192x8x128 (constant S_ .bf16 0x3D24#16)))))

/-- The same times the size of a step. -/
def deq (A : FVec Ideal S1x8192x8x128 .bf16) : FVec Ideal S1x8192x8x128 .f32 :=
  mulf (extf .f32 (quant A) bitsLt_bf16_f32) (broadcastInDim S1x8192x8x128 ![] bcast_S_S1x8192x8x128 (constant S_ .f32 0x3D23D70A#32))

/-- The queries. -/
def qry (x : FVec Ideal S1x8192x1024 .bf16) (w : FVec Ideal S1024x1024 .bf16) : FVec Ideal S1x8192x8x128 .f32 :=
  shapeCast S1x8192x8x128 (Host.dotGeneral dot_S1x8192x1024_S1024x1024_S1x8192x1024_2_0_01_1_n_n none (extf .f32 x bitsLt_bf16_f32) (extf .f32 w bitsLt_bf16_f32))
    shapeCasts_S1x8192x1024_S1x8192x8x128

/-- The block a position lies in. -/
def blk : IVec S8192 32 :=
  select (andi (cmpi .ne (signi (iotaInDim S8192 32 0)) (broadcastInDim S8192 ![] bcast_S_S8192 (signi (id (constantI S_ 32 64#32)))))
      (cmpi .ne (Host.remsi (iotaInDim S8192 32 0) (broadcastInDim S8192 ![] bcast_S_S8192 (id (constantI S_ 32 64#32)))) (broadcastInDim S8192 ![] bcast_S_S8192 (constantI S_ 32 0#32))))
    (subi (Host.divsi (iotaInDim S8192 32 0) (broadcastInDim S8192 ![] bcast_S_S8192 (id (constantI S_ 32 64#32)))) (broadcastInDim S8192 ![] bcast_S_S8192 (constantI S_ 32 1#32)))
    (Host.divsi (iotaInDim S8192 32 0) (broadcastInDim S8192 ![] bcast_S_S8192 (id (constantI S_ 32 64#32))))

def blkRow : IVec S8192x8192 32 := broadcastInDim S8192x8192 ![0, 1] bcast_S8192x1_S8192x8192_0_1 (broadcastInDim S8192x1 ![0] bcast_S8192_S8192x1_0 blk)
def blkCol1 : IVec S1x8192 32 := broadcastInDim S1x8192 ![1] bcast_S8192_S1x8192_1 blk
def blkCol : IVec S8192x8192 32 := broadcastInDim S8192x8192 ![0, 1] bcast_S1x8192_S8192x8192_0_1 blkCol1
/-- The divisor three as it is guarded against zero. -/
def three : IVec S_ 32 := select (cmpi .eq (id (constantI S_ 32 3#32)) (constantI S_ 32 0#32)) (constantI S_ 32 1#32) (id (constantI S_ 32 3#32))
def rem3 : IVec S8192x8192 32 := Host.remsi (addi blkRow blkCol) (broadcastInDim S8192x8192 ![] bcast_S_S8192x8192 three)
def zeros : IVec S8192x8192 32 := broadcastInDim S8192x8192 ![] bcast_S_S8192x8192 (constantI S_ 32 0#32)
/-- The sum of the two block numbers modulo three. -/
def mod3 : IVec S8192x8192 32 :=
  select (andi (cmpi .ne (cmpi .slt rem3 zeros) (broadcastInDim S8192x8192 ![] bcast_S_S8192x8192 (cmpi .slt three (constantI S_ 32 0#32)))) (cmpi .ne rem3 zeros))
    (addi rem3 (broadcastInDim S8192x8192 ![] bcast_S_S8192x8192 three)) rem3

/-- Which keys a query sees. -/
def mask : IVec S8192x8192 1 :=
  ori (ori (cmpi .eq blkRow blkCol)
      (broadcastInDim S8192x8192 ![0, 1] bcast_S1x8192_S8192x8192_0_1 (cmpi .eq blkCol1 (broadcastInDim S1x8192 ![] bcast_S_S1x8192 (constantI S_ 32 0#32)))))
    (cmpi .eq mod3 zeros)

/-- The scores, those not seen at minus infinity. -/
def scores (q : FVec Ideal S1x8192x8x128 .f32) (k : FVec Ideal S1x8192x8x128 .f32) : FVec Ideal S1x8x8192x8192 .f32 :=
  select (broadcastInDim S1x8x8192x8192 ![0, 1, 2, 3] bcast_S1x1x8192x8192_S1x8x8192x8192_0_1_2_3 (broadcastInDim S1x1x8192x8192 ![2, 3] bcast_S8192x8192_S1x1x8192x8192_2_3 mask))
    (mulf (Host.dotGeneral dot_S1x8192x8x128_S1x8192x8x128_S1x8x8192x8192_3_3_1_1_02_02 none q k) (broadcastInDim S1x8x8192x8192 ![] bcast_S_S1x8x8192x8192 (constant S_ .f32 0x3DB504F3#32)))
    (broadcastInDim S1x8x8192x8192 ![] bcast_S_S1x8x8192x8192 (id (constant S_ .f32 0xFF800000#32)))

/-- The largest score of a row. -/
def top (s : FVec Ideal S1x8x8192x8192 .f32) : FVec Ideal S1x8x8192 .f32 :=
  Host.reduce FloatOps.maximumf s (constant S_ .f32 0xFF800000#32) reducesTo_S1x8x8192x8192_S1x8x8192_d3 h_S_

/-- The weights before they are normed. -/
def wts (s : FVec Ideal S1x8x8192x8192 .f32) : FVec Ideal S1x8x8192x8192 .f32 :=
  Host.exp (subf s (broadcastInDim S1x8x8192x8192 ![0, 1, 2, 3] bcast_S1x8x8192x1_S1x8x8192x8192_0_1_2_3
    (broadcastInDim S1x8x8192x1 ![0, 1, 2] bcast_S1x8x8192_S1x8x8192x1_0_1_2 (top s))))

/-- The sum of a row's weights. -/
def tot (w : FVec Ideal S1x8x8192x8192 .f32) : FVec Ideal S1x8x8192 .f32 :=
  Host.reduceAdd w (constant S_ .f32 0x00000000#32) reducesTo_S1x8x8192x8192_S1x8x8192_d3 h_S_

/-- Whether a query sees any key. -/
def keep : IVec S8192 1 := Host.reduce IntOp.ori mask (constantI S_ 1 0#1) reducesTo_S8192x8192_S8192_d1 h_S_
def keep1 : IVec S1x1x8192x1 1 := broadcastInDim S1x1x8192x1 ![2] bcast_S8192_S1x1x8192x1_2 keep

/-- Weights over their sums, where a row sees any key. -/
def normed (K : IVec S1x1x8192x1 1) (T : FVec Ideal S1x8x8192 .f32) (w : FVec Ideal S1x8x8192x8192 .f32) : FVec Ideal S1x8x8192x8192 .f32 :=
  select (broadcastInDim S1x8x8192x8192 ![0, 1, 2, 3] bcast_S1x1x8192x1_S1x8x8192x8192_0_1_2_3 K)
    (Host.divf w (broadcastInDim S1x8x8192x8192 ![0, 1, 2, 3] bcast_S1x8x8192x1_S1x8x8192x8192_0_1_2_3
      (select (broadcastInDim S1x8x8192x1 ![0, 1, 2, 3] bcast_S1x1x8192x1_S1x8x8192x1_0_1_2_3 K)
        (broadcastInDim S1x8x8192x1 ![0, 1, 2] bcast_S1x8x8192_S1x8x8192x1_0_1_2 T)
        (broadcastInDim S1x8x8192x1 ![] bcast_S_S1x8x8192x1 (id (constant S_ .f32 0x3F800000#32))))))
    (broadcastInDim S1x8x8192x8192 ![] bcast_S_S1x8x8192x8192 (id (constant S_ .f32 0x00000000#32)))

/-- The weights. -/
def probs (w : FVec Ideal S1x8x8192x8192 .f32) : FVec Ideal S1x8x8192x8192 .f32 := normed keep1 (tot w) w

/-- The context. -/
def ctx (p : FVec Ideal S1x8x8192x8192 .f32) (v : FVec Ideal S1x8192x8x128 .f32) : FVec Ideal S1x8192x1024 .f32 :=
  shapeCast S1x8192x1024 (transpose S1x8192x8x128 [0, 3, 1, 2] (Host.dotGeneral dot_S1x8192x8x128_S1x8x8192x8192_S1x8x128x8192_1_3_3_2_02_01 none v p)
    transposes_S1x8x128x8192_S1x8192x8x128_0_3_1_2) shapeCasts_S1x8192x8x128_S1x8192x1024

/-- The result. -/
def res (x : FVec Ideal S1x8192x1024 .bf16) (wq : FVec Ideal S1024x1024 .bf16) (k v : FVec Ideal S1x8192x8x128 .bf16) (wo : FVec Ideal S1024x1024 .bf16) :
    FVec Ideal S1x8192x1024 .f32 :=
  Host.dotGeneral dot_S1x8192x1024_S1024x1024_S1x8192x1024_2_0_01_1_n_n none (ctx (probs (wts (scores (qry x wq) (deq k)))) (deq v)) (extf .f32 wo bitsLt_bf16_f32)

end Cert.ReferenceIdeal.Stage
-- ==== Proof.Value.Ref.lean ====
module

public import proofs.«01_k».proof.Proof.Value.RefDefs
public import Idealize.ShloMosaic.Lib.Pointwise
public import Idealize.ShloMosaic.Lib.Routing.OpsOrder

/-!
# The reference, stage by stage

Each stage of the reference over the extended reals at an index.
-/

@[expose] public noncomputable section

namespace Cert.ReferenceIdeal.Stage

open Cert.ReferenceIdeal Cert.ReferenceIdeal.Gen Idealize.ShloMosaic Idealize.ShloMosaic.TcCoe

set_option maxRecDepth 16384

theorem bot_word : Ideal.ofBits .f32 0xFF800000#32 = ⊥ := by simp [Ideal.ofBits, Ideal.ieee]
theorem sit (w : BitVec 32) : (FloatOps.sitofp (F := Ideal) .bf16 w : Ideal .bf16) = (((w.toInt : ℤ) : ℝ) : EReal) := rfl
theorem sel_eq {α : Type} (c : BitVec 1) (a b : α) : Scalar.select c a b = if c = 1#1 then a else b := rfl
theorem sel_one {α : Type} (a b : α) : Scalar.select 1#1 a b = a := rfl

variable (A : FVec Ideal S1x8192x8x128 .bf16)

theorem deq_apply (i : Fin 8192) (h : Fin 8) (d : Fin 128) : deq A (ix4 0 i h d) = quant A (ix4 0 i h d) * Ideal.ofBits .f32 0x3D23D70A#32 := by
  pointwise [deq]

theorem quant_apply (i : Fin 8192) (h : Fin 8) (d : Fin 128) :
    quant A (ix4 0 i h d) = min (((127#32).toInt : ℝ) : EReal) (max (((4294967169#32).toInt : ℝ) : EReal)
      (Ideal.liftRound Ideal.roundHalfEven (Ideal.div (A (ix4 0 i h d)) (Ideal.ofBits .bf16 0x3D24#16)))) := by
  pointwise [quant]
  rw [sit, sit]

theorem qry_apply (x : FVec Ideal S1x8192x1024 .bf16) (w : FVec Ideal S1024x1024 .bf16) (i : Fin 8192) (h : Fin 8) (d : Fin 128) :
    qry x w (ix4 0 i h d) = ∑ e : Fin 1024, x (ix3 0 i e) * w (ix2 e ⟨h.val * 128 + d.val, by omega⟩) := by
  pointwise [qry]

theorem scores_apply (q k : FVec Ideal S1x8192x8x128 .f32) (h : Fin 8) (i j : Fin 8192) :
    scores q k (ix4 0 h i j) = if mask (ix2 i j) = 1#1 then (∑ d : Fin 128, q (ix4 0 i h d) * k (ix4 0 j h d)) * Ideal.ofBits .f32 0x3DB504F3#32 else ⊥ := by
  pointwise [scores, id_eq, bot_word]
  rw [sel_eq]

theorem wts_apply (s : FVec Ideal S1x8x8192x8192 .f32) (h : Fin 8) (i j : Fin 8192) :
    wts s (ix4 0 h i j) = Ideal.exp (s (ix4 0 h i j) - top s (ix3 0 h i)) := by
  pointwise [wts]

theorem top_apply (s : FVec Ideal S1x8x8192x8192 .f32) (h : Fin 8) (i : Fin 8192) :
    top s (ix3 0 h i) = Finset.univ.fold max ⊥ fun j : Fin 8192 => s (ix4 0 h i j) := by
  pointwise [top, bot_word]

theorem tot_apply (s : FVec Ideal S1x8x8192x8192 .f32) (h : Fin 8) (i : Fin 8192) :
    tot s (ix3 0 h i) = ∑ j : Fin 8192, s (ix4 0 h i j) := by
  pointwise [tot]

theorem normed_apply (K : IVec S1x1x8192x1 1) (T : FVec Ideal S1x8x8192 .f32) (w : FVec Ideal S1x8x8192x8192 .f32) (h : Fin 8) (i j : Fin 8192)
    (hk : K (ix4 0 0 i 0) = 1#1) :
    normed K T w (ix4 0 h i j) = Ideal.div (w (ix4 0 h i j)) (T (ix3 0 h i)) := by
  pointwise [normed, id_eq]
  rw [hk, sel_one, sel_one]

theorem keep1_apply (i : Fin 8192) : keep1 (ix4 0 0 i 0) = keep (ix1 i) := by
  pointwise [keep1]

theorem probs_apply (w : FVec Ideal S1x8x8192x8192 .f32) (h : Fin 8) (i j : Fin 8192) (hk : keep (ix1 i) = 1#1) :
    probs w (ix4 0 h i j) = Ideal.div (w (ix4 0 h i j)) (tot w (ix3 0 h i)) :=
  normed_apply keep1 (tot w) w h i j ((keep1_apply i).trans hk)

theorem ctx_apply (p : FVec Ideal S1x8x8192x8192 .f32) (v : FVec Ideal S1x8192x8x128 .f32) (i : Fin 8192) (l : Fin 1024) :
    ctx p v (ix3 0 i l) = ∑ j : Fin 8192, v (ix4 0 j ⟨l.val / 128, by omega⟩ ⟨l.val % 128, by omega⟩) * p (ix4 0 ⟨l.val / 128, by omega⟩ i j) := by
  pointwise [ctx]

theorem res_apply (x : FVec Ideal S1x8192x1024 .bf16) (wq : FVec Ideal S1024x1024 .bf16) (k v : FVec Ideal S1x8192x8x128 .bf16) (wo : FVec Ideal S1024x1024 .bf16)
    (i : Fin 8192) (l : Fin 1024) :
    res x wq k v wo (ix3 0 i l) = ∑ e : Fin 1024, ctx (probs (wts (scores (qry x wq) (deq k)))) (deq v) (ix3 0 i e) * wo (ix2 e l) := by
  pointwise [res]

end Cert.ReferenceIdeal.Stage
-- ==== Proof.Value.RefMask.lean ====
module

public import proofs.«01_k».proof.Proof.Value.RefDefs
public import Idealize.ShloMosaic.Lib.Pointwise
public import Idealize.ShloMosaic.Lib.Routing.OpsOrder

/-!
# The reference's mask

The blocks of a row and of a column, and the mask, at an index.
-/

@[expose] public noncomputable section

namespace Cert.ReferenceIdeal.Stage

open Cert.ReferenceIdeal Cert.ReferenceIdeal.Gen Idealize.ShloMosaic Idealize.ShloMosaic.TcCoe

set_option maxRecDepth 16384

/-- The block number as the reference computes it from a position. -/
def blkWord (w : BitVec 32) : BitVec 32 :=
  Scalar.select
    (IntOp.andi
      (IntOp.cmpi .ne (if w = 0 then 0 else if w.msb = true then -1 else 1 : BitVec 32) (if (64#32) = 0 then 0 else if (64#32).msb = true then -1 else 1 : BitVec 32))
      (IntOp.cmpi .ne (IntOp.remsi .host w 64#32) 0#32))
    (IntOp.subi (IntOp.divsi .host w 64#32) 1#32)
    (IntOp.divsi .host w 64#32)

theorem blkWord_eq : ∀ (a : Fin 128) (b : Fin 64), blkWord (BitVec.ofNat 32 (64 * a.val + b.val)) = BitVec.ofNat 32 a.val := by decide +kernel

theorem blk_apply (i : Fin 8192) : blk (ix1 i) = BitVec.ofNat 32 (i.val / 64) := by
  have h : blk (ix1 i) = blkWord (BitVec.ofNat 32 i.val) := by
    pointwise [blk, id_eq, blkWord]
  have h2 := blkWord_eq ⟨i.val / 64, by omega⟩ ⟨i.val % 64, by omega⟩
  simp only [show 64 * (i.val / 64) + i.val % 64 = i.val by omega] at h2
  exact h.trans h2

/-- The reference's mask as words. -/
def maskWord (a b : BitVec 32) : BitVec 1 :=
  IntOp.ori (IntOp.ori (IntOp.cmpi .eq a b) (IntOp.cmpi .eq b 0#32))
    (IntOp.cmpi .eq
      (Scalar.select
        (IntOp.andi
          (IntOp.cmpi .ne (IntOp.cmpi .slt (IntOp.remsi .host (IntOp.addi a b) 3#32) 0#32) (IntOp.cmpi .slt 3#32 0#32))
          (IntOp.cmpi .ne (IntOp.remsi .host (IntOp.addi a b) 3#32) 0#32))
        (IntOp.addi (IntOp.remsi .host (IntOp.addi a b) 3#32) 3#32)
        (IntOp.remsi .host (IntOp.addi a b) 3#32)) 0#32)

theorem maskWord_eq : ∀ a b : Fin 128, maskWord (BitVec.ofNat 32 a.val) (BitVec.ofNat 32 b.val) = 1#1
    ↔ (a.val = b.val ∨ b.val = 0 ∨ (a.val + b.val) % 3 = 0) := by decide +kernel

theorem three_apply : three ix0 = 3#32 := rfl

theorem mask_apply (i j : Fin 8192) : mask (ix2 i j) = 1#1 ↔ (i.val / 64 = j.val / 64 ∨ j.val / 64 = 0 ∨ (i.val / 64 + j.val / 64) % 3 = 0) := by
  have h : mask (ix2 i j) = maskWord (blk (ix1 i)) (blk (ix1 j)) := by
    pointwise [mask, blkRow, blkCol, blkCol1, zeros, mod3, rem3, three_apply, maskWord]
  rw [h, blk_apply, blk_apply]
  exact maskWord_eq ⟨i.val / 64, by omega⟩ ⟨j.val / 64, by omega⟩

theorem keep_apply (i : Fin 8192) : keep (ix1 i) = Finset.fold IntOp.ori (0#1) (fun j : Fin 8192 => mask (ix2 i j)) Finset.univ := by
  pointwise [keep]

theorem keep_one (i : Fin 8192) : keep (ix1 i) = 1#1 := by
  rw [keep_apply, Idealize.ShloMosaic.Routing.fold_ori]
  exact ⟨0, Finset.mem_univ _, (mask_apply i 0).mpr (.inr (.inl (by decide)))⟩

end Cert.ReferenceIdeal.Stage
-- ==== Proof.Value.RefAt.lean ====
module

public import proofs.«01_k».proof.Proof.Value.Ref
public import proofs.«01_k».proof.Proof.Value.RefMask
public import proofs.«01_k».proof.Proof.Value.Math

/-!
# The reference at an index, over the reals
-/

@[expose] public noncomputable section

namespace Cert.ReferenceIdeal.Stage

open Cert.ReferenceIdeal Cert.ReferenceIdeal.Gen Idealize.ShloMosaic Idealize.ShloMosaic.TcCoe

set_option maxRecDepth 16384

/-- The step of the quantiser as the programs spell it. -/
def kvs : ℝ := 5368709 / 134217728
/-- The scale of the scores as the programs spell it. -/
def scale : ℝ := 11863283 / 134217728

theorem kvs_word : Ideal.ofBits .f32 0x3D23D70A#32 = ((kvs : ℝ) : EReal) := by
  simp [Ideal.ofBits, Ideal.ieee, kvs]
  rw [← EReal.coe_mul]
  refine congrArg _ ?_
  norm_num

theorem scale_word : Ideal.ofBits .f32 0x3DB504F3#32 = ((scale : ℝ) : EReal) := by
  simp [Ideal.ofBits, Ideal.ieee, scale]
  rw [← EReal.coe_mul]
  refine congrArg _ ?_
  norm_num

/-- Which keys row `i` sees. -/
def vis (i j : Fin 8192) : Prop := i.val / 64 = j.val / 64 ∨ j.val / 64 = 0 ∨ (i.val / 64 + j.val / 64) % 3 = 0

instance (i : Fin 8192) : DecidablePred (vis i) := fun j => by unfold vis; infer_instance

variable (x : FVec Ideal S1x8192x1024 .bf16) (w : FVec Ideal S1024x1024 .bf16) (k v : FVec Ideal S1x8192x8x128 .bf16)
  (i : Fin 8192) (h : Fin 8) (q : Fin 128 → ℝ) (zk zv : Fin 8192 → Fin 128 → ℝ)
  (hq : ∀ d, qry x w (ix4 0 i h d) = ((q d : ℝ) : EReal))
  (hk : ∀ j d, Cert.Softmax.qz (k (ix4 0 j h d)) = ((zk j d : ℝ) : EReal))
  (hv : ∀ j d, Cert.Softmax.qz (v (ix4 0 j h d)) = ((zv j d : ℝ) : EReal))

theorem deq_qz (j : Fin 8192) (d : Fin 128) : deq k (ix4 0 j h d) = Cert.Softmax.qz (k (ix4 0 j h d)) * ((kvs : ℝ) : EReal) := by
  rw [deq_apply, quant_apply, kvs_word]
  rfl

/-- The score of a position. -/
def score (q : Fin 128 → ℝ) (zk : Fin 8192 → Fin 128 → ℝ) (j : Fin 8192) : ℝ := ∑ d, q d * (scale * kvs) * zk j d

include hq hk in
theorem scores_masked (j : Fin 8192) : scores (qry x w) (deq k) (ix4 0 h i j) = Cert.Softmax.masked (vis i) (score q zk) j := by
  rw [scores_apply]
  unfold Cert.Softmax.masked
  refine if_congr (mask_apply i j) ?_ rfl
  have : ∀ d, qry x w (ix4 0 i h d) * deq k (ix4 0 j h d) = ((q d * (zk j d * kvs) : ℝ) : EReal) := fun d => by
    rw [hq, deq_qz, hk, ← EReal.coe_mul, ← EReal.coe_mul]
  simp only [this]
  rw [Cert.Softmax.sum_coe, scale_word, ← EReal.coe_mul]
  refine congrArg _ ?_
  unfold score
  rw [Finset.sum_mul]
  exact Finset.sum_congr rfl fun d _ => by ring

include hq hk in
theorem top_peak : top (scores (qry x w) (deq k)) (ix3 0 h i) = Cert.Softmax.peak (vis i) (score q zk) := by
  rw [top_apply]
  unfold Cert.Softmax.peak
  simp only [scores_masked x w k i h q zk hq hk]

include hq hk in
theorem probs_at (j : Fin 8192) : probs (wts (scores (qry x w) (deq k))) (ix4 0 h i j)
    = Ideal.div (Ideal.exp (Cert.Softmax.masked (vis i) (score q zk) j - Cert.Softmax.peak (vis i) (score q zk)))
        (∑ j, Ideal.exp (Cert.Softmax.masked (vis i) (score q zk) j - Cert.Softmax.peak (vis i) (score q zk))) := by
  rw [probs_apply _ _ _ _ (keep_one i), tot_apply]
  simp only [wts_apply, top_peak x w k i h q zk hq hk, scores_masked x w k i h q zk hq hk]

include hq hk hv in
theorem ctx_at (e : Fin 1024) (l : Fin 128) (he : e.val = h.val * 128 + l.val) :
    ctx (probs (wts (scores (qry x w) (deq k)))) (deq v) (ix3 0 i e)
      = Ideal.div (∑ j, (if vis i j then Ideal.exp ((score q zk j : ℝ) : EReal) else 0) * ((zv j l : ℝ) : EReal))
          (∑ j, if vis i j then Ideal.exp ((score q zk j : ℝ) : EReal) else 0) * ((kvs : ℝ) : EReal) := by
  rw [ctx_apply, Cert.Softmax.softmax_eq (vis i) (score q zk) (fun j => zv j l) kvs 0 (.inr (.inl rfl))]
  have h1 : (⟨e.val / 128, by omega⟩ : Fin 8) = h := Fin.ext (by show e.val / 128 = h.val; omega)
  have h2 : (⟨e.val % 128, by omega⟩ : Fin 128) = l := Fin.ext (by show e.val % 128 = l.val; omega)
  refine Finset.sum_congr rfl fun j _ => ?_
  rw [h1, h2, probs_at x w k i h q zk hq hk, deq_qz, hv]

end Cert.ReferenceIdeal.Stage
-- ==== Proof.Value.Equal.lean ====
module

public import proofs.«01_k».proof.Proof.Value.Sums
public import proofs.«01_k».proof.Proof.Value.RefAt

/-!
# The call computes the reference

From inputs that are the blocks of whole arrays, the result of a device's call is its block of the reference's result.
-/

@[expose] public noncomputable section

namespace Cert.Equal

open Idealize.ShloMosaic Idealize.ShloMosaic.TcCoe
open Cert.KernelIdeal.Talk
open Cert.ReferenceIdeal (S1x8192x1024 S1024x1024 S1x8192x8x128)

set_option maxRecDepth 16384

/-- Row `r` of device `c` in the sequence. -/
abbrev row (c : Fin 8) (r : Fin 1024) : Fin 8192 := ⟨c.val * 1024 + r.val, by omega⟩

theorem qs_eq : qs = ((Cert.ReferenceIdeal.Stage.scale * Cert.ReferenceIdeal.Stage.kvs : ℝ) : EReal) := by
  unfold qs Cert.ReferenceIdeal.Stage.scale Cert.ReferenceIdeal.Stage.kvs
  refine congrArg _ ?_
  norm_num

theorem ctxFull_apply (X : Ins Ideal) (c : Dev Cert.KernelIdeal.nD) (r e : Fin 1024) :
    ctxFull X c (ix2 r e) = ctxH X c ⟨e.val / 128, by omega⟩ (ix2 r ⟨e.val % 128, by omega⟩) := by
  unfold ctxFull
  refine congrArg (ctxH X c ⟨e.val / 128, by omega⟩) (funext fun a => ?_)
  fin_cases a <;> rfl

variable (x : FVec Ideal S1x8192x1024 .bf16) (w : FVec Ideal S1024x1024 .bf16) (k v : FVec Ideal S1x8192x8x128 .bf16) (o : FVec Ideal S1024x1024 .bf16)
  (X : Ins Ideal) (c : Dev Cert.KernelIdeal.nD)
  (hx : ∀ r e, X.x c (ix2 r e) = x (ix3 0 (row c r) e))
  (hw : ∀ e f, X.wq c (ix2 e f) = w (ix2 e f))
  (ho : ∀ e f, X.wo c (ix2 e f) = o (ix2 e f))
  (hk : ∀ s h u d, (((X.k8 s (ix3 h u d)).toInt : ℝ) : EReal) = Cert.Softmax.qz (k (ix4 0 (row s u) h d)))
  (hv : ∀ s h u d, (((X.v8 s (ix3 h u d)).toInt : ℝ) : EReal) = Cert.Softmax.qz (v (ix4 0 (row s u) h d)))
  (hxr : ∀ r e, x (ix3 0 (row c r) e) = (((x (ix3 0 (row c r) e)).toReal : ℝ) : EReal))
  (hwr : ∀ e f, w (ix2 e f) = (((w (ix2 e f)).toReal : ℝ) : EReal))

/-- A query over the reals. -/
def qr (i : Fin 8192) (h : Fin 8) (d : Fin 128) : ℝ := ∑ e : Fin 1024, (x (ix3 0 i e)).toReal * (w (ix2 e ⟨h.val * 128 + d.val, by omega⟩)).toReal

include hxr hwr in
theorem qry_real (r : Fin 1024) (h : Fin 8) (d : Fin 128) : Cert.ReferenceIdeal.Stage.qry x w (ix4 0 (row c r) h d) = ((qr x w (row c r) h d : ℝ) : EReal) := by
  rw [Cert.ReferenceIdeal.Stage.qry_apply]
  unfold qr
  rw [← Cert.Softmax.sum_coe]
  refine Finset.sum_congr rfl fun e _ => ?_
  rw [EReal.coe_mul, ← hxr, ← hwr]

include hx hw hxr hwr in
theorem qH_real (r : Fin 1024) (h : Fin 8) (d : Fin 128) :
    qH X c h (ix3 0 r d) = ((qr x w (row c r) h d * (Cert.ReferenceIdeal.Stage.scale * Cert.ReferenceIdeal.Stage.kvs) : ℝ) : EReal) := by
  rw [qH_apply, qs_eq, EReal.coe_mul (qr x w (row c r) h d), ← qry_real x w c hxr hwr, Cert.ReferenceIdeal.Stage.qry_apply]
  refine congrArg (· * _) (Finset.sum_congr rfl fun e _ => ?_)
  rw [hx, hw]
  have : col h d = ⟨h.val * 128 + d.val, by omega⟩ := Fin.ext (by show 128 * h.val + d.val = h.val * 128 + d.val; omega)
  rw [this]

/-- Keys or values as whole numbers. -/
def zr (k : FVec Ideal S1x8192x8x128 .bf16) (h : Fin 8) (j : Fin 8192) (d : Fin 128) : ℝ := (Cert.Softmax.qz (k (ix4 0 j h d))).toReal

theorem zr_eq (k : FVec Ideal S1x8192x8x128 .bf16) (h : Fin 8) (j : Fin 8192) (d : Fin 128) : Cert.Softmax.qz (k (ix4 0 j h d)) = ((zr k h j d : ℝ) : EReal) := by
  obtain ⟨z, -, -, hz⟩ := Cert.Softmax.qz_int (k (ix4 0 j h d))
  unfold zr
  rw [hz, EReal.toReal_coe]

theorem vis_iff (r : Fin 1024) (j : Fin 8192) : Cert.KernelIdeal.Talk.vis c r j ↔ Cert.ReferenceIdeal.Stage.vis (row c r) j := by
  unfold Cert.KernelIdeal.Talk.vis Cert.ReferenceIdeal.Stage.vis sees
  have : (row c r).val / 64 = 16 * c.val + (rb r).val := by
    show (c.val * 1024 + r.val) / 64 = 16 * c.val + r.val / 64
    omega
  rw [this]

include hx hw hk hv hxr hwr in
theorem ctx_eq (r e : Fin 1024) : ctxFull X c (ix2 r e)
    = Cert.ReferenceIdeal.Stage.ctx (Cert.ReferenceIdeal.Stage.probs (Cert.ReferenceIdeal.Stage.wts (Cert.ReferenceIdeal.Stage.scores (Cert.ReferenceIdeal.Stage.qry x w) (Cert.ReferenceIdeal.Stage.deq k))))
        (Cert.ReferenceIdeal.Stage.deq v) (ix3 0 (row c r) e) := by
  have hkz : ∀ (s : Dev Cert.KernelIdeal.nD) (u : Fin 1024) (d : Fin 128) (j : Fin 8192), j.val = 1024 * s.val + u.val →
      (((X.k8 s (ix3 ⟨e.val / 128, by omega⟩ u d)).toInt : ℝ) : EReal) = ((zr k ⟨e.val / 128, by omega⟩ j d : ℝ) : EReal) := fun s u d j hj => by
    rw [hk, ← zr_eq, show row s u = j from Fin.ext (by rw [hj]; show s.val * 1024 + u.val = _; omega)]
  have hvz : ∀ (s : Dev Cert.KernelIdeal.nD) (u : Fin 1024) (d : Fin 128) (j : Fin 8192), j.val = 1024 * s.val + u.val →
      (((X.v8 s (ix3 ⟨e.val / 128, by omega⟩ u d)).toInt : ℝ) : EReal) = ((zr v ⟨e.val / 128, by omega⟩ j d : ℝ) : EReal) := fun s u d j hj => by
    rw [hv, ← zr_eq, show row s u = j from Fin.ext (by rw [hj]; show s.val * 1024 + u.val = _; omega)]
  have hqz := fun d => qH_real x w X c hx hw hxr hwr r ⟨e.val / 128, by omega⟩ d
  rw [ctxFull_apply, Cert.ReferenceIdeal.Stage.ctx_at x w k v (row c r) ⟨e.val / 128, by omega⟩ (qr x w (row c r) ⟨e.val / 128, by omega⟩)
    (zr k ⟨e.val / 128, by omega⟩) (zr v ⟨e.val / 128, by omega⟩) (fun d => qry_real x w c hxr hwr r _ d) (zr_eq k _) (zr_eq v _) e ⟨e.val % 128, by omega⟩
    (by show e.val = e.val / 128 * 128 + e.val % 128; omega)]
  unfold ctxH
  rw [Cert.KernelIdeal.Talk.ctx_apply, acc_all X c _ r _ _ _ hqz hkz hvz, den_all X c _ r _ _ hqz hkz, Cert.ReferenceIdeal.Stage.kvs_word]
  simp only [vis_iff]
  rfl

include hx hw ho hk hv hxr hwr in
theorem out_eq (r l : Fin 1024) : outC X c (ix2 r l) = Cert.ReferenceIdeal.Stage.res x w k v o (ix3 0 (row c r) l) := by
  rw [Cert.ReferenceIdeal.Stage.res_apply]
  unfold outC
  rw [out_apply]
  refine Finset.sum_congr rfl fun e _ => ?_
  rw [ctx_eq x w k v X c hx hw hk hv hxr hwr, woV_apply, ho]

end Cert.Equal
-- ==== Proof.Value.HostIn.lean ====
module

public import proofs.«01_k».proof.Proof.KernelIdeal.End
public import proofs.«01_k».proof.Proof.Value.Math
public import Idealize.ShloMosaic.Lib.StableHlo.ReadAt

/-!
# The call's inputs from the arguments

Each window of the call at an index, as an element of the device's argument blocks.
-/

@[expose] public noncomputable section

namespace Cert.KernelIdeal.Talk

open Idealize.ShloMosaic Idealize.ShloMosaic.TcCoe Idealize.ShloMosaic.Tactic
open Cert.KernelIdeal.Gen

set_option maxRecDepth 16384

variable (m : (ℓ : Loc nD τ sig) → Buf (Elt Ideal) ℓ) (c : Dev nD)

theorem win0 (E : Dev nD → Valuation τ sig (Elt Ideal)) (r e : Fin 1024) : (ins E).x c (ix2 r e) = (E c (Proc.devRef .tc main_v1) : Vec Ideal S1024x1024 .bf16) (ix2 r e) := by
  refine congrArg (E c (Proc.devRef .tc main_v1) : Vec Ideal S1024x1024 .bf16) (funext fun a => ?_)
  fin_cases a <;> exact Fin.ext (show 0 + 1 * _ = _ by omega)

theorem win1 (E : Dev nD → Valuation τ sig (Elt Ideal)) (r e : Fin 1024) : (ins E).wq c (ix2 r e) = (E c (Proc.devRef .tc main_arg1) : Vec Ideal S1024x1024 .bf16) (ix2 r e) := by
  refine congrArg (E c (Proc.devRef .tc main_arg1) : Vec Ideal S1024x1024 .bf16) (funext fun a => ?_)
  fin_cases a <;> exact Fin.ext (show 0 + 1 * _ = _ by omega)

theorem win2 (E : Dev nD → Valuation τ sig (Elt Ideal)) (h : Fin 8) (r : Fin 1024) (d : Fin 128) : (ins E).k8 c (ix3 h r d) = (E c (Proc.devRef .tc main_v12) : Vec Ideal S8x1024x128 .i8) (ix3 h r d) := by
  refine congrArg (E c (Proc.devRef .tc main_v12) : Vec Ideal S8x1024x128 .i8) (funext fun a => ?_)
  fin_cases a <;> exact Fin.ext (show 0 + 1 * _ = _ by omega)

theorem win3 (E : Dev nD → Valuation τ sig (Elt Ideal)) (h : Fin 8) (r : Fin 1024) (d : Fin 128) : (ins E).v8 c (ix3 h r d) = (E c (Proc.devRef .tc main_v19) : Vec Ideal S8x1024x128 .i8) (ix3 h r d) := by
  refine congrArg (E c (Proc.devRef .tc main_v19) : Vec Ideal S8x1024x128 .i8) (funext fun a => ?_)
  fin_cases a <;> exact Fin.ext (show 0 + 1 * _ = _ by omega)

theorem win4 (E : Dev nD → Valuation τ sig (Elt Ideal)) (r e : Fin 1024) : (ins E).wo c (ix2 r e) = (E c (Proc.devRef .tc main_arg4) : Vec Ideal S1024x1024 .bf16) (ix2 r e) := by
  refine congrArg (E c (Proc.devRef .tc main_arg4) : Vec Ideal S1024x1024 .bf16) (funext fun a => ?_)
  fin_cases a <;> exact Fin.ext (show 0 + 1 * _ = _ by omega)

theorem x_read (r e : Fin 1024) : (V m c main_v1 : Vec Ideal S1024x1024 .bf16) (ix2 r e) = (m ((c : Thread nD τ).loc main_arg0) : Vec Ideal S1x1024x1024 .bf16) (ix3 0 r e) := by
  unfold V V0
  after_reads_at

theorem k_read (h : Fin 8) (r : Fin 1024) (d : Fin 128) : (V m c main_v12 : Vec Ideal S8x1024x128 .i8) (ix3 h r d)
    = BitVec.setWidth 8 (Ideal.fptosi 32 (Cert.Softmax.qz ((m ((c : Thread nD τ).loc main_arg2) : Vec Ideal S1x1024x8x128 .bf16) (ix4 0 r h d)))) := by
  unfold V V0
  after_reads_at
  rfl

theorem v_read (h : Fin 8) (r : Fin 1024) (d : Fin 128) : (V m c main_v19 : Vec Ideal S8x1024x128 .i8) (ix3 h r d)
    = BitVec.setWidth 8 (Ideal.fptosi 32 (Cert.Softmax.qz ((m ((c : Thread nD τ).loc main_arg3) : Vec Ideal S1x1024x8x128 .bf16) (ix4 0 r h d)))) := by
  unfold V V0
  after_reads_at
  rfl

theorem in_x (r e : Fin 1024) : (ins (vCall m)).x c (ix2 r e) = (m ((c : Thread nD τ).loc main_arg0) : Vec Ideal S1x1024x1024 .bf16) (ix3 0 r e) := by
  rw [win0, vCall_eq]
  exact x_read m c r e

theorem in_wq (r e : Fin 1024) : (ins (vCall m)).wq c (ix2 r e) = (m ((c : Thread nD τ).loc main_arg1) : Vec Ideal S1024x1024 .bf16) (ix2 r e) := by
  rw [win1, vCall_eq]
  exact congrFun (V_main_arg1 m c) _

theorem in_wo (r e : Fin 1024) : (ins (vCall m)).wo c (ix2 r e) = (m ((c : Thread nD τ).loc main_arg4) : Vec Ideal S1024x1024 .bf16) (ix2 r e) := by
  rw [win4, vCall_eq]
  exact congrFun (V_main_arg4 m c) _

theorem in_k (h : Fin 8) (r : Fin 1024) (d : Fin 128) : (((((ins (vCall m)).k8 c (ix3 h r d)).toInt : ℤ) : ℝ) : EReal)
    = Cert.Softmax.qz ((m ((c : Thread nD τ).loc main_arg2) : Vec Ideal S1x1024x8x128 .bf16) (ix4 0 r h d)) := by
  rw [win2, vCall_eq]
  refine Eq.trans (congrArg (fun w : BitVec 8 => (((w.toInt : ℤ) : ℝ) : EReal)) (k_read m c h r d)) ?_
  exact Cert.Softmax.qz_word _

theorem in_v (h : Fin 8) (r : Fin 1024) (d : Fin 128) : (((((ins (vCall m)).v8 c (ix3 h r d)).toInt : ℤ) : ℝ) : EReal)
    = Cert.Softmax.qz ((m ((c : Thread nD τ).loc main_arg3) : Vec Ideal S1x1024x8x128 .bf16) (ix4 0 r h d)) := by
  rw [win3, vCall_eq]
  refine Eq.trans (congrArg (fun w : BitVec 8 => (((w.toInt : ℤ) : ℝ) : EReal)) (v_read m c h r d)) ?_
  exact Cert.Softmax.qz_word _

end Cert.KernelIdeal.Talk
-- ==== Proof.Value.RefRes.lean ====
module

public import proofs.«01_k».proof.Proof.Value.RefDefs

/-!
# The reference, stage by stage

The reference's run ends at the stages' composition.
-/

@[expose] public noncomputable section

namespace Cert.ReferenceIdeal.Stage

open Cert.ReferenceIdeal Cert.ReferenceIdeal.Gen Idealize.ShloMosaic Idealize.ShloMosaic.TcCoe

set_option maxRecDepth 16384

theorem res_eq (m : (ℓ : Loc nD τ sig) → Buf (Elt Ideal) ℓ) (c : Dev nD) :
    Cert.ReferenceIdeal.Value.res_main_v61 m c
      = res (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold Cert.ReferenceIdeal.Value.res_main_v61
  rfl

end Cert.ReferenceIdeal.Stage
-- ==== Proof.Value.Finite.lean ====
module

public import proofs.«01_k».proof.Pre_finite_KernelIdeal
public import proofs.«01_k».proof.Pre_finite_ReferenceIdeal
public import Idealize.ShloMosaic.Lib.Pointwise

/-!
# The precondition, element by element

No activation and no query weight is infinite.
-/

@[expose] public noncomputable section

namespace Cert.Finite

open Idealize.ShloMosaic

/-- The side conditions of the precondition, at a device. -/
theorem factsK : Cert.Pre_finite_KernelIdeal.Facts := ⟨by decide, by decide, by decide⟩
/-- The side conditions of the precondition, at the whole arrays. -/
theorem factsR : Cert.Pre_finite_ReferenceIdeal.Facts := ⟨by decide, by decide, by decide, by decide, by decide⟩

theorem low_word : Ideal.ofBits .bf16 0xFF80#16 = ⊥ := by simp [Ideal.ofBits, Ideal.ieee]
theorem high_word : Ideal.ofBits .bf16 0x7F80#16 = ⊤ := by simp [Ideal.ofBits, Ideal.ieee]

theorem and_one : ∀ a b : BitVec 1, IntOp.andi a b = 1#1 → a = 1#1 ∧ b = 1#1 := by decide

theorem above (a b : EReal) (h : FloatOps.cmpf (F := Ideal) (φ := .bf16) .ogt a b = 1#1) : b < a := by
  by_contra hn
  have : FloatOps.cmpf (F := Ideal) (φ := .bf16) .ogt a b = 0#1 := by
    show BitVec.ofBool (decide (b < a)) = 0#1
    rw [decide_eq_false hn]; rfl
  rw [this] at h
  exact absurd h (by decide)

theorem below (a b : EReal) (h : FloatOps.cmpf (F := Ideal) (φ := .bf16) .olt a b = 1#1) : a < b := by
  by_contra hn
  have : FloatOps.cmpf (F := Ideal) (φ := .bf16) .olt a b = 0#1 := by
    show BitVec.ofBool (decide (a < b)) = 0#1
    rw [decide_eq_false hn]; rfl
  rw [this] at h
  exact absurd h (by decide)

theorem real_of (a : EReal) (h1 : FloatOps.cmpf (F := Ideal) (φ := .bf16) .ogt a (Ideal.ofBits .bf16 0xFF80#16) = 1#1)
    (h2 : FloatOps.cmpf (F := Ideal) (φ := .bf16) .olt a (Ideal.ofBits .bf16 0x7F80#16) = 1#1) : a = ((a.toReal : ℝ) : EReal) := by
  have g1 := above _ _ h1
  have g2 := below _ _ h2
  rw [low_word] at g1
  rw [high_word] at g2
  exact (EReal.coe_toReal g2.ne g1.ne').symm

open Cert.Pre_finite_KernelIdeal in
theorem reals [Facts] (x : FVec Ideal S1x1024x1024 .bf16) (w : FVec Ideal S1024x1024 .bf16) (k v : FVec Ideal S1x1024x8x128 .bf16) (o : FVec Ideal S1024x1024 .bf16)
    (h : fn x w k v o = fun _ => 1#1) (a b : Fin 1024) :
    x (ix3 0 a b) = (((x (ix3 0 a b)).toReal : ℝ) : EReal) ∧ w (ix2 a b) = (((w (ix2 a b)).toReal : ℝ) : EReal) := by
  have h1 : fn x w k v o (ix3 0 a b) = 1#1 := congrFun h _
  have h2 : fn x w k v o (ix3 0 a b)
      = IntOp.andi
          (IntOp.andi (FloatOps.cmpf (F := Ideal) (φ := .bf16) .ogt (x (ix3 0 a b)) (Ideal.ofBits .bf16 0xFF80#16)) (FloatOps.cmpf (F := Ideal) (φ := .bf16) .olt (x (ix3 0 a b)) (Ideal.ofBits .bf16 0x7F80#16)))
          (IntOp.andi (FloatOps.cmpf (F := Ideal) (φ := .bf16) .ogt (w (ix2 a b)) (Ideal.ofBits .bf16 0xFF80#16)) (FloatOps.cmpf (F := Ideal) (φ := .bf16) .olt (w (ix2 a b)) (Ideal.ofBits .bf16 0x7F80#16))) := by
    pointwise [fn]
  rw [h2] at h1
  obtain ⟨h3, h4⟩ := and_one _ _ h1
  obtain ⟨h5, h6⟩ := and_one _ _ h3
  obtain ⟨h7, h8⟩ := and_one _ _ h4
  exact ⟨real_of _ h5 h6, real_of _ h7 h8⟩

end Cert.Finite
-- ==== Proof.Value.Agree.lean ====
module

public import proofs.«01_k».proof.Defs
public import proofs.«01_k».proof.Proof.Value.Equal
public import proofs.«01_k».proof.Proof.Value.HostIn
public import proofs.«01_k».proof.Proof.Value.RefRes
public import proofs.«01_k».proof.Proof.Value.Finite

/-!
# The kernel's result is the reference's, block by block
-/

@[expose] public noncomputable section

namespace Cert.Agree

open Idealize.ShloMosaic Idealize.ShloMosaic.TcCoe Idealize.SL.Sem
open Cert.Equal (row)

set_option maxRecDepth 16384

theorem block3 {α : Type} (c : Fin 8) (A : (⟨3, ![1, 8192, 1024]⟩ : Shape).Idx → α) (r e : Fin 1024) :
    Layout.block ⟨3, ![1, 1024, 1024]⟩ ⟨3, ![1, 8192, 1024]⟩ 1 8 c A (by decide) (ix3 0 r e) = A (ix3 0 (row c r) e) := by
  refine congrArg A (funext fun a => ?_)
  fin_cases a <;> rfl

theorem block4 {α : Type} (c : Fin 8) (A : (⟨4, ![1, 8192, 8, 128]⟩ : Shape).Idx → α) (r : Fin 1024) (h : Fin 8) (d : Fin 128) :
    Layout.block ⟨4, ![1, 1024, 8, 128]⟩ ⟨4, ![1, 8192, 8, 128]⟩ 1 8 c A (by decide) (ix4 0 r h d) = A (ix4 0 (row c r) h d) := by
  refine congrArg A (funext fun a => ?_)
  fin_cases a <;> rfl

theorem result_apply (m : (ℓ : Loc Cert.KernelIdeal.nD Cert.KernelIdeal.τ Cert.KernelIdeal.sig) → Buf (Elt Ideal) ℓ) (c : Dev Cert.KernelIdeal.nD) (r l : Fin 1024) :
    Cert.KernelIdeal.Talk.result m c (ix3 0 r l) = Cert.KernelIdeal.Talk.outC (Cert.KernelIdeal.Talk.ins (Cert.KernelIdeal.Talk.vCall m)) c (ix2 r l) := by
  pointwise [Cert.KernelIdeal.Talk.result]

theorem agree : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Finite.factsK) := by
  intro m g m' g' hpre hin
  have hfin := fun c => @Cert.Finite.reals Cert.Finite.factsK _ _ _ _ _ (hpre c)
  refine ⟨Cert.ReferenceIdeal.Value.res_main_v61 m' 0, ?_, ?_⟩
  · refine (θ_run (Cert.KernelIdeal.defs (F := Ideal)) _ _).mono (fun r h c => ⟨(h.1 c).1.trans ?_, (h.1 c).2⟩) (Cert.KernelIdeal.Talk.run_all m g)
    obtain ⟨e0, e1, e2, e3, e4⟩ := hin c
    rw [Cert.ReferenceIdeal.Stage.res_eq]
    funext i
    obtain ⟨r, l, hi⟩ : ∃ r l : Fin 1024, i = ix3 0 r l := ⟨i 1, i 2, funext fun a => by fin_cases a <;> [exact Subsingleton.elim (α := Fin 1) _ _; rfl; rfl]⟩
    rw [hi, block3, result_apply]
    refine Cert.Equal.out_eq _ _ _ _ _ _ c (fun r e => ?_) (fun e f => ?_) (fun e f => ?_) (fun s h u d => ?_) (fun s h u d => ?_) (fun r e => ?_) (fun e f => ?_) r l
    · rw [Cert.KernelIdeal.Talk.in_x, e0]; exact block3 c _ r e
    · rw [Cert.KernelIdeal.Talk.in_wq, e1]
    · rw [Cert.KernelIdeal.Talk.in_wo, e4]
    · rw [Cert.KernelIdeal.Talk.in_k, (hin s).2.2.1]; exact congrArg _ (block4 s _ u h d)
    · rw [Cert.KernelIdeal.Talk.in_v, (hin s).2.2.2.1]; exact congrArg _ (block4 s _ u h d)
    · have := (hfin c r e).1
      rw [e0, block3] at this
      exact this
    · have := (hfin c e f).2
      rw [e1] at this
      exact this
  · exact (θ_run (Cert.ReferenceIdeal.defs (F := Ideal)) _ _).mono (fun r h => h 0) (Cert.ReferenceIdeal.Value.run m' g')

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdeal.End
public import proofs.«01_k».proof.Proof.Same
public import proofs.«01_k».proof.Proof.Value.Agree
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The program as compiled: read from the run of its ideal version, whose text it shares. -/
theorem frame_kernel : Cert.quiescent_Kernel := fun m g _ => Cert.Same.run_printed m g

/-- The ideal version: its run, the result forgotten. -/
theorem frame_kernel_ideal : Cert.quiescent_KernelIdeal := fun m g _ =>
  (θ_run (Cert.KernelIdeal.defs (F := Ideal)) _ _).mono (fun _ h => ⟨fun c => (h.1 c).2, h.2⟩) (Cert.KernelIdeal.Talk.run_all m g)

/-- The reference: host operations only, over a signature with no semaphore. -/
theorem frame_reference : Cert.quiescent_ReferenceIdeal := fun m g _ =>
  (θ_run (Cert.ReferenceIdeal.defs (F := Ideal)) _ _).mono
    (fun r h => ⟨fun c => (h c).2, sem_eq_zero_of_no_sems (sig := Cert.ReferenceIdeal.sig) rfl r.2⟩) (Cert.ReferenceIdeal.Value.run m g)

/-- The ideal version again, the precondition not used. -/
theorem frame_kernel_ideal_pre : Cert.quiescent_KernelIdeal_pre_finite_KernelIdeal (hKernelIdeal := Cert.KernelIdeal.Gen.facts) (hPre_finite_KernelIdeal := Cert.Finite.factsK) :=
  fun m g _ => (θ_run (Cert.KernelIdeal.defs (F := Ideal)) _ _).mono (fun _ h => ⟨fun c => (h.1 c).2, h.2⟩) (Cert.KernelIdeal.Talk.run_all m g)

/-- The reference again, the precondition not used. -/
theorem frame_reference_pre : Cert.quiescent_ReferenceIdeal_pre_finite_ReferenceIdeal (hReferenceIdeal := Cert.ReferenceIdeal.Gen.facts)
    (hPre_finite_ReferenceIdeal := Cert.Finite.factsR) := fun m g _ =>
  (θ_run (Cert.ReferenceIdeal.defs (F := Ideal)) _ _).mono
    (fun r h => ⟨fun c => (h c).2, sem_eq_zero_of_no_sems (sig := Cert.ReferenceIdeal.sig) rfl r.2⟩) (Cert.ReferenceIdeal.Value.run m g)

/-- The name is the word it stands for. -/
theorem names_kept : Cert.preserves_Kernel_KernelIdeal :=
  IdealRules.named_const.statement Cert.KernelIdeal.κ "qscale" .f32 0x3B67B46A#32 ((63690514211647 / 18014398509481984 : ℝ) : EReal) rfl

theorem claim : Cert.Claim := ⟨Cert.Kernel.Gen.facts, Cert.KernelIdeal.Gen.facts, Cert.ReferenceIdeal.Gen.facts, Cert.Finite.factsK, Cert.Finite.factsR,
  frame_kernel, frame_kernel_ideal, frame_kernel_ideal_pre, frame_reference, frame_reference_pre, names_kept, Cert.Agree.agree⟩

end Cert.Proof

end
